-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelFf2 (m : (ℓ : Loc Cert.KernelFf2.nD Cert.KernelFf2.τ Cert.KernelFf2.sig) → Buf (Elt Bits) ℓ) : Prop :=
  True

def Pre_KernelFf2Ideal (m : (ℓ : Loc Cert.KernelFf2Ideal.nD Cert.KernelFf2Ideal.τ Cert.KernelFf2Ideal.sig) → Buf (Elt Ideal) ℓ) : Prop :=
  True

def Pre_ReferenceFf2Ideal (m : (ℓ : Loc Cert.ReferenceFf2Ideal.nD Cert.ReferenceFf2Ideal.τ Cert.ReferenceFf2Ideal.sig) → Buf (Elt Ideal) ℓ) : Prop :=
  True

def Pre_KernelFf1 (m : (ℓ : Loc Cert.KernelFf1.nD Cert.KernelFf1.τ Cert.KernelFf1.sig) → Buf (Elt Bits) ℓ) : Prop :=
  True

def Pre_KernelFf1Ideal (m : (ℓ : Loc Cert.KernelFf1Ideal.nD Cert.KernelFf1Ideal.τ Cert.KernelFf1Ideal.sig) → Buf (Elt Ideal) ℓ) : Prop :=
  True

def Pre_ReferenceFf1Ideal (m : (ℓ : Loc Cert.ReferenceFf1Ideal.nD Cert.ReferenceFf1Ideal.τ Cert.ReferenceFf1Ideal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelBack (m : (ℓ : Loc Cert.KernelBack.nD Cert.KernelBack.τ Cert.KernelBack.sig) → Buf (Elt Bits) ℓ) : Prop :=
  True

def Pre_KernelBackIdeal (m : (ℓ : Loc Cert.KernelBackIdeal.nD Cert.KernelBackIdeal.τ Cert.KernelBackIdeal.sig) → Buf (Elt Ideal) ℓ) : Prop :=
  True

def Pre_ReferenceBackIdeal (m : (ℓ : Loc Cert.ReferenceBackIdeal.nD Cert.ReferenceBackIdeal.τ Cert.ReferenceBackIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelUk (m : (ℓ : Loc Cert.KernelUk.nD Cert.KernelUk.τ Cert.KernelUk.sig) → Buf (Elt Bits) ℓ) : Prop :=
  True

def Pre_KernelUkIdeal (m : (ℓ : Loc Cert.KernelUkIdeal.nD Cert.KernelUkIdeal.τ Cert.KernelUkIdeal.sig) → Buf (Elt Ideal) ℓ) : Prop :=
  True

def Pre_ReferenceUkIdeal (m : (ℓ : Loc Cert.ReferenceUkIdeal.nD Cert.ReferenceUkIdeal.τ Cert.ReferenceUkIdeal.sig) → Buf (Elt Ideal) ℓ) : Prop :=
  True

def Pre_KernelUq (m : (ℓ : Loc Cert.KernelUq.nD Cert.KernelUq.τ Cert.KernelUq.sig) → Buf (Elt Bits) ℓ) : Prop :=
  True

def Pre_KernelUqIdeal (m : (ℓ : Loc Cert.KernelUqIdeal.nD Cert.KernelUqIdeal.τ Cert.KernelUqIdeal.sig) → Buf (Elt Ideal) ℓ) : Prop :=
  True

def Pre_ReferenceUqIdeal (m : (ℓ : Loc Cert.ReferenceUqIdeal.nD Cert.ReferenceUqIdeal.τ Cert.ReferenceUqIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_KernelFf2 [hKernelFf2 : Cert.KernelFf2.Facts] : Prop :=
  ∀ (m : (ℓ : Loc Cert.KernelFf2.nD Cert.KernelFf2.τ Cert.KernelFf2.sig) → Buf (Elt Bits) ℓ) (g : Dev Cert.KernelFf2.nD → PrngReg), Pre_KernelFf2 m →
    θ_run (Cert.KernelFf2.defs (F := Bits)) (onTc (τ := Cert.KernelFf2.τ) (Cert.KernelFf2.main (F := Bits))) ⟨m, fun _ => 0, g⟩ (fun r => (∀ c : Dev Cert.KernelFf2.nD,
      r.2.mem ((c.tc : Thread Cert.KernelFf2.nD Cert.KernelFf2.τ).loc Cert.KernelFf2.main_arg0) = m ((c.tc : Thread Cert.KernelFf2.nD Cert.KernelFf2.τ).loc Cert.KernelFf2.main_arg0)
      ∧ r.2.mem ((c.tc : Thread Cert.KernelFf2.nD Cert.KernelFf2.τ).loc Cert.KernelFf2.main_arg1) = m ((c.tc : Thread Cert.KernelFf2.nD Cert.KernelFf2.τ).loc Cert.KernelFf2.main_arg1))
      ∧ r.2.sem = fun _ => 0)

def quiescent_KernelFf2Ideal [hKernelFf2Ideal : Cert.KernelFf2Ideal.Facts] : Prop :=
  ∀ (m : (ℓ : Loc Cert.KernelFf2Ideal.nD Cert.KernelFf2Ideal.τ Cert.KernelFf2Ideal.sig) → Buf (Elt Ideal) ℓ) (g : Dev Cert.KernelFf2Ideal.nD → PrngReg), Pre_KernelFf2Ideal m →
    θ_run (Cert.KernelFf2Ideal.defs (F := Ideal)) (onTc (τ := Cert.KernelFf2Ideal.τ) (Cert.KernelFf2Ideal.main (F := Ideal))) ⟨m, fun _ => 0, g⟩ (fun r => (∀ c : Dev Cert.KernelFf2Ideal.nD,
      r.2.mem ((c.tc : Thread Cert.KernelFf2Ideal.nD Cert.KernelFf2Ideal.τ).loc Cert.KernelFf2Ideal.main_arg0) = m ((c.tc : Thread Cert.KernelFf2Ideal.nD Cert.KernelFf2Ideal.τ).loc Cert.KernelFf2Ideal.main_arg0)
      ∧ r.2.mem ((c.tc : Thread Cert.KernelFf2Ideal.nD Cert.KernelFf2Ideal.τ).loc Cert.KernelFf2Ideal.main_arg1) = m ((c.tc : Thread Cert.KernelFf2Ideal.nD Cert.KernelFf2Ideal.τ).loc Cert.KernelFf2Ideal.main_arg1))
      ∧ r.2.sem = fun _ => 0)

def quiescent_ReferenceFf2Ideal [hReferenceFf2Ideal : Cert.ReferenceFf2Ideal.Facts] : Prop :=
  ∀ (m : (ℓ : Loc Cert.ReferenceFf2Ideal.nD Cert.ReferenceFf2Ideal.τ Cert.ReferenceFf2Ideal.sig) → Buf (Elt Ideal) ℓ) (g : Dev Cert.ReferenceFf2Ideal.nD → PrngReg), Pre_ReferenceFf2Ideal m →
    θ_run (Cert.ReferenceFf2Ideal.defs (F := Ideal)) (onTc (τ := Cert.ReferenceFf2Ideal.τ) (Cert.ReferenceFf2Ideal.main (F := Ideal))) ⟨m, fun _ => 0, g⟩ (fun r => (∀ c : Dev Cert.ReferenceFf2Ideal.nD,
      r.2.mem ((c.tc : Thread Cert.ReferenceFf2Ideal.nD Cert.ReferenceFf2Ideal.τ).loc Cert.ReferenceFf2Ideal.main_arg0) = m ((c.tc : Thread Cert.ReferenceFf2Ideal.nD Cert.ReferenceFf2Ideal.τ).loc Cert.ReferenceFf2Ideal.main_arg0)
      ∧ r.2.mem ((c.tc : Thread Cert.ReferenceFf2Ideal.nD Cert.ReferenceFf2Ideal.τ).loc Cert.ReferenceFf2Ideal.main_arg1) = m ((c.tc : Thread Cert.ReferenceFf2Ideal.nD Cert.ReferenceFf2Ideal.τ).loc Cert.ReferenceFf2Ideal.main_arg1))
      ∧ r.2.sem = fun _ => 0)

def quiescent_KernelFf1 [hKernelFf1 : Cert.KernelFf1.Facts] : Prop :=
  ∀ (m : (ℓ : Loc Cert.KernelFf1.nD Cert.KernelFf1.τ Cert.KernelFf1.sig) → Buf (Elt Bits) ℓ) (g : Dev Cert.KernelFf1.nD → PrngReg), Pre_KernelFf1 m →
    θ_run (Cert.KernelFf1.defs (F := Bits)) (onTc (τ := Cert.KernelFf1.τ) (Cert.KernelFf1.main (F := Bits))) ⟨m, fun _ => 0, g⟩ (fun r => (∀ c : Dev Cert.KernelFf1.nD,
      r.2.mem ((c.tc : Thread Cert.KernelFf1.nD Cert.KernelFf1.τ).loc Cert.KernelFf1.main_arg0) = m ((c.tc : Thread Cert.KernelFf1.nD Cert.KernelFf1.τ).loc Cert.KernelFf1.main_arg0)
      ∧ r.2.mem ((c.tc : Thread Cert.KernelFf1.nD Cert.KernelFf1.τ).loc Cert.KernelFf1.main_arg1) = m ((c.tc : Thread Cert.KernelFf1.nD Cert.KernelFf1.τ).loc Cert.KernelFf1.main_arg1))
      ∧ r.2.sem = fun _ => 0)

def quiescent_KernelFf1Ideal [hKernelFf1Ideal : Cert.KernelFf1Ideal.Facts] : Prop :=
  ∀ (m : (ℓ : Loc Cert.KernelFf1Ideal.nD Cert.KernelFf1Ideal.τ Cert.KernelFf1Ideal.sig) → Buf (Elt Ideal) ℓ) (g : Dev Cert.KernelFf1Ideal.nD → PrngReg), Pre_KernelFf1Ideal m →
    θ_run (Cert.KernelFf1Ideal.defs (F := Ideal)) (onTc (τ := Cert.KernelFf1Ideal.τ) (Cert.KernelFf1Ideal.main (F := Ideal))) ⟨m, fun _ => 0, g⟩ (fun r => (∀ c : Dev Cert.KernelFf1Ideal.nD,
      r.2.mem ((c.tc : Thread Cert.KernelFf1Ideal.nD Cert.KernelFf1Ideal.τ).loc Cert.KernelFf1Ideal.main_arg0) = m ((c.tc : Thread Cert.KernelFf1Ideal.nD Cert.KernelFf1Ideal.τ).loc Cert.KernelFf1Ideal.main_arg0)
      ∧ r.2.mem ((c.tc : Thread Cert.KernelFf1Ideal.nD Cert.KernelFf1Ideal.τ).loc Cert.KernelFf1Ideal.main_arg1) = m ((c.tc : Thread Cert.KernelFf1Ideal.nD Cert.KernelFf1Ideal.τ).loc Cert.KernelFf1Ideal.main_arg1))
      ∧ r.2.sem = fun _ => 0)

def quiescent_ReferenceFf1Ideal [hReferenceFf1Ideal : Cert.ReferenceFf1Ideal.Facts] : Prop :=
  ∀ (m : (ℓ : Loc Cert.ReferenceFf1Ideal.nD Cert.ReferenceFf1Ideal.τ Cert.ReferenceFf1Ideal.sig) → Buf (Elt Ideal) ℓ) (g : Dev Cert.ReferenceFf1Ideal.nD → PrngReg), Pre_ReferenceFf1Ideal m →
    θ_run (Cert.ReferenceFf1Ideal.defs (F := Ideal)) (onTc (τ := Cert.ReferenceFf1Ideal.τ) (Cert.ReferenceFf1Ideal.main (F := Ideal))) ⟨m, fun _ => 0, g⟩ (fun r => (∀ c : Dev Cert.ReferenceFf1Ideal.nD,
      r.2.mem ((c.tc : Thread Cert.ReferenceFf1Ideal.nD Cert.ReferenceFf1Ideal.τ).loc Cert.ReferenceFf1Ideal.main_arg0) = m ((c.tc : Thread Cert.ReferenceFf1Ideal.nD Cert.ReferenceFf1Ideal.τ).loc Cert.ReferenceFf1Ideal.main_arg0)
      ∧ r.2.mem ((c.tc : Thread Cert.ReferenceFf1Ideal.nD Cert.ReferenceFf1Ideal.τ).loc Cert.ReferenceFf1Ideal.main_arg1) = m ((c.tc : Thread Cert.ReferenceFf1Ideal.nD Cert.ReferenceFf1Ideal.τ).loc Cert.ReferenceFf1Ideal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9))
      ∧ r.2.sem = fun _ => 0)

def quiescent_KernelBack [hKernelBack : Cert.KernelBack.Facts] : Prop :=
  ∀ (m : (ℓ : Loc Cert.KernelBack.nD Cert.KernelBack.τ Cert.KernelBack.sig) → Buf (Elt Bits) ℓ) (g : Dev Cert.KernelBack.nD → PrngReg), Pre_KernelBack m →
    θ_run (Cert.KernelBack.defs (F := Bits)) (onTc (τ := Cert.KernelBack.τ) (Cert.KernelBack.main (F := Bits))) ⟨m, fun _ => 0, g⟩ (fun r => (∀ c : Dev Cert.KernelBack.nD,
      r.2.mem ((c.tc : Thread Cert.KernelBack.nD Cert.KernelBack.τ).loc Cert.KernelBack.main_arg0) = m ((c.tc : Thread Cert.KernelBack.nD Cert.KernelBack.τ).loc Cert.KernelBack.main_arg0)
      ∧ r.2.mem ((c.tc : Thread Cert.KernelBack.nD Cert.KernelBack.τ).loc Cert.KernelBack.main_arg1) = m ((c.tc : Thread Cert.KernelBack.nD Cert.KernelBack.τ).loc Cert.KernelBack.main_arg1)
      ∧ r.2.mem ((c.tc : Thread Cert.KernelBack.nD Cert.KernelBack.τ).loc Cert.KernelBack.main_arg2) = m ((c.tc : Thread Cert.KernelBack.nD Cert.KernelBack.τ).loc Cert.KernelBack.main_arg2)
      ∧ r.2.mem ((c.tc : Thread Cert.KernelBack.nD Cert.KernelBack.τ).loc Cert.KernelBack.main_arg3) = m ((c.tc : Thread Cert.KernelBack.nD Cert.KernelBack.τ).loc Cert.KernelBack.main_arg3)
      ∧ r.2.mem ((c.tc : Thread Cert.KernelBack.nD Cert.KernelBack.τ).loc Cert.KernelBack.main_arg4) = m ((c.tc : Thread Cert.KernelBack.nD Cert.KernelBack.τ).loc Cert.KernelBack.main_arg4))
      ∧ r.2.sem = fun _ => 0)

def quiescent_KernelBackIdeal [hKernelBackIdeal : Cert.KernelBackIdeal.Facts] : Prop :=
  ∀ (m : (ℓ : Loc Cert.KernelBackIdeal.nD Cert.KernelBackIdeal.τ Cert.KernelBackIdeal.sig) → Buf (Elt Ideal) ℓ) (g : Dev Cert.KernelBackIdeal.nD → PrngReg), Pre_KernelBackIdeal m →
    θ_run (Cert.KernelBackIdeal.defs (F := Ideal)) (onTc (τ := Cert.KernelBackIdeal.τ) (Cert.KernelBackIdeal.main (F := Ideal))) ⟨m, fun _ => 0, g⟩ (fun r => (∀ c : Dev Cert.KernelBackIdeal.nD,
      r.2.mem ((c.tc : Thread Cert.KernelBackIdeal.nD Cert.KernelBackIdeal.τ).loc Cert.KernelBackIdeal.main_arg0) = m ((c.tc : Thread Cert.KernelBackIdeal.nD Cert.KernelBackIdeal.τ).loc Cert.KernelBackIdeal.main_arg0)
      ∧ r.2.mem ((c.tc : Thread Cert.KernelBackIdeal.nD Cert.KernelBackIdeal.τ).loc Cert.KernelBackIdeal.main_arg1) = m ((c.tc : Thread Cert.KernelBackIdeal.nD Cert.KernelBackIdeal.τ).loc Cert.KernelBackIdeal.main_arg1)
      ∧ r.2.mem ((c.tc : Thread Cert.KernelBackIdeal.nD Cert.KernelBackIdeal.τ).loc Cert.KernelBackIdeal.main_arg2) = m ((c.tc : Thread Cert.KernelBackIdeal.nD Cert.KernelBackIdeal.τ).loc Cert.KernelBackIdeal.main_arg2)
      ∧ r.2.mem ((c.tc : Thread Cert.KernelBackIdeal.nD Cert.KernelBackIdeal.τ).loc Cert.KernelBackIdeal.main_arg3) = m ((c.tc : Thread Cert.KernelBackIdeal.nD Cert.KernelBackIdeal.τ).loc Cert.KernelBackIdeal.main_arg3)
      ∧ r.2.mem ((c.tc : Thread Cert.KernelBackIdeal.nD Cert.KernelBackIdeal.τ).loc Cert.KernelBackIdeal.main_arg4) = m ((c.tc : Thread Cert.KernelBackIdeal.nD Cert.KernelBackIdeal.τ).loc Cert.KernelBackIdeal.main_arg4))
      ∧ r.2.sem = fun _ => 0)

def quiescent_ReferenceBackIdeal [hReferenceBackIdeal : Cert.ReferenceBackIdeal.Facts] : Prop :=
  ∀ (m : (ℓ : Loc Cert.ReferenceBackIdeal.nD Cert.ReferenceBackIdeal.τ Cert.ReferenceBackIdeal.sig) → Buf (Elt Ideal) ℓ) (g : Dev Cert.ReferenceBackIdeal.nD → PrngReg), Pre_ReferenceBackIdeal m →
    θ_run (Cert.ReferenceBackIdeal.defs (F := Ideal)) (onTc (τ := Cert.ReferenceBackIdeal.τ) (Cert.ReferenceBackIdeal.main (F := Ideal))) ⟨m, fun _ => 0, g⟩ (fun r => (∀ c : Dev Cert.ReferenceBackIdeal.nD,
      r.2.mem ((c.tc : Thread Cert.ReferenceBackIdeal.nD Cert.ReferenceBackIdeal.τ).loc Cert.ReferenceBackIdeal.main_arg0) = m ((c.tc : Thread Cert.ReferenceBackIdeal.nD Cert.ReferenceBackIdeal.τ).loc Cert.ReferenceBackIdeal.main_arg0)
      ∧ r.2.mem ((c.tc : Thread Cert.ReferenceBackIdeal.nD Cert.ReferenceBackIdeal.τ).loc Cert.ReferenceBackIdeal.main_arg1) = m ((c.tc : Thread Cert.ReferenceBackIdeal.nD Cert.ReferenceBackIdeal.τ).loc Cert.ReferenceBackIdeal.main_arg1)
      ∧ r.2.mem ((c.tc : Thread Cert.ReferenceBackIdeal.nD Cert.ReferenceBackIdeal.τ).loc Cert.ReferenceBackIdeal.main_arg2) = m ((c.tc : Thread Cert.ReferenceBackIdeal.nD Cert.ReferenceBackIdeal.τ).loc Cert.ReferenceBackIdeal.main_arg2)
      ∧ r.2.mem ((c.tc : Thread Cert.ReferenceBackIdeal.nD Cert.ReferenceBackIdeal.τ).loc Cert.ReferenceBackIdeal.main_arg3) = m ((c.tc : Thread Cert.ReferenceBackIdeal.nD Cert.ReferenceBackIdeal.τ).loc Cert.ReferenceBackIdeal.main_arg3)
      ∧ r.2.mem ((c.tc : Thread Cert.ReferenceBackIdeal.nD Cert.ReferenceBackIdeal.τ).loc Cert.ReferenceBackIdeal.main_arg4) = m ((c.tc : Thread Cert.ReferenceBackIdeal.nD Cert.ReferenceBackIdeal.τ).loc Cert.ReferenceBackIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelUk [hKernelUk : Cert.KernelUk.Facts] : Prop :=
  ∀ (m : (ℓ : Loc Cert.KernelUk.nD Cert.KernelUk.τ Cert.KernelUk.sig) → Buf (Elt Bits) ℓ) (g : Dev Cert.KernelUk.nD → PrngReg), Pre_KernelUk m →
    θ_run (Cert.KernelUk.defs (F := Bits)) (onTc (τ := Cert.KernelUk.τ) (Cert.KernelUk.main (F := Bits))) ⟨m, fun _ => 0, g⟩ (fun r => (∀ c : Dev Cert.KernelUk.nD,
      r.2.mem ((c.tc : Thread Cert.KernelUk.nD Cert.KernelUk.τ).loc Cert.KernelUk.main_arg0) = m ((c.tc : Thread Cert.KernelUk.nD Cert.KernelUk.τ).loc Cert.KernelUk.main_arg0)
      ∧ r.2.mem ((c.tc : Thread Cert.KernelUk.nD Cert.KernelUk.τ).loc Cert.KernelUk.main_arg1) = m ((c.tc : Thread Cert.KernelUk.nD Cert.KernelUk.τ).loc Cert.KernelUk.main_arg1))
      ∧ r.2.sem = fun _ => 0)

def quiescent_KernelUkIdeal [hKernelUkIdeal : Cert.KernelUkIdeal.Facts] : Prop :=
  ∀ (m : (ℓ : Loc Cert.KernelUkIdeal.nD Cert.KernelUkIdeal.τ Cert.KernelUkIdeal.sig) → Buf (Elt Ideal) ℓ) (g : Dev Cert.KernelUkIdeal.nD → PrngReg), Pre_KernelUkIdeal m →
    θ_run (Cert.KernelUkIdeal.defs (F := Ideal)) (onTc (τ := Cert.KernelUkIdeal.τ) (Cert.KernelUkIdeal.main (F := Ideal))) ⟨m, fun _ => 0, g⟩ (fun r => (∀ c : Dev Cert.KernelUkIdeal.nD,
      r.2.mem ((c.tc : Thread Cert.KernelUkIdeal.nD Cert.KernelUkIdeal.τ).loc Cert.KernelUkIdeal.main_arg0) = m ((c.tc : Thread Cert.KernelUkIdeal.nD Cert.KernelUkIdeal.τ).loc Cert.KernelUkIdeal.main_arg0)
      ∧ r.2.mem ((c.tc : Thread Cert.KernelUkIdeal.nD Cert.KernelUkIdeal.τ).loc Cert.KernelUkIdeal.main_arg1) = m ((c.tc : Thread Cert.KernelUkIdeal.nD Cert.KernelUkIdeal.τ).loc Cert.KernelUkIdeal.main_arg1))
      ∧ r.2.sem = fun _ => 0)

def quiescent_ReferenceUkIdeal [hReferenceUkIdeal : Cert.ReferenceUkIdeal.Facts] : Prop :=
  ∀ (m : (ℓ : Loc Cert.ReferenceUkIdeal.nD Cert.ReferenceUkIdeal.τ Cert.ReferenceUkIdeal.sig) → Buf (Elt Ideal) ℓ) (g : Dev Cert.ReferenceUkIdeal.nD → PrngReg), Pre_ReferenceUkIdeal m →
    θ_run (Cert.ReferenceUkIdeal.defs (F := Ideal)) (onTc (τ := Cert.ReferenceUkIdeal.τ) (Cert.ReferenceUkIdeal.main (F := Ideal))) ⟨m, fun _ => 0, g⟩ (fun r => (∀ c : Dev Cert.ReferenceUkIdeal.nD,
      r.2.mem ((c.tc : Thread Cert.ReferenceUkIdeal.nD Cert.ReferenceUkIdeal.τ).loc Cert.ReferenceUkIdeal.main_arg0) = m ((c.tc : Thread Cert.ReferenceUkIdeal.nD Cert.ReferenceUkIdeal.τ).loc Cert.ReferenceUkIdeal.main_arg0)
      ∧ r.2.mem ((c.tc : Thread Cert.ReferenceUkIdeal.nD Cert.ReferenceUkIdeal.τ).loc Cert.ReferenceUkIdeal.main_arg1) = m ((c.tc : Thread Cert.ReferenceUkIdeal.nD Cert.ReferenceUkIdeal.τ).loc Cert.ReferenceUkIdeal.main_arg1))
      ∧ r.2.sem = fun _ => 0)

def quiescent_KernelUq [hKernelUq : Cert.KernelUq.Facts] : Prop :=
  ∀ (m : (ℓ : Loc Cert.KernelUq.nD Cert.KernelUq.τ Cert.KernelUq.sig) → Buf (Elt Bits) ℓ) (g : Dev Cert.KernelUq.nD → PrngReg), Pre_KernelUq m →
    θ_run (Cert.KernelUq.defs (F := Bits)) (onTc (τ := Cert.KernelUq.τ) (Cert.KernelUq.main (F := Bits))) ⟨m, fun _ => 0, g⟩ (fun r => (∀ c : Dev Cert.KernelUq.nD,
      r.2.mem ((c.tc : Thread Cert.KernelUq.nD Cert.KernelUq.τ).loc Cert.KernelUq.main_arg0) = m ((c.tc : Thread Cert.KernelUq.nD Cert.KernelUq.τ).loc Cert.KernelUq.main_arg0)
      ∧ r.2.mem ((c.tc : Thread Cert.KernelUq.nD Cert.KernelUq.τ).loc Cert.KernelUq.main_arg1) = m ((c.tc : Thread Cert.KernelUq.nD Cert.KernelUq.τ).loc Cert.KernelUq.main_arg1))
      ∧ r.2.sem = fun _ => 0)

def quiescent_KernelUqIdeal [hKernelUqIdeal : Cert.KernelUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg), Pre_KernelUqIdeal m →
    θ_run (Cert.KernelUqIdeal.defs (F := Ideal)) (onTc (τ := Cert.KernelUqIdeal.τ) (Cert.KernelUqIdeal.main (F := Ideal))) ⟨m, fun _ => 0, g⟩ (fun r => (∀ c : Dev Cert.KernelUqIdeal.nD,
      r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
      ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1))
      ∧ r.2.sem = fun _ => 0)

def quiescent_ReferenceUqIdeal [hReferenceUqIdeal : Cert.ReferenceUqIdeal.Facts] : Prop :=
  ∀ (m : (ℓ : Loc Cert.ReferenceUqIdeal.nD Cert.ReferenceUqIdeal.τ Cert.ReferenceUqIdeal.sig) → Buf (Elt Ideal) ℓ) (g : Dev Cert.ReferenceUqIdeal.nD → PrngReg), Pre_ReferenceUqIdeal m →
    θ_run (Cert.ReferenceUqIdeal.defs (F := Ideal)) (onTc (τ := Cert.ReferenceUqIdeal.τ) (Cert.ReferenceUqIdeal.main (F := Ideal))) ⟨m, fun _ => 0, g⟩ (fun r => (∀ c : Dev Cert.ReferenceUqIdeal.nD,
      r.2.mem ((c.tc : Thread Cert.ReferenceUqIdeal.nD Cert.ReferenceUqIdeal.τ).loc Cert.ReferenceUqIdeal.main_arg0) = m ((c.tc : Thread Cert.ReferenceUqIdeal.nD Cert.ReferenceUqIdeal.τ).loc Cert.ReferenceUqIdeal.main_arg0)
      ∧ r.2.mem ((c.tc : Thread Cert.ReferenceUqIdeal.nD Cert.ReferenceUqIdeal.τ).loc Cert.ReferenceUqIdeal.main_arg1) = m ((c.tc : Thread Cert.ReferenceUqIdeal.nD Cert.ReferenceUqIdeal.τ).loc Cert.ReferenceUqIdeal.main_arg1))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![8, 8, 1, 512]⟩ ⟨4, ![64, 8, 1, 512]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨4, ![8, 16, 1, 256]⟩ ⟨4, ![64, 16, 1, 256]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨3, ![4, 1024, 512]⟩ ⟨3, ![32, 1024, 512]⟩ 0 8 c (m' (((0 : Dev Cert.ReferenceIdeal.nD).tc : Thread Cert.ReferenceIdeal.nD Cert.ReferenceIdeal.τ).loc Cert.ReferenceIdeal.main_arg6))
      ∧ m ((c.tc : Thread Cert.KernelIdeal.nD Cert.KernelIdeal.τ).loc Cert.KernelIdeal.main_arg7) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg7))
      ∧ m ((c.tc : Thread Cert.KernelIdeal.nD Cert.KernelIdeal.τ).loc Cert.KernelIdeal.main_arg8) = Layout.block ⟨3, ![4, 128, 1024]⟩ ⟨3, ![32, 128, 1024]⟩ 0 8 c (m' (((0 : Dev Cert.ReferenceIdeal.nD).tc : Thread Cert.ReferenceIdeal.nD Cert.ReferenceIdeal.τ).loc Cert.ReferenceIdeal.main_arg8))
      ∧ m ((c.tc : Thread Cert.KernelIdeal.nD Cert.KernelIdeal.τ).loc Cert.KernelIdeal.main_arg9) = Layout.block ⟨3, ![4, 128, 1024]⟩ ⟨3, ![32, 128, 1024]⟩ 0 8 c (m' (((0 : Dev Cert.ReferenceIdeal.nD).tc : Thread Cert.ReferenceIdeal.nD Cert.ReferenceIdeal.τ).loc Cert.ReferenceIdeal.main_arg9))
      ∧ m ((c.tc : Thread Cert.KernelIdeal.nD Cert.KernelIdeal.τ).loc Cert.KernelIdeal.main_arg10) = Layout.block ⟨3, ![4, 128, 1024]⟩ ⟨3, ![32, 128, 1024]⟩ 0 8 c (m' (((0 : Dev Cert.ReferenceIdeal.nD).tc : Thread Cert.ReferenceIdeal.nD Cert.ReferenceIdeal.τ).loc Cert.ReferenceIdeal.main_arg10))) →
    ∃ (v0 : Buf (Elt Ideal) (((0 : Dev Cert.ReferenceIdeal.nD).tc : Thread Cert.ReferenceIdeal.nD Cert.ReferenceIdeal.τ).loc Cert.ReferenceIdeal.main_v40)) (v1 : Buf (Elt Ideal) (((0 : Dev Cert.ReferenceIdeal.nD).tc : Thread Cert.ReferenceIdeal.nD Cert.ReferenceIdeal.τ).loc Cert.ReferenceIdeal.main_v42)) (v2 : Buf (Elt Ideal) (((0 : Dev Cert.ReferenceIdeal.nD).tc : Thread Cert.ReferenceIdeal.nD Cert.ReferenceIdeal.τ).loc Cert.ReferenceIdeal.main_v44)) (v3 : Buf (Elt Ideal) (((0 : Dev Cert.ReferenceIdeal.nD).tc : Thread Cert.ReferenceIdeal.nD Cert.ReferenceIdeal.τ).loc Cert.ReferenceIdeal.main_v71)) (v4 : Buf (Elt Ideal) (((0 : Dev Cert.ReferenceIdeal.nD).tc : Thread Cert.ReferenceIdeal.nD Cert.ReferenceIdeal.τ).loc Cert.ReferenceIdeal.main_v98)) (v5 : Buf (Elt Ideal) (((0 : Dev Cert.ReferenceIdeal.nD).tc : Thread Cert.ReferenceIdeal.nD Cert.ReferenceIdeal.τ).loc Cert.ReferenceIdeal.main_v125)) (v6 : Buf (Elt Ideal) (((0 : Dev Cert.ReferenceIdeal.nD).tc : Thread Cert.ReferenceIdeal.nD Cert.ReferenceIdeal.τ).loc Cert.ReferenceIdeal.main_v152)) (v7 : Buf (Elt Ideal) (((0 : Dev Cert.ReferenceIdeal.nD).tc : Thread Cert.ReferenceIdeal.nD Cert.ReferenceIdeal.τ).loc Cert.ReferenceIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 2048]⟩ ⟨2, ![32768, 2048]⟩ 0 8 c v0
          ∧ r.2.mem ((c.tc : Thread Cert.KernelIdeal.nD Cert.KernelIdeal.τ).loc Cert.KernelIdeal.main_v1_1) = Layout.block ⟨2, ![4096, 2048]⟩ ⟨2, ![32768, 2048]⟩ 0 8 c v1
          ∧ r.2.mem ((c.tc : Thread Cert.KernelIdeal.nD Cert.KernelIdeal.τ).loc Cert.KernelIdeal.main_v1_2) = Layout.block ⟨2, ![4096, 1024]⟩ ⟨2, ![32768, 1024]⟩ 0 8 c v2
          ∧ r.2.mem ((c.tc : Thread Cert.KernelIdeal.nD Cert.KernelIdeal.τ).loc Cert.KernelIdeal.main_v1_3) = Layout.block ⟨3, ![3, 1024, 512]⟩ ⟨3, ![24, 1024, 512]⟩ 0 8 c v3
          ∧ r.2.mem ((c.tc : Thread Cert.KernelIdeal.nD Cert.KernelIdeal.τ).loc Cert.KernelIdeal.main_v1_4) = Layout.block ⟨3, ![3, 512, 1024]⟩ ⟨3, ![24, 512, 1024]⟩ 0 8 c v4
          ∧ r.2.mem ((c.tc : Thread Cert.KernelIdeal.nD Cert.KernelIdeal.τ).loc Cert.KernelIdeal.main_v1_5) = Layout.block ⟨3, ![3, 128, 1024]⟩ ⟨3, ![24, 128, 1024]⟩ 0 8 c v5
          ∧ r.2.mem ((c.tc : Thread Cert.KernelIdeal.nD Cert.KernelIdeal.τ).loc Cert.KernelIdeal.main_v1_6) = Layout.block ⟨3, ![3, 128, 1024]⟩ ⟨3, ![24, 128, 1024]⟩ 0 8 c v6
          ∧ r.2.mem ((c.tc : Thread Cert.KernelIdeal.nD Cert.KernelIdeal.τ).loc Cert.KernelIdeal.main_v1_7) = Layout.block ⟨3, ![3, 128, 1024]⟩ ⟨3, ![24, 128, 1024]⟩ 0 8 c v7
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_v42) = v1
          ∧ r.2.mem (((0 : Dev Cert.ReferenceIdeal.nD).tc : Thread Cert.ReferenceIdeal.nD Cert.ReferenceIdeal.τ).loc Cert.ReferenceIdeal.main_v44) = v2
          ∧ r.2.mem (((0 : Dev Cert.ReferenceIdeal.nD).tc : Thread Cert.ReferenceIdeal.nD Cert.ReferenceIdeal.τ).loc Cert.ReferenceIdeal.main_v71) = v3
          ∧ r.2.mem (((0 : Dev Cert.ReferenceIdeal.nD).tc : Thread Cert.ReferenceIdeal.nD Cert.ReferenceIdeal.τ).loc Cert.ReferenceIdeal.main_v98) = v4
          ∧ r.2.mem (((0 : Dev Cert.ReferenceIdeal.nD).tc : Thread Cert.ReferenceIdeal.nD Cert.ReferenceIdeal.τ).loc Cert.ReferenceIdeal.main_v125) = v5
          ∧ r.2.mem (((0 : Dev Cert.ReferenceIdeal.nD).tc : Thread Cert.ReferenceIdeal.nD Cert.ReferenceIdeal.τ).loc Cert.ReferenceIdeal.main_v152) = v6
          ∧ r.2.mem (((0 : Dev Cert.ReferenceIdeal.nD).tc : Thread Cert.ReferenceIdeal.nD Cert.ReferenceIdeal.τ).loc Cert.ReferenceIdeal.main_v179) = v7
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7)
          ∧ r.2.mem (((0 : Dev Cert.ReferenceIdeal.nD).tc : Thread Cert.ReferenceIdeal.nD Cert.ReferenceIdeal.τ).loc Cert.ReferenceIdeal.main_arg8) = m' (((0 : Dev Cert.ReferenceIdeal.nD).tc : Thread Cert.ReferenceIdeal.nD Cert.ReferenceIdeal.τ).loc Cert.ReferenceIdeal.main_arg8)
          ∧ r.2.mem (((0 : Dev Cert.ReferenceIdeal.nD).tc : Thread Cert.ReferenceIdeal.nD Cert.ReferenceIdeal.τ).loc Cert.ReferenceIdeal.main_arg9) = m' (((0 : Dev Cert.ReferenceIdeal.nD).tc : Thread Cert.ReferenceIdeal.nD Cert.ReferenceIdeal.τ).loc Cert.ReferenceIdeal.main_arg9)
          ∧ r.2.mem (((0 : Dev Cert.ReferenceIdeal.nD).tc : Thread Cert.ReferenceIdeal.nD Cert.ReferenceIdeal.τ).loc Cert.ReferenceIdeal.main_arg10) = m' (((0 : Dev Cert.ReferenceIdeal.nD).tc : Thread Cert.ReferenceIdeal.nD Cert.ReferenceIdeal.τ).loc Cert.ReferenceIdeal.main_arg10))

def preserves_KernelFf2_KernelFf2Ideal : Prop :=
  True

def algebraic_KernelFf2Ideal_ReferenceFf2Ideal [hKernelFf2Ideal : Cert.KernelFf2Ideal.Facts] [hReferenceFf2Ideal : Cert.ReferenceFf2Ideal.Facts] : Prop :=
  ∀ (m : (ℓ : Loc Cert.KernelFf2Ideal.nD Cert.KernelFf2Ideal.τ Cert.KernelFf2Ideal.sig) → Buf (Elt Ideal) ℓ) (g : Dev Cert.KernelFf2Ideal.nD → PrngReg)
    (m' : (ℓ : Loc Cert.ReferenceFf2Ideal.nD Cert.ReferenceFf2Ideal.τ Cert.ReferenceFf2Ideal.sig) → Buf (Elt Ideal) ℓ) (g' : Dev Cert.ReferenceFf2Ideal.nD → PrngReg), Pre_KernelFf2Ideal m →
    (∀ c : Dev Cert.KernelFf2Ideal.nD,
      m' ((c.tc : Thread Cert.ReferenceFf2Ideal.nD Cert.ReferenceFf2Ideal.τ).loc Cert.ReferenceFf2Ideal.main_arg0) = m ((c.tc : Thread Cert.KernelFf2Ideal.nD Cert.KernelFf2Ideal.τ).loc Cert.KernelFf2Ideal.main_arg0)
      ∧ m' ((c.tc : Thread Cert.ReferenceFf2Ideal.nD Cert.ReferenceFf2Ideal.τ).loc Cert.ReferenceFf2Ideal.main_arg1) = m ((c.tc : Thread Cert.KernelFf2Ideal.nD Cert.KernelFf2Ideal.τ).loc Cert.KernelFf2Ideal.main_arg1)) →
    ∃ (v0 : (c : Dev Cert.KernelFf2Ideal.nD) → Buf (Elt Ideal) ((c.tc : Thread Cert.KernelFf2Ideal.nD Cert.KernelFf2Ideal.τ).loc Cert.KernelFf2Ideal.main_v0)),
      θ_run (Cert.KernelFf2Ideal.defs (F := Ideal)) (onTc (τ := Cert.KernelFf2Ideal.τ) (Cert.KernelFf2Ideal.main (F := Ideal))) ⟨m, fun _ => 0, g⟩ (fun r => ∀ c : Dev Cert.KernelFf2Ideal.nD,
          r.2.mem ((c.tc : Thread Cert.KernelFf2Ideal.nD Cert.KernelFf2Ideal.τ).loc Cert.KernelFf2Ideal.main_v0) = v0 c
          ∧ r.2.mem ((c.tc : Thread Cert.KernelFf2Ideal.nD Cert.KernelFf2Ideal.τ).loc Cert.KernelFf2Ideal.main_arg0) = m ((c.tc : Thread Cert.KernelFf2Ideal.nD Cert.KernelFf2Ideal.τ).loc Cert.KernelFf2Ideal.main_arg0)
          ∧ r.2.mem ((c.tc : Thread Cert.KernelFf2Ideal.nD Cert.KernelFf2Ideal.τ).loc Cert.KernelFf2Ideal.main_arg1) = m ((c.tc : Thread Cert.KernelFf2Ideal.nD Cert.KernelFf2Ideal.τ).loc Cert.KernelFf2Ideal.main_arg1))
      ∧ θ_run (Cert.ReferenceFf2Ideal.defs (F := Ideal)) (onTc (τ := Cert.ReferenceFf2Ideal.τ) (Cert.ReferenceFf2Ideal.main (F := Ideal))) ⟨m', fun _ => 0, g'⟩ (fun r => ∀ c : Dev Cert.ReferenceFf2Ideal.nD,
          r.2.mem ((c.tc : Thread Cert.ReferenceFf2Ideal.nD Cert.ReferenceFf2Ideal.τ).loc Cert.ReferenceFf2Ideal.main_v6) = v0 c
          ∧ r.2.mem ((c.tc : Thread Cert.ReferenceFf2Ideal.nD Cert.ReferenceFf2Ideal.τ).loc Cert.ReferenceFf2Ideal.main_arg0) = m' ((c.tc : Thread Cert.ReferenceFf2Ideal.nD Cert.ReferenceFf2Ideal.τ).loc Cert.ReferenceFf2Ideal.main_arg0)
          ∧ r.2.mem ((c.tc : Thread Cert.ReferenceFf2Ideal.nD Cert.ReferenceFf2Ideal.τ).loc Cert.ReferenceFf2Ideal.main_arg1) = m' ((c.tc : Thread Cert.ReferenceFf2Ideal.nD Cert.ReferenceFf2Ideal.τ).loc Cert.ReferenceFf2Ideal.main_arg1))

def preserves_KernelFf1_KernelFf1Ideal : Prop :=
  True

def algebraic_KernelFf1Ideal_ReferenceFf1Ideal [hKernelFf1Ideal : Cert.KernelFf1Ideal.Facts] [hReferenceFf1Ideal : Cert.ReferenceFf1Ideal.Facts] : Prop :=
  ∀ (m : (ℓ : Loc Cert.KernelFf1Ideal.nD Cert.KernelFf1Ideal.τ Cert.KernelFf1Ideal.sig) → Buf (Elt Ideal) ℓ) (g : Dev Cert.KernelFf1Ideal.nD → PrngReg)
    (m' : (ℓ : Loc Cert.ReferenceFf1Ideal.nD Cert.ReferenceFf1Ideal.τ Cert.ReferenceFf1Ideal.sig) → Buf (Elt Ideal) ℓ) (g' : Dev Cert.ReferenceFf1Ideal.nD → PrngReg), Pre_KernelFf1Ideal m →
    (∀ c : Dev Cert.KernelFf1Ideal.nD,
      m' ((c.tc : Thread Cert.ReferenceFf1Ideal.nD Cert.ReferenceFf1Ideal.τ).loc Cert.ReferenceFf1Ideal.main_arg0) = m ((c.tc : Thread Cert.KernelFf1Ideal.nD Cert.KernelFf1Ideal.τ).loc Cert.KernelFf1Ideal.main_arg0)
      ∧ m' ((c.tc : Thread Cert.ReferenceFf1Ideal.nD Cert.ReferenceFf1Ideal.τ).loc Cert.ReferenceFf1Ideal.main_arg1) = m ((c.tc : Thread Cert.KernelFf1Ideal.nD Cert.KernelFf1Ideal.τ).loc Cert.KernelFf1Ideal.main_arg1)) →
    ∃ (v0 : (c : Dev Cert.KernelFf1Ideal.nD) → Buf (Elt Ideal) ((c.tc : Thread Cert.KernelFf1Ideal.nD Cert.KernelFf1Ideal.τ).loc Cert.KernelFf1Ideal.main_v0)),
      θ_run (Cert.KernelFf1Ideal.defs (F := Ideal)) (onTc (τ := Cert.KernelFf1Ideal.τ) (Cert.KernelFf1Ideal.main (F := Ideal))) ⟨m, fun _ => 0, g⟩ (fun r => ∀ c : Dev Cert.KernelFf1Ideal.nD,
          r.2.mem ((c.tc : Thread Cert.KernelFf1Ideal.nD Cert.KernelFf1Ideal.τ).loc Cert.KernelFf1Ideal.main_v0) = v0 c
          ∧ r.2.mem ((c.tc : Thread Cert.KernelFf1Ideal.nD Cert.KernelFf1Ideal.τ).loc Cert.KernelFf1Ideal.main_arg0) = m ((c.tc : Thread Cert.KernelFf1Ideal.nD Cert.KernelFf1Ideal.τ).loc Cert.KernelFf1Ideal.main_arg0)
          ∧ r.2.mem ((c.tc : Thread Cert.KernelFf1Ideal.nD Cert.KernelFf1Ideal.τ).loc Cert.KernelFf1Ideal.main_arg1) = m ((c.tc : Thread Cert.KernelFf1Ideal.nD Cert.KernelFf1Ideal.τ).loc Cert.KernelFf1Ideal.main_arg1))
      ∧ θ_run (Cert.ReferenceFf1Ideal.defs (F := Ideal)) (onTc (τ := Cert.ReferenceFf1Ideal.τ) (Cert.ReferenceFf1Ideal.main (F := Ideal))) ⟨m', fun _ => 0, g'⟩ (fun r => ∀ c : Dev Cert.ReferenceFf1Ideal.nD,
          r.2.mem ((c.tc : Thread Cert.ReferenceFf1Ideal.nD Cert.ReferenceFf1Ideal.τ).loc Cert.ReferenceFf1Ideal.main_v8) = v0 c
          ∧ r.2.mem ((c.tc : Thread Cert.ReferenceFf1Ideal.nD Cert.ReferenceFf1Ideal.τ).loc Cert.ReferenceFf1Ideal.main_arg0) = m' ((c.tc : Thread Cert.ReferenceFf1Ideal.nD Cert.ReferenceFf1Ideal.τ).loc Cert.ReferenceFf1Ideal.main_arg0)
          ∧ r.2.mem ((c.tc : Thread Cert.ReferenceFf1Ideal.nD Cert.ReferenceFf1Ideal.τ).loc Cert.ReferenceFf1Ideal.main_arg1) = m' ((c.tc : Thread Cert.ReferenceFf1Ideal.nD Cert.ReferenceFf1Ideal.τ).loc Cert.ReferenceFf1Ideal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)) →
    ∃ (v0 : (c : Dev Cert.KernelMixIdeal.nD) → Buf (Elt Ideal) ((c.tc : Thread Cert.KernelMixIdeal.nD Cert.KernelMixIdeal.τ).loc Cert.KernelMixIdeal.main_v0)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v6) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)) (v2 : (c : Dev Cert.KernelUpIdeal.nD) → Buf (Elt Ideal) ((c.tc : Thread Cert.KernelUpIdeal.nD Cert.KernelUpIdeal.τ).loc Cert.KernelUpIdeal.main_v0_2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_v0_2) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v18) = v0 c
          ∧ r.2.mem ((c.tc : Thread Cert.ReferenceUpIdeal.nD Cert.ReferenceUpIdeal.τ).loc Cert.ReferenceUpIdeal.main_v19) = v1 c
          ∧ r.2.mem ((c.tc : Thread Cert.ReferenceUpIdeal.nD Cert.ReferenceUpIdeal.τ).loc Cert.ReferenceUpIdeal.main_v21) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v0_0)) (v1 : (c : Dev Cert.KernelDownIdeal.nD) → Buf (Elt Ideal) ((c.tc : Thread Cert.KernelDownIdeal.nD Cert.KernelDownIdeal.τ).loc Cert.KernelDownIdeal.main_v0_1)) (v2 : (c : Dev Cert.KernelDownIdeal.nD) → Buf (Elt Ideal) ((c.tc : Thread Cert.KernelDownIdeal.nD Cert.KernelDownIdeal.τ).loc Cert.KernelDownIdeal.main_v0_2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0_0) = v0 c
          ∧ r.2.mem ((c.tc : Thread Cert.KernelDownIdeal.nD Cert.KernelDownIdeal.τ).loc Cert.KernelDownIdeal.main_v0_1) = v1 c
          ∧ r.2.mem ((c.tc : Thread Cert.KernelDownIdeal.nD Cert.KernelDownIdeal.τ).loc Cert.KernelDownIdeal.main_v0_2) = v2 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v2) = v0 c
          ∧ r.2.mem ((c.tc : Thread Cert.ReferenceDownIdeal.nD Cert.ReferenceDownIdeal.τ).loc Cert.ReferenceDownIdeal.main_v18) = v1 c
          ∧ r.2.mem ((c.tc : Thread Cert.ReferenceDownIdeal.nD Cert.ReferenceDownIdeal.τ).loc Cert.ReferenceDownIdeal.main_v21) = v2 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)) →
    ∃ (v0 : (c : Dev Cert.KernelMergeIdeal.nD) → Buf (Elt Ideal) ((c.tc : Thread Cert.KernelMergeIdeal.nD Cert.KernelMergeIdeal.τ).loc Cert.KernelMergeIdeal.main_v0_0)) (v1 : (c : Dev Cert.KernelMergeIdeal.nD) → Buf (Elt Ideal) ((c.tc : Thread Cert.KernelMergeIdeal.nD Cert.KernelMergeIdeal.τ).loc Cert.KernelMergeIdeal.main_v0_1)) (v2 : (c : Dev Cert.KernelMergeIdeal.nD) → Buf (Elt Ideal) ((c.tc : Thread Cert.KernelMergeIdeal.nD Cert.KernelMergeIdeal.τ).loc Cert.KernelMergeIdeal.main_v0_2)) (v3 : (c : Dev Cert.KernelMergeIdeal.nD) → Buf (Elt Ideal) ((c.tc : Thread Cert.KernelMergeIdeal.nD Cert.KernelMergeIdeal.τ).loc Cert.KernelMergeIdeal.main_v0_3)) (v4 : (c : Dev Cert.KernelMergeIdeal.nD) → Buf (Elt Ideal) ((c.tc : Thread Cert.KernelMergeIdeal.nD Cert.KernelMergeIdeal.τ).loc Cert.KernelMergeIdeal.main_v0_4)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v0_0) = v0 c
          ∧ r.2.mem ((c.tc : Thread Cert.KernelMergeIdeal.nD Cert.KernelMergeIdeal.τ).loc Cert.KernelMergeIdeal.main_v0_1) = v1 c
          ∧ r.2.mem ((c.tc : Thread Cert.KernelMergeIdeal.nD Cert.KernelMergeIdeal.τ).loc Cert.KernelMergeIdeal.main_v0_2) = v2 c
          ∧ r.2.mem ((c.tc : Thread Cert.KernelMergeIdeal.nD Cert.KernelMergeIdeal.τ).loc Cert.KernelMergeIdeal.main_v0_3) = v3 c
          ∧ r.2.mem ((c.tc : Thread Cert.KernelMergeIdeal.nD Cert.KernelMergeIdeal.τ).loc Cert.KernelMergeIdeal.main_v0_4) = v4 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v13) = v0 c
          ∧ r.2.mem ((c.tc : Thread Cert.ReferenceMergeIdeal.nD Cert.ReferenceMergeIdeal.τ).loc Cert.ReferenceMergeIdeal.main_v14) = v1 c
          ∧ r.2.mem ((c.tc : Thread Cert.ReferenceMergeIdeal.nD Cert.ReferenceMergeIdeal.τ).loc Cert.ReferenceMergeIdeal.main_v15) = v2 c
          ∧ r.2.mem ((c.tc : Thread Cert.ReferenceMergeIdeal.nD Cert.ReferenceMergeIdeal.τ).loc Cert.ReferenceMergeIdeal.main_v12) = v3 c
          ∧ r.2.mem ((c.tc : Thread Cert.ReferenceMergeIdeal.nD Cert.ReferenceMergeIdeal.τ).loc Cert.ReferenceMergeIdeal.main_v28) = v4 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9))

def preserves_KernelBack_KernelBackIdeal : Prop :=
  True

def algebraic_KernelBackIdeal_ReferenceBackIdeal [hKernelBackIdeal : Cert.KernelBackIdeal.Facts] [hReferenceBackIdeal : Cert.ReferenceBackIdeal.Facts] : Prop :=
  ∀ (m : (ℓ : Loc Cert.KernelBackIdeal.nD Cert.KernelBackIdeal.τ Cert.KernelBackIdeal.sig) → Buf (Elt Ideal) ℓ) (g : Dev Cert.KernelBackIdeal.nD → PrngReg)
    (m' : (ℓ : Loc Cert.ReferenceBackIdeal.nD Cert.ReferenceBackIdeal.τ Cert.ReferenceBackIdeal.sig) → Buf (Elt Ideal) ℓ) (g' : Dev Cert.ReferenceBackIdeal.nD → PrngReg), Pre_KernelBackIdeal m →
    (∀ c : Dev Cert.KernelBackIdeal.nD,
      m' ((c.tc : Thread Cert.ReferenceBackIdeal.nD Cert.ReferenceBackIdeal.τ).loc Cert.ReferenceBackIdeal.main_arg0) = m ((c.tc : Thread Cert.KernelBackIdeal.nD Cert.KernelBackIdeal.τ).loc Cert.KernelBackIdeal.main_arg0)
      ∧ m' ((c.tc : Thread Cert.ReferenceBackIdeal.nD Cert.ReferenceBackIdeal.τ).loc Cert.ReferenceBackIdeal.main_arg1) = m ((c.tc : Thread Cert.KernelBackIdeal.nD Cert.KernelBackIdeal.τ).loc Cert.KernelBackIdeal.main_arg1)
      ∧ m' ((c.tc : Thread Cert.ReferenceBackIdeal.nD Cert.ReferenceBackIdeal.τ).loc Cert.ReferenceBackIdeal.main_arg2) = m ((c.tc : Thread Cert.KernelBackIdeal.nD Cert.KernelBackIdeal.τ).loc Cert.KernelBackIdeal.main_arg2)
      ∧ m' ((c.tc : Thread Cert.ReferenceBackIdeal.nD Cert.ReferenceBackIdeal.τ).loc Cert.ReferenceBackIdeal.main_arg3) = m ((c.tc : Thread Cert.KernelBackIdeal.nD Cert.KernelBackIdeal.τ).loc Cert.KernelBackIdeal.main_arg3)
      ∧ m' ((c.tc : Thread Cert.ReferenceBackIdeal.nD Cert.ReferenceBackIdeal.τ).loc Cert.ReferenceBackIdeal.main_arg4) = m ((c.tc : Thread Cert.KernelBackIdeal.nD Cert.KernelBackIdeal.τ).loc Cert.KernelBackIdeal.main_arg4)) →
    ∃ (v0 : (c : Dev Cert.KernelBackIdeal.nD) → Buf (Elt Ideal) ((c.tc : Thread Cert.KernelBackIdeal.nD Cert.KernelBackIdeal.τ).loc Cert.KernelBackIdeal.main_v2_0)) (v1 : (c : Dev Cert.KernelBackIdeal.nD) → Buf (Elt Ideal) ((c.tc : Thread Cert.KernelBackIdeal.nD Cert.KernelBackIdeal.τ).loc Cert.KernelBackIdeal.main_v2_1)) (v2 : (c : Dev Cert.KernelBackIdeal.nD) → Buf (Elt Ideal) ((c.tc : Thread Cert.KernelBackIdeal.nD Cert.KernelBackIdeal.τ).loc Cert.KernelBackIdeal.main_v2_2)),
      θ_run (Cert.KernelBackIdeal.defs (F := Ideal)) (onTc (τ := Cert.KernelBackIdeal.τ) (Cert.KernelBackIdeal.main (F := Ideal))) ⟨m, fun _ => 0, g⟩ (fun r => ∀ c : Dev Cert.KernelBackIdeal.nD,
          r.2.mem ((c.tc : Thread Cert.KernelBackIdeal.nD Cert.KernelBackIdeal.τ).loc Cert.KernelBackIdeal.main_v2_0) = v0 c
          ∧ r.2.mem ((c.tc : Thread Cert.KernelBackIdeal.nD Cert.KernelBackIdeal.τ).loc Cert.KernelBackIdeal.main_v2_1) = v1 c
          ∧ r.2.mem ((c.tc : Thread Cert.KernelBackIdeal.nD Cert.KernelBackIdeal.τ).loc Cert.KernelBackIdeal.main_v2_2) = v2 c
          ∧ r.2.mem ((c.tc : Thread Cert.KernelBackIdeal.nD Cert.KernelBackIdeal.τ).loc Cert.KernelBackIdeal.main_arg0) = m ((c.tc : Thread Cert.KernelBackIdeal.nD Cert.KernelBackIdeal.τ).loc Cert.KernelBackIdeal.main_arg0)
          ∧ r.2.mem ((c.tc : Thread Cert.KernelBackIdeal.nD Cert.KernelBackIdeal.τ).loc Cert.KernelBackIdeal.main_arg1) = m ((c.tc : Thread Cert.KernelBackIdeal.nD Cert.KernelBackIdeal.τ).loc Cert.KernelBackIdeal.main_arg1)
          ∧ r.2.mem ((c.tc : Thread Cert.KernelBackIdeal.nD Cert.KernelBackIdeal.τ).loc Cert.KernelBackIdeal.main_arg2) = m ((c.tc : Thread Cert.KernelBackIdeal.nD Cert.KernelBackIdeal.τ).loc Cert.KernelBackIdeal.main_arg2)
          ∧ r.2.mem ((c.tc : Thread Cert.KernelBackIdeal.nD Cert.KernelBackIdeal.τ).loc Cert.KernelBackIdeal.main_arg3) = m ((c.tc : Thread Cert.KernelBackIdeal.nD Cert.KernelBackIdeal.τ).loc Cert.KernelBackIdeal.main_arg3)
          ∧ r.2.mem ((c.tc : Thread Cert.KernelBackIdeal.nD Cert.KernelBackIdeal.τ).loc Cert.KernelBackIdeal.main_arg4) = m ((c.tc : Thread Cert.KernelBackIdeal.nD Cert.KernelBackIdeal.τ).loc Cert.KernelBackIdeal.main_arg4))
      ∧ θ_run (Cert.ReferenceBackIdeal.defs (F := Ideal)) (onTc (τ := Cert.ReferenceBackIdeal.τ) (Cert.ReferenceBackIdeal.main (F := Ideal))) ⟨m', fun _ => 0, g'⟩ (fun r => ∀ c : Dev Cert.ReferenceBackIdeal.nD,
          r.2.mem ((c.tc : Thread Cert.ReferenceBackIdeal.nD Cert.ReferenceBackIdeal.τ).loc Cert.ReferenceBackIdeal.main_v49) = v0 c
          ∧ r.2.mem ((c.tc : Thread Cert.ReferenceBackIdeal.nD Cert.ReferenceBackIdeal.τ).loc Cert.ReferenceBackIdeal.main_v50) = v1 c
          ∧ r.2.mem ((c.tc : Thread Cert.ReferenceBackIdeal.nD Cert.ReferenceBackIdeal.τ).loc Cert.ReferenceBackIdeal.main_v17) = v2 c
          ∧ r.2.mem ((c.tc : Thread Cert.ReferenceBackIdeal.nD Cert.ReferenceBackIdeal.τ).loc Cert.ReferenceBackIdeal.main_arg0) = m' ((c.tc : Thread Cert.ReferenceBackIdeal.nD Cert.ReferenceBackIdeal.τ).loc Cert.ReferenceBackIdeal.main_arg0)
          ∧ r.2.mem ((c.tc : Thread Cert.ReferenceBackIdeal.nD Cert.ReferenceBackIdeal.τ).loc Cert.ReferenceBackIdeal.main_arg1) = m' ((c.tc : Thread Cert.ReferenceBackIdeal.nD Cert.ReferenceBackIdeal.τ).loc Cert.ReferenceBackIdeal.main_arg1)
          ∧ r.2.mem ((c.tc : Thread Cert.ReferenceBackIdeal.nD Cert.ReferenceBackIdeal.τ).loc Cert.ReferenceBackIdeal.main_arg2) = m' ((c.tc : Thread Cert.ReferenceBackIdeal.nD Cert.ReferenceBackIdeal.τ).loc Cert.ReferenceBackIdeal.main_arg2)
          ∧ r.2.mem ((c.tc : Thread Cert.ReferenceBackIdeal.nD Cert.ReferenceBackIdeal.τ).loc Cert.ReferenceBackIdeal.main_arg3) = m' ((c.tc : Thread Cert.ReferenceBackIdeal.nD Cert.ReferenceBackIdeal.τ).loc Cert.ReferenceBackIdeal.main_arg3)
          ∧ r.2.mem ((c.tc : Thread Cert.ReferenceBackIdeal.nD Cert.ReferenceBackIdeal.τ).loc Cert.ReferenceBackIdeal.main_arg4) = m' ((c.tc : Thread Cert.ReferenceBackIdeal.nD Cert.ReferenceBackIdeal.τ).loc Cert.ReferenceBackIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v6) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelUk_KernelUkIdeal : Prop :=
  True

def algebraic_KernelUkIdeal_ReferenceUkIdeal [hKernelUkIdeal : Cert.KernelUkIdeal.Facts] [hReferenceUkIdeal : Cert.ReferenceUkIdeal.Facts] : Prop :=
  ∀ (m : (ℓ : Loc Cert.KernelUkIdeal.nD Cert.KernelUkIdeal.τ Cert.KernelUkIdeal.sig) → Buf (Elt Ideal) ℓ) (g : Dev Cert.KernelUkIdeal.nD → PrngReg)
    (m' : (ℓ : Loc Cert.ReferenceUkIdeal.nD Cert.ReferenceUkIdeal.τ Cert.ReferenceUkIdeal.sig) → Buf (Elt Ideal) ℓ) (g' : Dev Cert.ReferenceUkIdeal.nD → PrngReg), Pre_KernelUkIdeal m →
    (∀ c : Dev Cert.KernelUkIdeal.nD,
      m' ((c.tc : Thread Cert.ReferenceUkIdeal.nD Cert.ReferenceUkIdeal.τ).loc Cert.ReferenceUkIdeal.main_arg0) = m ((c.tc : Thread Cert.KernelUkIdeal.nD Cert.KernelUkIdeal.τ).loc Cert.KernelUkIdeal.main_arg0)
      ∧ m' ((c.tc : Thread Cert.ReferenceUkIdeal.nD Cert.ReferenceUkIdeal.τ).loc Cert.ReferenceUkIdeal.main_arg1) = m ((c.tc : Thread Cert.KernelUkIdeal.nD Cert.KernelUkIdeal.τ).loc Cert.KernelUkIdeal.main_arg1)) →
    ∃ (v0 : (c : Dev Cert.KernelUkIdeal.nD) → Buf (Elt Ideal) ((c.tc : Thread Cert.KernelUkIdeal.nD Cert.KernelUkIdeal.τ).loc Cert.KernelUkIdeal.main_v0)),
      θ_run (Cert.KernelUkIdeal.defs (F := Ideal)) (onTc (τ := Cert.KernelUkIdeal.τ) (Cert.KernelUkIdeal.main (F := Ideal))) ⟨m, fun _ => 0, g⟩ (fun r => ∀ c : Dev Cert.KernelUkIdeal.nD,
          r.2.mem ((c.tc : Thread Cert.KernelUkIdeal.nD Cert.KernelUkIdeal.τ).loc Cert.KernelUkIdeal.main_v0) = v0 c
          ∧ r.2.mem ((c.tc : Thread Cert.KernelUkIdeal.nD Cert.KernelUkIdeal.τ).loc Cert.KernelUkIdeal.main_arg0) = m ((c.tc : Thread Cert.KernelUkIdeal.nD Cert.KernelUkIdeal.τ).loc Cert.KernelUkIdeal.main_arg0)
          ∧ r.2.mem ((c.tc : Thread Cert.KernelUkIdeal.nD Cert.KernelUkIdeal.τ).loc Cert.KernelUkIdeal.main_arg1) = m ((c.tc : Thread Cert.KernelUkIdeal.nD Cert.KernelUkIdeal.τ).loc Cert.KernelUkIdeal.main_arg1))
      ∧ θ_run (Cert.ReferenceUkIdeal.defs (F := Ideal)) (onTc (τ := Cert.ReferenceUkIdeal.τ) (Cert.ReferenceUkIdeal.main (F := Ideal))) ⟨m', fun _ => 0, g'⟩ (fun r => ∀ c : Dev Cert.ReferenceUkIdeal.nD,
          r.2.mem ((c.tc : Thread Cert.ReferenceUkIdeal.nD Cert.ReferenceUkIdeal.τ).loc Cert.ReferenceUkIdeal.main_v6) = v0 c
          ∧ r.2.mem ((c.tc : Thread Cert.ReferenceUkIdeal.nD Cert.ReferenceUkIdeal.τ).loc Cert.ReferenceUkIdeal.main_arg0) = m' ((c.tc : Thread Cert.ReferenceUkIdeal.nD Cert.ReferenceUkIdeal.τ).loc Cert.ReferenceUkIdeal.main_arg0)
          ∧ r.2.mem ((c.tc : Thread Cert.ReferenceUkIdeal.nD Cert.ReferenceUkIdeal.τ).loc Cert.ReferenceUkIdeal.main_arg1) = m' ((c.tc : Thread Cert.ReferenceUkIdeal.nD Cert.ReferenceUkIdeal.τ).loc Cert.ReferenceUkIdeal.main_arg1))

def preserves_KernelUq_KernelUqIdeal : Prop :=
  True

def algebraic_KernelUqIdeal_ReferenceUqIdeal [hKernelUqIdeal : Cert.KernelUqIdeal.Facts] [hReferenceUqIdeal : Cert.ReferenceUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg)
    (m' : (ℓ : Loc Cert.ReferenceUqIdeal.nD Cert.ReferenceUqIdeal.τ Cert.ReferenceUqIdeal.sig) → Buf (Elt Ideal) ℓ) (g' : Dev Cert.ReferenceUqIdeal.nD → PrngReg), Pre_KernelUqIdeal m →
    (∀ c : Dev Cert.KernelUqIdeal.nD,
      m' ((c.tc : Thread Cert.ReferenceUqIdeal.nD Cert.ReferenceUqIdeal.τ).loc Cert.ReferenceUqIdeal.main_arg0) = m ((c.tc : Thread Cert.KernelUqIdeal.nD Cert.KernelUqIdeal.τ).loc Cert.KernelUqIdeal.main_arg0)
      ∧ m' ((c.tc : Thread Cert.ReferenceUqIdeal.nD Cert.ReferenceUqIdeal.τ).loc Cert.ReferenceUqIdeal.main_arg1) = m ((c.tc : Thread Cert.KernelUqIdeal.nD Cert.KernelUqIdeal.τ).loc Cert.KernelUqIdeal.main_arg1)) →
    ∃ (v0 : (c : Dev Cert.KernelUqIdeal.nD) → Buf (Elt Ideal) ((c.tc : Thread Cert.KernelUqIdeal.nD Cert.KernelUqIdeal.τ).loc Cert.KernelUqIdeal.main_v0)),
      θ_run (Cert.KernelUqIdeal.defs (F := Ideal)) (onTc (τ := Cert.KernelUqIdeal.τ) (Cert.KernelUqIdeal.main (F := Ideal))) ⟨m, fun _ => 0, g⟩ (fun r => ∀ c : Dev Cert.KernelUqIdeal.nD,
          r.2.mem ((c.tc : Thread Cert.KernelUqIdeal.nD Cert.KernelUqIdeal.τ).loc Cert.KernelUqIdeal.main_v0) = v0 c
          ∧ r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
          ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1))
      ∧ θ_run (Cert.ReferenceUqIdeal.defs (F := Ideal)) (onTc (τ := Cert.ReferenceUqIdeal.τ) (Cert.ReferenceUqIdeal.main (F := Ideal))) ⟨m', fun _ => 0, g'⟩ (fun r => ∀ c : Dev Cert.ReferenceUqIdeal.nD,
          r.2.mem ((c.tc : Thread Cert.ReferenceUqIdeal.nD Cert.ReferenceUqIdeal.τ).loc Cert.ReferenceUqIdeal.main_v8) = v0 c
          ∧ r.2.mem ((c.tc : Thread Cert.ReferenceUqIdeal.nD Cert.ReferenceUqIdeal.τ).loc Cert.ReferenceUqIdeal.main_arg0) = m' ((c.tc : Thread Cert.ReferenceUqIdeal.nD Cert.ReferenceUqIdeal.τ).loc Cert.ReferenceUqIdeal.main_arg0)
          ∧ r.2.mem ((c.tc : Thread Cert.ReferenceUqIdeal.nD Cert.ReferenceUqIdeal.τ).loc Cert.ReferenceUqIdeal.main_arg1) = m' ((c.tc : Thread Cert.ReferenceUqIdeal.nD Cert.ReferenceUqIdeal.τ).loc Cert.ReferenceUqIdeal.main_arg1))

def Claim : Prop :=
  ∃ (hKernel : Cert.Kernel.Facts) (hKernelIdeal : Cert.KernelIdeal.Facts) (hReferenceIdeal : Cert.ReferenceIdeal.Facts) (hKernelFf2 : Cert.KernelFf2.Facts) (hKernelFf2Ideal : Cert.KernelFf2Ideal.Facts) (hReferenceFf2Ideal : Cert.ReferenceFf2Ideal.Facts) (hKernelFf1 : Cert.KernelFf1.Facts) (hKernelFf1Ideal : Cert.KernelFf1Ideal.Facts) (hReferenceFf1Ideal : Cert.ReferenceFf1Ideal.Facts) (hKernelMix : Cert.KernelMix.Facts) (hKernelMixIdeal : Cert.KernelMixIdeal.Facts) (hReferenceMixIdeal : Cert.ReferenceMixIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelMerge : Cert.KernelMerge.Facts) (hKernelMergeIdeal : Cert.KernelMergeIdeal.Facts) (hReferenceMergeIdeal : Cert.ReferenceMergeIdeal.Facts) (hKernelBack : Cert.KernelBack.Facts) (hKernelBackIdeal : Cert.KernelBackIdeal.Facts) (hReferenceBackIdeal : Cert.ReferenceBackIdeal.Facts) (hKernelIn : Cert.KernelIn.Facts) (hKernelInIdeal : Cert.KernelInIdeal.Facts) (hReferenceInIdeal : Cert.ReferenceInIdeal.Facts) (hKernelUk : Cert.KernelUk.Facts) (hKernelUkIdeal : Cert.KernelUkIdeal.Facts) (hReferenceUkIdeal : Cert.ReferenceUkIdeal.Facts) (hKernelUq : Cert.KernelUq.Facts) (hKernelUqIdeal : Cert.KernelUqIdeal.Facts) (hReferenceUqIdeal : Cert.ReferenceUqIdeal.Facts),
    quiescent_Kernel (hKernel := hKernel)
    ∧ quiescent_KernelIdeal (hKernelIdeal := hKernelIdeal)
    ∧ quiescent_ReferenceIdeal (hReferenceIdeal := hReferenceIdeal)
    ∧ quiescent_KernelFf2 (hKernelFf2 := hKernelFf2)
    ∧ quiescent_KernelFf2Ideal (hKernelFf2Ideal := hKernelFf2Ideal)
    ∧ quiescent_ReferenceFf2Ideal (hReferenceFf2Ideal := hReferenceFf2Ideal)
    ∧ quiescent_KernelFf1 (hKernelFf1 := hKernelFf1)
    ∧ quiescent_KernelFf1Ideal (hKernelFf1Ideal := hKernelFf1Ideal)
    ∧ quiescent_ReferenceFf1Ideal (hReferenceFf1Ideal := hReferenceFf1Ideal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelBack (hKernelBack := hKernelBack)
    ∧ quiescent_KernelBackIdeal (hKernelBackIdeal := hKernelBackIdeal)
    ∧ quiescent_ReferenceBackIdeal (hReferenceBackIdeal := hReferenceBackIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelUk (hKernelUk := hKernelUk)
    ∧ quiescent_KernelUkIdeal (hKernelUkIdeal := hKernelUkIdeal)
    ∧ quiescent_ReferenceUkIdeal (hReferenceUkIdeal := hReferenceUkIdeal)
    ∧ quiescent_KernelUq (hKernelUq := hKernelUq)
    ∧ quiescent_KernelUqIdeal (hKernelUqIdeal := hKernelUqIdeal)
    ∧ quiescent_ReferenceUqIdeal (hReferenceUqIdeal := hReferenceUqIdeal)
    ∧ preserves_Kernel_KernelIdeal
    ∧ algebraic_KernelIdeal_ReferenceIdeal (hKernelIdeal := hKernelIdeal) (hReferenceIdeal := hReferenceIdeal)
    ∧ preserves_KernelFf2_KernelFf2Ideal
    ∧ algebraic_KernelFf2Ideal_ReferenceFf2Ideal (hKernelFf2Ideal := hKernelFf2Ideal) (hReferenceFf2Ideal := hReferenceFf2Ideal)
    ∧ preserves_KernelFf1_KernelFf1Ideal
    ∧ algebraic_KernelFf1Ideal_ReferenceFf1Ideal (hKernelFf1Ideal := hKernelFf1Ideal) (hReferenceFf1Ideal := hReferenceFf1Ideal)
    ∧ preserves_KernelMix_KernelMixIdeal
    ∧ algebraic_KernelMixIdeal_ReferenceMixIdeal (hKernelMixIdeal := hKernelMixIdeal) (hReferenceMixIdeal := hReferenceMixIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelBack_KernelBackIdeal
    ∧ algebraic_KernelBackIdeal_ReferenceBackIdeal (hKernelBackIdeal := hKernelBackIdeal) (hReferenceBackIdeal := hReferenceBackIdeal)
    ∧ preserves_KernelIn_KernelInIdeal
    ∧ algebraic_KernelInIdeal_ReferenceInIdeal (hKernelInIdeal := hKernelInIdeal) (hReferenceInIdeal := hReferenceInIdeal)
    ∧ preserves_KernelUk_KernelUkIdeal
    ∧ algebraic_KernelUkIdeal_ReferenceUkIdeal (hKernelUkIdeal := hKernelUkIdeal) (hReferenceUkIdeal := hReferenceUkIdeal)
    ∧ preserves_KernelUq_KernelUqIdeal
    ∧ algebraic_KernelUqIdeal_ReferenceUqIdeal (hKernelUqIdeal := hKernelUqIdeal) (hReferenceUqIdeal := hReferenceUqIdeal)
-- ==== Kernel.lean ====
abbrev S4096x2048 : Shape := ⟨2, ![4096, 2048]⟩
abbrev S4096x1024 : Shape := ⟨2, ![4096, 1024]⟩
abbrev S8x8x1x512 : Shape := ⟨4, ![8, 8, 1, 512]⟩
abbrev S8x16x1x256 : Shape := ⟨4, ![8, 16, 1, 256]⟩
abbrev S4x1024x512 : Shape := ⟨3, ![4, 1024, 512]⟩
abbrev S4x512x1024 : Shape := ⟨3, ![4, 512, 1024]⟩
abbrev S4x128x1024 : Shape := ⟨3, ![4, 128, 1024]⟩
abbrev S3x1024x512 : Shape := ⟨3, ![3, 1024, 512]⟩
abbrev S3x512x1024 : Shape := ⟨3, ![3, 512, 1024]⟩
abbrev S3x128x1024 : Shape := ⟨3, ![3, 128, 1024]⟩
abbrev S4096x256 : Shape := ⟨2, ![4096, 256]⟩
abbrev S512x256 : Shape := ⟨2, ![512, 256]⟩
abbrev S512x128 : Shape := ⟨2, ![512, 128]⟩
abbrev S4096x128 : Shape := ⟨2, ![4096, 128]⟩
abbrev S1x8x1x512 : Shape := ⟨4, ![1, 8, 1, 512]⟩
abbrev S1x16x1x256 : Shape := ⟨4, ![1, 16, 1, 256]⟩
abbrev S2x512x512 : Shape := ⟨3, ![2, 512, 512]⟩
abbrev S15 : Shape := ⟨1, ![15]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S1x128x1024 : Shape := ⟨3, ![1, 128, 1024]⟩
abbrev S128x1024 : Shape := ⟨2, ![128, 1024]⟩
abbrev S512x512 : Shape := ⟨2, ![512, 512]⟩
abbrev S1x512x512 : Shape := ⟨3, ![1, 512, 512]⟩
abbrev S1x1x1x512 : Shape := ⟨4, ![1, 1, 1, 512]⟩
abbrev S1x512 : Shape := ⟨2, ![1, 512]⟩
abbrev S1x1x1x256 : Shape := ⟨4, ![1, 1, 1, 256]⟩
abbrev S1x256 : Shape := ⟨2, ![1, 256]⟩

abbrev nBuf : Space → Nat
  | .hbm => 19
  | .vmem => 23
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x1024, .bf16⟩
  | .hbm, ⟨3, _⟩ => ⟨S4096x1024, .bf16⟩
  | .hbm, ⟨4, _⟩ => ⟨S8x8x1x512, .f32⟩
  | .hbm, ⟨5, _⟩ => ⟨S8x16x1x256, .f32⟩
  | .hbm, ⟨6, _⟩ => ⟨S4x1024x512, .bf16⟩
  | .hbm, ⟨7, _⟩ => ⟨S4x512x1024, .bf16⟩
  | .hbm, ⟨8, _⟩ => ⟨S4x128x1024, .bf16⟩
  | .hbm, ⟨9, _⟩ => ⟨S4x128x1024, .bf16⟩
  | .hbm, ⟨10, _⟩ => ⟨S4x128x1024, .bf16⟩
  | .hbm, ⟨11, _⟩ => ⟨S4096x2048, .bf16⟩
  | .hbm, ⟨12, _⟩ => ⟨S4096x2048, .bf16⟩
  | .hbm, ⟨13, _⟩ => ⟨S4096x1024, .bf16⟩
  | .hbm, ⟨14, _⟩ => ⟨S3x1024x512, .bf16⟩
  | .hbm, ⟨15, _⟩ => ⟨S3x512x1024, .bf16⟩
  | .hbm, ⟨16, _⟩ => ⟨S3x128x1024, .bf16⟩
  | .hbm, ⟨17, _⟩ => ⟨S3x128x1024, .bf16⟩
  | .hbm, ⟨18, _⟩ => ⟨S3x128x1024, .bf16⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S1x8x1x512, .f32⟩
  | .local _ .vmem, ⟨9, _⟩ => ⟨S1x8x1x512, .f32⟩
  | .local _ .vmem, ⟨10, _⟩ => ⟨S1x16x1x256, .f32⟩
  | .local _ .vmem, ⟨11, _⟩ => ⟨S1x16x1x256, .f32⟩
  | .local _ .vmem, ⟨12, _⟩ => ⟨S4096x256, .bf16⟩
  | .local _ .vmem, ⟨13, _⟩ => ⟨S4096x256, .bf16⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S512x256, .f32⟩
  | .local _ .vmem, ⟨19, _⟩ => ⟨S512x128, .f32⟩
  | .local _ .vmem, ⟨20, _⟩ => ⟨S2x512x512, .f32⟩
  | .local _ .vmem, ⟨21, _⟩ => ⟨S2x512x512, .f32⟩
  | .local _ .vmem, ⟨22, _⟩ => ⟨S4096x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev main_v1_5 : Ref sig .tc := ⟨.hbm, 16, rfl⟩
abbrev main_v1_6 : Ref sig .tc := ⟨.hbm, 17, rfl⟩
abbrev main_v1_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 8
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_off1 (d174 : Dev nD) : Fin 3 → Nat :=
  let c2_i32_114 : BitVec 32 := 2#32
  let c1_i32_110 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v183 : BitVec 32 := Scalar.subi c1_i32_110 v176
  let v187 : BitVec 32 := Scalar.muli c2_i32_114 v183
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v188 : BitVec 32 := Scalar.addi v187 v179
  let c0_i32_138 : BitVec 32 := 0#32
  let c0_i32_139 : BitVec 32 := 0#32
  ![v188.toNat, 0, 0]
def k0_dev1 (d174 : Dev nD) : Nat :=
  let c0_i32_133 : BitVec 32 := 0#32
  let c1_i32_110 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v183 : BitVec 32 := Scalar.subi c1_i32_110 v176
  let c4_i32_132 : BitVec 32 := 4#32
  let v217 : BitVec 32 := Scalar.muli v183 c4_i32_132
  let v218 : BitVec 32 := Scalar.addi c0_i32_133 v217
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let c2_i32_134 : BitVec 32 := 2#32
  let v219 : BitVec 32 := Scalar.muli v179 c2_i32_134
  let v220 : BitVec 32 := Scalar.addi v218 v219
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_135 : BitVec 32 := 1#32
  let v221 : BitVec 32 := Scalar.muli v182 c1_i32_135
  let v222 : BitVec 32 := Scalar.addi v220 v221
  v222.toNat
def k0_off2 (d174 : Dev nD) : Fin 3 → Nat :=
  let c2_i32_115 : BitVec 32 := 2#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v189 : BitVec 32 := Scalar.muli c2_i32_115 v176
  let c1_i32_111 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v184 : BitVec 32 := Scalar.subi c1_i32_111 v179
  let v190 : BitVec 32 := Scalar.addi v189 v184
  let c0_i32_149 : BitVec 32 := 0#32
  let c0_i32_150 : BitVec 32 := 0#32
  ![v190.toNat, 0, 0]
def k0_dev2 (d174 : Dev nD) : Nat :=
  let c0_i32_144 : BitVec 32 := 0#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let c4_i32_143 : BitVec 32 := 4#32
  let v231 : BitVec 32 := Scalar.muli v176 c4_i32_143
  let v232 : BitVec 32 := Scalar.addi c0_i32_144 v231
  let c1_i32_111 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v184 : BitVec 32 := Scalar.subi c1_i32_111 v179
  let c2_i32_145 : BitVec 32 := 2#32
  let v233 : BitVec 32 := Scalar.muli v184 c2_i32_145
  let v234 : BitVec 32 := Scalar.addi v232 v233
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_146 : BitVec 32 := 1#32
  let v235 : BitVec 32 := Scalar.muli v182 c1_i32_146
  let v236 : BitVec 32 := Scalar.addi v234 v235
  v236.toNat
def k0_off3 (d174 : Dev nD) : Fin 3 → Nat :=
  let c2_i32_116 : BitVec 32 := 2#32
  let c1_i32_112 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v185 : BitVec 32 := Scalar.subi c1_i32_112 v176
  let v191 : BitVec 32 := Scalar.muli c2_i32_116 v185
  let c1_i32_113 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v186 : BitVec 32 := Scalar.subi c1_i32_113 v179
  let v192 : BitVec 32 := Scalar.addi v191 v186
  let c0_i32_160 : BitVec 32 := 0#32
  let c0_i32_161 : BitVec 32 := 0#32
  ![v192.toNat, 0, 0]
def k0_dev3 (d174 : Dev nD) : Nat :=
  let c0_i32_155 : BitVec 32 := 0#32
  let c1_i32_112 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v185 : BitVec 32 := Scalar.subi c1_i32_112 v176
  let c4_i32_154 : BitVec 32 := 4#32
  let v245 : BitVec 32 := Scalar.muli v185 c4_i32_154
  let v246 : BitVec 32 := Scalar.addi c0_i32_155 v245
  let c1_i32_113 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v186 : BitVec 32 := Scalar.subi c1_i32_113 v179
  let c2_i32_156 : BitVec 32 := 2#32
  let v247 : BitVec 32 := Scalar.muli v186 c2_i32_156
  let v248 : BitVec 32 := Scalar.addi v246 v247
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_157 : BitVec 32 := 1#32
  let v249 : BitVec 32 := Scalar.muli v182 c1_i32_157
  let v250 : BitVec 32 := Scalar.addi v248 v249
  v250.toNat
def k0_off4 (d174 : Dev nD) : Fin 3 → Nat :=
  let c2_i32_117 : BitVec 32 := 2#32
  let c1_i32_110 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v183 : BitVec 32 := Scalar.subi c1_i32_110 v176
  let v193 : BitVec 32 := Scalar.muli c2_i32_117 v183
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v194 : BitVec 32 := Scalar.addi v193 v179
  let c0_i32_170 : BitVec 32 := 0#32
  let c0_i32_171 : BitVec 32 := 0#32
  ![v194.toNat, 0, 0]
def k0_dev4 (d174 : Dev nD) : Nat :=
  let c0_i32_165 : BitVec 32 := 0#32
  let c1_i32_110 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v183 : BitVec 32 := Scalar.subi c1_i32_110 v176
  let c4_i32_164 : BitVec 32 := 4#32
  let v259 : BitVec 32 := Scalar.muli v183 c4_i32_164
  let v260 : BitVec 32 := Scalar.addi c0_i32_165 v259
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let c2_i32_166 : BitVec 32 := 2#32
  let v261 : BitVec 32 := Scalar.muli v179 c2_i32_166
  let v262 : BitVec 32 := Scalar.addi v260 v261
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_167 : BitVec 32 := 1#32
  let v263 : BitVec 32 := Scalar.muli v182 c1_i32_167
  let v264 : BitVec 32 := Scalar.addi v262 v263
  v264.toNat
def k0_off5 (d174 : Dev nD) : Fin 3 → Nat :=
  let c2_i32_118 : BitVec 32 := 2#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v195 : BitVec 32 := Scalar.muli c2_i32_118 v176
  let c1_i32_111 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v184 : BitVec 32 := Scalar.subi c1_i32_111 v179
  let v196 : BitVec 32 := Scalar.addi v195 v184
  let c0_i32_181 : BitVec 32 := 0#32
  let c0_i32_182 : BitVec 32 := 0#32
  ![v196.toNat, 0, 0]
def k0_dev5 (d174 : Dev nD) : Nat :=
  let c0_i32_176 : BitVec 32 := 0#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let c4_i32_175 : BitVec 32 := 4#32
  let v273 : BitVec 32 := Scalar.muli v176 c4_i32_175
  let v274 : BitVec 32 := Scalar.addi c0_i32_176 v273
  let c1_i32_111 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v184 : BitVec 32 := Scalar.subi c1_i32_111 v179
  let c2_i32_177 : BitVec 32 := 2#32
  let v275 : BitVec 32 := Scalar.muli v184 c2_i32_177
  let v276 : BitVec 32 := Scalar.addi v274 v275
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_178 : BitVec 32 := 1#32
  let v277 : BitVec 32 := Scalar.muli v182 c1_i32_178
  let v278 : BitVec 32 := Scalar.addi v276 v277
  v278.toNat
def k0_off6 (d174 : Dev nD) : Fin 3 → Nat :=
  let c2_i32_119 : BitVec 32 := 2#32
  let c1_i32_112 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v185 : BitVec 32 := Scalar.subi c1_i32_112 v176
  let v197 : BitVec 32 := Scalar.muli c2_i32_119 v185
  let c1_i32_113 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v186 : BitVec 32 := Scalar.subi c1_i32_113 v179
  let v198 : BitVec 32 := Scalar.addi v197 v186
  let c0_i32_191 : BitVec 32 := 0#32
  let c0_i32_192 : BitVec 32 := 0#32
  ![v198.toNat, 0, 0]
def k0_dev6 (d174 : Dev nD) : Nat :=
  let c0_i32_186 : BitVec 32 := 0#32
  let c1_i32_112 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v185 : BitVec 32 := Scalar.subi c1_i32_112 v176
  let c4_i32_185 : BitVec 32 := 4#32
  let v287 : BitVec 32 := Scalar.muli v185 c4_i32_185
  let v288 : BitVec 32 := Scalar.addi c0_i32_186 v287
  let c1_i32_113 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v186 : BitVec 32 := Scalar.subi c1_i32_113 v179
  let c2_i32_187 : BitVec 32 := 2#32
  let v289 : BitVec 32 := Scalar.muli v186 c2_i32_187
  let v290 : BitVec 32 := Scalar.addi v288 v289
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_188 : BitVec 32 := 1#32
  let v291 : BitVec 32 := Scalar.muli v182 c1_i32_188
  let v292 : BitVec 32 := Scalar.addi v290 v291
  v292.toNat
def k0_off7 (d174 : Dev nD) : Fin 3 → Nat :=
  let c2_i32_120 : BitVec 32 := 2#32
  let c1_i32_110 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v183 : BitVec 32 := Scalar.subi c1_i32_110 v176
  let v199 : BitVec 32 := Scalar.muli c2_i32_120 v183
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v200 : BitVec 32 := Scalar.addi v199 v179
  let c0_i32_201 : BitVec 32 := 0#32
  let c0_i32_202 : BitVec 32 := 0#32
  ![v200.toNat, 0, 0]
def k0_dev7 (d174 : Dev nD) : Nat :=
  let c0_i32_196 : BitVec 32 := 0#32
  let c1_i32_110 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v183 : BitVec 32 := Scalar.subi c1_i32_110 v176
  let c4_i32_195 : BitVec 32 := 4#32
  let v301 : BitVec 32 := Scalar.muli v183 c4_i32_195
  let v302 : BitVec 32 := Scalar.addi c0_i32_196 v301
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let c2_i32_197 : BitVec 32 := 2#32
  let v303 : BitVec 32 := Scalar.muli v179 c2_i32_197
  let v304 : BitVec 32 := Scalar.addi v302 v303
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_198 : BitVec 32 := 1#32
  let v305 : BitVec 32 := Scalar.muli v182 c1_i32_198
  let v306 : BitVec 32 := Scalar.addi v304 v305
  v306.toNat
def k0_off8 (d174 : Dev nD) : Fin 3 → Nat :=
  let c2_i32_121 : BitVec 32 := 2#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v201 : BitVec 32 := Scalar.muli c2_i32_121 v176
  let c1_i32_111 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v184 : BitVec 32 := Scalar.subi c1_i32_111 v179
  let v202 : BitVec 32 := Scalar.addi v201 v184
  let c0_i32_212 : BitVec 32 := 0#32
  let c0_i32_213 : BitVec 32 := 0#32
  ![v202.toNat, 0, 0]
def k0_dev8 (d174 : Dev nD) : Nat :=
  let c0_i32_207 : BitVec 32 := 0#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let c4_i32_206 : BitVec 32 := 4#32
  let v315 : BitVec 32 := Scalar.muli v176 c4_i32_206
  let v316 : BitVec 32 := Scalar.addi c0_i32_207 v315
  let c1_i32_111 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v184 : BitVec 32 := Scalar.subi c1_i32_111 v179
  let c2_i32_208 : BitVec 32 := 2#32
  let v317 : BitVec 32 := Scalar.muli v184 c2_i32_208
  let v318 : BitVec 32 := Scalar.addi v316 v317
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_209 : BitVec 32 := 1#32
  let v319 : BitVec 32 := Scalar.muli v182 c1_i32_209
  let v320 : BitVec 32 := Scalar.addi v318 v319
  v320.toNat
def k0_off9 (d174 : Dev nD) : Fin 3 → Nat :=
  let c2_i32_122 : BitVec 32 := 2#32
  let c1_i32_112 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v185 : BitVec 32 := Scalar.subi c1_i32_112 v176
  let v203 : BitVec 32 := Scalar.muli c2_i32_122 v185
  let c1_i32_113 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v186 : BitVec 32 := Scalar.subi c1_i32_113 v179
  let v204 : BitVec 32 := Scalar.addi v203 v186
  let c0_i32_223 : BitVec 32 := 0#32
  let c0_i32_224 : BitVec 32 := 0#32
  ![v204.toNat, 0, 0]
def k0_dev9 (d174 : Dev nD) : Nat :=
  let c0_i32_218 : BitVec 32 := 0#32
  let c1_i32_112 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v185 : BitVec 32 := Scalar.subi c1_i32_112 v176
  let c4_i32_217 : BitVec 32 := 4#32
  let v329 : BitVec 32 := Scalar.muli v185 c4_i32_217
  let v330 : BitVec 32 := Scalar.addi c0_i32_218 v329
  let c1_i32_113 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v186 : BitVec 32 := Scalar.subi c1_i32_113 v179
  let c2_i32_219 : BitVec 32 := 2#32
  let v331 : BitVec 32 := Scalar.muli v186 c2_i32_219
  let v332 : BitVec 32 := Scalar.addi v330 v331
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_220 : BitVec 32 := 1#32
  let v333 : BitVec 32 := Scalar.muli v182 c1_i32_220
  let v334 : BitVec 32 := Scalar.addi v332 v333
  v334.toNat
def k0_dev10 (d174 : Dev nD) : Nat :=
  let c0_i32_228 : BitVec 32 := 0#32
  let c1_i32_110 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v183 : BitVec 32 := Scalar.subi c1_i32_110 v176
  let c4_i32_227 : BitVec 32 := 4#32
  let v343 : BitVec 32 := Scalar.muli v183 c4_i32_227
  let v344 : BitVec 32 := Scalar.addi c0_i32_228 v343
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let c2_i32_229 : BitVec 32 := 2#32
  let v345 : BitVec 32 := Scalar.muli v179 c2_i32_229
  let v346 : BitVec 32 := Scalar.addi v344 v345
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_230 : BitVec 32 := 1#32
  let v347 : BitVec 32 := Scalar.muli v182 c1_i32_230
  let v348 : BitVec 32 := Scalar.addi v346 v347
  v348.toNat
def k0_dev11 (d174 : Dev nD) : Nat :=
  let c0_i32_238 : BitVec 32 := 0#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let c4_i32_237 : BitVec 32 := 4#32
  let v357 : BitVec 32 := Scalar.muli v176 c4_i32_237
  let v358 : BitVec 32 := Scalar.addi c0_i32_238 v357
  let c1_i32_111 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v184 : BitVec 32 := Scalar.subi c1_i32_111 v179
  let c2_i32_239 : BitVec 32 := 2#32
  let v359 : BitVec 32 := Scalar.muli v184 c2_i32_239
  let v360 : BitVec 32 := Scalar.addi v358 v359
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_240 : BitVec 32 := 1#32
  let v361 : BitVec 32 := Scalar.muli v182 c1_i32_240
  let v362 : BitVec 32 := Scalar.addi v360 v361
  v362.toNat
def k0_dev12 (d174 : Dev nD) : Nat :=
  let c0_i32_248 : BitVec 32 := 0#32
  let c1_i32_112 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v185 : BitVec 32 := Scalar.subi c1_i32_112 v176
  let c4_i32_247 : BitVec 32 := 4#32
  let v371 : BitVec 32 := Scalar.muli v185 c4_i32_247
  let v372 : BitVec 32 := Scalar.addi c0_i32_248 v371
  let c1_i32_113 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v186 : BitVec 32 := Scalar.subi c1_i32_113 v179
  let c2_i32_249 : BitVec 32 := 2#32
  let v373 : BitVec 32 := Scalar.muli v186 c2_i32_249
  let v374 : BitVec 32 := Scalar.addi v372 v373
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_250 : BitVec 32 := 1#32
  let v375 : BitVec 32 := Scalar.muli v182 c1_i32_250
  let v376 : BitVec 32 := Scalar.addi v374 v375
  v376.toNat
def k0_dev13 (d174 : Dev nD) : Nat :=
  let c0_i32_258 : BitVec 32 := 0#32
  let c1_i32_110 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v183 : BitVec 32 := Scalar.subi c1_i32_110 v176
  let c4_i32_257 : BitVec 32 := 4#32
  let v385 : BitVec 32 := Scalar.muli v183 c4_i32_257
  let v386 : BitVec 32 := Scalar.addi c0_i32_258 v385
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let c2_i32_259 : BitVec 32 := 2#32
  let v387 : BitVec 32 := Scalar.muli v179 c2_i32_259
  let v388 : BitVec 32 := Scalar.addi v386 v387
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_260 : BitVec 32 := 1#32
  let v389 : BitVec 32 := Scalar.muli v182 c1_i32_260
  let v390 : BitVec 32 := Scalar.addi v388 v389
  v390.toNat
def k0_dev14 (d174 : Dev nD) : Nat :=
  let c0_i32_268 : BitVec 32 := 0#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let c4_i32_267 : BitVec 32 := 4#32
  let v399 : BitVec 32 := Scalar.muli v176 c4_i32_267
  let v400 : BitVec 32 := Scalar.addi c0_i32_268 v399
  let c1_i32_111 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v184 : BitVec 32 := Scalar.subi c1_i32_111 v179
  let c2_i32_269 : BitVec 32 := 2#32
  let v401 : BitVec 32 := Scalar.muli v184 c2_i32_269
  let v402 : BitVec 32 := Scalar.addi v400 v401
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_270 : BitVec 32 := 1#32
  let v403 : BitVec 32 := Scalar.muli v182 c1_i32_270
  let v404 : BitVec 32 := Scalar.addi v402 v403
  v404.toNat
def k0_dev15 (d174 : Dev nD) : Nat :=
  let c0_i32_278 : BitVec 32 := 0#32
  let c1_i32_112 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v185 : BitVec 32 := Scalar.subi c1_i32_112 v176
  let c4_i32_277 : BitVec 32 := 4#32
  let v413 : BitVec 32 := Scalar.muli v185 c4_i32_277
  let v414 : BitVec 32 := Scalar.addi c0_i32_278 v413
  let c1_i32_113 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v186 : BitVec 32 := Scalar.subi c1_i32_113 v179
  let c2_i32_279 : BitVec 32 := 2#32
  let v415 : BitVec 32 := Scalar.muli v186 c2_i32_279
  let v416 : BitVec 32 := Scalar.addi v414 v415
  let v180 : BitVec 32 := Dev.word d174
  let c1_i32_109 : BitVec 32 := 1#32
  let v181 : BitVec 32 := Scalar.divsi v180 c1_i32_109
  let c2_i32_108 : BitVec 32 := 2#32
  let v182 : BitVec 32 := Scalar.remsi v181 c2_i32_108
  let c1_i32_280 : BitVec 32 := 1#32
  let v417 : BitVec 32 := Scalar.muli v182 c1_i32_280
  let v418 : BitVec 32 := Scalar.addi v416 v417
  v418.toNat
def k0_mult1 (i : grid0.Coords) : BitVec 32 :=
  let arg1 : BitVec 32 := BitVec.ofNat 32 (i 1).val
  let c7_i32_11 : BitVec 32 := 7#32
  let v21 : BitVec 32 := Scalar.minsi arg1 c7_i32_11
  let c512_i32 : BitVec 32 := 512#32
  let v22 : BitVec 32 := Scalar.muli v21 c512_i32
  v22
def k0_off10 (i : grid0.Coords) : Fin 2 → Nat :=
  let arg1 : BitVec 32 := BitVec.ofNat 32 (i 1).val
  let c7_i32_11 : BitVec 32 := 7#32
  let v21 : BitVec 32 := Scalar.minsi arg1 c7_i32_11
  let c512_i32 : BitVec 32 := 512#32
  let v22 : BitVec 32 := Scalar.muli v21 c512_i32
  let v23 : BitVec 32 := v22
  let v24 : Index := Scalar.indexCast v23
  let c0_12 : Index := 0#32
  ![v24.toNat, 0]
def k0_mult2 (i : grid0.Coords) : BitVec 32 :=
  let arg1 : BitVec 32 := BitVec.ofNat 32 (i 1).val
  let c7_i32_11 : BitVec 32 := 7#32
  let v21 : BitVec 32 := Scalar.minsi arg1 c7_i32_11
  let c512_i32_17 : BitVec 32 := 512#32
  let v31 : BitVec 32 := Scalar.muli v21 c512_i32_17
  v31
def k0_off11 (i : grid0.Coords) : Fin 2 → Nat :=
  let arg1 : BitVec 32 := BitVec.ofNat 32 (i 1).val
  let c7_i32_11 : BitVec 32 := 7#32
  let v21 : BitVec 32 := Scalar.minsi arg1 c7_i32_11
  let c512_i32_17 : BitVec 32 := 512#32
  let v31 : BitVec 32 := Scalar.muli v21 c512_i32_17
  let v32 : BitVec 32 := v31
  let v33 : Index := Scalar.indexCast v32
  let c0_18 : Index := 0#32
  ![v33.toNat, 0]
def k0_mult3 (i : grid0.Coords) : BitVec 32 :=
  let arg1 : BitVec 32 := BitVec.ofNat 32 (i 1).val
  let c1_i32 : BitVec 32 := 1#32
  let v40 : BitVec 32 := Scalar.addi arg1 c1_i32
  let c7_i32_23 : BitVec 32 := 7#32
  let v41 : BitVec 32 := Scalar.minsi v40 c7_i32_23
  let c512_i32_24 : BitVec 32 := 512#32
  let v42 : BitVec 32 := Scalar.muli v41 c512_i32_24
  v42
def k0_off12 (i : grid0.Coords) : Fin 2 → Nat :=
  let arg1 : BitVec 32 := BitVec.ofNat 32 (i 1).val
  let c1_i32 : BitVec 32 := 1#32
  let v40 : BitVec 32 := Scalar.addi arg1 c1_i32
  let c7_i32_23 : BitVec 32 := 7#32
  let v41 : BitVec 32 := Scalar.minsi v40 c7_i32_23
  let c512_i32_24 : BitVec 32 := 512#32
  let v42 : BitVec 32 := Scalar.muli v41 c512_i32_24
  let v43 : BitVec 32 := v42
  let v44 : Index := Scalar.indexCast v43
  let c0_25 : Index := 0#32
  ![v44.toNat, 0]
def k0_mult4 (i : grid0.Coords) : BitVec 32 :=
  let arg1 : BitVec 32 := BitVec.ofNat 32 (i 1).val
  let c1_i32 : BitVec 32 := 1#32
  let v40 : BitVec 32 := Scalar.addi arg1 c1_i32
  let c7_i32_23 : BitVec 32 := 7#32
  let v41 : BitVec 32 := Scalar.minsi v40 c7_i32_23
  let c512_i32_29 : BitVec 32 := 512#32
  let v51 : BitVec 32 := Scalar.muli v41 c512_i32_29
  v51
def k0_off13 (i : grid0.Coords) : Fin 2 → Nat :=
  let arg1 : BitVec 32 := BitVec.ofNat 32 (i 1).val
  let c1_i32 : BitVec 32 := 1#32
  let v40 : BitVec 32 := Scalar.addi arg1 c1_i32
  let c7_i32_23 : BitVec 32 := 7#32
  let v41 : BitVec 32 := Scalar.minsi v40 c7_i32_23
  let c512_i32_29 : BitVec 32 := 512#32
  let v51 : BitVec 32 := Scalar.muli v41 c512_i32_29
  let v52 : BitVec 32 := v51
  let v53 : Index := Scalar.indexCast v52
  let c0_30 : Index := 0#32
  ![v53.toNat, 0]
def k0_mult5 (i : grid0.Coords) : BitVec 32 :=
  let arg1 : BitVec 32 := BitVec.ofNat 32 (i 1).val
  let c512_i32_35 : BitVec 32 := 512#32
  let v60 : BitVec 32 := Scalar.muli arg1 c512_i32_35
  v60
def k0_off14 (i : grid0.Coords) : Fin 2 → Nat :=
  let arg1 : BitVec 32 := BitVec.ofNat 32 (i 1).val
  let c512_i32_35 : BitVec 32 := 512#32
  let v60 : BitVec 32 := Scalar.muli arg1 c512_i32_35
  let v61 : BitVec 32 := v60
  let v62 : Index := Scalar.indexCast v61
  let c0_36 : Index := 0#32
  ![v62.toNat, 0]
def k0_mult6 (i : grid0.Coords) : BitVec 32 :=
  let arg1 : BitVec 32 := BitVec.ofNat 32 (i 1).val
  let c512_i32_37 : BitVec 32 := 512#32
  let v65 : BitVec 32 := Scalar.muli arg1 c512_i32_37
  v65
def k0_off15 (i : grid0.Coords) : Fin 2 → Nat :=
  let arg1 : BitVec 32 := BitVec.ofNat 32 (i 1).val
  let c512_i32_37 : BitVec 32 := 512#32
  let v65 : BitVec 32 := Scalar.muli arg1 c512_i32_37
  let v66 : BitVec 32 := v65
  let v67 : Index := Scalar.indexCast v66
  let c0_38 : Index := 0#32
  ![v67.toNat, 0]
def k0_off16 (i : grid0.Coords) : Fin 4 → Nat :=
  let c0_42 : Index := 0#32
  let arg1 : BitVec 32 := BitVec.ofNat 32 (i 1).val
  let v72 : Index := Scalar.indexCast arg1
  let c0_43 : Index := 0#32
  let c0_44 : Index := 0#32
  ![0, v72.toNat, 0, 0]
def k0_off17 (i : grid0.Coords) (c0_i32_51 : BitVec 32) : Fin 4 → Nat :=
  let c0_52 : Index := 0#32
  let c2_i32 : BitVec 32 := 2#32
  let arg1 : BitVec 32 := BitVec.ofNat 32 (i 1).val
  let v90 : BitVec 32 := Scalar.muli c2_i32 arg1
  let v91 : BitVec 32 := Scalar.addi v90 c0_i32_51
  let v92 : Index := Scalar.indexCast v91
  let c0_53 : Index := 0#32
  let c0_54 : Index := 0#32
  ![0, v92.toNat, 0, 0]
def k0_mult7 (i : grid0.Coords) : BitVec 32 :=
  let arg1 : BitVec 32 := BitVec.ofNat 32 (i 1).val
  let c512_i32_68 : BitVec 32 := 512#32
  let v113 : BitVec 32 := Scalar.muli arg1 c512_i32_68
  v113
@[reducible] def k0_t1_loop (i : grid0.Coords) : Scf.Loop 32 :=
  let c0_i32_80 : BitVec 32 := 0#32
  let c7_i32 : BitVec 32 := 7#32
  let arg1 : BitVec 32 := BitVec.ofNat 32 (i 1).val
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_82 : BitVec 32 := 1#32
  ⟨c0_i32_80, v144, c1_i32_82⟩
def k0_mult8 (i : grid0.Coords) (k0_t1 : Fin (k0_t1_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c1_i32_107 : BitVec 32 := 1#32
  let v177 : BitVec 32 := Scalar.addi v176 c1_i32_107
  let c7_i32_108 : BitVec 32 := 7#32
  let v178 : BitVec 32 := Scalar.minsi v177 c7_i32_108
  let c512_i32_109 : BitVec 32 := 512#32
  let v179 : BitVec 32 := Scalar.muli v178 c512_i32_109
  v179
def k0_off18 (i : grid0.Coords) (k0_t1 : Fin (k0_t1_loop i).trips) (c1_i32_107 : BitVec 32) : Fin 2 → Nat :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let v177 : BitVec 32 := Scalar.addi v176 c1_i32_107
  let c7_i32_108 : BitVec 32 := 7#32
  let v178 : BitVec 32 := Scalar.minsi v177 c7_i32_108
  let c512_i32_109 : BitVec 32 := 512#32
  let v179 : BitVec 32 := Scalar.muli v178 c512_i32_109
  let v180 : BitVec 32 := v179
  let v181 : Index := Scalar.indexCast v180
  let c0_110 : Index := 0#32
  ![v181.toNat, 0]
def k0_mult9 (i : grid0.Coords) (k0_t1 : Fin (k0_t1_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c1_i32_107 : BitVec 32 := 1#32
  let v177 : BitVec 32 := Scalar.addi v176 c1_i32_107
  let c7_i32_108 : BitVec 32 := 7#32
  let v178 : BitVec 32 := Scalar.minsi v177 c7_i32_108
  let c512_i32_115 : BitVec 32 := 512#32
  let v188 : BitVec 32 := Scalar.muli v178 c512_i32_115
  v188
def k0_off19 (i : grid0.Coords) (k0_t1 : Fin (k0_t1_loop i).trips) (c1_i32_107 : BitVec 32) : Fin 2 → Nat :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let v177 : BitVec 32 := Scalar.addi v176 c1_i32_107
  let c7_i32_108 : BitVec 32 := 7#32
  let v178 : BitVec 32 := Scalar.minsi v177 c7_i32_108
  let c512_i32_115 : BitVec 32 := 512#32
  let v188 : BitVec 32 := Scalar.muli v178 c512_i32_115
  let v189 : BitVec 32 := v188
  let v190 : Index := Scalar.indexCast v189
  let c0_116 : Index := 0#32
  ![v190.toNat, 0]
def k0_mult10 (i : grid0.Coords) (k0_t1 : Fin (k0_t1_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c512_i32_121 : BitVec 32 := 512#32
  let v197 : BitVec 32 := Scalar.muli v176 c512_i32_121
  v197
def k0_off20 (i : grid0.Coords) (k0_t1 : Fin (k0_t1_loop i).trips) : Fin 2 → Nat :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c512_i32_121 : BitVec 32 := 512#32
  let v197 : BitVec 32 := Scalar.muli v176 c512_i32_121
  let v198 : BitVec 32 := v197
  let v199 : Index := Scalar.indexCast v198
  let c0_122 : Index := 0#32
  ![v199.toNat, 0]
def k0_mult11 (i : grid0.Coords) (k0_t1 : Fin (k0_t1_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c512_i32_123 : BitVec 32 := 512#32
  let v202 : BitVec 32 := Scalar.muli v176 c512_i32_123
  v202
def k0_off21 (i : grid0.Coords) (k0_t1 : Fin (k0_t1_loop i).trips) : Fin 2 → Nat :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c512_i32_123 : BitVec 32 := 512#32
  let v202 : BitVec 32 := Scalar.muli v176 c512_i32_123
  let v203 : BitVec 32 := v202
  let v204 : Index := Scalar.indexCast v203
  let c0_124 : Index := 0#32
  ![v204.toNat, 0]
def k0_off22 (i : grid0.Coords) (k0_t1 : Fin (k0_t1_loop i).trips) : Fin 4 → Nat :=
  let c0_128 : Index := 0#32
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let v209 : Index := Scalar.indexCast v176
  let c0_129 : Index := 0#32
  let c0_130 : Index := 0#32
  ![0, v209.toNat, 0, 0]
def k0_off23 (i : grid0.Coords) (k0_t1 : Fin (k0_t1_loop i).trips) (c0_i32_137 : BitVec 32) : Fin 4 → Nat :=
  let c0_138 : Index := 0#32
  let c2_i32_136 : BitVec 32 := 2#32
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let v222 : BitVec 32 := Scalar.muli c2_i32_136 v176
  let v223 : BitVec 32 := Scalar.addi v222 c0_i32_137
  let v224 : Index := Scalar.indexCast v223
  let c0_139 : Index := 0#32
  let c0_140 : Index := 0#32
  ![0, v224.toNat, 0, 0]
def k0_mult12 (i : grid0.Coords) (k0_t1 : Fin (k0_t1_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c512_i32_154 : BitVec 32 := 512#32
  let v245 : BitVec 32 := Scalar.muli v176 c512_i32_154
  v245
def k0_mult13 (i : grid0.Coords) (k0_t1 : Fin (k0_t1_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c2_i32_158 : BitVec 32 := 2#32
  let v255 : BitVec 32 := Scalar.addi v176 c2_i32_158
  let c7_i32_159 : BitVec 32 := 7#32
  let v256 : BitVec 32 := Scalar.minsi v255 c7_i32_159
  let c512_i32_160 : BitVec 32 := 512#32
  let v257 : BitVec 32 := Scalar.muli v256 c512_i32_160
  v257
def k0_mult14 (i : grid0.Coords) (k0_t1 : Fin (k0_t1_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c2_i32_158 : BitVec 32 := 2#32
  let v255 : BitVec 32 := Scalar.addi v176 c2_i32_158
  let c7_i32_159 : BitVec 32 := 7#32
  let v256 : BitVec 32 := Scalar.minsi v255 c7_i32_159
  let c512_i32_166 : BitVec 32 := 512#32
  let v266 : BitVec 32 := Scalar.muli v256 c512_i32_166
  v266
def k0_mult15 (i : grid0.Coords) (k0_t1 : Fin (k0_t1_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c1_i32_172 : BitVec 32 := 1#32
  let v275 : BitVec 32 := Scalar.addi v176 c1_i32_172
  let c512_i32_173 : BitVec 32 := 512#32
  let v276 : BitVec 32 := Scalar.muli v275 c512_i32_173
  v276
def k0_off24 (i : grid0.Coords) (k0_t1 : Fin (k0_t1_loop i).trips) : Fin 2 → Nat :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c1_i32_172 : BitVec 32 := 1#32
  let v275 : BitVec 32 := Scalar.addi v176 c1_i32_172
  let c512_i32_173 : BitVec 32 := 512#32
  let v276 : BitVec 32 := Scalar.muli v275 c512_i32_173
  let v277 : BitVec 32 := v276
  let v278 : Index := Scalar.indexCast v277
  let c0_174 : Index := 0#32
  ![v278.toNat, 0]
def k0_mult16 (i : grid0.Coords) (k0_t1 : Fin (k0_t1_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c1_i32_172 : BitVec 32 := 1#32
  let v275 : BitVec 32 := Scalar.addi v176 c1_i32_172
  let c512_i32_175 : BitVec 32 := 512#32
  let v281 : BitVec 32 := Scalar.muli v275 c512_i32_175
  v281
def k0_off25 (i : grid0.Coords) (k0_t1 : Fin (k0_t1_loop i).trips) : Fin 2 → Nat :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c1_i32_172 : BitVec 32 := 1#32
  let v275 : BitVec 32 := Scalar.addi v176 c1_i32_172
  let c512_i32_175 : BitVec 32 := 512#32
  let v281 : BitVec 32 := Scalar.muli v275 c512_i32_175
  let v282 : BitVec 32 := v281
  let v283 : Index := Scalar.indexCast v282
  let c0_176 : Index := 0#32
  ![v283.toNat, 0]
def k0_off26 (i : grid0.Coords) (k0_t1 : Fin (k0_t1_loop i).trips) : Fin 4 → Nat :=
  let c0_180 : Index := 0#32
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c1_i32_172 : BitVec 32 := 1#32
  let v275 : BitVec 32 := Scalar.addi v176 c1_i32_172
  let v288 : Index := Scalar.indexCast v275
  let c0_181 : Index := 0#32
  let c0_182 : Index := 0#32
  ![0, v288.toNat, 0, 0]
def k0_off27 (i : grid0.Coords) (k0_t1 : Fin (k0_t1_loop i).trips) (c0_i32_189 : BitVec 32) : Fin 4 → Nat :=
  let c0_190 : Index := 0#32
  let c2_i32_188 : BitVec 32 := 2#32
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c1_i32_172 : BitVec 32 := 1#32
  let v275 : BitVec 32 := Scalar.addi v176 c1_i32_172
  let v301 : BitVec 32 := Scalar.muli c2_i32_188 v275
  let v302 : BitVec 32 := Scalar.addi v301 c0_i32_189
  let v303 : Index := Scalar.indexCast v302
  let c0_191 : Index := 0#32
  let c0_192 : Index := 0#32
  ![0, v303.toNat, 0, 0]
def k0_mult17 (i : grid0.Coords) (k0_t1 : Fin (k0_t1_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c1_i32_82 : BitVec 32 := 1#32
  let arg28 : BitVec 32 := Scf.iv c0_i32_80 c1_i32_82 k0_t1
  let v175 : BitVec 32 := Scalar.muli c2_i32_106 arg28
  let v176 : BitVec 32 := Scalar.addi v174 v175
  let c1_i32_172 : BitVec 32 := 1#32
  let v275 : BitVec 32 := Scalar.addi v176 c1_i32_172
  let c512_i32_206 : BitVec 32 := 512#32
  let v324 : BitVec 32 := Scalar.muli v275 c512_i32_206
  v324
@[reducible] def k0_t2_loop (i : grid0.Coords) : Scf.Loop 32 :=
  let c0_i32_80 : BitVec 32 := 0#32
  let c7_i32 : BitVec 32 := 7#32
  let arg1 : BitVec 32 := BitVec.ofNat 32 (i 1).val
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let v141 : BitVec 32 := Scalar.addi c0_i32_80 v140
  let c1_i32_83 : BitVec 32 := 1#32
  ⟨v144, v141, c1_i32_83⟩
def k0_mult18 (i : grid0.Coords) (k0_t2 : Fin (k0_t2_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c1_i32_107 : BitVec 32 := 1#32
  let v177 : BitVec 32 := Scalar.addi v176 c1_i32_107
  let c7_i32_108 : BitVec 32 := 7#32
  let v178 : BitVec 32 := Scalar.minsi v177 c7_i32_108
  let c512_i32_109 : BitVec 32 := 512#32
  let v179 : BitVec 32 := Scalar.muli v178 c512_i32_109
  v179
def k0_off28 (i : grid0.Coords) (k0_t2 : Fin (k0_t2_loop i).trips) (c1_i32_107 : BitVec 32) : Fin 2 → Nat :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let v177 : BitVec 32 := Scalar.addi v176 c1_i32_107
  let c7_i32_108 : BitVec 32 := 7#32
  let v178 : BitVec 32 := Scalar.minsi v177 c7_i32_108
  let c512_i32_109 : BitVec 32 := 512#32
  let v179 : BitVec 32 := Scalar.muli v178 c512_i32_109
  let v180 : BitVec 32 := v179
  let v181 : Index := Scalar.indexCast v180
  let c0_110 : Index := 0#32
  ![v181.toNat, 0]
def k0_mult19 (i : grid0.Coords) (k0_t2 : Fin (k0_t2_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c1_i32_107 : BitVec 32 := 1#32
  let v177 : BitVec 32 := Scalar.addi v176 c1_i32_107
  let c7_i32_108 : BitVec 32 := 7#32
  let v178 : BitVec 32 := Scalar.minsi v177 c7_i32_108
  let c512_i32_115 : BitVec 32 := 512#32
  let v188 : BitVec 32 := Scalar.muli v178 c512_i32_115
  v188
def k0_off29 (i : grid0.Coords) (k0_t2 : Fin (k0_t2_loop i).trips) (c1_i32_107 : BitVec 32) : Fin 2 → Nat :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let v177 : BitVec 32 := Scalar.addi v176 c1_i32_107
  let c7_i32_108 : BitVec 32 := 7#32
  let v178 : BitVec 32 := Scalar.minsi v177 c7_i32_108
  let c512_i32_115 : BitVec 32 := 512#32
  let v188 : BitVec 32 := Scalar.muli v178 c512_i32_115
  let v189 : BitVec 32 := v188
  let v190 : Index := Scalar.indexCast v189
  let c0_116 : Index := 0#32
  ![v190.toNat, 0]
def k0_mult20 (i : grid0.Coords) (k0_t2 : Fin (k0_t2_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c512_i32_121 : BitVec 32 := 512#32
  let v197 : BitVec 32 := Scalar.muli v176 c512_i32_121
  v197
def k0_off30 (i : grid0.Coords) (k0_t2 : Fin (k0_t2_loop i).trips) : Fin 2 → Nat :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c512_i32_121 : BitVec 32 := 512#32
  let v197 : BitVec 32 := Scalar.muli v176 c512_i32_121
  let v198 : BitVec 32 := v197
  let v199 : Index := Scalar.indexCast v198
  let c0_122 : Index := 0#32
  ![v199.toNat, 0]
def k0_mult21 (i : grid0.Coords) (k0_t2 : Fin (k0_t2_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c512_i32_123 : BitVec 32 := 512#32
  let v202 : BitVec 32 := Scalar.muli v176 c512_i32_123
  v202
def k0_off31 (i : grid0.Coords) (k0_t2 : Fin (k0_t2_loop i).trips) : Fin 2 → Nat :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c512_i32_123 : BitVec 32 := 512#32
  let v202 : BitVec 32 := Scalar.muli v176 c512_i32_123
  let v203 : BitVec 32 := v202
  let v204 : Index := Scalar.indexCast v203
  let c0_124 : Index := 0#32
  ![v204.toNat, 0]
def k0_off32 (i : grid0.Coords) (k0_t2 : Fin (k0_t2_loop i).trips) : Fin 4 → Nat :=
  let c0_128 : Index := 0#32
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let v209 : Index := Scalar.indexCast v176
  let c0_129 : Index := 0#32
  let c0_130 : Index := 0#32
  ![0, v209.toNat, 0, 0]
def k0_off33 (i : grid0.Coords) (k0_t2 : Fin (k0_t2_loop i).trips) (c0_i32_137 : BitVec 32) : Fin 4 → Nat :=
  let c0_138 : Index := 0#32
  let c2_i32_136 : BitVec 32 := 2#32
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let v222 : BitVec 32 := Scalar.muli c2_i32_136 v176
  let v223 : BitVec 32 := Scalar.addi v222 c0_i32_137
  let v224 : Index := Scalar.indexCast v223
  let c0_139 : Index := 0#32
  let c0_140 : Index := 0#32
  ![0, v224.toNat, 0, 0]
def k0_mult22 (i : grid0.Coords) (k0_t2 : Fin (k0_t2_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c512_i32_154 : BitVec 32 := 512#32
  let v245 : BitVec 32 := Scalar.muli v176 c512_i32_154
  v245
def k0_mult23 (i : grid0.Coords) (k0_t2 : Fin (k0_t2_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c2_i32_158 : BitVec 32 := 2#32
  let v255 : BitVec 32 := Scalar.addi v176 c2_i32_158
  let c7_i32_159 : BitVec 32 := 7#32
  let v256 : BitVec 32 := Scalar.minsi v255 c7_i32_159
  let c512_i32_160 : BitVec 32 := 512#32
  let v257 : BitVec 32 := Scalar.muli v256 c512_i32_160
  v257
def k0_mult24 (i : grid0.Coords) (k0_t2 : Fin (k0_t2_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c2_i32_158 : BitVec 32 := 2#32
  let v255 : BitVec 32 := Scalar.addi v176 c2_i32_158
  let c7_i32_159 : BitVec 32 := 7#32
  let v256 : BitVec 32 := Scalar.minsi v255 c7_i32_159
  let c512_i32_166 : BitVec 32 := 512#32
  let v266 : BitVec 32 := Scalar.muli v256 c512_i32_166
  v266
def k0_mult25 (i : grid0.Coords) (k0_t2 : Fin (k0_t2_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c1_i32_172 : BitVec 32 := 1#32
  let v275 : BitVec 32 := Scalar.addi v176 c1_i32_172
  let c512_i32_173 : BitVec 32 := 512#32
  let v276 : BitVec 32 := Scalar.muli v275 c512_i32_173
  v276
def k0_off34 (i : grid0.Coords) (k0_t2 : Fin (k0_t2_loop i).trips) : Fin 2 → Nat :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c1_i32_172 : BitVec 32 := 1#32
  let v275 : BitVec 32 := Scalar.addi v176 c1_i32_172
  let c512_i32_173 : BitVec 32 := 512#32
  let v276 : BitVec 32 := Scalar.muli v275 c512_i32_173
  let v277 : BitVec 32 := v276
  let v278 : Index := Scalar.indexCast v277
  let c0_174 : Index := 0#32
  ![v278.toNat, 0]
def k0_mult26 (i : grid0.Coords) (k0_t2 : Fin (k0_t2_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c1_i32_172 : BitVec 32 := 1#32
  let v275 : BitVec 32 := Scalar.addi v176 c1_i32_172
  let c512_i32_175 : BitVec 32 := 512#32
  let v281 : BitVec 32 := Scalar.muli v275 c512_i32_175
  v281
def k0_off35 (i : grid0.Coords) (k0_t2 : Fin (k0_t2_loop i).trips) : Fin 2 → Nat :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c1_i32_172 : BitVec 32 := 1#32
  let v275 : BitVec 32 := Scalar.addi v176 c1_i32_172
  let c512_i32_175 : BitVec 32 := 512#32
  let v281 : BitVec 32 := Scalar.muli v275 c512_i32_175
  let v282 : BitVec 32 := v281
  let v283 : Index := Scalar.indexCast v282
  let c0_176 : Index := 0#32
  ![v283.toNat, 0]
def k0_off36 (i : grid0.Coords) (k0_t2 : Fin (k0_t2_loop i).trips) : Fin 4 → Nat :=
  let c0_180 : Index := 0#32
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c1_i32_172 : BitVec 32 := 1#32
  let v275 : BitVec 32 := Scalar.addi v176 c1_i32_172
  let v288 : Index := Scalar.indexCast v275
  let c0_181 : Index := 0#32
  let c0_182 : Index := 0#32
  ![0, v288.toNat, 0, 0]
def k0_off37 (i : grid0.Coords) (k0_t2 : Fin (k0_t2_loop i).trips) (c0_i32_189 : BitVec 32) : Fin 4 → Nat :=
  let c0_190 : Index := 0#32
  let c2_i32_188 : BitVec 32 := 2#32
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c1_i32_172 : BitVec 32 := 1#32
  let v275 : BitVec 32 := Scalar.addi v176 c1_i32_172
  let v301 : BitVec 32 := Scalar.muli c2_i32_188 v275
  let v302 : BitVec 32 := Scalar.addi v301 c0_i32_189
  let v303 : Index := Scalar.indexCast v302
  let c0_191 : Index := 0#32
  let c0_192 : Index := 0#32
  ![0, v303.toNat, 0, 0]
def k0_mult27 (i : grid0.Coords) (k0_t2 : Fin (k0_t2_loop i).trips) : BitVec 32 :=
  let arg1 : BitVec 32 := BitVec.ofNat 32 (i 1).val
  let c1_i32_105 : BitVec 32 := 1#32
  let v174 : BitVec 32 := Scalar.addi arg1 c1_i32_105
  let c2_i32_106 : BitVec 32 := 2#32
  let c0_i32_80 : BitVec 32 := 0#32
  let c7_i32 : BitVec 32 := 7#32
  let v20 : BitVec 32 := Scalar.subi c7_i32 arg1
  let c0_i32_73 : BitVec 32 := 0#32
  let v124 : BitVec 1 := Scalar.cmpi .sgt v20 c0_i32_73
  let v125 : BitVec 32 := Scalar.extui v124
  let c0_i32_74 : BitVec 32 := 0#32
  let v126 : BitVec 1 := Scalar.cmpi .slt v20 c0_i32_74
  let v127 : BitVec 32 := Scalar.extui v126
  let v128 : BitVec 32 := Scalar.subi v125 v127
  let c2_i32_72 : BitVec 32 := 2#32
  let c0_i32_75 : BitVec 32 := 0#32
  let v129 : BitVec 1 := Scalar.cmpi .sgt c2_i32_72 c0_i32_75
  let v130 : BitVec 32 := Scalar.extui v129
  let c0_i32_76 : BitVec 32 := 0#32
  let v131 : BitVec 1 := Scalar.cmpi .slt c2_i32_72 c0_i32_76
  let v132 : BitVec 32 := Scalar.extui v131
  let v133 : BitVec 32 := Scalar.subi v130 v132
  let v134 : BitVec 1 := Scalar.cmpi .ne v128 v133
  let v135 : BitVec 32 := Scalar.remsi v20 c2_i32_72
  let c0_i32_77 : BitVec 32 := 0#32
  let v136 : BitVec 1 := Scalar.cmpi .ne v135 c0_i32_77
  let v137 : BitVec 1 := Scalar.andi v134 v136
  let v123 : BitVec 32 := Scalar.divsi v20 c2_i32_72
  let c1_i32_78 : BitVec 32 := 1#32
  let v138 : BitVec 32 := Scalar.subi v123 c1_i32_78
  let v139 : BitVec 32 := Scalar.select v137 v138 v123
  let v140 : BitVec 32 := Scalar.subi v139 c0_i32_80
  let c1_i32_81 : BitVec 32 := 1#32
  let v142 : BitVec 32 := Scalar.divsi v140 c1_i32_81
  let v143 : BitVec 32 := Scalar.muli v142 c1_i32_81
  let v144 : BitVec 32 := Scalar.addi c0_i32_80 v143
  let c1_i32_83 : BitVec 32 := 1#32
  let arg28 : BitVec 32 := Scf.iv v144 c1_i32_83 k0_t2
  let v175 : BitVec 32 := Scalar.muli c2_i32_106 arg28
  let v176 : BitVec 32 := Scalar.addi v174 v175
  let c1_i32_172 : BitVec 32 := 1#32
  let v275 : BitVec 32 := Scalar.addi v176 c1_i32_172
  let c512_i32_206 : BitVec 32 := 512#32
  let v324 : BitVec 32 := Scalar.muli v275 c512_i32_206
  v324
def k0_cond3 (i : grid0.Coords) : BitVec 1 :=
  let c7_i32 : BitVec 32 := 7#32
  let arg1 : BitVec 32 := BitVec.ofNat 32 (i 1).val
  let v20 : BitVec 32 := Scalar.subi c7_i32 arg1
  let c2_i32_84 : BitVec 32 := 2#32
  let c0_i32_85 : BitVec 32 := 0#32
  let v145 : BitVec 1 := Scalar.cmpi .eq c2_i32_84 c0_i32_85
  let c1_i32_86 : BitVec 32 := 1#32
  let v146 : BitVec 32 := Scalar.select v145 c1_i32_86 c2_i32_84
  let v147 : BitVec 32 := Scalar.remsi v20 v146
  let c0_i32_88 : BitVec 32 := 0#32
  let v149 : BitVec 1 := Scalar.cmpi .slt v147 c0_i32_88
  let c0_i32_89 : BitVec 32 := 0#32
  let v150 : BitVec 1 := Scalar.cmpi .slt v146 c0_i32_89
  let v151 : BitVec 1 := Scalar.xori v149 v150
  let c0_i32_87 : BitVec 32 := 0#32
  let v148 : BitVec 1 := Scalar.cmpi .ne v147 c0_i32_87
  let v152 : BitVec 1 := Scalar.andi v151 v148
  let v153 : BitVec 32 := Scalar.addi v147 v146
  let v154 : BitVec 32 := Scalar.select v152 v153 v147
  let c1_i32_90 : BitVec 32 := 1#32
  let v155 : BitVec 1 := Scalar.cmpi .eq v154 c1_i32_90
  let v156 : BitVec 32 := Scalar.extui v155
  let c0_i32_91 : BitVec 32 := 0#32
  let v157 : BitVec 1 := Scalar.cmpi .ne v156 c0_i32_91
  v157

def k0_mult28 : BitVec 32 :=
  let c3584_i32 : BitVec 32 := 3584#32
  c3584_i32
def k0_mult29 : BitVec 32 :=
  let c3584_i32_106 : BitVec 32 := 3584#32
  c3584_i32_106
def k0_mult30 : BitVec 32 :=
  let c3584_i32_133 : BitVec 32 := 3584#32
  c3584_i32_133
def k0_cond5 (i : grid0.Coords) : BitVec 1 :=
  let arg0 : BitVec 32 := BitVec.ofNat 32 (i 0).val
  let c8_i32_103 : BitVec 32 := 8#32
  let v169 : BitVec 32 := Scalar.muli arg0 c8_i32_103
  let arg1 : BitVec 32 := BitVec.ofNat 32 (i 1).val
  let v170 : BitVec 32 := Scalar.addi v169 arg1
  let c63_i32 : BitVec 32 := 63#32
  let v171 : BitVec 1 := Scalar.cmpi .eq v170 c63_i32
  let v172 : BitVec 32 := Scalar.extui v171
  let c0_i32_104 : BitVec 32 := 0#32
  let v173 : BitVec 1 := Scalar.cmpi .ne v172 c0_i32_104
  v173

def k0_off38 (d174 : Dev nD) : Fin 3 → Nat :=
  let c2_i32_114 : BitVec 32 := 2#32
  let c1_i32_110 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v183 : BitVec 32 := Scalar.subi c1_i32_110 v176
  let v187 : BitVec 32 := Scalar.muli c2_i32_114 v183
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v188 : BitVec 32 := Scalar.addi v187 v179
  let c0_i32_133 : BitVec 32 := 0#32
  let c0_i32_134 : BitVec 32 := 0#32
  ![v188.toNat, 0, 0]
def k0_off39 (d174 : Dev nD) : Fin 3 → Nat :=
  let c2_i32_115 : BitVec 32 := 2#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v189 : BitVec 32 := Scalar.muli c2_i32_115 v176
  let c1_i32_111 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v184 : BitVec 32 := Scalar.subi c1_i32_111 v179
  let v190 : BitVec 32 := Scalar.addi v189 v184
  let c0_i32_152 : BitVec 32 := 0#32
  let c0_i32_153 : BitVec 32 := 0#32
  ![v190.toNat, 0, 0]
def k0_off40 (d174 : Dev nD) : Fin 3 → Nat :=
  let c2_i32_116 : BitVec 32 := 2#32
  let c1_i32_112 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v185 : BitVec 32 := Scalar.subi c1_i32_112 v176
  let v191 : BitVec 32 := Scalar.muli c2_i32_116 v185
  let c1_i32_113 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v186 : BitVec 32 := Scalar.subi c1_i32_113 v179
  let v192 : BitVec 32 := Scalar.addi v191 v186
  let c0_i32_171 : BitVec 32 := 0#32
  let c0_i32_172 : BitVec 32 := 0#32
  ![v192.toNat, 0, 0]
def k0_off41 (d174 : Dev nD) : Fin 3 → Nat :=
  let c2_i32_117 : BitVec 32 := 2#32
  let c1_i32_110 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v183 : BitVec 32 := Scalar.subi c1_i32_110 v176
  let v193 : BitVec 32 := Scalar.muli c2_i32_117 v183
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v194 : BitVec 32 := Scalar.addi v193 v179
  let c0_i32_189 : BitVec 32 := 0#32
  let c0_i32_190 : BitVec 32 := 0#32
  ![v194.toNat, 0, 0]
def k0_off42 (d174 : Dev nD) : Fin 3 → Nat :=
  let c2_i32_118 : BitVec 32 := 2#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v195 : BitVec 32 := Scalar.muli c2_i32_118 v176
  let c1_i32_111 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v184 : BitVec 32 := Scalar.subi c1_i32_111 v179
  let v196 : BitVec 32 := Scalar.addi v195 v184
  let c0_i32_208 : BitVec 32 := 0#32
  let c0_i32_209 : BitVec 32 := 0#32
  ![v196.toNat, 0, 0]
def k0_off43 (d174 : Dev nD) : Fin 3 → Nat :=
  let c2_i32_119 : BitVec 32 := 2#32
  let c1_i32_112 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v185 : BitVec 32 := Scalar.subi c1_i32_112 v176
  let v197 : BitVec 32 := Scalar.muli c2_i32_119 v185
  let c1_i32_113 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v186 : BitVec 32 := Scalar.subi c1_i32_113 v179
  let v198 : BitVec 32 := Scalar.addi v197 v186
  let c0_i32_226 : BitVec 32 := 0#32
  let c0_i32_227 : BitVec 32 := 0#32
  ![v198.toNat, 0, 0]
def k0_off44 (d174 : Dev nD) : Fin 3 → Nat :=
  let c2_i32_120 : BitVec 32 := 2#32
  let c1_i32_110 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v183 : BitVec 32 := Scalar.subi c1_i32_110 v176
  let v199 : BitVec 32 := Scalar.muli c2_i32_120 v183
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v200 : BitVec 32 := Scalar.addi v199 v179
  let c0_i32_244 : BitVec 32 := 0#32
  let c0_i32_245 : BitVec 32 := 0#32
  ![v200.toNat, 0, 0]
def k0_off45 (d174 : Dev nD) : Fin 3 → Nat :=
  let c2_i32_121 : BitVec 32 := 2#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v201 : BitVec 32 := Scalar.muli c2_i32_121 v176
  let c1_i32_111 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v184 : BitVec 32 := Scalar.subi c1_i32_111 v179
  let v202 : BitVec 32 := Scalar.addi v201 v184
  let c0_i32_263 : BitVec 32 := 0#32
  let c0_i32_264 : BitVec 32 := 0#32
  ![v202.toNat, 0, 0]
def k0_off46 (d174 : Dev nD) : Fin 3 → Nat :=
  let c2_i32_122 : BitVec 32 := 2#32
  let c1_i32_112 : BitVec 32 := 1#32
  let v174 : BitVec 32 := Dev.word d174
  let c4_i32 : BitVec 32 := 4#32
  let v175 : BitVec 32 := Scalar.divsi v174 c4_i32
  let c2_i32_105 : BitVec 32 := 2#32
  let v176 : BitVec 32 := Scalar.remsi v175 c2_i32_105
  let v185 : BitVec 32 := Scalar.subi c1_i32_112 v176
  let v203 : BitVec 32 := Scalar.muli c2_i32_122 v185
  let c1_i32_113 : BitVec 32 := 1#32
  let v177 : BitVec 32 := Dev.word d174
  let c2_i32_107 : BitVec 32 := 2#32
  let v178 : BitVec 32 := Scalar.divsi v177 c2_i32_107
  let c2_i32_106 : BitVec 32 := 2#32
  let v179 : BitVec 32 := Scalar.remsi v178 c2_i32_106
  let v186 : BitVec 32 := Scalar.subi c1_i32_113 v179
  let v204 : BitVec 32 := Scalar.addi v203 v186
  let c0_i32_282 : BitVec 32 := 0#32
  let c0_i32_283 : BitVec 32 := 0#32
  ![v204.toNat, 0, 0]
def k0_cond4 (i : grid0.Coords) : BitVec 1 :=
  let arg1 : BitVec 32 := BitVec.ofNat 32 (i 1).val
  let c7_i32_92 : BitVec 32 := 7#32
  let v158 : BitVec 1 := Scalar.cmpi .eq arg1 c7_i32_92
  let v159 : BitVec 32 := Scalar.extui v158
  let c0_i32_93 : BitVec 32 := 0#32
  let v160 : BitVec 1 := Scalar.cmpi .ne v159 c0_i32_93
  v160

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S32768x2048 : Shape := ⟨2, ![32768, 2048]⟩
abbrev S32768x1024 : Shape := ⟨2, ![32768, 1024]⟩
abbrev S64x8x1x512 : Shape := ⟨4, ![64, 8, 1, 512]⟩
abbrev S64x16x1x256 : Shape := ⟨4, ![64, 16, 1, 256]⟩
abbrev S32x1024x512 : Shape := ⟨3, ![32, 1024, 512]⟩
abbrev S32x512x1024 : Shape := ⟨3, ![32, 512, 1024]⟩
abbrev S32x128x1024 : Shape := ⟨3, ![32, 128, 1024]⟩
abbrev S8x4096x8x256 : Shape := ⟨4, ![8, 4096, 8, 256]⟩
abbrev S8x4096x8x128 : Shape := ⟨4, ![8, 4096, 8, 128]⟩
abbrev S8x8x4096x1 : Shape := ⟨4, ![8, 8, 4096, 1]⟩
abbrev S_ : Shape := ⟨0, ![]⟩
abbrev S8x8x4096x4096 : Shape := ⟨4, ![8, 8, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x8x128x4096 : Shape := ⟨4, ![8, 8, 128, 4096]⟩
abbrev S8x8x256x4096 : Shape := ⟨4, ![8, 8, 256, 4096]⟩
abbrev S1x1024x512 : Shape := ⟨3, ![1, 1024, 512]⟩
abbrev S16x1024x512 : Shape := ⟨3, ![16, 1024, 512]⟩
abbrev S8x1024x512 : Shape := ⟨3, ![8, 1024, 512]⟩
abbrev S24x1024x512 : Shape := ⟨3, ![24, 1024, 512]⟩
abbrev S1x512x1024 : Shape := ⟨3, ![1, 512, 1024]⟩
abbrev S16x512x1024 : Shape := ⟨3, ![16, 512, 1024]⟩
abbrev S8x512x1024 : Shape := ⟨3, ![8, 512, 1024]⟩
abbrev S24x512x1024 : Shape := ⟨3, ![24, 512, 1024]⟩
abbrev S1x128x1024 : Shape := ⟨3, ![1, 128, 1024]⟩
abbrev S16x128x1024 : Shape := ⟨3, ![16, 128, 1024]⟩
abbrev S8x128x1024 : Shape := ⟨3, ![8, 128, 1024]⟩
abbrev S24x128x1024 : Shape := ⟨3, ![24, 128, 1024]⟩

abbrev nBuf : Space → Nat
  | .hbm => 196
  | .vmem => 0
  | .smem => 0
  | _ => 0

abbrev hbmTy0_0 (i : Nat) : BufTy := match i % 128 with
  | 0 => ⟨S32768x2048, .bf16⟩
  | 1 => ⟨S32768x2048, .bf16⟩
  | 2 => ⟨S32768x1024, .bf16⟩
  | 3 => ⟨S32768x1024, .bf16⟩
  | 4 => ⟨S64x8x1x512, .f32⟩
  | 5 => ⟨S64x16x1x256, .f32⟩
  | 6 => ⟨S32x1024x512, .bf16⟩
  | 7 => ⟨S32x512x1024, .bf16⟩
  | 8 => ⟨S32x128x1024, .bf16⟩
  | 9 => ⟨S32x128x1024, .bf16⟩
  | 10 => ⟨S32x128x1024, .bf16⟩
  | 11 => ⟨S32768x2048, .f32⟩
  | 12 => ⟨S8x4096x8x256, .f32⟩
  | 13 => ⟨S32768x2048, .f32⟩
  | 14 => ⟨S8x4096x8x256, .f32⟩
  | 15 => ⟨S32768x1024, .f32⟩
  | 16 => ⟨S8x4096x8x128, .f32⟩
  | 17 => ⟨S32768x1024, .f32⟩
  | 18 => ⟨S8x4096x8x128, .f32⟩
  | 19 => ⟨S8x8x4096x1, .f32⟩
  | 20 => ⟨S8x8x4096x1, .f32⟩
  | 21 => ⟨S_, .f32⟩
  | 22 => ⟨S_, .f32⟩
  | 23 => ⟨S8x8x4096x4096, .f32⟩
  | 24 => ⟨S4096, .i32⟩
  | 25 => ⟨S4096x1, .i32⟩
  | 26 => ⟨S4096, .i32⟩
  | 27 => ⟨S1x4096, .i32⟩
  | 28 => ⟨S4096x4096, .i32⟩
  | 29 => ⟨S4096x4096, .i32⟩
  | 30 => ⟨S4096x4096, .i1⟩
  | 31 => ⟨S8x8x4096x4096, .f32⟩
  | 32 => ⟨S8x8x4096x4096, .f32⟩
  | 33 => ⟨S8x8x4096x4096, .f32⟩
  | 34 => ⟨S8x8x4096x4096, .f32⟩
  | 35 => ⟨S8x8x4096x4096, .f32⟩
  | 36 => ⟨S_, .f32⟩
  | 37 => ⟨S_, .f32⟩
  | 38 => ⟨S8x8x4096x4096, .i1⟩
  | 39 => ⟨S8x8x4096x4096, .f32⟩
  | 40 => ⟨S8x8x4096x4096, .f32⟩
  | 41 => ⟨S8x8x4096x4096, .bf16⟩
  | 42 => ⟨S8x8x4096x4096, .f32⟩
  | 43 => ⟨S8x8x128x4096, .f32⟩
  | 44 => ⟨S8x4096x8x128, .f32⟩
  | 45 => ⟨S8x8x4096x4096, .f32⟩
  | 46 => ⟨S8x8x4096x4096, .f32⟩
  | 47 => ⟨S8x8x4096x4096, .f32⟩
  | 48 => ⟨S8x8x4096x4096, .f32⟩
  | 49 => ⟨S8x8x256x4096, .f32⟩
  | 50 => ⟨S8x4096x8x256, .f32⟩
  | 51 => ⟨S8x8x256x4096, .f32⟩
  | 52 => ⟨S8x4096x8x256, .f32⟩
  | 53 => ⟨S8x4096x8x256, .f32⟩
  | 54 => ⟨S8x4096x8x256, .f32⟩
  | 55 => ⟨S32768x2048, .f32⟩
  | 56 => ⟨S32768x2048, .bf16⟩
  | 57 => ⟨S32768x2048, .f32⟩
  | 58 => ⟨S32768x2048, .bf16⟩
  | 59 => ⟨S32768x1024, .f32⟩
  | 60 => ⟨S32768x1024, .bf16⟩
  | 61 => ⟨S1x1024x512, .bf16⟩
  | 62 => ⟨S1x1024x512, .bf16⟩
  | 63 => ⟨S1x1024x512, .bf16⟩
  | 64 => ⟨S1x1024x512, .bf16⟩
  | 65 => ⟨S1x1024x512, .bf16⟩
  | 66 => ⟨S1x1024x512, .bf16⟩
  | 67 => ⟨S1x1024x512, .bf16⟩
  | 68 => ⟨S1x1024x512, .bf16⟩
  | 69 => ⟨S1x1024x512, .bf16⟩
  | 70 => ⟨S1x1024x512, .bf16⟩
  | 71 => ⟨S1x1024x512, .bf16⟩
  | 72 => ⟨S1x1024x512, .bf16⟩
  | 73 => ⟨S1x1024x512, .bf16⟩
  | 74 => ⟨S1x1024x512, .bf16⟩
  | 75 => ⟨S1x1024x512, .bf16⟩
  | 76 => ⟨S1x1024x512, .bf16⟩
  | 77 => ⟨S1x1024x512, .bf16⟩
  | 78 => ⟨S1x1024x512, .bf16⟩
  | 79 => ⟨S1x1024x512, .bf16⟩
  | 80 => ⟨S1x1024x512, .bf16⟩
  | 81 => ⟨S1x1024x512, .bf16⟩
  | 82 => ⟨S1x1024x512, .bf16⟩
  | 83 => ⟨S1x1024x512, .bf16⟩
  | 84 => ⟨S1x1024x512, .bf16⟩
  | 85 => ⟨S16x1024x512, .bf16⟩
  | 86 => ⟨S8x1024x512, .bf16⟩
  | 87 => ⟨S24x1024x512, .bf16⟩
  | 88 => ⟨S1x512x1024, .bf16⟩
  | 89 => ⟨S1x512x1024, .bf16⟩
  | 90 => ⟨S1x512x1024, .bf16⟩
  | 91 => ⟨S1x512x1024, .bf16⟩
  | 92 => ⟨S1x512x1024, .bf16⟩
  | 93 => ⟨S1x512x1024, .bf16⟩
  | 94 => ⟨S1x512x1024, .bf16⟩
  | 95 => ⟨S1x512x1024, .bf16⟩
  | 96 => ⟨S1x512x1024, .bf16⟩
  | 97 => ⟨S1x512x1024, .bf16⟩
  | 98 => ⟨S1x512x1024, .bf16⟩
  | 99 => ⟨S1x512x1024, .bf16⟩
  | 100 => ⟨S1x512x1024, .bf16⟩
  | 101 => ⟨S1x512x1024, .bf16⟩
  | 102 => ⟨S1x512x1024, .bf16⟩
  | 103 => ⟨S1x512x1024, .bf16⟩
  | 104 => ⟨S1x512x1024, .bf16⟩
  | 105 => ⟨S1x512x1024, .bf16⟩
  | 106 => ⟨S1x512x1024, .bf16⟩
  | 107 => ⟨S1x512x1024, .bf16⟩
  | 108 => ⟨S1x512x1024, .bf16⟩
  | 109 => ⟨S1x512x1024, .bf16⟩
  | 110 => ⟨S1x512x1024, .bf16⟩
  | 111 => ⟨S1x512x1024, .bf16⟩
  | 112 => ⟨S16x512x1024, .bf16⟩
  | 113 => ⟨S8x512x1024, .bf16⟩
  | 114 => ⟨S24x512x1024, .bf16⟩
  | 115 => ⟨S1x128x1024, .bf16⟩
  | 116 => ⟨S1x128x1024, .bf16⟩
  | 117 => ⟨S1x128x1024, .bf16⟩
  | 118 => ⟨S1x128x1024, .bf16⟩
  | 119 => ⟨S1x128x1024, .bf16⟩
  | 120 => ⟨S1x128x1024, .bf16⟩
  | 121 => ⟨S1x128x1024, .bf16⟩
  | 122 => ⟨S1x128x1024, .bf16⟩
  | 123 => ⟨S1x128x1024, .bf16⟩
  | 124 => ⟨S1x128x1024, .bf16⟩
  | 125 => ⟨S1x128x1024, .bf16⟩
  | 126 => ⟨S1x128x1024, .bf16⟩
  | 127 => ⟨S1x128x1024, .bf16⟩
  | _ => ⟨S32768x2048, .bf16⟩

abbrev hbmTy0_1 (i : Nat) : BufTy := match i % 128 with
  | 0 => ⟨S1x128x1024, .bf16⟩
  | 1 => ⟨S1x128x1024, .bf16⟩
  | 2 => ⟨S1x128x1024, .bf16⟩
  | 3 => ⟨S1x128x1024, .bf16⟩
  | 4 => ⟨S1x128x1024, .bf16⟩
  | 5 => ⟨S1x128x1024, .bf16⟩
  | 6 => ⟨S1x128x1024, .bf16⟩
  | 7 => ⟨S1x128x1024, .bf16⟩
  | 8 => ⟨S1x128x1024, .bf16⟩
  | 9 => ⟨S1x128x1024, .bf16⟩
  | 10 => ⟨S1x128x1024, .bf16⟩
  | 11 => ⟨S16x128x1024, .bf16⟩
  | 12 => ⟨S8x128x1024, .bf16⟩
  | 13 => ⟨S24x128x1024, .bf16⟩
  | 14 => ⟨S1x128x1024, .bf16⟩
  | 15 => ⟨S1x128x1024, .bf16⟩
  | 16 => ⟨S1x128x1024, .bf16⟩
  | 17 => ⟨S1x128x1024, .bf16⟩
  | 18 => ⟨S1x128x1024, .bf16⟩
  | 19 => ⟨S1x128x1024, .bf16⟩
  | 20 => ⟨S1x128x1024, .bf16⟩
  | 21 => ⟨S1x128x1024, .bf16⟩
  | 22 => ⟨S1x128x1024, .bf16⟩
  | 23 => ⟨S1x128x1024, .bf16⟩
  | 24 => ⟨S1x128x1024, .bf16⟩
  | 25 => ⟨S1x128x1024, .bf16⟩
  | 26 => ⟨S1x128x1024, .bf16⟩
  | 27 => ⟨S1x128x1024, .bf16⟩
  | 28 => ⟨S1x128x1024, .bf16⟩
  | 29 => ⟨S1x128x1024, .bf16⟩
  | 30 => ⟨S1x128x1024, .bf16⟩
  | 31 => ⟨S1x128x1024, .bf16⟩
  | 32 => ⟨S1x128x1024, .bf16⟩
  | 33 => ⟨S1x128x1024, .bf16⟩
  | 34 => ⟨S1x128x1024, .bf16⟩
  | 35 => ⟨S1x128x1024, .bf16⟩
  | 36 => ⟨S1x128x1024, .bf16⟩
  | 37 => ⟨S1x128x1024, .bf16⟩
  | 38 => ⟨S16x128x1024, .bf16⟩
  | 39 => ⟨S8x128x1024, .bf16⟩
  | 40 => ⟨S24x128x1024, .bf16⟩
  | 41 => ⟨S1x128x1024, .bf16⟩
  | 42 => ⟨S1x128x1024, .bf16⟩
  | 43 => ⟨S1x128x1024, .bf16⟩
  | 44 => ⟨S1x128x1024, .bf16⟩
  | 45 => ⟨S1x128x1024, .bf16⟩
  | 46 => ⟨S1x128x1024, .bf16⟩
  | 47 => ⟨S1x128x1024, .bf16⟩
  | 48 => ⟨S1x128x1024, .bf16⟩
  | 49 => ⟨S1x128x1024, .bf16⟩
  | 50 => ⟨S1x128x1024, .bf16⟩
  | 51 => ⟨S1x128x1024, .bf16⟩
  | 52 => ⟨S1x128x1024, .bf16⟩
  | 53 => ⟨S1x128x1024, .bf16⟩
  | 54 => ⟨S1x128x1024, .bf16⟩
  | 55 => ⟨S1x128x1024, .bf16⟩
  | 56 => ⟨S1x128x1024, .bf16⟩
  | 57 => ⟨S1x128x1024, .bf16⟩
  | 58 => ⟨S1x128x1024, .bf16⟩
  | 59 => ⟨S1x128x1024, .bf16⟩
  | 60 => ⟨S1x128x1024, .bf16⟩
  | 61 => ⟨S1x128x1024, .bf16⟩
  | 62 => ⟨S1x128x1024, .bf16⟩
  | 63 => ⟨S1x128x1024, .bf16⟩
  | 64 => ⟨S1x128x1024, .bf16⟩
  | 65 => ⟨S16x128x1024, .bf16⟩
  | 66 => ⟨S8x128x1024, .bf16⟩
  | 67 => ⟨S24x128x1024, .bf16⟩
  | _ => ⟨S32768x2048, .bf16⟩

abbrev hbmTy (i : Nat) : BufTy := match i / 128 with
  | 0 => hbmTy0_0 i
  | 1 => hbmTy0_1 i
  | _ => ⟨S32768x2048, .bf16⟩

abbrev bufTy : (tb : Table) → Fin (tcTables nBuf tb) → BufTy
  | .hbm, ⟨i, _⟩ => hbmTy i
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩

abbrev nD : Nat := 1
abbrev τ : Topo := Topo.v7x

variable {F : FTy → Type} [FloatOps F]
-- ==== KernelFf2.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFf2Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelFf1.lean ====
abbrev S4096x1024 : Shape := ⟨2, ![4096, 1024]⟩
abbrev S4096x4096 : Shape := ⟨2, ![4096, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceFf1Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelMix.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceMixIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUp.lean ====
abbrev S4096x1024 : Shape := ⟨2, ![4096, 1024]⟩
abbrev S1x1024 : Shape := ⟨2, ![1, 1024]⟩
abbrev S8x1024x512 : Shape := ⟨3, ![8, 1024, 512]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x1024x512, .bf16⟩
  | .hbm, ⟨3, _⟩ => ⟨S4096x1024, .bf16⟩
  | .hbm, ⟨4, _⟩ => ⟨S4096x4096, .bf16⟩
  | .hbm, ⟨5, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceUpIdeal.lean ====
abbrev S4096x1024 : Shape := ⟨2, ![4096, 1024]⟩
abbrev S1x1024 : Shape := ⟨2, ![1, 1024]⟩
abbrev S8x1024x512 : Shape := ⟨3, ![8, 1024, 512]⟩
abbrev S_ : Shape := ⟨0, ![]⟩
abbrev S4096 : Shape := ⟨1, ![4096]⟩
abbrev S4096x1 : Shape := ⟨2, ![4096, 1]⟩
abbrev S1024x8x512 : Shape := ⟨3, ![1024, 8, 512]⟩
abbrev S1024x4096 : Shape := ⟨2, ![1024, 4096]⟩
abbrev S4096x4096 : Shape := ⟨2, ![4096, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x1024x512, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S8x1024x512, .f32⟩
  | .hbm, ⟨19, _⟩ => ⟨S1024x8x512, .f32⟩
  | .hbm, ⟨20, _⟩ => ⟨S1024x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x1024, .bf16⟩
  | .hbm, ⟨26, _⟩ => ⟨S4096x4096, .bf16⟩
  | .hbm, ⟨27, _⟩ => ⟨S4096x4096, .f32⟩
  | .hbm, ⟨28, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== KernelDown.lean ====
abbrev S4096x4096 : Shape := ⟨2, ![4096, 4096]⟩
abbrev S4096x1024 : Shape := ⟨2, ![4096, 1024]⟩
abbrev S1x1024 : Shape := ⟨2, ![1, 1024]⟩
abbrev S8x128 : Shape := ⟨2, ![8, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S8x128, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceDownIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S_, .f32⟩
  | .hbm, ⟨31, _⟩ => ⟨S8x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== KernelMerge.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 25
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1024x1024, .bf16⟩
  | .hbm, ⟨9, _⟩ => ⟨S1x1024, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .f32⟩
  | .hbm, ⟨14, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceMergeIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S1024x1024, .bf16⟩
  | .hbm, ⟨9, _⟩ => ⟨S1x1024, .f32⟩
  | .hbm, ⟨10, _⟩ => ⟨S4096x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1024x1024, .f32⟩
  | .hbm, ⟨22, _⟩ => ⟨S4096x1024, .f32⟩
  | .hbm, ⟨23, _⟩ => ⟨S4096x1024, .bf16⟩
  | .hbm, ⟨24, _⟩ => ⟨S4096x1024, .bf16⟩
  | .hbm, ⟨25, _⟩ => ⟨S4096x1024, .bf16⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== KernelBack.lean ====
abbrev S4096x1024 : Shape := ⟨2, ![4096, 1024]⟩
abbrev S4096x4096 : Shape := ⟨2, ![4096, 4096]⟩
abbrev S1x1024 : Shape := ⟨2, ![1, 1024]⟩
abbrev S_ : Shape := ⟨0, ![]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x1024, .bf16⟩
  | .hbm, ⟨4, _⟩ => ⟨S1x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S4096x1024, .bf16⟩
  | .hbm, ⟨10, _⟩ => ⟨S4096x4096, .bf16⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S4096x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceBackIdeal.lean ====
abbrev S4096x1024 : Shape := ⟨2, ![4096, 1024]⟩
abbrev S4096x4096 : Shape := ⟨2, ![4096, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x4096 : Shape := ⟨2, ![1024, 4096]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x4096, .f32⟩
  | .hbm, ⟨3, _⟩ => ⟨S4096x1024, .bf16⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .i1⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S4096x1024, .f32⟩
  | .hbm, ⟨61, _⟩ => ⟨S1024x4096, .f32⟩
  | .hbm, ⟨62, _⟩ => ⟨S4096x1024, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096x4096, .f32⟩
  | .hbm, ⟨67, _⟩ => ⟨S4096x4096, .f32⟩
  | .hbm, ⟨68, _⟩ => ⟨S4096x1024, .bf16⟩
  | .hbm, ⟨69, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call0_cst : Ref sig .tc := ⟨.hbm, 48, rfl⟩
abbrev main_call0_v0 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== KernelIn.lean ====
abbrev S4096x768 : Shape := ⟨2, ![4096, 768]⟩
abbrev S4096x1024 : Shape := ⟨2, ![4096, 1024]⟩
abbrev S768x1024 : Shape := ⟨2, ![768, 1024]⟩
abbrev S2048x768 : Shape := ⟨2, ![2048, 768]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S768x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceInIdeal.lean ====
abbrev S4096x768 : Shape := ⟨2, ![4096, 768]⟩
abbrev S4096x1024 : Shape := ⟨2, ![4096, 1024]⟩
abbrev S_ : Shape := ⟨0, ![]⟩
abbrev S768x1024 : Shape := ⟨2, ![768, 1024]⟩
abbrev S1024x768 : Shape := ⟨2, ![1024, 768]⟩

abbrev nBuf : Space → Nat
  | .hbm => 10
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S4096x1024, .bf16⟩
  | .hbm, ⟨2, _⟩ => ⟨S_, .f32⟩
  | .hbm, ⟨3, _⟩ => ⟨S768x1024, .f32⟩
  | .hbm, ⟨4, _⟩ => ⟨S4096x768, .f32⟩
  | .hbm, ⟨5, _⟩ => ⟨S4096x1024, .f32⟩
  | .hbm, ⟨6, _⟩ => ⟨S4096x1024, .f32⟩
  | .hbm, ⟨7, _⟩ => ⟨S1024x768, .f32⟩
  | .hbm, ⟨8, _⟩ => ⟨S768x1024, .f32⟩
  | .hbm, ⟨9, _⟩ => ⟨S768x1024, .bf16⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUk.lean ====
abbrev S4096x256 : Shape := ⟨2, ![4096, 256]⟩
abbrev S4096x1024 : Shape := ⟨2, ![4096, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceUkIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUq.lean ====
abbrev S4096x384 : Shape := ⟨2, ![4096, 384]⟩
abbrev S4096x2048 : Shape := ⟨2, ![4096, 2048]⟩
abbrev S8x384x256 : Shape := ⟨3, ![8, 384, 256]⟩
abbrev S2048x384 : Shape := ⟨2, ![2048, 384]⟩
abbrev S2048x1024 : Shape := ⟨2, ![2048, 1024]⟩
abbrev S4x384x256 : Shape := ⟨3, ![4, 384, 256]⟩
abbrev S384x1024 : Shape := ⟨2, ![384, 1024]⟩
abbrev S384x256 : Shape := ⟨2, ![384, 256]⟩
abbrev S1x384x256 : Shape := ⟨3, ![1, 384, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x384, .bf16⟩
  | .hbm, ⟨1, _⟩ => ⟨S4096x2048, .bf16⟩
  | .hbm, ⟨2, _⟩ => ⟨S8x384x256, .bf16⟩
  | .local _ .vmem, ⟨0, _⟩ => ⟨S2048x384, .bf16⟩
  | .local _ .vmem, ⟨1, _⟩ => ⟨S2048x384, .bf16⟩
  | .local _ .vmem, ⟨2, _⟩ => ⟨S2048x1024, .bf16⟩
  | .local _ .vmem, ⟨3, _⟩ => ⟨S2048x1024, .bf16⟩
  | .local _ .vmem, ⟨4, _⟩ => ⟨S4x384x256, .bf16⟩
  | .local _ .vmem, ⟨5, _⟩ => ⟨S4x384x256, .bf16⟩
  | .local _ .vmem, ⟨6, _⟩ => ⟨S384x1024, .f32⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x384x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUqIdeal.lean ====
abbrev S4096x384 : Shape := ⟨2, ![4096, 384]⟩
abbrev S4096x2048 : Shape := ⟨2, ![4096, 2048]⟩
abbrev S_ : Shape := ⟨0, ![]⟩
abbrev S384x2048 : Shape := ⟨2, ![384, 2048]⟩
abbrev S2048x384 : Shape := ⟨2, ![2048, 384]⟩
abbrev S384x8x256 : Shape := ⟨3, ![384, 8, 256]⟩
abbrev S8x384x256 : Shape := ⟨3, ![8, 384, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x2048, .bf16⟩
  | .hbm, ⟨2, _⟩ => ⟨S_, .f32⟩
  | .hbm, ⟨3, _⟩ => ⟨S384x2048, .f32⟩
  | .hbm, ⟨4, _⟩ => ⟨S4096x384, .f32⟩
  | .hbm, ⟨5, _⟩ => ⟨S4096x2048, .f32⟩
  | .hbm, ⟨6, _⟩ => ⟨S4096x2048, .f32⟩
  | .hbm, ⟨7, _⟩ => ⟨S2048x384, .f32⟩
  | .hbm, ⟨8, _⟩ => ⟨S384x2048, .f32⟩
  | .hbm, ⟨9, _⟩ => ⟨S384x8x256, .f32⟩
  | .hbm, ⟨10, _⟩ => ⟨S8x384x256, .f32⟩
  | .hbm, ⟨11, _⟩ => ⟨S8x384x256, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Offsets.lean ====
/- Closed forms of the row offsets at which the attention gradient reads and writes its buffers, in the key block `i 1`
   of the grid point and the trip of the loop over pairs of query blocks. -/
module

public import proofs.«01_k».proof.Proof.Gen.KernelIdeal
public import Idealize.ShloMosaic.Lib.Exec

@[expose] public section

noncomputable section

namespace Cert.KernelIdeal

open Idealize.ShloMosaic

theorem k0_t1_trips_eq : ∀ i : grid0.Coords, (k0_t1_loop i).trips = (7 - (i 1).val) / 2 := by decide +kernel
theorem k0_t2_trips_eq : ∀ i : grid0.Coords, (k0_t2_loop i).trips = 0 := by decide +kernel

theorem k0_off10_eq : ∀ i : grid0.Coords, k0_off10 i = ![512 * (i 1).val, 0] := by decide +kernel
theorem k0_off11_eq : ∀ i : grid0.Coords, k0_off11 i = ![512 * (i 1).val, 0] := by decide +kernel
theorem k0_off12_eq : ∀ i : grid0.Coords, k0_off12 i = ![512 * min ((i 1).val + 1) 7, 0] := by decide +kernel
theorem k0_off13_eq : ∀ i : grid0.Coords, k0_off13 i = ![512 * min ((i 1).val + 1) 7, 0] := by decide +kernel
theorem k0_off14_eq : ∀ i : grid0.Coords, k0_off14 i = ![512 * (i 1).val, 0] := by decide +kernel
theorem k0_off15_eq : ∀ i : grid0.Coords, k0_off15 i = ![512 * (i 1).val, 0] := by decide +kernel
theorem k0_off16_eq : ∀ i : grid0.Coords, k0_off16 i = ![0, (i 1).val, 0, 0] := by decide +kernel
theorem k0_off17_eq0 : ∀ i : grid0.Coords, k0_off17 i 0#32 = ![0, 2 * (i 1).val, 0, 0] := by decide +kernel
theorem k0_off17_eq1 : ∀ i : grid0.Coords, k0_off17 i 1#32 = ![0, 2 * (i 1).val + 1, 0, 0] := by decide +kernel
theorem k0_off18_eq1 : ∀ (i : grid0.Coords) (t : Fin (k0_t1_loop i).trips),
    k0_off18 i t 1#32 = ![512 * ((i 1).val + 2 * t.val + 2), 0] := by decide +kernel
theorem k0_off18_eq2 : ∀ (i : grid0.Coords) (t : Fin (k0_t1_loop i).trips),
    k0_off18 i t 2#32 = ![512 * min ((i 1).val + 2 * t.val + 3) 7, 0] := by decide +kernel
theorem k0_off19_eq1 : ∀ (i : grid0.Coords) (t : Fin (k0_t1_loop i).trips),
    k0_off19 i t 1#32 = ![512 * ((i 1).val + 2 * t.val + 2), 0] := by decide +kernel
theorem k0_off19_eq2 : ∀ (i : grid0.Coords) (t : Fin (k0_t1_loop i).trips),
    k0_off19 i t 2#32 = ![512 * min ((i 1).val + 2 * t.val + 3) 7, 0] := by decide +kernel
theorem k0_off20_eq : ∀ (i : grid0.Coords) (t : Fin (k0_t1_loop i).trips),
    k0_off20 i t = ![512 * ((i 1).val + 2 * t.val + 1), 0] := by decide +kernel
theorem k0_off21_eq : ∀ (i : grid0.Coords) (t : Fin (k0_t1_loop i).trips),
    k0_off21 i t = ![512 * ((i 1).val + 2 * t.val + 1), 0] := by decide +kernel
theorem k0_off22_eq : ∀ (i : grid0.Coords) (t : Fin (k0_t1_loop i).trips),
    k0_off22 i t = ![0, (i 1).val + 2 * t.val + 1, 0, 0] := by decide +kernel
theorem k0_off23_eq0 : ∀ (i : grid0.Coords) (t : Fin (k0_t1_loop i).trips),
    k0_off23 i t 0#32 = ![0, 2 * ((i 1).val + 2 * t.val + 1), 0, 0] := by decide +kernel
theorem k0_off23_eq1 : ∀ (i : grid0.Coords) (t : Fin (k0_t1_loop i).trips),
    k0_off23 i t 1#32 = ![0, 2 * ((i 1).val + 2 * t.val + 1) + 1, 0, 0] := by decide +kernel
theorem k0_off24_eq : ∀ (i : grid0.Coords) (t : Fin (k0_t1_loop i).trips),
    k0_off24 i t = ![512 * ((i 1).val + 2 * t.val + 2), 0] := by decide +kernel
theorem k0_off25_eq : ∀ (i : grid0.Coords) (t : Fin (k0_t1_loop i).trips),
    k0_off25 i t = ![512 * ((i 1).val + 2 * t.val + 2), 0] := by decide +kernel
theorem k0_off26_eq : ∀ (i : grid0.Coords) (t : Fin (k0_t1_loop i).trips),
    k0_off26 i t = ![0, (i 1).val + 2 * t.val + 2, 0, 0] := by decide +kernel
theorem k0_off27_eq0 : ∀ (i : grid0.Coords) (t : Fin (k0_t1_loop i).trips),
    k0_off27 i t 0#32 = ![0, 2 * ((i 1).val + 2 * t.val + 2), 0, 0] := by decide +kernel
theorem k0_off27_eq1 : ∀ (i : grid0.Coords) (t : Fin (k0_t1_loop i).trips),
    k0_off27 i t 1#32 = ![0, 2 * ((i 1).val + 2 * t.val + 2) + 1, 0, 0] := by decide +kernel

instance (i : grid0.Coords) : ClosedOff (k0_off10 i) := ⟨_, k0_off10_eq i⟩
instance (i : grid0.Coords) : ClosedOff (k0_off11 i) := ⟨_, k0_off11_eq i⟩
instance (i : grid0.Coords) : ClosedOff (k0_off12 i) := ⟨_, k0_off12_eq i⟩
instance (i : grid0.Coords) : ClosedOff (k0_off13 i) := ⟨_, k0_off13_eq i⟩
instance (i : grid0.Coords) : ClosedOff (k0_off14 i) := ⟨_, k0_off14_eq i⟩
instance (i : grid0.Coords) : ClosedOff (k0_off15 i) := ⟨_, k0_off15_eq i⟩
instance (i : grid0.Coords) : ClosedOff (k0_off16 i) := ⟨_, k0_off16_eq i⟩
instance (i : grid0.Coords) : ClosedOff (k0_off17 i 0#32) := ⟨_, k0_off17_eq0 i⟩
instance (i : grid0.Coords) : ClosedOff (k0_off17 i 1#32) := ⟨_, k0_off17_eq1 i⟩
instance (i : grid0.Coords) (t : Fin (k0_t1_loop i).trips) : ClosedOff (k0_off18 i t 1#32) := ⟨_, k0_off18_eq1 i t⟩
instance (i : grid0.Coords) (t : Fin (k0_t1_loop i).trips) : ClosedOff (k0_off18 i t 2#32) := ⟨_, k0_off18_eq2 i t⟩
instance (i : grid0.Coords) (t : Fin (k0_t1_loop i).trips) : ClosedOff (k0_off19 i t 1#32) := ⟨_, k0_off19_eq1 i t⟩
instance (i : grid0.Coords) (t : Fin (k0_t1_loop i).trips) : ClosedOff (k0_off19 i t 2#32) := ⟨_, k0_off19_eq2 i t⟩
instance (i : grid0.Coords) (t : Fin (k0_t1_loop i).trips) : ClosedOff (k0_off20 i t) := ⟨_, k0_off20_eq i t⟩
instance (i : grid0.Coords) (t : Fin (k0_t1_loop i).trips) : ClosedOff (k0_off21 i t) := ⟨_, k0_off21_eq i t⟩
instance (i : grid0.Coords) (t : Fin (k0_t1_loop i).trips) : ClosedOff (k0_off22 i t) := ⟨_, k0_off22_eq i t⟩
instance (i : grid0.Coords) (t : Fin (k0_t1_loop i).trips) : ClosedOff (k0_off23 i t 0#32) := ⟨_, k0_off23_eq0 i t⟩
instance (i : grid0.Coords) (t : Fin (k0_t1_loop i).trips) : ClosedOff (k0_off23 i t 1#32) := ⟨_, k0_off23_eq1 i t⟩
instance (i : grid0.Coords) (t : Fin (k0_t1_loop i).trips) : ClosedOff (k0_off24 i t) := ⟨_, k0_off24_eq i t⟩
instance (i : grid0.Coords) (t : Fin (k0_t1_loop i).trips) : ClosedOff (k0_off25 i t) := ⟨_, k0_off25_eq i t⟩
instance (i : grid0.Coords) (t : Fin (k0_t1_loop i).trips) : ClosedOff (k0_off26 i t) := ⟨_, k0_off26_eq i t⟩
instance (i : grid0.Coords) (t : Fin (k0_t1_loop i).trips) : ClosedOff (k0_off27 i t 0#32) := ⟨_, k0_off27_eq0 i t⟩
instance (i : grid0.Coords) (t : Fin (k0_t1_loop i).trips) : ClosedOff (k0_off27 i t 1#32) := ⟨_, k0_off27_eq1 i t⟩

end Cert.KernelIdeal

end
-- ==== Proof.State.lean ====
/- What one grid point of the attention gradient keeps in its scratch buffers, and what the visit of one query block does
   to it. The buffers are held by their values; a visit reads the scores and the products `do · vᵀ` from the two slots
   that an earlier visit filled. -/
module

public import proofs.«01_k».proof.Proof.Offsets
public import proofs.«01_k».proof.Proof.Gen.KernelIdeal.Skeleton
public import Idealize.ShloMosaic.Lib.VecWindow

@[expose] public section

set_option maxRecDepth 16384

noncomputable section

namespace Cert.KernelIdeal

open Idealize.ShloMosaic Idealize.ShloMosaic.TcCoe
open Facts₀ Facts

variable {F : FTy → Type} [FloatOps F] [Named F]

/-- The five scratch buffers by value: the gradients of the key and value blocks being summed, the two slots of scores,
    the two slots of `do · vᵀ`, and the gradient of all the query rows of the head. -/
structure St (F : FTy → Type) where
  dk : S512x256.Idx → Elt F .f32
  dv : S512x128.Idx → Elt F .f32
  sl : S2x512x512.Idx → Elt F .f32
  pl : S2x512x512.Idx → Elt F .f32
  dq : S4096x256.Idx → Elt F .f32

/-- Slot 0 and slot 1 of a pair. -/
abbrev slot0 (x : S2x512x512.Idx → Elt F .f32) : S1x512x512.Idx → Elt F .f32 :=
  VecWindow.window x ![0, 0, 0] S1x512x512.size inb_S2x512x512_S1x512x512_0_0_0
abbrev slot1 (x : S2x512x512.Idx → Elt F .f32) : S1x512x512.Idx → Elt F .f32 :=
  VecWindow.window x ![1, 0, 0] S1x512x512.size inb_S2x512x512_S1x512x512_1_0_0
abbrev setSlot0 (x : S2x512x512.Idx → Elt F .f32) (w : S1x512x512.Idx → Elt F .f32) : S2x512x512.Idx → Elt F .f32 :=
  VecWindow.put x ![0, 0, 0] S1x512x512.size w
abbrev setSlot1 (x : S2x512x512.Idx → Elt F .f32) (w : S1x512x512.Idx → Elt F .f32) : S2x512x512.Idx → Elt F .f32 :=
  VecWindow.put x ![1, 0, 0] S1x512x512.size w

/-- The value block's gradient after a visit. -/
abbrev visitDv (dor : S512x128.Idx → Elt F .bf16) (s : S1x512x512.Idx → Elt F .f32) (l : S1x1x1x512.Idx → Elt F .f32)
    (dv : S512x128.Idx → Elt F .f32) : S512x128.Idx → Elt F .f32 :=
  Gen.k0_pay6 (Gen.k0_pay4 dor) s l dv
/-- The key block's gradient after a visit. -/
abbrev visitDk (qr : S512x256.Idx → Elt F .bf16) (s : S1x512x512.Idx → Elt F .f32) (l : S1x1x1x512.Idx → Elt F .f32)
    (d0 d1 : S1x1x1x256.Idx → Elt F .f32) (p : S1x512x512.Idx → Elt F .f32) (dk : S512x256.Idx → Elt F .f32) :
    S512x256.Idx → Elt F .f32 :=
  Gen.k0_pay9 (Gen.k0_pay8 (Gen.k0_pay3 qr) s l d0 d1 p dk)
/-- The query rows' gradient after a visit. -/
abbrev visitDq (kb : S512x256.Idx → Elt F .bf16) (s : S1x512x512.Idx → Elt F .f32) (l : S1x1x1x512.Idx → Elt F .f32)
    (d0 d1 : S1x1x1x256.Idx → Elt F .f32) (p : S1x512x512.Idx → Elt F .f32) (dqr : S512x256.Idx → Elt F .f32) :
    S512x256.Idx → Elt F .f32 :=
  Gen.k0_pay10 kb (Gen.k0_pay7 s l d0 d1 p) dqr

/-- What a grid point reads and never writes: the head's query rows and `do` rows, its two rows of statistics, and the
    point's key and value block. -/
structure In (F : FTy → Type) where
  q : S4096x256.Idx → Elt F .bf16
  dor : S4096x128.Idx → Elt F .bf16
  lse : S1x8x1x512.Idx → Elt F .f32
  del : S1x16x1x256.Idx → Elt F .f32
  kr : S512x256.Idx → Elt F .bf16
  vr : S512x128.Idx → Elt F .bf16

/-- The key and the value block as the body passes them on. -/
abbrev In.kb (X : In F) : S512x256.Idx → Elt F .bf16 := Gen.k0_pay40 X.kr
abbrev In.vb (X : In F) : S512x128.Idx → Elt F .bf16 := Gen.k0_pay41 X.vr

/-- The window of the query rows and of the `do` rows at an offset, and so on. -/
abbrev In.qAt (X : In F) (off : Fin 2 → ℕ) (h : ∀ a, off a + S512x256.size a ≤ S4096x256.size a) : S512x256.Idx → Elt F .bf16 :=
  VecWindow.window (s := S4096x256) X.q off S512x256.size h
abbrev In.doAt (X : In F) (off : Fin 2 → ℕ) (h : ∀ a, off a + S512x128.size a ≤ S4096x128.size a) : S512x128.Idx → Elt F .bf16 :=
  VecWindow.window (s := S4096x128) X.dor off S512x128.size h
abbrev In.lseAt (X : In F) (off : Fin 4 → ℕ) (h : ∀ a, off a + S1x1x1x512.size a ≤ S1x8x1x512.size a) : S1x1x1x512.Idx → Elt F .f32 :=
  VecWindow.window (s := S1x8x1x512) X.lse off S1x1x1x512.size h
abbrev In.delAt (X : In F) (off : Fin 4 → ℕ) (h : ∀ a, off a + S1x1x1x256.size a ≤ S1x16x1x256.size a) : S1x1x1x256.Idx → Elt F .f32 :=
  VecWindow.window (s := S1x16x1x256) X.del off S1x1x1x256.size h
/-- The rows of the query gradient at an offset, and the gradient with those rows replaced. -/
abbrev dqAt (dq : S4096x256.Idx → Elt F .f32) (off : Fin 2 → ℕ) (h : ∀ a, off a + S512x256.size a ≤ S4096x256.size a) : S512x256.Idx → Elt F .f32 :=
  VecWindow.window (s := S4096x256) dq off S512x256.size h
abbrev dqPut (dq : S4096x256.Idx → Elt F .f32) (off : Fin 2 → ℕ) (w : S512x256.Idx → Elt F .f32) : S4096x256.Idx → Elt F .f32 :=
  VecWindow.put (s := S4096x256) dq off S512x256.size w

/-- The scores of a block of query rows against the key block, and their `do` rows against the value block. -/
abbrev scores (X : In F) (q : S512x256.Idx → Elt F .bf16) : S1x512x512.Idx → Elt F .f32 := Gen.k0_pay1 X.kb q
abbrev dps (X : In F) (d : S512x128.Idx → Elt F .bf16) : S1x512x512.Idx → Elt F .f32 := Gen.k0_pay2 X.vb d

/-- One trip of the loop over pairs of query blocks: the first block of the pair is finished from slot 1 while slot 0 is
    filled for the second; the second is finished from slot 0 while slot 1 is filled for the next trip. -/
def tripSt (i : grid0.Coords) (X : In F) (t : Fin (k0_t1_loop i).trips) (S : St F) : St F :=
  let s0 := scores X (X.qAt (k0_off18 i t 1#32) (k0_off18_inb i t 0))
  let p0 := dps X (X.doAt (k0_off19 i t 1#32) (k0_off19_inb i t 0))
  let l1 := X.lseAt (k0_off22 i t) (k0_off22_inb i t)
  let d10 := X.delAt (k0_off23 i t 0#32) (k0_off23_inb i t 0)
  let d11 := X.delAt (k0_off23 i t 1#32) (k0_off23_inb i t 1)
  let dv1 := visitDv (X.doAt (k0_off21 i t) (k0_off21_inb i t)) (slot1 S.sl) l1 S.dv
  let dk1 := visitDk (X.qAt (k0_off20 i t) (k0_off20_inb i t)) (slot1 S.sl) l1 d10 d11 (slot1 S.pl) S.dk
  let dq1 := dqPut S.dq (k0_off20 i t) (visitDq X.kb (slot1 S.sl) l1 d10 d11 (slot1 S.pl) (dqAt S.dq (k0_off20 i t) (k0_off20_inb i t)))
  let l2 := X.lseAt (k0_off26 i t) (k0_off26_inb i t)
  let d20 := X.delAt (k0_off27 i t 0#32) (k0_off27_inb i t 0)
  let d21 := X.delAt (k0_off27 i t 1#32) (k0_off27_inb i t 1)
  { dk := visitDk (X.qAt (k0_off24 i t) (k0_off24_inb i t)) s0 l2 d20 d21 p0 dk1
    dv := visitDv (X.doAt (k0_off25 i t) (k0_off25_inb i t)) s0 l2 dv1
    sl := setSlot1 (setSlot0 S.sl s0) (scores X (X.qAt (k0_off18 i t 2#32) (k0_off18_inb i t 1)))
    pl := setSlot1 (setSlot0 S.pl p0) (dps X (X.doAt (k0_off19 i t 2#32) (k0_off19_inb i t 1)))
    dq := dqPut dq1 (k0_off24 i t) (visitDq X.kb s0 l2 d20 d21 p0 (dqAt S.dq (k0_off24 i t) (k0_off24_inb i t))) }

/-- The first `n` trips. -/
def tripsSt (i : grid0.Coords) (X : In F) (S : St F) : ℕ → St F
  | 0 => S
  | n + 1 => if h : n < (k0_t1_loop i).trips then tripSt i X ⟨n, h⟩ (tripsSt i X S n) else tripsSt i X S n

theorem tripsSt_succ (i : grid0.Coords) (X : In F) (S : St F) (t : Fin (k0_t1_loop i).trips) :
    tripsSt i X S (t.val + 1) = tripSt i X t (tripsSt i X S t.val) := by
  rw [tripsSt, dif_pos t.isLt]

/-- The state after the zeroing: the query gradient is cleared at a head's first key block. -/
abbrev zeroSt (i : grid0.Coords) (S : St F) : St F :=
  { dk := Gen.k0_pay38 (F := F), dv := Gen.k0_pay39 (F := F), sl := S.sl, pl := S.pl, dq := if (i 1).val = 0 then Gen.k0_pay37 (F := F) else S.dq }

/-- Before the loop: the scores of the block on the diagonal and of the one after it are put into the two slots, and the
    block on the diagonal is finished under the causal mask. -/
def startSt (i : grid0.Coords) (X : In F) (S : St F) : St F :=
  let s0 := scores X (X.qAt (k0_off10 i) (k0_off10_inb i))
  let p0 := dps X (X.doAt (k0_off11 i) (k0_off11_inb i))
  let l := X.lseAt (k0_off16 i) (k0_off16_inb i)
  let pt := Gen.k0_pay47 s0 l
  let d0 := Gen.k0_pay49 (X.delAt (k0_off17 i 0#32) (k0_off17_inb i 0))
  let d1 := Gen.k0_pay50 (X.delAt (k0_off17 i 1#32) (k0_off17_inb i 1))
  { dk := Gen.k0_pay52 (Gen.k0_pay46 (X.qAt (k0_off14 i) (k0_off14_inb i))) pt d0 d1 p0 S.dk
    dv := Gen.k0_pay48 (X.doAt (k0_off15 i) (k0_off15_inb i)) s0 l S.dv
    sl := setSlot1 (setSlot0 S.sl s0) (scores X (X.qAt (k0_off12 i) (k0_off12_inb i)))
    pl := setSlot1 (setSlot0 S.pl p0) (dps X (X.doAt (k0_off13 i) (k0_off13_inb i)))
    dq := dqPut S.dq (k0_off14 i) (Gen.k0_pay53 X.kb pt d0 d1 p0 (dqAt S.dq (k0_off14 i) (k0_off14_inb i))) }

/-- After the loop, where the number of blocks past the diagonal is odd: the last query block is finished from slot 1. -/
def lastSt (X : In F) (S : St F) : St F :=
  let q := X.qAt ![3584, 0] inb_S4096x256_S512x256_3584_0
  let l := X.lseAt ![0, 7, 0, 0] inb_S1x8x1x512_S1x1x1x512_0_7_0_0
  let ds := Gen.k0_pay36 (slot1 S.sl) l (X.delAt ![0, 14, 0, 0] inb_S1x16x1x256_S1x1x1x256_0_14_0_0)
    (X.delAt ![0, 15, 0, 0] inb_S1x16x1x256_S1x1x1x256_0_15_0_0) (slot1 S.pl)
  { dk := Gen.k0_pay61 (Gen.k0_pay33 q) ds S.dk
    dv := Gen.k0_pay35 (X.doAt ![3584, 0] inb_S4096x128_S512x128_3584_0) (slot1 S.sl) l S.dv
    sl := S.sl
    pl := S.pl
    dq := dqPut S.dq ![3584, 0] (Gen.k0_pay62 X.kb ds (dqAt S.dq ![3584, 0] inb_S4096x256_S512x256_3584_0)) }

/-- The state after the loop and the remainder. -/
def endSt (i : grid0.Coords) (X : In F) (S : St F) : St F :=
  if k0_cond3 i = 1#1 then lastSt X (tripsSt i X S (k0_t1_loop i).trips) else tripsSt i X S (k0_t1_loop i).trips

/-- The state when the results are stored. -/
def pointSt (i : grid0.Coords) (X : In F) (S : St F) : St F :=
  endSt i X (startSt i X (zeroSt i S))

end Cert.KernelIdeal

end
-- ==== Proof.Base.lean ====
/- The setting of the kernel's run: the algebra its assertions live in (the pipeline's and the exchange's rounds), and a
   grid point's scratch buffers and staged blocks as assertions about their values. -/
module

public import proofs.«01_k».proof.Proof.State
public import proofs.«01_k».proof.Proof.Gen.KernelIdeal.Loops
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The whole of a buffer at the value `X`. -/
abbrev at_ (c : Dev nD) {sp : Space} {s : Shape} {e : EltTy} (a : Memref sig .tc sp s e) (X : s.Idx → Elt F e) : sProp 𝕄 :=
  a.view.loc (c : Thread nD τ) ↦[a.view.set]{fullShare} a.view.rep X

/-- The whole of a buffer at some value. -/
abbrev some_ (c : Dev nD) {sp : Space} {s : Shape} {e : EltTy} (a : Memref sig .tc sp s e) : sProp 𝕄 :=
  iprop(∃ f, a.view.loc (c : Thread nD τ) ↦[a.view.set]{fullShare} f)

/-! ## Reading back what was stored -/

/-- A load of a window of a buffer at the value `x` reads that window of `x`. -/
theorem ld_rep {sp : Space} {s : Shape} {e : EltTy} (a : Memref sig .tc sp s e) (x : s.Idx → Elt F e) (off size : Fin s.rank → ℕ)
    (inb : ∀ b, off b + size b ≤ s.size b) :
    a.view.readAt (Elt F) (Rect.unit off size inb).toLoadRect (a.view.rep x) = VecWindow.window x off size inb :=
  View.readAt_rep_unit a.view x inb rfl inb

/-- A load of the whole reads the value. -/
theorem ld_rep_full {sp : Space} {s : Shape} {e : EltTy} (a : Memref sig .tc sp s e) (x : s.Idx → Elt F e) (off : Fin s.rank → ℕ)
    (inb : ∀ b, off b + s.size b ≤ s.size b) :
    a.view.readAt (Elt F) (Rect.unit off s.size inb).toLoadRect (a.view.rep x) = x :=
  View.readAt_rep_full a.view x inb

/-- A load of the whole after a store of the whole reads what was stored. -/
theorem cov_full {sp : Space} {s : Shape} {e : EltTy} (a : Memref sig .tc sp s e) (off off' : Fin s.rank → ℕ)
    (inb : ∀ b, off b + s.size b ≤ s.size b) (inb' : ∀ b, off' b + s.size b ≤ s.size b)
    (w : (Rect.unit off' s.size inb').shape.Idx → Elt F e) (L : List (View.Piece (Elt F) s e)) :
    a.view.readCov (⟨Rect.unit off' s.size inb', w⟩ :: L) (Rect.unit off s.size inb).toLoadRect = w :=
  View.readCov_full a.view inb inb' w L

/-- A load of a window just stored reads what was stored. -/
theorem cov_same {sp : Space} {s : Shape} {e : EltTy} (a : Memref sig .tc sp s e) (off size : Fin s.rank → ℕ)
    (inb : ∀ b, off b + size b ≤ s.size b)
    (w : (Rect.unit off size inb).shape.Idx → Elt F e) (L : List (View.Piece (Elt F) s e)) :
    a.view.readCov (⟨Rect.unit off size inb, w⟩ :: L) (Rect.unit off size inb).toLoadRect = w := by
  unfold View.readCov
  rw [View.readAt_unit a.view _ inb rfl inb, View.read_writes_cons_put a.view _ inb w L rfl, VecWindow.window_put_same]

/-- A load of slot 0 after a store into slot 1 reads what slot 0 held. -/
theorem cov_slot0 {sp : Space} (a : Memref sig .tc sp S2x512x512 .f32)
    (w1 : (Rect.unit (s := S2x512x512) ![1, 0, 0] S1x512x512.size inb_S2x512x512_S1x512x512_1_0_0).shape.Idx → Elt F .f32)
    (w0 : (Rect.unit (s := S2x512x512) ![0, 0, 0] S1x512x512.size inb_S2x512x512_S1x512x512_0_0_0).shape.Idx → Elt F .f32)
    (L : List (View.Piece (Elt F) S2x512x512 .f32)) :
    a.view.readCov (⟨Rect.unit (s := S2x512x512) ![1, 0, 0] S1x512x512.size inb_S2x512x512_S1x512x512_1_0_0, w1⟩
        :: ⟨Rect.unit (s := S2x512x512) ![0, 0, 0] S1x512x512.size inb_S2x512x512_S1x512x512_0_0_0, w0⟩ :: L)
      (Rect.unit (s := S2x512x512) ![0, 0, 0] S1x512x512.size inb_S2x512x512_S1x512x512_0_0_0).toLoadRect = w0 := by
  unfold View.readCov
  rw [View.readAt_unit a.view _ inb_S2x512x512_S1x512x512_0_0_0 rfl inb_S2x512x512_S1x512x512_0_0_0, View.read_writes_cons_put a.view _ _ w1 _ rfl,
    VecWindow.window_put_of_disjoint _ _ _ _ _ _ _ 0 (.inl (by decide)), View.read_writes_cons_put a.view _ _ w0 _ rfl, VecWindow.window_put_same]

/-- What a buffer holds after a store of the whole, and after a store of a window. -/
theorem rd_full {sp : Space} {s : Shape} {e : EltTy} (a : Memref sig .tc sp s e) (f : a.view.ty.Contents (Elt F)) (off : Fin s.rank → ℕ)
    (inb : ∀ b, off b + s.size b ≤ s.size b) (w : (Rect.unit off s.size inb).shape.Idx → Elt F e) (L : List (View.Piece (Elt F) s e)) :
    a.view.read (Elt F) (a.view.writes (Elt F) f (⟨Rect.unit off s.size inb, w⟩ :: L)) = w :=
  View.read_writes_full a.view f inb w L
theorem rd_put {sp : Space} {s : Shape} {e : EltTy} (a : Memref sig .tc sp s e) (f : a.view.ty.Contents (Elt F)) (off size : Fin s.rank → ℕ)
    (inb : ∀ b, off b + size b ≤ s.size b) (w : (Rect.unit off size inb).shape.Idx → Elt F e) (L : List (View.Piece (Elt F) s e)) :
    a.view.read (Elt F) (a.view.writes (Elt F) f (⟨Rect.unit off size inb, w⟩ :: L))
      = VecWindow.put (a.view.read (Elt F) (a.view.writes (Elt F) f L)) off size w :=
  View.read_writes_cons_put a.view f inb w L rfl
theorem rd_nil {sp : Space} {s : Shape} {e : EltTy} (a : Memref sig .tc sp s e) (x : s.Idx → Elt F e) :
    a.view.read (Elt F) (a.view.writes (Elt F) (a.view.rep x) []) = x := by
  rw [View.writes_nil, View.read_rep]

/-- A buffer whose contents read `X` is the buffer at the value `X`. -/
theorem at_of_read (c : Dev nD) {sp : Space} {s : Shape} {e : EltTy} (a : Memref sig .tc sp s e)
    (g : Buf (Elt F) (a.view.loc (c : Thread nD τ))) (X : s.Idx → Elt F e) :
    iprop((a.view.loc (c : Thread nD τ) ↦[a.view.set]{fullShare} g) ∗ ⌜a.view.read (Elt F) g = X⌝ : sProp 𝕄) ⊢ at_ c a X := by
  iintro ⟨H, %h⟩
  iapply (pointsTo_rep_of_read (c : Thread nD τ) a g fullShare X h)
  iexact H

end Cert.KernelIdeal

end
-- ==== Proof.Exch.lean ====
/- The exchange's setting: fifteen copies to the three peer chips, each with a send and a receive semaphore; who may
   signal which semaphore how often, what a completed copy hands over, and the rules for starting and awaiting one. -/
module

public import proofs.«01_k».proof.Proof.Base
public import proofs.«01_k».proof.Proof.Gen.KernelIdeal.Launch

@[expose] public section

set_option maxRecDepth 16384

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F] [Named F]

local notation "𝕄" => MT nD τ sig Unit (Elt F) ℕ UU ℕ

/-! ## Peers, semaphores and blocks -/

set_option backward.proofsInPublic true in
/-- The chip copy `k` goes to, on the same core: across the first mesh axis, the second, or both. -/
def peer (k : Fin 15) (c : Dev nD) : Dev nD :=
  match k.val % 3 with
  | 0 => ⟨(c.val + 4) % 8, Nat.mod_lt _ (by decide)⟩
  | 1 => ⟨4 * (c.val / 4) + (c.val + 2) % 4, by have := c.isLt; show _ < 8; have : c.val < 8 := this; omega⟩
  | _ => ⟨4 * ((c.val / 4 + 1) % 2) + (c.val + 2) % 4, by show _ < 8; omega⟩
theorem peer_peer (k : Fin 15) (c : Dev nD) : peer k (peer k c) = c := by revert k c; decide

/-- The first grid point, where the copies start. -/
def first : grid0.Coords := grid0.coords ⟨0, by decide⟩
theorem cond1_first : k0_cond1 first = 1#1 := by decide +kernel

abbrev sendSem (k : Fin 15) : DmaSem sig := ⟨18 + k.val, by have := k.isLt; show _ < 48; omega⟩
abbrev recvSem (k : Fin 15) : DmaSem sig := ⟨33 + k.val, by have := k.isLt; show _ < 48; omega⟩
abbrev sendCell (k : Fin 15) (c : Dev nD) : GSem nD τ sig := ((c : Thread nD τ), .dma (sendSem k))
abbrev recvCell (k : Fin 15) (c : Dev nD) : GSem nD τ sig := ((c : Thread nD τ), .dma (recvSem k))

/-- The shape of the block copy `k` carries: three copies (one per peer chip) of each of the five arrays. -/
abbrev csh : Fin 15 → Shape
  | 0 => S1024x512
  | 1 => S1024x512
  | 2 => S1024x512
  | 3 => S512x1024
  | 4 => S512x1024
  | 5 => S512x1024
  | 6 => S128x1024
  | 7 => S128x1024
  | 8 => S128x1024
  | 9 => S128x1024
  | 10 => S128x1024
  | 11 => S128x1024
  | 12 => S128x1024
  | 13 => S128x1024
  | 14 => S128x1024

/-- The block copy `k` reads on device `c`: the row of its array meant for the peer. -/
abbrev srcM : (k : Fin 15) → Dev nD → Memref sig .tc .hbm (csh k) .bf16
  | 0, c => ((Memref.whole main_arg6).slice (Rect.unit (s := S4x1024x512) (k0_off1 c) S1x1024x512.size (k0_off1_inb first c cond1_first)) (fun _ => rfl)).squeeze S1024x512 squeezes_S1x1024x512_S1024x512
  | 1, c => ((Memref.whole main_arg6).slice (Rect.unit (s := S4x1024x512) (k0_off2 c) S1x1024x512.size (k0_off2_inb first c cond1_first)) (fun _ => rfl)).squeeze S1024x512 squeezes_S1x1024x512_S1024x512
  | 2, c => ((Memref.whole main_arg6).slice (Rect.unit (s := S4x1024x512) (k0_off3 c) S1x1024x512.size (k0_off3_inb first c cond1_first)) (fun _ => rfl)).squeeze S1024x512 squeezes_S1x1024x512_S1024x512
  | 3, c => ((Memref.whole main_arg7).slice (Rect.unit (s := S4x512x1024) (k0_off4 c) S1x512x1024.size (k0_off4_inb first c cond1_first)) (fun _ => rfl)).squeeze S512x1024 squeezes_S1x512x1024_S512x1024
  | 4, c => ((Memref.whole main_arg7).slice (Rect.unit (s := S4x512x1024) (k0_off5 c) S1x512x1024.size (k0_off5_inb first c cond1_first)) (fun _ => rfl)).squeeze S512x1024 squeezes_S1x512x1024_S512x1024
  | 5, c => ((Memref.whole main_arg7).slice (Rect.unit (s := S4x512x1024) (k0_off6 c) S1x512x1024.size (k0_off6_inb first c cond1_first)) (fun _ => rfl)).squeeze S512x1024 squeezes_S1x512x1024_S512x1024
  | 6, c => ((Memref.whole main_arg8).slice (Rect.unit (s := S4x128x1024) (k0_off7 c) S1x128x1024.size (k0_off7_inb first c cond1_first)) (fun _ => rfl)).squeeze S128x1024 squeezes_S1x128x1024_S128x1024
  | 7, c => ((Memref.whole main_arg8).slice (Rect.unit (s := S4x128x1024) (k0_off8 c) S1x128x1024.size (k0_off8_inb first c cond1_first)) (fun _ => rfl)).squeeze S128x1024 squeezes_S1x128x1024_S128x1024
  | 8, c => ((Memref.whole main_arg8).slice (Rect.unit (s := S4x128x1024) (k0_off9 c) S1x128x1024.size (k0_off9_inb first c cond1_first)) (fun _ => rfl)).squeeze S128x1024 squeezes_S1x128x1024_S128x1024
  | 9, c => ((Memref.whole main_arg9).slice (Rect.unit (s := S4x128x1024) (k0_off7 c) S1x128x1024.size (k0_off7_inb first c cond1_first)) (fun _ => rfl)).squeeze S128x1024 squeezes_S1x128x1024_S128x1024
  | 10, c => ((Memref.whole main_arg9).slice (Rect.unit (s := S4x128x1024) (k0_off8 c) S1x128x1024.size (k0_off8_inb first c cond1_first)) (fun _ => rfl)).squeeze S128x1024 squeezes_S1x128x1024_S128x1024
  | 11, c => ((Memref.whole main_arg9).slice (Rect.unit (s := S4x128x1024) (k0_off9 c) S1x128x1024.size (k0_off9_inb first c cond1_first)) (fun _ => rfl)).squeeze S128x1024 squeezes_S1x128x1024_S128x1024
  | 12, c => ((Memref.whole main_arg10).slice (Rect.unit (s := S4x128x1024) (k0_off7 c) S1x128x1024.size (k0_off7_inb first c cond1_first)) (fun _ => rfl)).squeeze S128x1024 squeezes_S1x128x1024_S128x1024
  | 13, c => ((Memref.whole main_arg10).slice (Rect.unit (s := S4x128x1024) (k0_off8 c) S1x128x1024.size (k0_off8_inb first c cond1_first)) (fun _ => rfl)).squeeze S128x1024 squeezes_S1x128x1024_S128x1024
  | 14, c => ((Memref.whole main_arg10).slice (Rect.unit (s := S4x128x1024) (k0_off9 c) S1x128x1024.size (k0_off9_inb first c cond1_first)) (fun _ => rfl)).squeeze S128x1024 squeezes_S1x128x1024_S128x1024

/-- The block copy `k` writes on the peer: slot `k % 3` of the received array. -/
abbrev dstM : (k : Fin 15) → Memref sig .tc .hbm (csh k) .bf16
  | 0 => ((Memref.whole main_v1_3).slice (Rect.unit (s := S3x1024x512) ![0, 0, 0] S1x1024x512.size inb_S3x1024x512_S1x1024x512_0_0_0) (fun _ => rfl)).squeeze S1024x512 squeezes_S1x1024x512_S1024x512
  | 1 => ((Memref.whole main_v1_3).slice (Rect.unit (s := S3x1024x512) ![1, 0, 0] S1x1024x512.size inb_S3x1024x512_S1x1024x512_1_0_0) (fun _ => rfl)).squeeze S1024x512 squeezes_S1x1024x512_S1024x512
  | 2 => ((Memref.whole main_v1_3).slice (Rect.unit (s := S3x1024x512) ![2, 0, 0] S1x1024x512.size inb_S3x1024x512_S1x1024x512_2_0_0) (fun _ => rfl)).squeeze S1024x512 squeezes_S1x1024x512_S1024x512
  | 3 => ((Memref.whole main_v1_4).slice (Rect.unit (s := S3x512x1024) ![0, 0, 0] S1x512x1024.size inb_S3x512x1024_S1x512x1024_0_0_0) (fun _ => rfl)).squeeze S512x1024 squeezes_S1x512x1024_S512x1024
  | 4 => ((Memref.whole main_v1_4).slice (Rect.unit (s := S3x512x1024) ![1, 0, 0] S1x512x1024.size inb_S3x512x1024_S1x512x1024_1_0_0) (fun _ => rfl)).squeeze S512x1024 squeezes_S1x512x1024_S512x1024
  | 5 => ((Memref.whole main_v1_4).slice (Rect.unit (s := S3x512x1024) ![2, 0, 0] S1x512x1024.size inb_S3x512x1024_S1x512x1024_2_0_0) (fun _ => rfl)).squeeze S512x1024 squeezes_S1x512x1024_S512x1024
  | 6 => ((Memref.whole main_v1_5).slice (Rect.unit (s := S3x128x1024) ![0, 0, 0] S1x128x1024.size inb_S3x128x1024_S1x128x1024_0_0_0) (fun _ => rfl)).squeeze S128x1024 squeezes_S1x128x1024_S128x1024
  | 7 => ((Memref.whole main_v1_5).slice (Rect.unit (s := S3x128x1024) ![1, 0, 0] S1x128x1024.size inb_S3x128x1024_S1x128x1024_1_0_0) (fun _ => rfl)).squeeze S128x1024 squeezes_S1x128x1024_S128x1024
  | 8 => ((Memref.whole main_v1_5).slice (Rect.unit (s := S3x128x1024) ![2, 0, 0] S1x128x1024.size inb_S3x128x1024_S1x128x1024_2_0_0) (fun _ => rfl)).squeeze S128x1024 squeezes_S1x128x1024_S128x1024
  | 9 => ((Memref.whole main_v1_6).slice (Rect.unit (s := S3x128x1024) ![0, 0, 0] S1x128x1024.size inb_S3x128x1024_S1x128x1024_0_0_0) (fun _ => rfl)).squeeze S128x1024 squeezes_S1x128x1024_S128x1024
  | 10 => ((Memref.whole main_v1_6).slice (Rect.unit (s := S3x128x1024) ![1, 0, 0] S1x128x1024.size inb_S3x128x1024_S1x128x1024_1_0_0) (fun _ => rfl)).squeeze S128x1024 squeezes_S1x128x1024_S128x1024
  | 11 => ((Memref.whole main_v1_6).slice (Rect.unit (s := S3x128x1024) ![2, 0, 0] S1x128x1024.size inb_S3x128x1024_S1x128x1024_2_0_0) (fun _ => rfl)).squeeze S128x1024 squeezes_S1x128x1024_S128x1024
  | 12 => ((Memref.whole main_v1_7).slice (Rect.unit (s := S3x128x1024) ![0, 0, 0] S1x128x1024.size inb_S3x128x1024_S1x128x1024_0_0_0) (fun _ => rfl)).squeeze S128x1024 squeezes_S1x128x1024_S128x1024
  | 13 => ((Memref.whole main_v1_7).slice (Rect.unit (s := S3x128x1024) ![1, 0, 0] S1x128x1024.size inb_S3x128x1024_S1x128x1024_1_0_0) (fun _ => rfl)).squeeze S128x1024 squeezes_S1x128x1024_S128x1024
  | 14 => ((Memref.whole main_v1_7).slice (Rect.unit (s := S3x128x1024) ![2, 0, 0] S1x128x1024.size inb_S3x128x1024_S1x128x1024_2_0_0) (fun _ => rfl)).squeeze S128x1024 squeezes_S1x128x1024_S128x1024

/-! The two semaphores of copy `k`, as the kernel reaches them in its two arrays. -/

theorem send0 : ((cc0_scratch5.slice (Rect.unit (s := S15) ![0] S1.size inb_S15_S1_0)).squeeze S_ squeezes_S1_S_).sem = sendSem 0 := rfl
theorem recv0 : ((cc0_scratch6.slice (Rect.unit (s := S15) ![0] S1.size inb_S15_S1_0)).squeeze S_ squeezes_S1_S_).sem = recvSem 0 := rfl
theorem send1 : ((cc0_scratch5.slice (Rect.unit (s := S15) ![1] S1.size inb_S15_S1_1)).squeeze S_ squeezes_S1_S_).sem = sendSem 1 := rfl
theorem recv1 : ((cc0_scratch6.slice (Rect.unit (s := S15) ![1] S1.size inb_S15_S1_1)).squeeze S_ squeezes_S1_S_).sem = recvSem 1 := rfl
theorem send2 : ((cc0_scratch5.slice (Rect.unit (s := S15) ![2] S1.size inb_S15_S1_2)).squeeze S_ squeezes_S1_S_).sem = sendSem 2 := rfl
theorem recv2 : ((cc0_scratch6.slice (Rect.unit (s := S15) ![2] S1.size inb_S15_S1_2)).squeeze S_ squeezes_S1_S_).sem = recvSem 2 := rfl
theorem send3 : ((cc0_scratch5.slice (Rect.unit (s := S15) ![3] S1.size inb_S15_S1_3)).squeeze S_ squeezes_S1_S_).sem = sendSem 3 := rfl
theorem recv3 : ((cc0_scratch6.slice (Rect.unit (s := S15) ![3] S1.size inb_S15_S1_3)).squeeze S_ squeezes_S1_S_).sem = recvSem 3 := rfl
theorem send4 : ((cc0_scratch5.slice (Rect.unit (s := S15) ![4] S1.size inb_S15_S1_4)).squeeze S_ squeezes_S1_S_).sem = sendSem 4 := rfl
theorem recv4 : ((cc0_scratch6.slice (Rect.unit (s := S15) ![4] S1.size inb_S15_S1_4)).squeeze S_ squeezes_S1_S_).sem = recvSem 4 := rfl
theorem send5 : ((cc0_scratch5.slice (Rect.unit (s := S15) ![5] S1.size inb_S15_S1_5)).squeeze S_ squeezes_S1_S_).sem = sendSem 5 := rfl
theorem recv5 : ((cc0_scratch6.slice (Rect.unit (s := S15) ![5] S1.size inb_S15_S1_5)).squeeze S_ squeezes_S1_S_).sem = recvSem 5 := rfl
theorem send6 : ((cc0_scratch5.slice (Rect.unit (s := S15) ![6] S1.size inb_S15_S1_6)).squeeze S_ squeezes_S1_S_).sem = sendSem 6 := rfl
theorem recv6 : ((cc0_scratch6.slice (Rect.unit (s := S15) ![6] S1.size inb_S15_S1_6)).squeeze S_ squeezes_S1_S_).sem = recvSem 6 := rfl
theorem send7 : ((cc0_scratch5.slice (Rect.unit (s := S15) ![7] S1.size inb_S15_S1_7)).squeeze S_ squeezes_S1_S_).sem = sendSem 7 := rfl
theorem recv7 : ((cc0_scratch6.slice (Rect.unit (s := S15) ![7] S1.size inb_S15_S1_7)).squeeze S_ squeezes_S1_S_).sem = recvSem 7 := rfl
theorem send8 : ((cc0_scratch5.slice (Rect.unit (s := S15) ![8] S1.size inb_S15_S1_8)).squeeze S_ squeezes_S1_S_).sem = sendSem 8 := rfl
theorem recv8 : ((cc0_scratch6.slice (Rect.unit (s := S15) ![8] S1.size inb_S15_S1_8)).squeeze S_ squeezes_S1_S_).sem = recvSem 8 := rfl
theorem send9 : ((cc0_scratch5.slice (Rect.unit (s := S15) ![9] S1.size inb_S15_S1_9)).squeeze S_ squeezes_S1_S_).sem = sendSem 9 := rfl
theorem recv9 : ((cc0_scratch6.slice (Rect.unit (s := S15) ![9] S1.size inb_S15_S1_9)).squeeze S_ squeezes_S1_S_).sem = recvSem 9 := rfl
theorem send10 : ((cc0_scratch5.slice (Rect.unit (s := S15) ![10] S1.size inb_S15_S1_10)).squeeze S_ squeezes_S1_S_).sem = sendSem 10 := rfl
theorem recv10 : ((cc0_scratch6.slice (Rect.unit (s := S15) ![10] S1.size inb_S15_S1_10)).squeeze S_ squeezes_S1_S_).sem = recvSem 10 := rfl
theorem send11 : ((cc0_scratch5.slice (Rect.unit (s := S15) ![11] S1.size inb_S15_S1_11)).squeeze S_ squeezes_S1_S_).sem = sendSem 11 := rfl
theorem recv11 : ((cc0_scratch6.slice (Rect.unit (s := S15) ![11] S1.size inb_S15_S1_11)).squeeze S_ squeezes_S1_S_).sem = recvSem 11 := rfl
theorem send12 : ((cc0_scratch5.slice (Rect.unit (s := S15) ![12] S1.size inb_S15_S1_12)).squeeze S_ squeezes_S1_S_).sem = sendSem 12 := rfl
theorem recv12 : ((cc0_scratch6.slice (Rect.unit (s := S15) ![12] S1.size inb_S15_S1_12)).squeeze S_ squeezes_S1_S_).sem = recvSem 12 := rfl
theorem send13 : ((cc0_scratch5.slice (Rect.unit (s := S15) ![13] S1.size inb_S15_S1_13)).squeeze S_ squeezes_S1_S_).sem = sendSem 13 := rfl
theorem recv13 : ((cc0_scratch6.slice (Rect.unit (s := S15) ![13] S1.size inb_S15_S1_13)).squeeze S_ squeezes_S1_S_).sem = recvSem 13 := rfl
theorem send14 : ((cc0_scratch5.slice (Rect.unit (s := S15) ![14] S1.size inb_S15_S1_14)).squeeze S_ squeezes_S1_S_).sem = sendSem 14 := rfl
theorem recv14 : ((cc0_scratch6.slice (Rect.unit (s := S15) ![14] S1.size inb_S15_S1_14)).squeeze S_ squeezes_S1_S_).sem = recvSem 14 := rfl

/-! The device each copy addresses is the peer. -/

theorem dev1 (c : Dev nD) (h : k0_dev1 c < nD) : (⟨k0_dev1 c, h⟩ : Dev nD) = peer 0 c := by
  refine Fin.ext ?_; show k0_dev1 c = _; rw [k0_dev1_eq c]; revert c; decide
theorem dev2 (c : Dev nD) (h : k0_dev2 c < nD) : (⟨k0_dev2 c, h⟩ : Dev nD) = peer 1 c := by
  refine Fin.ext ?_; show k0_dev2 c = _; rw [k0_dev2_eq c]; revert c; decide
theorem dev3 (c : Dev nD) (h : k0_dev3 c < nD) : (⟨k0_dev3 c, h⟩ : Dev nD) = peer 2 c := by
  refine Fin.ext ?_; show k0_dev3 c = _; rw [k0_dev3_eq c]; revert c; decide
theorem dev4 (c : Dev nD) (h : k0_dev4 c < nD) : (⟨k0_dev4 c, h⟩ : Dev nD) = peer 3 c := by
  refine Fin.ext ?_; show k0_dev4 c = _; rw [k0_dev4_eq c]; revert c; decide
theorem dev5 (c : Dev nD) (h : k0_dev5 c < nD) : (⟨k0_dev5 c, h⟩ : Dev nD) = peer 4 c := by
  refine Fin.ext ?_; show k0_dev5 c = _; rw [k0_dev5_eq c]; revert c; decide
theorem dev6 (c : Dev nD) (h : k0_dev6 c < nD) : (⟨k0_dev6 c, h⟩ : Dev nD) = peer 5 c := by
  refine Fin.ext ?_; show k0_dev6 c = _; rw [k0_dev6_eq c]; revert c; decide
theorem dev7 (c : Dev nD) (h : k0_dev7 c < nD) : (⟨k0_dev7 c, h⟩ : Dev nD) = peer 6 c := by
  refine Fin.ext ?_; show k0_dev7 c = _; rw [k0_dev7_eq c]; revert c; decide
theorem dev8 (c : Dev nD) (h : k0_dev8 c < nD) : (⟨k0_dev8 c, h⟩ : Dev nD) = peer 7 c := by
  refine Fin.ext ?_; show k0_dev8 c = _; rw [k0_dev8_eq c]; revert c; decide
theorem dev9 (c : Dev nD) (h : k0_dev9 c < nD) : (⟨k0_dev9 c, h⟩ : Dev nD) = peer 8 c := by
  refine Fin.ext ?_; show k0_dev9 c = _; rw [k0_dev9_eq c]; revert c; decide
theorem dev10 (c : Dev nD) (h : k0_dev10 c < nD) : (⟨k0_dev10 c, h⟩ : Dev nD) = peer 9 c := by
  refine Fin.ext ?_; show k0_dev10 c = _; rw [k0_dev10_eq c]; revert c; decide
theorem dev11 (c : Dev nD) (h : k0_dev11 c < nD) : (⟨k0_dev11 c, h⟩ : Dev nD) = peer 10 c := by
  refine Fin.ext ?_; show k0_dev11 c = _; rw [k0_dev11_eq c]; revert c; decide
theorem dev12 (c : Dev nD) (h : k0_dev12 c < nD) : (⟨k0_dev12 c, h⟩ : Dev nD) = peer 11 c := by
  refine Fin.ext ?_; show k0_dev12 c = _; rw [k0_dev12_eq c]; revert c; decide
theorem dev13 (c : Dev nD) (h : k0_dev13 c < nD) : (⟨k0_dev13 c, h⟩ : Dev nD) = peer 12 c := by
  refine Fin.ext ?_; show k0_dev13 c = _; rw [k0_dev13_eq c]; revert c; decide
theorem dev14 (c : Dev nD) (h : k0_dev14 c < nD) : (⟨k0_dev14 c, h⟩ : Dev nD) = peer 13 c := by
  refine Fin.ext ?_; show k0_dev14 c = _; rw [k0_dev14_eq c]; revert c; decide
theorem dev15 (c : Dev nD) (h : k0_dev15 c < nD) : (⟨k0_dev15 c, h⟩ : Dev nD) = peer 14 c := by
  refine Fin.ext ?_; show k0_dev15 c = _; rw [k0_dev15_eq c]; revert c; decide

/-- What completing copy `k` adds to a semaphore. -/
abbrev amt (k : Fin 15) : ℕ := (dstM k).view.dmaCredit
theorem amt_pos : ∀ k, 0 < amt k := fun k => View.dmaCredit_pos _ (by revert k; decide)

/-- The amount is the shape's alone. -/
theorem credit {s : Shape} (v w : View sig .tc .hbm s .bf16) : v.dmaCredit = w.dmaCredit := rfl

/-! ## The schedule: each cell has one round of one signal -/

/-- The copy whose receive semaphore this is. -/
def recvIx : SemLoc sig → Option (Fin 15)
  | .dma q => if h : 33 ≤ q.val ∧ q.val < 48 then some ⟨q.val - 33, by omega⟩ else none
  | _ => none
/-- The copy whose send semaphore this is. -/
def sendIx : SemLoc sig → Option (Fin 15)
  | .dma q => if h : 18 ≤ q.val ∧ q.val < 33 then some ⟨q.val - 18, by omega⟩ else none
  | _ => none
theorem recvIx_recv : ∀ k, recvIx (.dma (recvSem k)) = some k := by decide
theorem recvIx_send : ∀ k, recvIx (.dma (sendSem k)) = none := by decide
theorem sendIx_send : ∀ k, sendIx (.dma (sendSem k)) = some k := by decide

variable (m : (ℓ : Loc nD τ sig) → Buf (Elt F) ℓ)

/-- What copy `k` brings device `c`: the peer's block. -/
def landed (k : Fin 15) (c : Dev nD) : (csh k).Idx → Elt F .bf16 :=
  (srcM k (peer k c)).view.read (Elt F) (m ((srcM k (peer k c)).view.loc (peer k c : Thread nD τ)))

/-- Device `c`'s slot for copy `k`, filled. -/
def got (k : Fin 15) (c : Dev nD) : sProp 𝕄 := owns (c : Thread nD τ) (dstM k) fullShare (landed m k c)
/-- Device `c`'s slot for copy `k` at any contents. -/
def slot (k : Fin 15) (c : Dev nD) : sProp 𝕄 :=
  iprop(∃ f : Buf (Elt F) ((dstM k).view.loc (c : Thread nD τ)), (dstM k).view.loc (c : Thread nD τ) ↦[(dstM k).view.set]{fullShare} f)

/-- The share of a source array each of its three copies reads at. -/
def shr (k : Fin 15) : PosShare TreeShare :=
  match k.val % 3 with
  | 0 => fullShare.right.left
  | 1 => fullShare.right.right.left
  | _ => fullShare.right.right.right
/-- The block copy `k` reads, at its share. -/
def src (k : Fin 15) (c : Dev nD) : sProp 𝕄 :=
  (srcM k c).view.loc (c : Thread nD τ) ↦[(srcM k c).view.set]{shr k} m ((srcM k c).view.loc (c : Thread nD τ))

omit [FloatOps F] [Named F] in
instance got_storable (k : Fin 15) (c : Dev nD) : BI.Storable (upEmb : UEmb _ 𝕄) (got (F := F) m k c) := by unfold got; infer_instance

def sch : Rounds.Schedule (GSem nD τ sig) Bool 𝕄 where
  duties g r := if r = 0 ∧ g.1.2 = .tc ∧ ((recvIx g.2).isSome ∨ (sendIx g.2).isSome) then {false} else ∅
  unitless _ := False
  amount g _ _ := match recvIx g.2 with
    | some k => amt k
    | none => match sendIx g.2 with
      | some k => amt k
      | none => 1
  payload g _ _ := match recvIx g.2 with
    | some k => got m k g.1.1
    | none => iprop(emp)
  amount_pos g _ _ _ := by
    (repeat' split) <;> first | exact amt_pos _ | exact Nat.one_pos

omit [FloatOps F] [Named F] in
instance sch_storable (g : GSem nD τ sig) (r : ℕ) (d : Bool) : BI.Storable (upEmb : UEmb _ 𝕄) ((sch (F := F) m).payload g r d) := by
  show BI.Storable upEmb (match recvIx g.2 with | some k => got m k g.1.1 | none => iprop(emp))
  split <;> infer_instance

section Sched
variable (k : Fin 15) (c : Dev nD)

omit [FloatOps F] [Named F] in
theorem duties_recv : (sch (F := F) m).duties (recvCell k c) 0 = {false} := by
  dsimp only [sch]; exact if_pos ⟨rfl, rfl, .inl (by rw [recvIx_recv]; rfl)⟩
omit [FloatOps F] [Named F] in
theorem duties_send : (sch (F := F) m).duties (sendCell k c) 0 = {false} := by
  dsimp only [sch]; exact if_pos ⟨rfl, rfl, .inr (by rw [sendIx_send]; rfl)⟩
omit [FloatOps F] [Named F] in
theorem duties_later (g : GSem nD τ sig) : ∀ r, 1 ≤ r → (sch (F := F) m).duties g r = ∅ :=
  fun r hr => by dsimp only [sch]; rw [if_neg fun h => by omega]
omit [FloatOps F] [Named F] in
theorem amount_recv (d : Bool) : (sch (F := F) m).amount (recvCell k c) 0 d = amt k := by dsimp only [sch]; rw [recvIx_recv]
omit [FloatOps F] [Named F] in
theorem amount_send (d : Bool) : (sch (F := F) m).amount (sendCell k c) 0 d = amt k := by dsimp only [sch]; rw [recvIx_send, sendIx_send]
omit [FloatOps F] [Named F] in
theorem expect_recv : (sch (F := F) m).expect (recvCell k c) 0 = amt k := by
  unfold Schedule.expect Schedule.amountOf; rw [duties_recv, Finset.sum_singleton, amount_recv]
omit [FloatOps F] [Named F] in
theorem expect_send : (sch (F := F) m).expect (sendCell k c) 0 = amt k := by
  unfold Schedule.expect Schedule.amountOf; rw [duties_send, Finset.sum_singleton, amount_send]
omit [FloatOps F] [Named F] in
theorem payload_recv (d : Bool) : (sch (F := F) m).payload (recvCell k c) 0 d = got m k c := by dsimp only [sch]; rw [recvIx_recv]
omit [FloatOps F] [Named F] in
theorem payload_send (d : Bool) : (sch (F := F) m).payload (sendCell k c) 0 d = iprop(emp) := by dsimp only [sch]; rw [recvIx_send]
omit [FloatOps F] [Named F] in
theorem rest_recv : bigSep ((sch (F := F) m).duties (recvCell k c) 0 \ ∅) (fun d => (sch (F := F) m).payload (recvCell k c) 0 d) = got m k c := by
  rw [Finset.sdiff_empty, duties_recv, bigSep_singleton, payload_recv]

end Sched

/-- What device `c` still owes when the copies from the `n`-th on are to be started. -/
def owing (n : ℕ) (c : Dev nD) : CellTallies nD τ sig Unit :=
  ∑ k ∈ Finset.univ.filter (fun k : Fin 15 => n ≤ k.val), tallyAt (recvCell k (peer k c)) () (amt k)
theorem owing_step (k : Fin 15) (c : Dev nD) : owing k.val c = owing (k.val + 1) c + tallyAt (recvCell k (peer k c)) () (amt k) := by
  unfold owing
  rw [show Finset.univ.filter (fun j : Fin 15 => k.val ≤ j.val) = insert k (Finset.univ.filter (fun j : Fin 15 => k.val + 1 ≤ j.val)) from by
    ext j; simp only [Finset.mem_filter, Finset.mem_univ, true_and, Finset.mem_insert, Fin.ext_iff]; omega]
  rw [Finset.sum_insert (by simp), add_comm]
theorem owing_end (c : Dev nD) : owing 15 c = 0 := by
  unfold owing
  rw [show Finset.univ.filter (fun j : Fin 15 => 15 ≤ j.val) = ∅ from by ext j; simp, Finset.sum_empty]

/-! ## A copy before it starts, in flight, and completed -/

/-- A cell's invariant, under some name. -/
def inv (g : GSem nD τ sig) : sProp 𝕄 := iprop(∃ κ : ℕ, cellInv ER (sch m) κ g)
instance inv_persistent (g : GSem nD τ sig) : BI.Persistent (inv (F := F) m g) := by unfold inv; infer_instance

/-- What device `c` holds of copy `k` before starting it: its block, the peer's slot, the two signals' tokens, and its own
    two cells' positions. -/
def ready (k : Fin 15) (c : Dev nD) : sProp 𝕄 :=
  iprop((inv m (sendCell k c) ∗ inv m (recvCell k c) ∗ inv m (recvCell k (peer k c)) ∗ reached ER (sendCell k c) 0 ∗ reached ER (recvCell k (peer k c)) 0)
    ∗ src m k c ∗ slot k (peer k c) ∗ dutyTok ER (sendCell k c) 0 false ∗ dutyTok ER (recvCell k (peer k c)) 0 false
    ∗ cred (tallyAt (recvCell k c) () (amt k)) ∗ atPos ER (sendCell k c) 0 ∅ 0 ∗ atPos ER (recvCell k c) 0 ∅ 0)

/-- The send half in flight; the receive half in flight. -/
def outgoing (k : Fin 15) (c : Dev nD) : sProp 𝕄 :=
  iprop(inv m (sendCell k c) ∗ cred (tallyAt (sendCell k c) () (amt k)) ∗ atPos ER (sendCell k c) 0 ∅ 0)
def incoming (k : Fin 15) (c : Dev nD) : sProp 𝕄 :=
  iprop(inv m (recvCell k c) ∗ cred (tallyAt (recvCell k c) () (amt k)) ∗ atPos ER (recvCell k c) 0 ∅ 0)
/-- Copy `k` in flight, both ways. -/
def flying (k : Fin 15) (c : Dev nD) : sProp 𝕄 := iprop(outgoing m k c ∗ incoming m k c)
/-- Copy `k` completed both ways: the slot filled, the two semaphores back at zero. -/
def done (k : Fin 15) (c : Dev nD) : sProp 𝕄 := iprop(semVal (sendCell k c) 0 ∗ got m k c ∗ semVal (recvCell k c) 0)

/-! ## The rules -/

/-- Starting copy `k`. -/
theorem wp_start (k : Fin 15) (c n : Dev nD) (hn : n = peer k c)
    {hsc : (dstM k : Memref sig (Dev.tc n : Thread nD τ).2.kind .hbm (csh k) .bf16).view.ref.isScScratch = false}
    {hsrc : (srcM k c).view.WordExact} {hdst : (dstM k).view.WordExact}
    {hsem : DmaTarget.Typed .hbm (.dma (recvSem k)) (.remote (Dev.tc n : Thread nD τ) (dstM k) (.dma (sendSem k)) hsc)}
    {α : Type} {Q : α → sProp 𝕄} {K : PUnit → Prog (TpuEff nD τ sig (Elt F) Λ₀ .tc) α} (W : Waits sig Unit) (n₀ n₁ : ℕ) (h₀ : n₀ = k.val) (h₁ : n₁ = k.val + 1) :
    iprop(ready m k c ∗ owes (c : Thread nD τ) (owing n₀ c) W)
      ⊢ iprop(((flying m k c ∗ owes (c : Thread nD τ) (owing n₁ c) W) -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (srcM k c) (.remote (Dev.tc n : Thread nD τ) (dstM k) (.dma (sendSem k)) hsc) (.dma (recvSem k)) hsrc hdst hsem) K) Q) := by
  subst hn h₀ h₁
  unfold ready src slot flying outgoing incoming inv
  iintro ⟨⟨⟨⟨%κ₁, #I1⟩, ⟨%κ₂, #I2⟩, ⟨%κ₃, #I3⟩, #R1, #R2⟩, Hs, ⟨%fd, Hd⟩, T1, T2, Hc, A1, A2⟩, HO⟩ HK
  iapply (Rounds.wp_send_pointsTo 𝒱₀ ER (sch m) (c : Thread nD τ) none (κ₁ := κ₁) (κ₂ := κ₃)
    (r₁ := 0) (r₂ := 0) (d₁ := false) (d₂ := false) (fd := fd) (q := shr k)
    (fs := m ((srcM k c).view.loc (c : Thread nD τ)))
    (by rw [duties_send m k c]; exact Finset.mem_singleton_self _) (by rw [duties_recv m k (peer k c)]; exact Finset.mem_singleton_self _)
    () () (amt k) rfl (amount_send m k c false) (amount_recv m k (peer k c) false) (owing (k.val + 1) c) (owing_step k c) (W := W)
    (by rw [payload_send]; iintro -; iempintro)
    (by
      rw [payload_recv]; unfold got owns
      iintro H
      iexists _
      isplitr
      swap
      · iexact H
      · ipureintro; rw [View.read_write_univ]; unfold landed; rw [peer_peer])) $$ [Hs Hd HO T1 T2]
  · isplitr; · iexact I1
    isplitr; · iexact I3
    isplitl [Hs]; · iexact Hs
    isplitl [Hd]; · iexact Hd
    isplitl [HO]; · iexact HO
    isplitl [T1]; · iexact T1
    isplitr; · iexact R1
    isplitl [T2]; · iexact T2
    iexact R2
  iintro ⟨Hcs, HO⟩
  iapply HK
  isplitr [HO]
  · isplitl [Hcs A1]
    · isplitr; · iexists κ₁; iexact I1
      isplitl [Hcs]; · iexact Hcs
      iexact A1
    · isplitr; · iexists κ₂; iexact I2
      isplitl [Hc]; · iexact Hc
      iexact A2
  · iexact HO

/-- Awaiting copy `k`'s departure. -/
theorem wp_sent (k : Fin 15) (c : Dev nD) (W : Waits sig Unit)
    {a b : Memref sig .tc .hbm (csh k) .bf16} {ha : a.view.WordExact} {hb : b.view.WordExact}
    {α : Type} {Q : α → sProp 𝕄} {K : PUnit → Prog (TpuEff nD τ sig (Elt F) Λ₀ .tc) α} :
    iprop(outgoing m k c ∗ owes (c : Thread nD τ) 0 W)
      ⊢ iprop(((semVal (sendCell k c) 0 ∗ ∃ W', owes (c : Thread nD τ) 0 W') -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 (sendSem k) a b ha hb) K) Q) := by
  unfold outgoing inv
  have hN : b.view.dmaCredit = amt k := credit b.view (dstM k).view
  rw [← hN]
  iintro ⟨⟨⟨%κ, #I⟩, Hc, A⟩, HO⟩ HK
  iapply (Rounds.wp_wait_rest_token 𝒱₀ ER (sch m) (c : Thread nD τ) none (κ := κ)
      (wpE_waitDma2_eq 𝒱₀ (c : Thread nD τ) none Set.univ) (Set.mem_univ _) () (O := 0) (W := W) (R := 0) (m := 0) (T := ∅)
      (by rw [Nat.zero_add, hN, expect_send m k c])) $$ [Hc HO A]
  · isplitr; · iexact I
    isplitl [Hc]; · iexact Hc
    isplitl [HO]; · iexact HO
    isplitr; · rw [MayWait_zero]; iempintro
    iexact A
  iintro ⟨HO, A, -, -⟩
  imod (Rounds.cell_close ER (sch m) (Set.mem_univ κ) (fun h => h) (R := 0 + 1) (duties_later m (sendCell k c))) $$ [A] with Hz
  · isplitr; · iexact I
    iexact A
  iapply HK
  isplitl [Hz]; · iexact Hz
  iexists _; iexact HO

/-- Awaiting copy `k`'s arrival. -/
theorem wp_arrived (k : Fin 15) (c : Dev nD) (W : Waits sig Unit)
    {a b : Memref sig .tc .hbm (csh k) .bf16} {ha : a.view.WordExact} {hb : b.view.WordExact}
    {α : Type} {Q : α → sProp 𝕄} {K : PUnit → Prog (TpuEff nD τ sig (Elt F) Λ₀ .tc) α} :
    iprop(incoming m k c ∗ owes (c : Thread nD τ) 0 W)
      ⊢ iprop((((got m k c ∗ semVal (recvCell k c) 0) ∗ ∃ W', owes (c : Thread nD τ) 0 W') -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 (recvSem k) a b ha hb) K) Q) := by
  unfold incoming inv
  have hN : b.view.dmaCredit = amt k := credit b.view (dstM k).view
  rw [← hN]
  iintro ⟨⟨⟨%κ, #I⟩, Hc, A⟩, HO⟩ HK
  iapply (Rounds.wp_wait_rest_token 𝒱₀ ER (sch m) (c : Thread nD τ) none (κ := κ)
      (wpE_waitDma2_eq 𝒱₀ (c : Thread nD τ) none Set.univ) (Set.mem_univ _) () (O := 0) (W := W) (R := 0) (m := 0) (T := ∅)
      (by rw [Nat.zero_add, hN, expect_recv m k c])) $$ [Hc HO A]
  · isplitr; · iexact I
    isplitl [Hc]; · iexact Hc
    isplitl [HO]; · iexact HO
    isplitr; · rw [MayWait_zero]; iempintro
    iexact A
  iintro ⟨HO, A, -, Hp⟩
  imod (Rounds.cell_close ER (sch m) (Set.mem_univ κ) (fun h => h) (R := 0 + 1) (duties_later m (recvCell k c))) $$ [A] with Hz
  · isplitr; · iexact I
    iexact A
  iapply HK
  isplitl [Hp Hz]
  · isplitl [Hp]; · iapply (Entails.of_eq (rest_recv m k c)); iexact Hp
    iexact Hz
  iexists _; iexact HO

end Cert.KernelIdeal

end
-- ==== Proof.Trip.lean ====
/- One trip of the loop over pairs of query blocks, run once at a symbolic grid point and a symbolic trip. -/
module

public import proofs.«01_k».proof.Proof.Base

@[expose] public section

set_option maxRecDepth 16384

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F] [Named F]

local notation "𝕄" => MT nD τ sig Unit (Elt F) ℕ UU ℕ

section Trip

variable (c : Dev nD) (i : grid0.Coords)
  (arg2 : Memref sig .tc .vmem S4096x256 .bf16) (harg2 : arg2.IsWhole)
  (arg3 : Memref sig .tc .vmem S512x256 .bf16) (harg3 : arg3.IsWhole)
  (arg4 : Memref sig .tc .vmem S512x128 .bf16) (harg4 : arg4.IsWhole)
  (arg5 : Memref sig .tc .vmem S4096x128 .bf16) (harg5 : arg5.IsWhole)
  (arg6 : Memref sig .tc .vmem S1x8x1x512 .f32) (harg6 : arg6.IsWhole)
  (arg7 : Memref sig .tc .vmem S1x16x1x256 .f32) (harg7 : arg7.IsWhole)
  (arg8 : Memref sig .tc .hbm S4x1024x512 .bf16) (harg8 : arg8.IsWhole)
  (arg9 : Memref sig .tc .hbm S4x512x1024 .bf16) (harg9 : arg9.IsWhole)
  (arg10 : Memref sig .tc .hbm S4x128x1024 .bf16) (harg10 : arg10.IsWhole)
  (arg11 : Memref sig .tc .hbm S4x128x1024 .bf16) (harg11 : arg11.IsWhole)
  (arg12 : Memref sig .tc .hbm S4x128x1024 .bf16) (harg12 : arg12.IsWhole)
  (arg13 : Memref sig .tc .vmem S4096x256 .bf16) (harg13 : arg13.IsWhole)
  (arg14 : Memref sig .tc .vmem S512x256 .bf16) (harg14 : arg14.IsWhole)
  (arg15 : Memref sig .tc .vmem S512x128 .bf16) (harg15 : arg15.IsWhole)
  (arg16 : Memref sig .tc .hbm S3x1024x512 .bf16) (harg16 : arg16.IsWhole)
  (arg17 : Memref sig .tc .hbm S3x512x1024 .bf16) (harg17 : arg17.IsWhole)
  (arg18 : Memref sig .tc .hbm S3x128x1024 .bf16) (harg18 : arg18.IsWhole)
  (arg19 : Memref sig .tc .hbm S3x128x1024 .bf16) (harg19 : arg19.IsWhole)
  (arg20 : Memref sig .tc .hbm S3x128x1024 .bf16) (harg20 : arg20.IsWhole)
  (arg21 : Memref sig .tc .vmem S512x256 .f32) (harg21 : arg21.IsWhole)
  (arg22 : Memref sig .tc .vmem S512x128 .f32) (harg22 : arg22.IsWhole)
  (arg23 : Memref sig .tc .vmem S2x512x512 .f32) (harg23 : arg23.IsWhole)
  (arg24 : Memref sig .tc .vmem S2x512x512 .f32) (harg24 : arg24.IsWhole)
  (arg25 : Memref sig .tc .vmem S4096x256 .f32) (harg25 : arg25.IsWhole)
  (arg26 : DmaSems sig S15) (arg27 : DmaSems sig S15)

/-- What a trip touches: the staged rows it reads and the five scratch buffers. -/
abbrev held (X : In F) (S : St F) : sProp 𝕄 :=
  iprop(at_ c arg2 X.q ∗ at_ c arg5 X.dor ∗ at_ c arg6 X.lse ∗ at_ c arg7 X.del
    ∗ at_ c arg21 S.dk ∗ at_ c arg22 S.dv ∗ at_ c arg23 S.sl ∗ at_ c arg24 S.pl ∗ at_ c arg25 S.dq)

set_option maxHeartbeats 2000000 in
theorem tripRun (arg1 v20 v123 v138 : BitVec 32) (v137 : BitVec 1) (X : In F) (S : St F) (t : Fin (k0_t1_loop i).trips) :
    held c arg2 arg5 arg6 arg7 arg21 arg22 arg23 arg24 arg25 X S
      ⊢ wp frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg1 X.kb X.vb v20 v123 v137 v138 t ())
          (fun _ => held c arg2 arg5 arg6 arg7 arg21 arg22 arg23 arg24 arg25 X (tripSt i X t S)) := by
  iintro ⟨Hq, Hdo, Hl, Hd, Hdk, Hdv, Hs, Hp, Hdq⟩
  sl_unfold [k0_t1_body]
  sl_exec_parts
  sl_step
  isplitl [Hq]; · iexact Hq
  isplitl [Hdo]; · iexact Hdo
  isplitl [Hl]; · iexact Hl
  isplitl [Hd]; · iexact Hd
  isplitl [Hdk]
  · iapply (at_of_read c arg21 _ _)
    isplitl [Hdk]; · iexact Hdk
    ipureintro
    rw [rd_full]
    delta tripRun.sl.Hdk_1 tripRun.sl.Hdq_1 tripRun.sl.Hdv_1 tripRun.sl.Hp_1 tripRun.sl.Hp_2 tripRun.sl.Hs_1
      tripRun.sl.Hs_2 tripRun.sl.cst_111 tripRun.sl.cst_133 tripRun.sl.cst_151 tripRun.sl.v174 tripRun.sl.v175
      tripRun.sl.v176 tripRun.sl.v177 tripRun.sl.v178 tripRun.sl.v179 tripRun.sl.v181 tripRun.sl.v183 tripRun.sl.v184
      tripRun.sl.v186 tripRun.sl.v187 tripRun.sl.v192 tripRun.sl.v193 tripRun.sl.v195 tripRun.sl.v196 tripRun.sl.v197
      tripRun.sl.v199 tripRun.sl.v201 tripRun.sl.v206 tripRun.sl.v207 tripRun.sl.v208 tripRun.sl.v209 tripRun.sl.v211
      tripRun.sl.v212 tripRun.sl.v213 tripRun.sl.v214 tripRun.sl.v216 tripRun.sl.v217 tripRun.sl.v218 tripRun.sl.v220
      tripRun.sl.v221 tripRun.sl.v222 tripRun.sl.v223 tripRun.sl.v224 tripRun.sl.v226 tripRun.sl.v228 tripRun.sl.v229
      tripRun.sl.v231 tripRun.sl.v232 tripRun.sl.v233 tripRun.sl.v234 tripRun.sl.v235 tripRun.sl.v236 tripRun.sl.v237
      tripRun.sl.v238 tripRun.sl.v240 tripRun.sl.v241 tripRun.sl.v243 tripRun.sl.v244 tripRun.sl.v249 tripRun.sl.v250
      tripRun.sl.v253 tripRun.sl.v254 tripRun.sl.v255 tripRun.sl.v256 tripRun.sl.v257 tripRun.sl.v259 tripRun.sl.v261
      tripRun.sl.v262 tripRun.sl.v265 tripRun.sl.v270 tripRun.sl.v271 tripRun.sl.v274 tripRun.sl.v276 tripRun.sl.v278
      tripRun.sl.v280 tripRun.sl.v285 tripRun.sl.v286 tripRun.sl.v287 tripRun.sl.v288 tripRun.sl.v290 tripRun.sl.v291
      tripRun.sl.v292 tripRun.sl.v293 tripRun.sl.v294 tripRun.sl.v295 tripRun.sl.v296 tripRun.sl.v297 tripRun.sl.v299
      tripRun.sl.v300 tripRun.sl.v301 tripRun.sl.v302 tripRun.sl.v303 tripRun.sl.v305 tripRun.sl.v307 tripRun.sl.v308
      tripRun.sl.v310 tripRun.sl.v311 tripRun.sl.v312 tripRun.sl.v318 tripRun.sl.v327
    simp -proj only [cov_full, cov_same, cov_slot0, ld_rep_full]
    simp -proj only [ld_rep]
    rw [ld_rep arg7 X.del (k0_off27 i t 0#32), ld_rep arg7 X.del (k0_off27 i t 1#32), ld_rep arg7 X.del (k0_off23 i t 0#32), ld_rep arg7 X.del (k0_off23 i t 1#32)]
    rfl
  isplitl [Hdv]
  · iapply (at_of_read c arg22 _ _)
    isplitl [Hdv]; · iexact Hdv
    ipureintro
    rw [rd_full]
    delta tripRun.sl.Hdk_1 tripRun.sl.Hdq_1 tripRun.sl.Hdv_1 tripRun.sl.Hp_1 tripRun.sl.Hp_2 tripRun.sl.Hs_1
      tripRun.sl.Hs_2 tripRun.sl.cst_111 tripRun.sl.cst_133 tripRun.sl.cst_151 tripRun.sl.v174 tripRun.sl.v175
      tripRun.sl.v176 tripRun.sl.v177 tripRun.sl.v178 tripRun.sl.v179 tripRun.sl.v181 tripRun.sl.v183 tripRun.sl.v184
      tripRun.sl.v186 tripRun.sl.v187 tripRun.sl.v192 tripRun.sl.v193 tripRun.sl.v195 tripRun.sl.v196 tripRun.sl.v197
      tripRun.sl.v199 tripRun.sl.v201 tripRun.sl.v206 tripRun.sl.v207 tripRun.sl.v208 tripRun.sl.v209 tripRun.sl.v211
      tripRun.sl.v212 tripRun.sl.v213 tripRun.sl.v214 tripRun.sl.v216 tripRun.sl.v217 tripRun.sl.v218 tripRun.sl.v220
      tripRun.sl.v221 tripRun.sl.v222 tripRun.sl.v223 tripRun.sl.v224 tripRun.sl.v226 tripRun.sl.v228 tripRun.sl.v229
      tripRun.sl.v231 tripRun.sl.v232 tripRun.sl.v233 tripRun.sl.v234 tripRun.sl.v235 tripRun.sl.v236 tripRun.sl.v237
      tripRun.sl.v238 tripRun.sl.v240 tripRun.sl.v241 tripRun.sl.v243 tripRun.sl.v244 tripRun.sl.v249 tripRun.sl.v250
      tripRun.sl.v253 tripRun.sl.v254 tripRun.sl.v255 tripRun.sl.v256 tripRun.sl.v257 tripRun.sl.v259 tripRun.sl.v261
      tripRun.sl.v262 tripRun.sl.v265 tripRun.sl.v270 tripRun.sl.v271 tripRun.sl.v274 tripRun.sl.v276 tripRun.sl.v278
      tripRun.sl.v280 tripRun.sl.v285 tripRun.sl.v286 tripRun.sl.v287 tripRun.sl.v288 tripRun.sl.v290 tripRun.sl.v291
      tripRun.sl.v292 tripRun.sl.v293 tripRun.sl.v294 tripRun.sl.v295 tripRun.sl.v296 tripRun.sl.v297 tripRun.sl.v299
      tripRun.sl.v300 tripRun.sl.v301 tripRun.sl.v302 tripRun.sl.v303 tripRun.sl.v305 tripRun.sl.v307 tripRun.sl.v308
      tripRun.sl.v310 tripRun.sl.v311 tripRun.sl.v312 tripRun.sl.v318 tripRun.sl.v327
    simp -proj only [cov_full, cov_same, cov_slot0, ld_rep_full]
    simp -proj only [ld_rep]
    rfl
  isplitl [Hs]
  · iapply (at_of_read c arg23 _ _)
    isplitl [Hs]; · iexact Hs
    ipureintro
    delta tripRun.sl.Hs_2 tripRun.sl.Hs_1; rw [rd_put, rd_put, rd_nil]
    delta tripRun.sl.Hdk_1 tripRun.sl.Hdq_1 tripRun.sl.Hdv_1 tripRun.sl.Hp_1 tripRun.sl.Hp_2 tripRun.sl.Hs_1
      tripRun.sl.Hs_2 tripRun.sl.cst_111 tripRun.sl.cst_133 tripRun.sl.cst_151 tripRun.sl.v174 tripRun.sl.v175
      tripRun.sl.v176 tripRun.sl.v177 tripRun.sl.v178 tripRun.sl.v179 tripRun.sl.v181 tripRun.sl.v183 tripRun.sl.v184
      tripRun.sl.v186 tripRun.sl.v187 tripRun.sl.v192 tripRun.sl.v193 tripRun.sl.v195 tripRun.sl.v196 tripRun.sl.v197
      tripRun.sl.v199 tripRun.sl.v201 tripRun.sl.v206 tripRun.sl.v207 tripRun.sl.v208 tripRun.sl.v209 tripRun.sl.v211
      tripRun.sl.v212 tripRun.sl.v213 tripRun.sl.v214 tripRun.sl.v216 tripRun.sl.v217 tripRun.sl.v218 tripRun.sl.v220
      tripRun.sl.v221 tripRun.sl.v222 tripRun.sl.v223 tripRun.sl.v224 tripRun.sl.v226 tripRun.sl.v228 tripRun.sl.v229
      tripRun.sl.v231 tripRun.sl.v232 tripRun.sl.v233 tripRun.sl.v234 tripRun.sl.v235 tripRun.sl.v236 tripRun.sl.v237
      tripRun.sl.v238 tripRun.sl.v240 tripRun.sl.v241 tripRun.sl.v243 tripRun.sl.v244 tripRun.sl.v249 tripRun.sl.v250
      tripRun.sl.v253 tripRun.sl.v254 tripRun.sl.v255 tripRun.sl.v256 tripRun.sl.v257 tripRun.sl.v259 tripRun.sl.v261
      tripRun.sl.v262 tripRun.sl.v265 tripRun.sl.v270 tripRun.sl.v271 tripRun.sl.v274 tripRun.sl.v276 tripRun.sl.v278
      tripRun.sl.v280 tripRun.sl.v285 tripRun.sl.v286 tripRun.sl.v287 tripRun.sl.v288 tripRun.sl.v290 tripRun.sl.v291
      tripRun.sl.v292 tripRun.sl.v293 tripRun.sl.v294 tripRun.sl.v295 tripRun.sl.v296 tripRun.sl.v297 tripRun.sl.v299
      tripRun.sl.v300 tripRun.sl.v301 tripRun.sl.v302 tripRun.sl.v303 tripRun.sl.v305 tripRun.sl.v307 tripRun.sl.v308
      tripRun.sl.v310 tripRun.sl.v311 tripRun.sl.v312 tripRun.sl.v318 tripRun.sl.v327
    simp -proj only [ld_rep]
    rfl
  isplitl [Hp]
  · iapply (at_of_read c arg24 _ _)
    isplitl [Hp]; · iexact Hp
    ipureintro
    delta tripRun.sl.Hp_2 tripRun.sl.Hp_1; rw [rd_put, rd_put, rd_nil]
    delta tripRun.sl.Hdk_1 tripRun.sl.Hdq_1 tripRun.sl.Hdv_1 tripRun.sl.Hp_1 tripRun.sl.Hp_2 tripRun.sl.Hs_1
      tripRun.sl.Hs_2 tripRun.sl.cst_111 tripRun.sl.cst_133 tripRun.sl.cst_151 tripRun.sl.v174 tripRun.sl.v175
      tripRun.sl.v176 tripRun.sl.v177 tripRun.sl.v178 tripRun.sl.v179 tripRun.sl.v181 tripRun.sl.v183 tripRun.sl.v184
      tripRun.sl.v186 tripRun.sl.v187 tripRun.sl.v192 tripRun.sl.v193 tripRun.sl.v195 tripRun.sl.v196 tripRun.sl.v197
      tripRun.sl.v199 tripRun.sl.v201 tripRun.sl.v206 tripRun.sl.v207 tripRun.sl.v208 tripRun.sl.v209 tripRun.sl.v211
      tripRun.sl.v212 tripRun.sl.v213 tripRun.sl.v214 tripRun.sl.v216 tripRun.sl.v217 tripRun.sl.v218 tripRun.sl.v220
      tripRun.sl.v221 tripRun.sl.v222 tripRun.sl.v223 tripRun.sl.v224 tripRun.sl.v226 tripRun.sl.v228 tripRun.sl.v229
      tripRun.sl.v231 tripRun.sl.v232 tripRun.sl.v233 tripRun.sl.v234 tripRun.sl.v235 tripRun.sl.v236 tripRun.sl.v237
      tripRun.sl.v238 tripRun.sl.v240 tripRun.sl.v241 tripRun.sl.v243 tripRun.sl.v244 tripRun.sl.v249 tripRun.sl.v250
      tripRun.sl.v253 tripRun.sl.v254 tripRun.sl.v255 tripRun.sl.v256 tripRun.sl.v257 tripRun.sl.v259 tripRun.sl.v261
      tripRun.sl.v262 tripRun.sl.v265 tripRun.sl.v270 tripRun.sl.v271 tripRun.sl.v274 tripRun.sl.v276 tripRun.sl.v278
      tripRun.sl.v280 tripRun.sl.v285 tripRun.sl.v286 tripRun.sl.v287 tripRun.sl.v288 tripRun.sl.v290 tripRun.sl.v291
      tripRun.sl.v292 tripRun.sl.v293 tripRun.sl.v294 tripRun.sl.v295 tripRun.sl.v296 tripRun.sl.v297 tripRun.sl.v299
      tripRun.sl.v300 tripRun.sl.v301 tripRun.sl.v302 tripRun.sl.v303 tripRun.sl.v305 tripRun.sl.v307 tripRun.sl.v308
      tripRun.sl.v310 tripRun.sl.v311 tripRun.sl.v312 tripRun.sl.v318 tripRun.sl.v327
    simp -proj only [ld_rep]
    rfl
  iapply (at_of_read c arg25 _ _)
  isplitl [Hdq]; · iexact Hdq
  ipureintro
  delta tripRun.sl.Hdq_1; rw [rd_put, rd_put, rd_nil]
  delta tripRun.sl.Hdk_1 tripRun.sl.Hdq_1 tripRun.sl.Hdv_1 tripRun.sl.Hp_1 tripRun.sl.Hp_2 tripRun.sl.Hs_1
    tripRun.sl.Hs_2 tripRun.sl.cst_111 tripRun.sl.cst_133 tripRun.sl.cst_151 tripRun.sl.v174 tripRun.sl.v175
    tripRun.sl.v176 tripRun.sl.v177 tripRun.sl.v178 tripRun.sl.v179 tripRun.sl.v181 tripRun.sl.v183 tripRun.sl.v184
    tripRun.sl.v186 tripRun.sl.v187 tripRun.sl.v192 tripRun.sl.v193 tripRun.sl.v195 tripRun.sl.v196 tripRun.sl.v197
    tripRun.sl.v199 tripRun.sl.v201 tripRun.sl.v206 tripRun.sl.v207 tripRun.sl.v208 tripRun.sl.v209 tripRun.sl.v211
    tripRun.sl.v212 tripRun.sl.v213 tripRun.sl.v214 tripRun.sl.v216 tripRun.sl.v217 tripRun.sl.v218 tripRun.sl.v220
    tripRun.sl.v221 tripRun.sl.v222 tripRun.sl.v223 tripRun.sl.v224 tripRun.sl.v226 tripRun.sl.v228 tripRun.sl.v229
    tripRun.sl.v231 tripRun.sl.v232 tripRun.sl.v233 tripRun.sl.v234 tripRun.sl.v235 tripRun.sl.v236 tripRun.sl.v237
    tripRun.sl.v238 tripRun.sl.v240 tripRun.sl.v241 tripRun.sl.v243 tripRun.sl.v244 tripRun.sl.v249 tripRun.sl.v250
    tripRun.sl.v253 tripRun.sl.v254 tripRun.sl.v255 tripRun.sl.v256 tripRun.sl.v257 tripRun.sl.v259 tripRun.sl.v261
    tripRun.sl.v262 tripRun.sl.v265 tripRun.sl.v270 tripRun.sl.v271 tripRun.sl.v274 tripRun.sl.v276 tripRun.sl.v278
    tripRun.sl.v280 tripRun.sl.v285 tripRun.sl.v286 tripRun.sl.v287 tripRun.sl.v288 tripRun.sl.v290 tripRun.sl.v291
    tripRun.sl.v292 tripRun.sl.v293 tripRun.sl.v294 tripRun.sl.v295 tripRun.sl.v296 tripRun.sl.v297 tripRun.sl.v299
    tripRun.sl.v300 tripRun.sl.v301 tripRun.sl.v302 tripRun.sl.v303 tripRun.sl.v305 tripRun.sl.v307 tripRun.sl.v308
    tripRun.sl.v310 tripRun.sl.v311 tripRun.sl.v312 tripRun.sl.v318 tripRun.sl.v327
  simp -proj only [cov_full, cov_same, cov_slot0, ld_rep_full]
  simp -proj only [ld_rep]
  rw [ld_rep arg7 X.del (k0_off27 i t 0#32), ld_rep arg7 X.del (k0_off27 i t 1#32), ld_rep arg7 X.del (k0_off23 i t 0#32), ld_rep arg7 X.del (k0_off23 i t 1#32)]
  rfl

variable (arg1 v20 v123 v138 v144 : BitVec 32) (v137 : BitVec 1)

set_option warn.classDefReducibility false in
/-- Before trip `n` the scratch buffers hold what the first `n` trips make of their values at the loop's entry. -/
@[sl_loop] def loopInv1 (X : In F) (S : St F) :
    LoopInvTy_k0_t1 (F := F) Unit ℕ UU ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg1 X.kb X.vb v20 v123 v137 v138 where
  inv n _ := held c arg2 arg5 arg6 arg7 arg21 arg22 arg23 arg24 arg25 X (tripsSt i X S n)
  step t _ := by
    rw [tripsSt_succ]
    exact tripRun c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg1 v20 v123 v138 v137 X (tripsSt i X S t.val) t

set_option warn.classDefReducibility false in
/-- The remainder of that loop has no trip. -/
@[sl_loop] def loopInv2 (X : In F) (S : St F) :
    LoopInvTy_k0_t2 (F := F) Unit ℕ UU ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 arg1 X.kb X.vb v20 v123 v137 v138 v144 where
  inv _ _ := held c arg2 arg5 arg6 arg7 arg21 arg22 arg23 arg24 arg25 X S
  step t _ := (Nat.not_lt_zero _ (Nat.lt_of_lt_of_eq t.isLt (k0_t2_trips_eq i))).elim

end Trip

end Cert.KernelIdeal

end
-- ==== Proof.Body.lean ====
/- A grid point's computation, run once at a symbolic grid point: the zeroing and the first scores, the block on the
   diagonal, the loop, the remainder and the stores of the results. -/
module

public import proofs.«01_k».proof.Proof.Trip

@[expose] public section

set_option maxRecDepth 16384

noncomputable section

namespace Cert.KernelIdeal

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

section Body

variable (c : Dev nD) (i : grid0.Coords)
  (arg2 : Memref sig .tc .vmem S4096x256 .bf16) (harg2 : arg2.IsWhole)
  (arg3 : Memref sig .tc .vmem S512x256 .bf16) (harg3 : arg3.IsWhole)
  (arg4 : Memref sig .tc .vmem S512x128 .bf16) (harg4 : arg4.IsWhole)
  (arg5 : Memref sig .tc .vmem S4096x128 .bf16) (harg5 : arg5.IsWhole)
  (arg6 : Memref sig .tc .vmem S1x8x1x512 .f32) (harg6 : arg6.IsWhole)
  (arg7 : Memref sig .tc .vmem S1x16x1x256 .f32) (harg7 : arg7.IsWhole)
  (arg8 : Memref sig .tc .hbm S4x1024x512 .bf16) (harg8 : arg8.IsWhole)
  (arg9 : Memref sig .tc .hbm S4x512x1024 .bf16) (harg9 : arg9.IsWhole)
  (arg10 : Memref sig .tc .hbm S4x128x1024 .bf16) (harg10 : arg10.IsWhole)
  (arg11 : Memref sig .tc .hbm S4x128x1024 .bf16) (harg11 : arg11.IsWhole)
  (arg12 : Memref sig .tc .hbm S4x128x1024 .bf16) (harg12 : arg12.IsWhole)
  (arg13 : Memref sig .tc .vmem S4096x256 .bf16) (harg13 : arg13.IsWhole)
  (arg14 : Memref sig .tc .vmem S512x256 .bf16) (harg14 : arg14.IsWhole)
  (arg15 : Memref sig .tc .vmem S512x128 .bf16) (harg15 : arg15.IsWhole)
  (arg16 : Memref sig .tc .hbm S3x1024x512 .bf16) (harg16 : arg16.IsWhole)
  (arg17 : Memref sig .tc .hbm S3x512x1024 .bf16) (harg17 : arg17.IsWhole)
  (arg18 : Memref sig .tc .hbm S3x128x1024 .bf16) (harg18 : arg18.IsWhole)
  (arg19 : Memref sig .tc .hbm S3x128x1024 .bf16) (harg19 : arg19.IsWhole)
  (arg20 : Memref sig .tc .hbm S3x128x1024 .bf16) (harg20 : arg20.IsWhole)
  (arg21 : Memref sig .tc .vmem S512x256 .f32) (harg21 : arg21.IsWhole)
  (arg22 : Memref sig .tc .vmem S512x128 .f32) (harg22 : arg22.IsWhole)
  (arg23 : Memref sig .tc .vmem S2x512x512 .f32) (harg23 : arg23.IsWhole)
  (arg24 : Memref sig .tc .vmem S2x512x512 .f32) (harg24 : arg24.IsWhole)
  (arg25 : Memref sig .tc .vmem S4096x256 .f32) (harg25 : arg25.IsWhole)
  (arg26 : DmaSems sig S15) (arg27 : DmaSems sig S15)

/-- The condition under which the query gradient is cleared: the head's first key block. -/
abbrev cond2 (i : grid0.Coords) : BitVec 1 :=
  Scalar.cmpi .ne (Scalar.extui (Scalar.cmpi .eq (BitVec.ofNat 32 (i 1).val) 0#32) : BitVec 32) 0#32

theorem cond2_iff : ∀ i : grid0.Coords, cond2 i = 1#1 ↔ (i 1).val = 0 := by decide +kernel

/-- What the first stage returns. -/
abbrev ret28 (X : In F) : Σ' (arg0 : BitVec 32) (arg1 : BitVec 32) (v17 : FVec F S512x256 .bf16) (v19 : FVec F S512x128 .bf16) (v20 : BitVec 32) (v21 : BitVec 32), FVec F S1x512x512 .f32 :=
  ⟨BitVec.ofNat 32 (i 0).val, BitVec.ofNat 32 (i 1).val, X.kb, X.vb, Scalar.subi 7#32 (BitVec.ofNat 32 (i 1).val),
    Scalar.minsi (BitVec.ofNat 32 (i 1).val) 7#32, scores X (X.qAt (k0_off10 i) (k0_off10_inb i))⟩

/-- What the first stage touches beside the exchange. -/
abbrev held28 (X : In F) (S : St F) : sProp 𝕄 :=
  iprop(at_ c arg2 X.q ∗ at_ c arg3 X.kr ∗ at_ c arg4 X.vr ∗ at_ c arg21 S.dk ∗ at_ c arg22 S.dv ∗ at_ c arg23 S.sl ∗ at_ c arg25 S.dq)

set_option maxHeartbeats 2000000 in
theorem run28z (h1 : ¬ k0_cond1 i = 1#1) (h2 : cond2 i = 1#1) (X : In F) (S : St F) :
    held28 c arg2 arg3 arg4 arg21 arg22 arg23 arg25 X S
      ⊢ wp frame (wpE (defs₀ (F := F)) 𝒱₀ (c : Thread nD τ) none) Set.univ
          (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27)
          (fun r => iprop(⌜r = ret28 i X⌝ ∗ held28 c arg2 arg3 arg4 arg21 arg22 arg23 arg25 X (zeroSt i S))) := by
  iintro ⟨Hq, Hk, Hv, Hdk, Hdv, Hs, Hdq⟩
  sl_exec
  sl_step
  isplitr
  · ipureintro
    delta run28z.sl.cst_105 run28z.sl.cst_13 run28z.sl.v0 run28z.sl.v1 run28z.sl.v10 run28z.sl.v11 run28z.sl.v12 run28z.sl.v14
              run28z.sl.v15 run28z.sl.v17 run28z.sl.v174 run28z.sl.v176 run28z.sl.v177 run28z.sl.v19 run28z.sl.v2 run28z.sl.v20
              run28z.sl.v21 run28z.sl.v22 run28z.sl.v24 run28z.sl.v26 run28z.sl.v27 run28z.sl.v29 run28z.sl.v3 run28z.sl.v30
              run28z.sl.v4 run28z.sl.v5 run28z.sl.v6 run28z.sl.v7 run28z.sl.v8
    simp -proj only [ld_rep_full]
    simp -proj only [ld_rep]
    rfl
  isplitl [Hq]; · iexact Hq
  isplitl [Hk]; · iexact Hk
  isplitl [Hv]; · iexact Hv
  isplitl [Hdk]
  · iapply (at_of_read c arg21 _ _)
    isplitl [Hdk]; · iexact Hdk
    ipureintro
    rw [rd_full]; rfl
  isplitl [Hdv]
  · iapply (at_of_read c arg22 _ _)
    isplitl [Hdv]; · iexact Hdv
    ipureintro
    rw [rd_full]; rfl
  isplitl [Hs]; · iexact Hs
  iapply (at_of_read c arg25 _ _)
  isplitl [Hdq]; · iexact Hdq
  ipureintro
  rw [rd_full]
  exact (if_pos ((cond2_iff i).1 h2)).symm

set_option maxHeartbeats 2000000 in
theorem run28n (h1 : ¬ k0_cond1 i = 1#1) (h2 : ¬ cond2 i = 1#1) (X : In F) (S : St F) :
    held28 c arg2 arg3 arg4 arg21 arg22 arg23 arg25 X S
      ⊢ wp frame (wpE (defs₀ (F := F)) 𝒱₀ (c : Thread nD τ) none) Set.univ
          (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27)
          (fun r => iprop(⌜r = ret28 i X⌝ ∗ held28 c arg2 arg3 arg4 arg21 arg22 arg23 arg25 X (zeroSt i S))) := by
  iintro ⟨Hq, Hk, Hv, Hdk, Hdv, Hs, Hdq⟩
  sl_exec
  sl_step
  isplitr
  · ipureintro
    delta run28n.sl.cst run28n.sl.cst_13 run28n.sl.v0 run28n.sl.v1 run28n.sl.v10 run28n.sl.v12 run28n.sl.v14 run28n.sl.v15
              run28n.sl.v17 run28n.sl.v19 run28n.sl.v2 run28n.sl.v20 run28n.sl.v21 run28n.sl.v22 run28n.sl.v24 run28n.sl.v26
              run28n.sl.v27 run28n.sl.v29 run28n.sl.v3 run28n.sl.v30 run28n.sl.v4 run28n.sl.v5 run28n.sl.v6 run28n.sl.v7 run28n.sl.v8
    simp -proj only [ld_rep_full]
    simp -proj only [ld_rep]
    rfl
  isplitl [Hq]; · iexact Hq
  isplitl [Hk]; · iexact Hk
  isplitl [Hv]; · iexact Hv
  isplitl [Hdk]
  · iapply (at_of_read c arg21 _ _)
    isplitl [Hdk]; · iexact Hdk
    ipureintro
    rw [rd_full]; rfl
  isplitl [Hdv]
  · iapply (at_of_read c arg22 _ _)
    isplitl [Hdv]; · iexact Hdv
    ipureintro
    rw [rd_full]; rfl
  isplitl [Hs]; · iexact Hs
  have e : (zeroSt i S).dq = S.dq := if_neg (fun h => h2 ((cond2_iff i).2 h))
  rw [e]
  iexact Hdq

/-- What the rest of the computation touches, `ret28` given: the staged blocks, the scratch buffers and the three result
    blocks. -/
abbrev heldC (X : In F) (S : St F) (o13 o14 o15 : sProp 𝕄) : sProp 𝕄 :=
  iprop(held c arg2 arg5 arg6 arg7 arg21 arg22 arg23 arg24 arg25 X S ∗ o13 ∗ o14 ∗ o15)

set_option maxHeartbeats 2000000 in
theorem run29 (X : In F) (S : St F) (K : Prog (TpuEff nD τ sig (Elt F) Λ₀ .tc) PUnit) (Q : PUnit → sProp 𝕄) :
    iprop(held c arg2 arg5 arg6 arg7 arg21 arg22 arg23 arg24 arg25 X S
      ∗ (held c arg2 arg5 arg6 arg7 arg21 arg22 arg23 arg24 arg25 X (startSt i X S) -∗
          wp frame (wpE (defs₀ (F := F)) 𝒱₀ (c : Thread nD τ) none) Set.univ K Q))
      ⊢ wp frame (wpE (defs₀ (F := F)) 𝒱₀ (c : Thread nD τ) none) Set.univ
          (do
            let v64 ← k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 (BitVec.ofNat 32 (i 1).val) X.kb X.vb (Scalar.minsi (BitVec.ofNat 32 (i 1).val) 7#32) (scores X (X.qAt (k0_off10 i) (k0_off10_inb i)))
            let ⟨v82, v94, v99⟩ ← k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 (BitVec.ofNat 32 (i 1).val)
            let ⟨v123, v137, v138⟩ ← k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 (BitVec.ofNat 32 (i 1).val) X.kb (Scalar.subi 7#32 (BitVec.ofNat 32 (i 1).val)) v64 v82 v94 v99
            K) Q := by
  iintro ⟨⟨Hq, Hdo, Hl, Hd, Hdk, Hdv, Hs, Hp, Hdq⟩, HK⟩
  sl_exec
  iapply HK
  isplitl [Hq]; · iexact Hq
  isplitl [Hdo]; · iexact Hdo
  isplitl [Hl]; · iexact Hl
  isplitl [Hd]; · iexact Hd
  isplitl [Hdk]
  · iapply (at_of_read c arg21 _ _)
    isplitl [Hdk]; · iexact Hdk
    ipureintro
    rw [rd_full]
    delta run29.sl.Hp_2 run29.sl.Hs_2 run29.sl.cst_19 run29.sl.cst_45 run29.sl.cst_48 run29.sl.cst_65 run29.sl.v100 run29.sl.v101
              run29.sl.v102 run29.sl.v103 run29.sl.v104 run29.sl.v105 run29.sl.v106 run29.sl.v108 run29.sl.v109 run29.sl.v111
              run29.sl.v112 run29.sl.v117 run29.sl.v118 run29.sl.v121 run29.sl.v122 run29.sl.v123 run29.sl.v124 run29.sl.v125
              run29.sl.v126 run29.sl.v127 run29.sl.v128 run29.sl.v134 run29.sl.v135 run29.sl.v137 run29.sl.v138 run29.sl.v31
              run29.sl.v33 run29.sl.v35 run29.sl.v36 run29.sl.v38 run29.sl.v39 run29.sl.v41 run29.sl.v42 run29.sl.v44 run29.sl.v46
              run29.sl.v47 run29.sl.v48 run29.sl.v49 run29.sl.v50 run29.sl.v55 run29.sl.v56 run29.sl.v57 run29.sl.v58 run29.sl.v59
              run29.sl.v60 run29.sl.v62 run29.sl.v64 run29.sl.v69 run29.sl.v70 run29.sl.v71 run29.sl.v74 run29.sl.v75 run29.sl.v76
              run29.sl.v77 run29.sl.v78 run29.sl.v79 run29.sl.v81 run29.sl.v82 run29.sl.v84 run29.sl.v85 run29.sl.v88 run29.sl.v89
              run29.sl.v90 run29.sl.v91 run29.sl.v92 run29.sl.v94 run29.sl.v96 run29.sl.v97 run29.sl.v99
    try (simp -proj only [cov_full, cov_same, cov_slot0, ld_rep_full])
    try (simp -proj only [ld_rep])
    rw [ld_rep arg7 X.del (k0_off17 i 0#32), ld_rep arg7 X.del (k0_off17 i 1#32)]
    all_goals rfl
  isplitl [Hdv]
  · iapply (at_of_read c arg22 _ _)
    isplitl [Hdv]; · iexact Hdv
    ipureintro
    rw [rd_full]
    delta run29.sl.Hp_2 run29.sl.Hs_2 run29.sl.cst_19 run29.sl.cst_45 run29.sl.cst_48 run29.sl.cst_65 run29.sl.v100 run29.sl.v101
              run29.sl.v102 run29.sl.v103 run29.sl.v104 run29.sl.v105 run29.sl.v106 run29.sl.v108 run29.sl.v109 run29.sl.v111
              run29.sl.v112 run29.sl.v117 run29.sl.v118 run29.sl.v121 run29.sl.v122 run29.sl.v123 run29.sl.v124 run29.sl.v125
              run29.sl.v126 run29.sl.v127 run29.sl.v128 run29.sl.v134 run29.sl.v135 run29.sl.v137 run29.sl.v138 run29.sl.v31
              run29.sl.v33 run29.sl.v35 run29.sl.v36 run29.sl.v38 run29.sl.v39 run29.sl.v41 run29.sl.v42 run29.sl.v44 run29.sl.v46
              run29.sl.v47 run29.sl.v48 run29.sl.v49 run29.sl.v50 run29.sl.v55 run29.sl.v56 run29.sl.v57 run29.sl.v58 run29.sl.v59
              run29.sl.v60 run29.sl.v62 run29.sl.v64 run29.sl.v69 run29.sl.v70 run29.sl.v71 run29.sl.v74 run29.sl.v75 run29.sl.v76
              run29.sl.v77 run29.sl.v78 run29.sl.v79 run29.sl.v81 run29.sl.v82 run29.sl.v84 run29.sl.v85 run29.sl.v88 run29.sl.v89
              run29.sl.v90 run29.sl.v91 run29.sl.v92 run29.sl.v94 run29.sl.v96 run29.sl.v97 run29.sl.v99
    try (simp -proj only [cov_full, cov_same, cov_slot0, ld_rep_full])
    try (simp -proj only [ld_rep])
    try (delta run29.sl.v86)
    try (delta run29.sl.Hp_2 run29.sl.Hs_2 run29.sl.cst_19 run29.sl.cst_45 run29.sl.cst_48 run29.sl.cst_65 run29.sl.v100 run29.sl.v101
              run29.sl.v102 run29.sl.v103 run29.sl.v104 run29.sl.v105 run29.sl.v106 run29.sl.v108 run29.sl.v109 run29.sl.v111
              run29.sl.v112 run29.sl.v117 run29.sl.v118 run29.sl.v121 run29.sl.v122 run29.sl.v123 run29.sl.v124 run29.sl.v125
              run29.sl.v126 run29.sl.v127 run29.sl.v128 run29.sl.v134 run29.sl.v135 run29.sl.v137 run29.sl.v138 run29.sl.v31
              run29.sl.v33 run29.sl.v35 run29.sl.v36 run29.sl.v38 run29.sl.v39 run29.sl.v41 run29.sl.v42 run29.sl.v44 run29.sl.v46
              run29.sl.v47 run29.sl.v48 run29.sl.v49 run29.sl.v50 run29.sl.v55 run29.sl.v56 run29.sl.v57 run29.sl.v58 run29.sl.v59
              run29.sl.v60 run29.sl.v62 run29.sl.v64 run29.sl.v69 run29.sl.v70 run29.sl.v71 run29.sl.v74 run29.sl.v75 run29.sl.v76
              run29.sl.v77 run29.sl.v78 run29.sl.v79 run29.sl.v81 run29.sl.v82 run29.sl.v84 run29.sl.v85 run29.sl.v88 run29.sl.v89
              run29.sl.v90 run29.sl.v91 run29.sl.v92 run29.sl.v94 run29.sl.v96 run29.sl.v97 run29.sl.v99)
    try (simp -proj only [cov_full, cov_same, cov_slot0, ld_rep_full])
    try (simp -proj only [ld_rep])
    all_goals rfl
  isplitl [Hs]
  · iapply (at_of_read c arg23 _ _)
    isplitl [Hs]; · iexact Hs
    ipureintro
    delta run29.sl.Hs_2; rw [rd_put, rd_put, rd_nil]
    delta run29.sl.Hp_2 run29.sl.Hs_2 run29.sl.cst_19 run29.sl.cst_45 run29.sl.cst_48 run29.sl.cst_65 run29.sl.v100 run29.sl.v101
              run29.sl.v102 run29.sl.v103 run29.sl.v104 run29.sl.v105 run29.sl.v106 run29.sl.v108 run29.sl.v109 run29.sl.v111
              run29.sl.v112 run29.sl.v117 run29.sl.v118 run29.sl.v121 run29.sl.v122 run29.sl.v123 run29.sl.v124 run29.sl.v125
              run29.sl.v126 run29.sl.v127 run29.sl.v128 run29.sl.v134 run29.sl.v135 run29.sl.v137 run29.sl.v138 run29.sl.v31
              run29.sl.v33 run29.sl.v35 run29.sl.v36 run29.sl.v38 run29.sl.v39 run29.sl.v41 run29.sl.v42 run29.sl.v44 run29.sl.v46
              run29.sl.v47 run29.sl.v48 run29.sl.v49 run29.sl.v50 run29.sl.v55 run29.sl.v56 run29.sl.v57 run29.sl.v58 run29.sl.v59
              run29.sl.v60 run29.sl.v62 run29.sl.v64 run29.sl.v69 run29.sl.v70 run29.sl.v71 run29.sl.v74 run29.sl.v75 run29.sl.v76
              run29.sl.v77 run29.sl.v78 run29.sl.v79 run29.sl.v81 run29.sl.v82 run29.sl.v84 run29.sl.v85 run29.sl.v88 run29.sl.v89
              run29.sl.v90 run29.sl.v91 run29.sl.v92 run29.sl.v94 run29.sl.v96 run29.sl.v97 run29.sl.v99
    try (simp -proj only [ld_rep])
    all_goals rfl
  isplitl [Hp]
  · iapply (at_of_read c arg24 _ _)
    isplitl [Hp]; · iexact Hp
    ipureintro
    delta run29.sl.Hp_2; rw [rd_put, rd_put, rd_nil]
    delta run29.sl.Hp_2 run29.sl.Hs_2 run29.sl.cst_19 run29.sl.cst_45 run29.sl.cst_48 run29.sl.cst_65 run29.sl.v100 run29.sl.v101
              run29.sl.v102 run29.sl.v103 run29.sl.v104 run29.sl.v105 run29.sl.v106 run29.sl.v108 run29.sl.v109 run29.sl.v111
              run29.sl.v112 run29.sl.v117 run29.sl.v118 run29.sl.v121 run29.sl.v122 run29.sl.v123 run29.sl.v124 run29.sl.v125
              run29.sl.v126 run29.sl.v127 run29.sl.v128 run29.sl.v134 run29.sl.v135 run29.sl.v137 run29.sl.v138 run29.sl.v31
              run29.sl.v33 run29.sl.v35 run29.sl.v36 run29.sl.v38 run29.sl.v39 run29.sl.v41 run29.sl.v42 run29.sl.v44 run29.sl.v46
              run29.sl.v47 run29.sl.v48 run29.sl.v49 run29.sl.v50 run29.sl.v55 run29.sl.v56 run29.sl.v57 run29.sl.v58 run29.sl.v59
              run29.sl.v60 run29.sl.v62 run29.sl.v64 run29.sl.v69 run29.sl.v70 run29.sl.v71 run29.sl.v74 run29.sl.v75 run29.sl.v76
              run29.sl.v77 run29.sl.v78 run29.sl.v79 run29.sl.v81 run29.sl.v82 run29.sl.v84 run29.sl.v85 run29.sl.v88 run29.sl.v89
              run29.sl.v90 run29.sl.v91 run29.sl.v92 run29.sl.v94 run29.sl.v96 run29.sl.v97 run29.sl.v99
    try (simp -proj only [ld_rep])
    all_goals rfl
  iapply (at_of_read c arg25 _ _)
  isplitl [Hdq]; · iexact Hdq
  ipureintro
  rw [rd_put, rd_nil]
  delta run29.sl.Hp_2 run29.sl.Hs_2 run29.sl.cst_19 run29.sl.cst_45 run29.sl.cst_48 run29.sl.cst_65 run29.sl.v100 run29.sl.v101
              run29.sl.v102 run29.sl.v103 run29.sl.v104 run29.sl.v105 run29.sl.v106 run29.sl.v108 run29.sl.v109 run29.sl.v111
              run29.sl.v112 run29.sl.v117 run29.sl.v118 run29.sl.v121 run29.sl.v122 run29.sl.v123 run29.sl.v124 run29.sl.v125
              run29.sl.v126 run29.sl.v127 run29.sl.v128 run29.sl.v134 run29.sl.v135 run29.sl.v137 run29.sl.v138 run29.sl.v31
              run29.sl.v33 run29.sl.v35 run29.sl.v36 run29.sl.v38 run29.sl.v39 run29.sl.v41 run29.sl.v42 run29.sl.v44 run29.sl.v46
              run29.sl.v47 run29.sl.v48 run29.sl.v49 run29.sl.v50 run29.sl.v55 run29.sl.v56 run29.sl.v57 run29.sl.v58 run29.sl.v59
              run29.sl.v60 run29.sl.v62 run29.sl.v64 run29.sl.v69 run29.sl.v70 run29.sl.v71 run29.sl.v74 run29.sl.v75 run29.sl.v76
              run29.sl.v77 run29.sl.v78 run29.sl.v79 run29.sl.v81 run29.sl.v82 run29.sl.v84 run29.sl.v85 run29.sl.v88 run29.sl.v89
              run29.sl.v90 run29.sl.v91 run29.sl.v92 run29.sl.v94 run29.sl.v96 run29.sl.v97 run29.sl.v99
  try (simp -proj only [cov_full, cov_same, cov_slot0, ld_rep_full])
  try (simp -proj only [ld_rep])
  rw [ld_rep arg7 X.del (k0_off17 i 0#32), ld_rep arg7 X.del (k0_off17 i 1#32)]
  all_goals rfl

/-- The three result blocks after a point: the key and value gradients always, the query gradient at a head's last key
    block. -/
abbrev outs (i : grid0.Coords) (S : St F) (O : S4096x256.Idx → Elt F .bf16) : sProp 𝕄 :=
  iprop(at_ c arg13 (if k0_cond4 i = 1#1 then Gen.k0_pay63 S.dq else O) ∗ at_ c arg14 (Gen.k0_pay64 S.dk) ∗ at_ c arg15 (Gen.k0_pay65 S.dv))

set_option maxHeartbeats 2000000 in
theorem run32a (h3 : k0_cond3 i = 1#1) (h4 : ¬ k0_cond4 i = 1#1) (X : In F) (S : St F) (O : S4096x256.Idx → Elt F .bf16) (v20 v123 v138 : BitVec 32) (v137 : BitVec 1) :
    iprop(held c arg2 arg5 arg6 arg7 arg21 arg22 arg23 arg24 arg25 X S ∗ at_ c arg13 O ∗ some_ c arg14 ∗ some_ c arg15)
      ⊢ wp frame (wpE (defs₀ (F := F)) 𝒱₀ (c : Thread nD τ) none) Set.univ
          (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 (BitVec.ofNat 32 (i 1).val) X.kb X.vb v20 v123 v137 v138)
          (fun _ => iprop(held c arg2 arg5 arg6 arg7 arg21 arg22 arg23 arg24 arg25 X (endSt i X S) ∗ outs c arg13 arg14 arg15 i (endSt i X S) O)) := by
  have e : endSt i X S = lastSt X (tripsSt i X S (k0_t1_loop i).trips) := (if_pos h3)
  rw [e]
  iintro ⟨⟨Hq, Hdo, Hl, Hd, Hdk, Hdv, Hs, Hp, Hdq⟩, HO, ⟨%f14, H14⟩, ⟨%f15, H15⟩⟩
  sl_exec
  sl_step
  isplitl [Hq Hdo Hl Hd Hdk Hdv Hs Hp Hdq]
  · isplitl [Hq]; · iexact Hq
    isplitl [Hdo]; · iexact Hdo
    isplitl [Hl]; · iexact Hl
    isplitl [Hd]; · iexact Hd
    isplitl [Hdk]
    · iapply (at_of_read c arg21 _ _)
      isplitl [Hdk]; · iexact Hdk
      ipureintro
      delta run32a.sl.Hdk_1; rw [rd_full]
      try (delta run32a.sl.Hdk_1 run32a.sl.Hdv_1 run32a.sl.cst_116 run32a.sl.v139 run32a.sl.v142 run32a.sl.v143 run32a.sl.v144
              run32a.sl.v161 run32a.sl.v166 run32a.sl.v177 run32a.sl.v181 run32a.sl.v183 run32a.sl.v185 run32a.sl.v186 run32a.sl.v187
              run32a.sl.v188 run32a.sl.v190 run32a.sl.v191 run32a.sl.v194 run32a.sl.v195 run32a.sl.v197 run32a.sl.v199 run32a.sl.v200
              run32a.sl.v202 run32a.sl.v203 run32a.sl.v204 run32a.sl.v205)
      try (delta run32a.sl.v192)
      try (delta run32a.sl.Hdk_1 run32a.sl.Hdv_1 run32a.sl.cst_116 run32a.sl.v139 run32a.sl.v142 run32a.sl.v143 run32a.sl.v144
              run32a.sl.v161 run32a.sl.v166 run32a.sl.v177 run32a.sl.v181 run32a.sl.v183 run32a.sl.v185 run32a.sl.v186 run32a.sl.v187
              run32a.sl.v188 run32a.sl.v190 run32a.sl.v191 run32a.sl.v194 run32a.sl.v195 run32a.sl.v197 run32a.sl.v199 run32a.sl.v200
              run32a.sl.v202 run32a.sl.v203 run32a.sl.v204 run32a.sl.v205)
      try (simp -proj only [cov_full, cov_same, cov_slot0, ld_rep_full])
      try (simp -proj only [ld_rep])
      try (rw [ld_rep arg7 X.del ![0, 14, 0, 0], ld_rep arg7 X.del ![0, 15, 0, 0]])
      all_goals rfl
    isplitl [Hdv]
    · iapply (at_of_read c arg22 _ _)
      isplitl [Hdv]; · iexact Hdv
      ipureintro
      delta run32a.sl.Hdv_1; rw [rd_full]
      try (delta run32a.sl.Hdk_1 run32a.sl.Hdv_1 run32a.sl.cst_116 run32a.sl.v139 run32a.sl.v142 run32a.sl.v143 run32a.sl.v144
              run32a.sl.v161 run32a.sl.v166 run32a.sl.v177 run32a.sl.v181 run32a.sl.v183 run32a.sl.v185 run32a.sl.v186 run32a.sl.v187
              run32a.sl.v188 run32a.sl.v190 run32a.sl.v191 run32a.sl.v194 run32a.sl.v195 run32a.sl.v197 run32a.sl.v199 run32a.sl.v200
              run32a.sl.v202 run32a.sl.v203 run32a.sl.v204 run32a.sl.v205)
      try (delta run32a.sl.v192)
      try (delta run32a.sl.Hdk_1 run32a.sl.Hdv_1 run32a.sl.cst_116 run32a.sl.v139 run32a.sl.v142 run32a.sl.v143 run32a.sl.v144
              run32a.sl.v161 run32a.sl.v166 run32a.sl.v177 run32a.sl.v181 run32a.sl.v183 run32a.sl.v185 run32a.sl.v186 run32a.sl.v187
              run32a.sl.v188 run32a.sl.v190 run32a.sl.v191 run32a.sl.v194 run32a.sl.v195 run32a.sl.v197 run32a.sl.v199 run32a.sl.v200
              run32a.sl.v202 run32a.sl.v203 run32a.sl.v204 run32a.sl.v205)
      try (simp -proj only [cov_full, cov_same, cov_slot0, ld_rep_full])
      try (simp -proj only [ld_rep])
      try (rw [ld_rep arg7 X.del ![0, 14, 0, 0], ld_rep arg7 X.del ![0, 15, 0, 0]])
      all_goals rfl
    isplitl [Hs]; · iexact Hs
    isplitl [Hp]; · iexact Hp
    iapply (at_of_read c arg25 _ _)
    isplitl [Hdq]; · iexact Hdq
    ipureintro
    rw [rd_put, rd_nil]
    try (delta run32a.sl.Hdk_1 run32a.sl.Hdv_1 run32a.sl.cst_116 run32a.sl.v139 run32a.sl.v142 run32a.sl.v143 run32a.sl.v144
              run32a.sl.v161 run32a.sl.v166 run32a.sl.v177 run32a.sl.v181 run32a.sl.v183 run32a.sl.v185 run32a.sl.v186 run32a.sl.v187
              run32a.sl.v188 run32a.sl.v190 run32a.sl.v191 run32a.sl.v194 run32a.sl.v195 run32a.sl.v197 run32a.sl.v199 run32a.sl.v200
              run32a.sl.v202 run32a.sl.v203 run32a.sl.v204 run32a.sl.v205)
    try (delta run32a.sl.v192)
    try (delta run32a.sl.Hdk_1 run32a.sl.Hdv_1 run32a.sl.cst_116 run32a.sl.v139 run32a.sl.v142 run32a.sl.v143 run32a.sl.v144
              run32a.sl.v161 run32a.sl.v166 run32a.sl.v177 run32a.sl.v181 run32a.sl.v183 run32a.sl.v185 run32a.sl.v186 run32a.sl.v187
              run32a.sl.v188 run32a.sl.v190 run32a.sl.v191 run32a.sl.v194 run32a.sl.v195 run32a.sl.v197 run32a.sl.v199 run32a.sl.v200
              run32a.sl.v202 run32a.sl.v203 run32a.sl.v204 run32a.sl.v205)
    try (simp -proj only [cov_full, cov_same, cov_slot0, ld_rep_full])
    try (simp -proj only [ld_rep])
    try (rw [ld_rep arg7 X.del ![0, 14, 0, 0], ld_rep arg7 X.del ![0, 15, 0, 0]])
    all_goals rfl
  isplitl [HO]
  · rw [if_neg h4]; iexact HO
  isplitl [H14]
  · iapply (at_of_read c arg14 _ _)
    isplitl [H14]; · iexact H14
    ipureintro
    rw [rd_full]
    try (delta run32a.sl.Hdk_1 run32a.sl.Hdv_1 run32a.sl.cst_116 run32a.sl.v139 run32a.sl.v142 run32a.sl.v143 run32a.sl.v144
              run32a.sl.v161 run32a.sl.v166 run32a.sl.v177 run32a.sl.v181 run32a.sl.v183 run32a.sl.v185 run32a.sl.v186 run32a.sl.v187
              run32a.sl.v188 run32a.sl.v190 run32a.sl.v191 run32a.sl.v194 run32a.sl.v195 run32a.sl.v197 run32a.sl.v199 run32a.sl.v200
              run32a.sl.v202 run32a.sl.v203 run32a.sl.v204 run32a.sl.v205)
    try (delta run32a.sl.v192)
    try (delta run32a.sl.Hdk_1 run32a.sl.Hdv_1 run32a.sl.cst_116 run32a.sl.v139 run32a.sl.v142 run32a.sl.v143 run32a.sl.v144
              run32a.sl.v161 run32a.sl.v166 run32a.sl.v177 run32a.sl.v181 run32a.sl.v183 run32a.sl.v185 run32a.sl.v186 run32a.sl.v187
              run32a.sl.v188 run32a.sl.v190 run32a.sl.v191 run32a.sl.v194 run32a.sl.v195 run32a.sl.v197 run32a.sl.v199 run32a.sl.v200
              run32a.sl.v202 run32a.sl.v203 run32a.sl.v204 run32a.sl.v205)
    try (simp -proj only [cov_full, cov_same, cov_slot0, ld_rep_full])
    try (simp -proj only [ld_rep])
    try (rw [ld_rep arg7 X.del ![0, 14, 0, 0], ld_rep arg7 X.del ![0, 15, 0, 0]])
    all_goals rfl
  iapply (at_of_read c arg15 _ _)
  isplitl [H15]; · iexact H15
  ipureintro
  rw [rd_full]
  try (delta run32a.sl.Hdk_1 run32a.sl.Hdv_1 run32a.sl.cst_116 run32a.sl.v139 run32a.sl.v142 run32a.sl.v143 run32a.sl.v144
              run32a.sl.v161 run32a.sl.v166 run32a.sl.v177 run32a.sl.v181 run32a.sl.v183 run32a.sl.v185 run32a.sl.v186 run32a.sl.v187
              run32a.sl.v188 run32a.sl.v190 run32a.sl.v191 run32a.sl.v194 run32a.sl.v195 run32a.sl.v197 run32a.sl.v199 run32a.sl.v200
              run32a.sl.v202 run32a.sl.v203 run32a.sl.v204 run32a.sl.v205)
  try (delta run32a.sl.v192)
  try (delta run32a.sl.Hdk_1 run32a.sl.Hdv_1 run32a.sl.cst_116 run32a.sl.v139 run32a.sl.v142 run32a.sl.v143 run32a.sl.v144
              run32a.sl.v161 run32a.sl.v166 run32a.sl.v177 run32a.sl.v181 run32a.sl.v183 run32a.sl.v185 run32a.sl.v186 run32a.sl.v187
              run32a.sl.v188 run32a.sl.v190 run32a.sl.v191 run32a.sl.v194 run32a.sl.v195 run32a.sl.v197 run32a.sl.v199 run32a.sl.v200
              run32a.sl.v202 run32a.sl.v203 run32a.sl.v204 run32a.sl.v205)
  try (simp -proj only [cov_full, cov_same, cov_slot0, ld_rep_full])
  try (simp -proj only [ld_rep])
  try (rw [ld_rep arg7 X.del ![0, 14, 0, 0], ld_rep arg7 X.del ![0, 15, 0, 0]])
  all_goals rfl

set_option maxHeartbeats 2000000 in
theorem run32b (h3 : ¬ k0_cond3 i = 1#1) (h4 : k0_cond4 i = 1#1) (X : In F) (S : St F) (O : S4096x256.Idx → Elt F .bf16) (v20 v123 v138 : BitVec 32) (v137 : BitVec 1) :
    iprop(held c arg2 arg5 arg6 arg7 arg21 arg22 arg23 arg24 arg25 X S ∗ at_ c arg13 O ∗ some_ c arg14 ∗ some_ c arg15)
      ⊢ wp frame (wpE (defs₀ (F := F)) 𝒱₀ (c : Thread nD τ) none) Set.univ
          (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 (BitVec.ofNat 32 (i 1).val) X.kb X.vb v20 v123 v137 v138)
          (fun _ => iprop(held c arg2 arg5 arg6 arg7 arg21 arg22 arg23 arg24 arg25 X (endSt i X S) ∗ outs c arg13 arg14 arg15 i (endSt i X S) O)) := by
  have e : endSt i X S = tripsSt i X S (k0_t1_loop i).trips := (if_neg h3)
  rw [e]
  iintro ⟨⟨Hq, Hdo, Hl, Hd, Hdk, Hdv, Hs, Hp, Hdq⟩, HO, ⟨%f14, H14⟩, ⟨%f15, H15⟩⟩
  sl_exec
  sl_step
  isplitl [Hq Hdo Hl Hd Hdk Hdv Hs Hp Hdq]
  · isplitl [Hq]; · iexact Hq
    isplitl [Hdo]; · iexact Hdo
    isplitl [Hl]; · iexact Hl
    isplitl [Hd]; · iexact Hd
    isplitl [Hdk]; · iexact Hdk
    isplitl [Hdv]; · iexact Hdv
    isplitl [Hs]; · iexact Hs
    isplitl [Hp]; · iexact Hp
    iexact Hdq
  isplitl [HO]
  · iapply (at_of_read c arg13 _ _)
    isplitl [HO]; · iexact HO
    ipureintro
    rw [rd_full, if_pos h4]
    try (delta run32b.sl.v139 run32b.sl.v140 run32b.sl.v142 run32b.sl.v143 run32b.sl.v144)
    try (simp -proj only [cov_full, cov_same, cov_slot0, ld_rep_full])
    all_goals rfl
  isplitl [H14]
  · iapply (at_of_read c arg14 _ _)
    isplitl [H14]; · iexact H14
    ipureintro
    rw [rd_full]
    try (delta run32b.sl.v139 run32b.sl.v140 run32b.sl.v142 run32b.sl.v143 run32b.sl.v144)
    try (simp -proj only [cov_full, cov_same, cov_slot0, ld_rep_full])
    try (simp -proj only [ld_rep])
    all_goals rfl
  iapply (at_of_read c arg15 _ _)
  isplitl [H15]; · iexact H15
  ipureintro
  rw [rd_full]
  try (delta run32b.sl.v139 run32b.sl.v140 run32b.sl.v142 run32b.sl.v143 run32b.sl.v144)
  try (simp -proj only [cov_full, cov_same, cov_slot0, ld_rep_full])
  try (simp -proj only [ld_rep])
  all_goals rfl

set_option maxHeartbeats 2000000 in
theorem run32c (h3 : ¬ k0_cond3 i = 1#1) (h4 : ¬ k0_cond4 i = 1#1) (X : In F) (S : St F) (O : S4096x256.Idx → Elt F .bf16) (v20 v123 v138 : BitVec 32) (v137 : BitVec 1) :
    iprop(held c arg2 arg5 arg6 arg7 arg21 arg22 arg23 arg24 arg25 X S ∗ at_ c arg13 O ∗ some_ c arg14 ∗ some_ c arg15)
      ⊢ wp frame (wpE (defs₀ (F := F)) 𝒱₀ (c : Thread nD τ) none) Set.univ
          (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 (BitVec.ofNat 32 (i 1).val) X.kb X.vb v20 v123 v137 v138)
          (fun _ => iprop(held c arg2 arg5 arg6 arg7 arg21 arg22 arg23 arg24 arg25 X (endSt i X S) ∗ outs c arg13 arg14 arg15 i (endSt i X S) O)) := by
  have e : endSt i X S = tripsSt i X S (k0_t1_loop i).trips := (if_neg h3)
  rw [e]
  iintro ⟨⟨Hq, Hdo, Hl, Hd, Hdk, Hdv, Hs, Hp, Hdq⟩, HO, ⟨%f14, H14⟩, ⟨%f15, H15⟩⟩
  sl_exec
  sl_step
  isplitl [Hq Hdo Hl Hd Hdk Hdv Hs Hp Hdq]
  · isplitl [Hq]; · iexact Hq
    isplitl [Hdo]; · iexact Hdo
    isplitl [Hl]; · iexact Hl
    isplitl [Hd]; · iexact Hd
    isplitl [Hdk]; · iexact Hdk
    isplitl [Hdv]; · iexact Hdv
    isplitl [Hs]; · iexact Hs
    isplitl [Hp]; · iexact Hp
    iexact Hdq
  isplitl [HO]
  · rw [if_neg h4]; iexact HO
  isplitl [H14]
  · iapply (at_of_read c arg14 _ _)
    isplitl [H14]; · iexact H14
    ipureintro
    rw [rd_full]
    try (delta run32c.sl.v139 run32c.sl.v140 run32c.sl.v142 run32c.sl.v143 run32c.sl.v144)
    try (simp -proj only [cov_full, cov_same, cov_slot0, ld_rep_full])
    try (simp -proj only [ld_rep])
    all_goals rfl
  iapply (at_of_read c arg15 _ _)
  isplitl [H15]; · iexact H15
  ipureintro
  rw [rd_full]
  try (delta run32c.sl.v139 run32c.sl.v140 run32c.sl.v142 run32c.sl.v143 run32c.sl.v144)
  try (simp -proj only [cov_full, cov_same, cov_slot0, ld_rep_full])
  try (simp -proj only [ld_rep])
  all_goals rfl

theorem not34 : ∀ i : grid0.Coords, k0_cond3 i = 1#1 → ¬ k0_cond4 i = 1#1 := by decide +kernel

theorem run32 (X : In F) (S : St F) (O : S4096x256.Idx → Elt F .bf16) (v20 v123 v138 : BitVec 32) (v137 : BitVec 1) :
    iprop(held c arg2 arg5 arg6 arg7 arg21 arg22 arg23 arg24 arg25 X S ∗ at_ c arg13 O ∗ some_ c arg14 ∗ some_ c arg15)
      ⊢ wp frame (wpE (defs₀ (F := F)) 𝒱₀ (c : Thread nD τ) none) Set.univ
          (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 (BitVec.ofNat 32 (i 1).val) X.kb X.vb v20 v123 v137 v138)
          (fun _ => iprop(held c arg2 arg5 arg6 arg7 arg21 arg22 arg23 arg24 arg25 X (endSt i X S) ∗ outs c arg13 arg14 arg15 i (endSt i X S) O)) := by
  by_cases h3 : k0_cond3 i = 1#1
  · exact run32a c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 h3 (not34 i h3) X S O v20 v123 v138 v137
  · by_cases h4 : k0_cond4 i = 1#1
    · exact run32b c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 h3 h4 X S O v20 v123 v138 v137
    · exact run32c c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 h3 h4 X S O v20 v123 v138 v137

theorem run28 (h1 : ¬ k0_cond1 i = 1#1) (X : In F) (S : St F) :
    held28 c arg2 arg3 arg4 arg21 arg22 arg23 arg25 X S
      ⊢ wp frame (wpE (defs₀ (F := F)) 𝒱₀ (c : Thread nD τ) none) Set.univ
          (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27)
          (fun r => iprop(⌜r = ret28 i X⌝ ∗ held28 c arg2 arg3 arg4 arg21 arg22 arg23 arg25 X (zeroSt i S))) := by
  by_cases h2 : cond2 i = 1#1
  · exact run28z c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 h1 h2 X S
  · exact run28n c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 arg27 h1 h2 X S

end Body

end Cert.KernelIdeal

end
-- ==== Proof.First.lean ====
/- The first grid point: the fifteen copies are started, then the point's compute begins as at every other point. -/
module

public import proofs.«01_k».proof.Proof.Exch
public import proofs.«01_k».proof.Proof.Body

@[expose] public section

set_option maxRecDepth 16384

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

section First
variable (m : (ℓ : Loc nD τ sig) → Buf (Elt F) ℓ) (c : Dev nD) (i : grid0.Coords)
  (arg2 : Memref sig .tc .vmem S4096x256 .bf16) (harg2 : arg2.IsWhole)
  (arg3 : Memref sig .tc .vmem S512x256 .bf16) (harg3 : arg3.IsWhole)
  (arg4 : Memref sig .tc .vmem S512x128 .bf16) (harg4 : arg4.IsWhole)
  (arg5 : Memref sig .tc .vmem S4096x128 .bf16) (harg5 : arg5.IsWhole)
  (arg6 : Memref sig .tc .vmem S1x8x1x512 .f32) (harg6 : arg6.IsWhole)
  (arg7 : Memref sig .tc .vmem S1x16x1x256 .f32) (harg7 : arg7.IsWhole)
  (harg8 : (Memref.whole main_arg6).IsWhole)
  (harg9 : (Memref.whole main_arg7).IsWhole)
  (harg10 : (Memref.whole main_arg8).IsWhole)
  (harg11 : (Memref.whole main_arg9).IsWhole)
  (harg12 : (Memref.whole main_arg10).IsWhole)
  (arg13 : Memref sig .tc .vmem S4096x256 .bf16) (harg13 : arg13.IsWhole)
  (arg14 : Memref sig .tc .vmem S512x256 .bf16) (harg14 : arg14.IsWhole)
  (arg15 : Memref sig .tc .vmem S512x128 .bf16) (harg15 : arg15.IsWhole)
  (harg16 : (Memref.whole main_v1_3).IsWhole)
  (harg17 : (Memref.whole main_v1_4).IsWhole)
  (harg18 : (Memref.whole main_v1_5).IsWhole)
  (harg19 : (Memref.whole main_v1_6).IsWhole)
  (harg20 : (Memref.whole main_v1_7).IsWhole)
  (arg21 : Memref sig .tc .vmem S512x256 .f32) (harg21 : arg21.IsWhole)
  (arg22 : Memref sig .tc .vmem S512x128 .f32) (harg22 : arg22.IsWhole)
  (arg23 : Memref sig .tc .vmem S2x512x512 .f32) (harg23 : arg23.IsWhole)
  (arg24 : Memref sig .tc .vmem S2x512x512 .f32) (harg24 : arg24.IsWhole)
  (arg25 : Memref sig .tc .vmem S4096x256 .f32) (harg25 : arg25.IsWhole)
  (W : Waits sig Unit)

set_option maxHeartbeats 4000000 in
theorem start (h1 : k0_cond1 i = 1#1) (h2 : cond2 i = 1#1) (X : In F) (S : St F) :
    iprop(held28 c arg2 arg3 arg4 arg21 arg22 arg23 arg25 X S ∗ ready m 0 c ∗ ready m 1 c ∗ ready m 2 c ∗ ready m 3 c ∗ ready m 4 c ∗ ready m 5 c ∗ ready m 6 c ∗ ready m 7 c ∗ ready m 8 c ∗ ready m 9 c ∗ ready m 10 c ∗ ready m 11 c ∗ ready m 12 c ∗ ready m 13 c ∗ ready m 14 c ∗ owes (c : Thread nD τ) (owing 0 c) W)
      ⊢ wp frame (wpE (defs₀ (F := F)) 𝒱₀ (c : Thread nD τ) none) Set.univ
          (k0_part28 (F := F) i arg2 harg2 arg3 harg3 arg4 harg4 arg5 harg5 arg6 harg6 arg7 harg7 (Memref.whole main_arg6) harg8 (Memref.whole main_arg7) harg9 (Memref.whole main_arg8) harg10 (Memref.whole main_arg9) harg11 (Memref.whole main_arg10) harg12 arg13 harg13 arg14 harg14 arg15 harg15 (Memref.whole main_v1_3) harg16 (Memref.whole main_v1_4) harg17 (Memref.whole main_v1_5) harg18 (Memref.whole main_v1_6) harg19 (Memref.whole main_v1_7) harg20 arg21 harg21 arg22 harg22 arg23 harg23 arg24 harg24 arg25 harg25 cc0_scratch5 cc0_scratch6)
          (fun r => iprop(⌜r = ret28 i X⌝ ∗ held28 c arg2 arg3 arg4 arg21 arg22 arg23 arg25 X (zeroSt i S)
            ∗ owes (c : Thread nD τ) 0 W ∗ flying m 0 c ∗ flying m 1 c ∗ flying m 2 c ∗ flying m 3 c ∗ flying m 4 c ∗ flying m 5 c ∗ flying m 6 c ∗ flying m 7 c ∗ flying m 8 c ∗ flying m 9 c ∗ flying m 10 c ∗ flying m 11 c ∗ flying m 12 c ∗ flying m 13 c ∗ flying m 14 c)) := by
  iintro ⟨⟨Hq, Hk, Hv, Hdk, Hdv, Hs, Hdq⟩, R0, R1, R2, R3, R4, R5, R6, R7, R8, R9, R10, R11, R12, R13, R14, HO⟩
  sl_exec
  iapply (wp_start m 0 c _ (dev1 c _) W 0 1 rfl rfl) $$ [R0 HO]
  · isplitl [R0]; · iexact R0
    iexact HO
  iintro ⟨F0, HO⟩
  sl_exec
  iapply (wp_start m 1 c _ (dev2 c _) W 1 2 rfl rfl) $$ [R1 HO]
  · isplitl [R1]; · iexact R1
    iexact HO
  iintro ⟨F1, HO⟩
  sl_exec
  iapply (wp_start m 2 c _ (dev3 c _) W 2 3 rfl rfl) $$ [R2 HO]
  · isplitl [R2]; · iexact R2
    iexact HO
  iintro ⟨F2, HO⟩
  sl_exec
  iapply (wp_start m 3 c _ (dev4 c _) W 3 4 rfl rfl) $$ [R3 HO]
  · isplitl [R3]; · iexact R3
    iexact HO
  iintro ⟨F3, HO⟩
  sl_exec
  iapply (wp_start m 4 c _ (dev5 c _) W 4 5 rfl rfl) $$ [R4 HO]
  · isplitl [R4]; · iexact R4
    iexact HO
  iintro ⟨F4, HO⟩
  sl_exec
  iapply (wp_start m 5 c _ (dev6 c _) W 5 6 rfl rfl) $$ [R5 HO]
  · isplitl [R5]; · iexact R5
    iexact HO
  iintro ⟨F5, HO⟩
  sl_exec
  iapply (wp_start m 6 c _ (dev7 c _) W 6 7 rfl rfl) $$ [R6 HO]
  · isplitl [R6]; · iexact R6
    iexact HO
  iintro ⟨F6, HO⟩
  sl_exec
  iapply (wp_start m 7 c _ (dev8 c _) W 7 8 rfl rfl) $$ [R7 HO]
  · isplitl [R7]; · iexact R7
    iexact HO
  iintro ⟨F7, HO⟩
  sl_exec
  iapply (wp_start m 8 c _ (dev9 c _) W 8 9 rfl rfl) $$ [R8 HO]
  · isplitl [R8]; · iexact R8
    iexact HO
  iintro ⟨F8, HO⟩
  sl_exec
  iapply (wp_start m 9 c _ (dev10 c _) W 9 10 rfl rfl) $$ [R9 HO]
  · isplitl [R9]; · iexact R9
    iexact HO
  iintro ⟨F9, HO⟩
  sl_exec
  iapply (wp_start m 10 c _ (dev11 c _) W 10 11 rfl rfl) $$ [R10 HO]
  · isplitl [R10]; · iexact R10
    iexact HO
  iintro ⟨F10, HO⟩
  sl_exec
  iapply (wp_start m 11 c _ (dev12 c _) W 11 12 rfl rfl) $$ [R11 HO]
  · isplitl [R11]; · iexact R11
    iexact HO
  iintro ⟨F11, HO⟩
  sl_exec
  iapply (wp_start m 12 c _ (dev13 c _) W 12 13 rfl rfl) $$ [R12 HO]
  · isplitl [R12]; · iexact R12
    iexact HO
  iintro ⟨F12, HO⟩
  sl_exec
  iapply (wp_start m 13 c _ (dev14 c _) W 13 14 rfl rfl) $$ [R13 HO]
  · isplitl [R13]; · iexact R13
    iexact HO
  iintro ⟨F13, HO⟩
  sl_exec
  iapply (wp_start m 14 c _ (dev15 c _) W 14 15 rfl rfl) $$ [R14 HO]
  · isplitl [R14]; · iexact R14
    iexact HO
  iintro ⟨F14, HO⟩
  sl_exec
  sl_step
  isplitr
  · ipureintro
    delta start.sl.cst_105 start.sl.cst_13 start.sl.v0 start.sl.v1 start.sl.v10 start.sl.v11 start.sl.v12 start.sl.v14
              start.sl.v15 start.sl.v17 start.sl.v174 start.sl.v175 start.sl.v176 start.sl.v176_1 start.sl.v177 start.sl.v178
              start.sl.v179 start.sl.v181 start.sl.v182 start.sl.v183 start.sl.v184 start.sl.v187 start.sl.v188 start.sl.v189
              start.sl.v19 start.sl.v190 start.sl.v192 start.sl.v2 start.sl.v20 start.sl.v21 start.sl.v217 start.sl.v218 start.sl.v219
              start.sl.v22 start.sl.v220 start.sl.v221 start.sl.v222 start.sl.v231 start.sl.v232 start.sl.v233 start.sl.v234
              start.sl.v235 start.sl.v236 start.sl.v24 start.sl.v245 start.sl.v246 start.sl.v247 start.sl.v248 start.sl.v249
              start.sl.v250 start.sl.v259 start.sl.v26 start.sl.v260 start.sl.v261 start.sl.v262 start.sl.v263 start.sl.v264
              start.sl.v27 start.sl.v273 start.sl.v274 start.sl.v275 start.sl.v276 start.sl.v277 start.sl.v278 start.sl.v287
              start.sl.v288 start.sl.v289 start.sl.v29 start.sl.v290 start.sl.v291 start.sl.v292 start.sl.v3 start.sl.v30
              start.sl.v301 start.sl.v302 start.sl.v303 start.sl.v304 start.sl.v305 start.sl.v306 start.sl.v315 start.sl.v316
              start.sl.v317 start.sl.v318 start.sl.v319 start.sl.v320 start.sl.v329 start.sl.v330 start.sl.v331 start.sl.v332
              start.sl.v333 start.sl.v334 start.sl.v343 start.sl.v344 start.sl.v345 start.sl.v346 start.sl.v347 start.sl.v348
              start.sl.v357 start.sl.v358 start.sl.v359 start.sl.v360 start.sl.v361 start.sl.v362 start.sl.v371 start.sl.v372
              start.sl.v373 start.sl.v374 start.sl.v375 start.sl.v376 start.sl.v385 start.sl.v386 start.sl.v387 start.sl.v388
              start.sl.v389 start.sl.v390 start.sl.v399 start.sl.v4 start.sl.v400 start.sl.v401 start.sl.v402 start.sl.v403
              start.sl.v404 start.sl.v413 start.sl.v414 start.sl.v415 start.sl.v416 start.sl.v417 start.sl.v418 start.sl.v5
              start.sl.v6 start.sl.v7 start.sl.v8
    simp -proj only [ld_rep_full]
    simp -proj only [ld_rep]
    rfl
  isplitr [HO F0 F1 F2 F3 F4 F5 F6 F7 F8 F9 F10 F11 F12 F13 F14]
  · isplitl [Hq]; · iexact Hq
    isplitl [Hk]; · iexact Hk
    isplitl [Hv]; · iexact Hv
    isplitl [Hdk]
    · iapply (at_of_read c arg21 _ _)
      isplitl [Hdk]; · iexact Hdk
      ipureintro
      rw [rd_full]; rfl
    isplitl [Hdv]
    · iapply (at_of_read c arg22 _ _)
      isplitl [Hdv]; · iexact Hdv
      ipureintro
      rw [rd_full]; rfl
    isplitl [Hs]; · iexact Hs
    iapply (at_of_read c arg25 _ _)
    isplitl [Hdq]; · iexact Hdq
    ipureintro
    rw [rd_full]
    exact (if_pos ((cond2_iff i).1 h2)).symm
  isplitl [HO]; · iapply (Entails.of_eq (congrArg (fun o => (owes (c : Thread nD τ) o W : sProp 𝕄)) (owing_end c))); iexact HO
  isplitl [F0]; · iexact F0
  isplitl [F1]; · iexact F1
  isplitl [F2]; · iexact F2
  isplitl [F3]; · iexact F3
  isplitl [F4]; · iexact F4
  isplitl [F5]; · iexact F5
  isplitl [F6]; · iexact F6
  isplitl [F7]; · iexact F7
  isplitl [F8]; · iexact F8
  isplitl [F9]; · iexact F9
  isplitl [F10]; · iexact F10
  isplitl [F11]; · iexact F11
  isplitl [F12]; · iexact F12
  isplitl [F13]; · iexact F13
  iexact F14

end First

end Cert.KernelIdeal

end
-- ==== Proof.Last.lean ====
/- The last grid point's end: every copy is awaited, its departure and its arrival. -/
module

public import proofs.«01_k».proof.Proof.Exch
public import proofs.«01_k».proof.Proof.Body

@[expose] public section

set_option maxRecDepth 16384

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

section Last
variable (m : (ℓ : Loc nD τ sig) → Buf (Elt F) ℓ) (c : Dev nD) (i : grid0.Coords)
  (arg2 : Memref sig .tc .vmem S4096x256 .bf16) (harg2 : arg2.IsWhole)
  (arg3 : Memref sig .tc .vmem S512x256 .bf16) (harg3 : arg3.IsWhole)
  (arg4 : Memref sig .tc .vmem S512x128 .bf16) (harg4 : arg4.IsWhole)
  (arg5 : Memref sig .tc .vmem S4096x128 .bf16) (harg5 : arg5.IsWhole)
  (arg6 : Memref sig .tc .vmem S1x8x1x512 .f32) (harg6 : arg6.IsWhole)
  (arg7 : Memref sig .tc .vmem S1x16x1x256 .f32) (harg7 : arg7.IsWhole)
  (harg8 : (Memref.whole main_arg6).IsWhole)
  (harg9 : (Memref.whole main_arg7).IsWhole)
  (harg10 : (Memref.whole main_arg8).IsWhole)
  (harg11 : (Memref.whole main_arg9).IsWhole)
  (harg12 : (Memref.whole main_arg10).IsWhole)
  (arg13 : Memref sig .tc .vmem S4096x256 .bf16) (harg13 : arg13.IsWhole)
  (arg14 : Memref sig .tc .vmem S512x256 .bf16) (harg14 : arg14.IsWhole)
  (arg15 : Memref sig .tc .vmem S512x128 .bf16) (harg15 : arg15.IsWhole)
  (harg16 : (Memref.whole main_v1_3).IsWhole)
  (harg17 : (Memref.whole main_v1_4).IsWhole)
  (harg18 : (Memref.whole main_v1_5).IsWhole)
  (harg19 : (Memref.whole main_v1_6).IsWhole)
  (harg20 : (Memref.whole main_v1_7).IsWhole)
  (arg21 : Memref sig .tc .vmem S512x256 .f32) (harg21 : arg21.IsWhole)
  (arg22 : Memref sig .tc .vmem S512x128 .f32) (harg22 : arg22.IsWhole)
  (arg23 : Memref sig .tc .vmem S2x512x512 .f32) (harg23 : arg23.IsWhole)
  (arg24 : Memref sig .tc .vmem S2x512x512 .f32) (harg24 : arg24.IsWhole)
  (arg25 : Memref sig .tc .vmem S4096x256 .f32) (harg25 : arg25.IsWhole)
  (W : Waits sig Unit)

set_option maxHeartbeats 4000000 in
theorem finish (h5 : k0_cond5 i = 1#1) :
    iprop(owes (c : Thread nD τ) 0 W ∗ flying m 0 c ∗ flying m 1 c ∗ flying m 2 c ∗ flying m 3 c ∗ flying m 4 c ∗ flying m 5 c ∗ flying m 6 c ∗ flying m 7 c ∗ flying m 8 c ∗ flying m 9 c ∗ flying m 10 c ∗ flying m 11 c ∗ flying m 12 c ∗ flying m 13 c ∗ flying m 14 c)
      ⊢ wp frame (wpE (defs₀ (F := F)) 𝒱₀ (c : Thread nD τ) none) Set.univ
          ((do
            let d174 : Dev nD ← k0_part27 (F := F) i arg2 harg2 arg3 harg3 arg4 harg4 arg5 harg5 arg6 harg6 arg7 harg7 (Memref.whole main_arg6) harg8 (Memref.whole main_arg7) harg9 (Memref.whole main_arg8) harg10 (Memref.whole main_arg9) harg11 (Memref.whole main_arg10) harg12 arg13 harg13 arg14 harg14 arg15 harg15 (Memref.whole main_v1_3) harg16 (Memref.whole main_v1_4) harg17 (Memref.whole main_v1_5) harg18 (Memref.whole main_v1_6) harg19 (Memref.whole main_v1_7) harg20 arg21 harg21 arg22 harg22 arg23 harg23 arg24 harg24 arg25 harg25 cc0_scratch5 cc0_scratch6 h5
            let v485 : Memref sig .tc .hbm S1x128x1024 .bf16 := (Memref.whole main_arg10).slice (Rect.unit (s := S4x128x1024) (Cert.KernelIdeal.k0_off46 d174) S1x128x1024.size (Gen.k0_off46_inb i d174 h5)) (fun _ => rfl)
            let v486 : Memref sig .tc .hbm S128x1024 .bf16 := v485.squeeze S128x1024 Gen.squeezes_S1x128x1024_S128x1024
            let v481 : DmaSems sig S1 := cc0_scratch6.slice (Rect.unit (s := S15) ![14] S1.size Gen.inb_S15_S1_14)
            let v482 : DmaSems sig S_ := v481.squeeze S_ Gen.squeezes_S1_S_
            let v483 : Memref sig .tc .hbm S1x128x1024 .bf16 := (Memref.whole main_v1_7).slice (Rect.unit (s := S3x128x1024) ![2, 0, 0] S1x128x1024.size Gen.inb_S3x128x1024_S1x128x1024_2_0_0) (fun _ => rfl)
            let v484 : Memref sig .tc .hbm S128x1024 .bf16 := v483.squeeze S128x1024 Gen.squeezes_S1x128x1024_S128x1024
            Prog.lift (.waitDma2 v482.sem v486 v484 ((harg12.wordExact_slice rfl _ (Gen.k0_off46_wordsbf16 i d174 h5)).reshape _ _) ((harg20.wordExact_slice rfl _ Gen.wordsbf16_S3x128x1024_S1x128x1024_2_0_0).reshape _ _))
            pure ⟨⟩) : Prog (TpuEff nD τ sig (Elt F) Λ₀ .tc) PUnit)
          (fun _ => iprop((∃ W', owes (c : Thread nD τ) 0 W') ∗ done m 0 c ∗ done m 1 c ∗ done m 2 c ∗ done m 3 c ∗ done m 4 c ∗ done m 5 c ∗ done m 6 c ∗ done m 7 c ∗ done m 8 c ∗ done m 9 c ∗ done m 10 c ∗ done m 11 c ∗ done m 12 c ∗ done m 13 c ∗ done m 14 c)) := by
  unfold flying
  iintro ⟨HO, ⟨S0, R0⟩, ⟨S1, R1⟩, ⟨S2, R2⟩, ⟨S3, R3⟩, ⟨S4, R4⟩, ⟨S5, R5⟩, ⟨S6, R6⟩, ⟨S7, R7⟩, ⟨S8, R8⟩, ⟨S9, R9⟩, ⟨S10, R10⟩, ⟨S11, R11⟩, ⟨S12, R12⟩, ⟨S13, R13⟩, ⟨S14, R14⟩⟩
  sl_exec
  iapply (wp_sent m 0 c _) $$ [S0 HO]
  · isplitl [S0]; · iexact S0
    iexact HO
  iintro ⟨Z0, ⟨%w0, HO⟩⟩
  sl_exec
  iapply (wp_arrived m 0 c _) $$ [R0 HO]
  · isplitl [R0]; · iexact R0
    iexact HO
  iintro ⟨⟨G0, Y0⟩, ⟨%u0, HO⟩⟩
  sl_exec
  iapply (wp_sent m 1 c _) $$ [S1 HO]
  · isplitl [S1]; · iexact S1
    iexact HO
  iintro ⟨Z1, ⟨%w1, HO⟩⟩
  sl_exec
  iapply (wp_arrived m 1 c _) $$ [R1 HO]
  · isplitl [R1]; · iexact R1
    iexact HO
  iintro ⟨⟨G1, Y1⟩, ⟨%u1, HO⟩⟩
  sl_exec
  iapply (wp_sent m 2 c _) $$ [S2 HO]
  · isplitl [S2]; · iexact S2
    iexact HO
  iintro ⟨Z2, ⟨%w2, HO⟩⟩
  sl_exec
  iapply (wp_arrived m 2 c _) $$ [R2 HO]
  · isplitl [R2]; · iexact R2
    iexact HO
  iintro ⟨⟨G2, Y2⟩, ⟨%u2, HO⟩⟩
  sl_exec
  iapply (wp_sent m 3 c _) $$ [S3 HO]
  · isplitl [S3]; · iexact S3
    iexact HO
  iintro ⟨Z3, ⟨%w3, HO⟩⟩
  sl_exec
  iapply (wp_arrived m 3 c _) $$ [R3 HO]
  · isplitl [R3]; · iexact R3
    iexact HO
  iintro ⟨⟨G3, Y3⟩, ⟨%u3, HO⟩⟩
  sl_exec
  iapply (wp_sent m 4 c _) $$ [S4 HO]
  · isplitl [S4]; · iexact S4
    iexact HO
  iintro ⟨Z4, ⟨%w4, HO⟩⟩
  sl_exec
  iapply (wp_arrived m 4 c _) $$ [R4 HO]
  · isplitl [R4]; · iexact R4
    iexact HO
  iintro ⟨⟨G4, Y4⟩, ⟨%u4, HO⟩⟩
  sl_exec
  iapply (wp_sent m 5 c _) $$ [S5 HO]
  · isplitl [S5]; · iexact S5
    iexact HO
  iintro ⟨Z5, ⟨%w5, HO⟩⟩
  sl_exec
  iapply (wp_arrived m 5 c _) $$ [R5 HO]
  · isplitl [R5]; · iexact R5
    iexact HO
  iintro ⟨⟨G5, Y5⟩, ⟨%u5, HO⟩⟩
  sl_exec
  iapply (wp_sent m 6 c _) $$ [S6 HO]
  · isplitl [S6]; · iexact S6
    iexact HO
  iintro ⟨Z6, ⟨%w6, HO⟩⟩
  sl_exec
  iapply (wp_arrived m 6 c _) $$ [R6 HO]
  · isplitl [R6]; · iexact R6
    iexact HO
  iintro ⟨⟨G6, Y6⟩, ⟨%u6, HO⟩⟩
  sl_exec
  iapply (wp_sent m 7 c _) $$ [S7 HO]
  · isplitl [S7]; · iexact S7
    iexact HO
  iintro ⟨Z7, ⟨%w7, HO⟩⟩
  sl_exec
  iapply (wp_arrived m 7 c _) $$ [R7 HO]
  · isplitl [R7]; · iexact R7
    iexact HO
  iintro ⟨⟨G7, Y7⟩, ⟨%u7, HO⟩⟩
  sl_exec
  iapply (wp_sent m 8 c _) $$ [S8 HO]
  · isplitl [S8]; · iexact S8
    iexact HO
  iintro ⟨Z8, ⟨%w8, HO⟩⟩
  sl_exec
  iapply (wp_arrived m 8 c _) $$ [R8 HO]
  · isplitl [R8]; · iexact R8
    iexact HO
  iintro ⟨⟨G8, Y8⟩, ⟨%u8, HO⟩⟩
  sl_exec
  iapply (wp_sent m 9 c _) $$ [S9 HO]
  · isplitl [S9]; · iexact S9
    iexact HO
  iintro ⟨Z9, ⟨%w9, HO⟩⟩
  sl_exec
  iapply (wp_arrived m 9 c _) $$ [R9 HO]
  · isplitl [R9]; · iexact R9
    iexact HO
  iintro ⟨⟨G9, Y9⟩, ⟨%u9, HO⟩⟩
  sl_exec
  iapply (wp_sent m 10 c _) $$ [S10 HO]
  · isplitl [S10]; · iexact S10
    iexact HO
  iintro ⟨Z10, ⟨%w10, HO⟩⟩
  sl_exec
  iapply (wp_arrived m 10 c _) $$ [R10 HO]
  · isplitl [R10]; · iexact R10
    iexact HO
  iintro ⟨⟨G10, Y10⟩, ⟨%u10, HO⟩⟩
  sl_exec
  iapply (wp_sent m 11 c _) $$ [S11 HO]
  · isplitl [S11]; · iexact S11
    iexact HO
  iintro ⟨Z11, ⟨%w11, HO⟩⟩
  sl_exec
  iapply (wp_arrived m 11 c _) $$ [R11 HO]
  · isplitl [R11]; · iexact R11
    iexact HO
  iintro ⟨⟨G11, Y11⟩, ⟨%u11, HO⟩⟩
  sl_exec
  iapply (wp_sent m 12 c _) $$ [S12 HO]
  · isplitl [S12]; · iexact S12
    iexact HO
  iintro ⟨Z12, ⟨%w12, HO⟩⟩
  sl_exec
  iapply (wp_arrived m 12 c _) $$ [R12 HO]
  · isplitl [R12]; · iexact R12
    iexact HO
  iintro ⟨⟨G12, Y12⟩, ⟨%u12, HO⟩⟩
  sl_exec
  iapply (wp_sent m 13 c _) $$ [S13 HO]
  · isplitl [S13]; · iexact S13
    iexact HO
  iintro ⟨Z13, ⟨%w13, HO⟩⟩
  sl_exec
  iapply (wp_arrived m 13 c _) $$ [R13 HO]
  · isplitl [R13]; · iexact R13
    iexact HO
  iintro ⟨⟨G13, Y13⟩, ⟨%u13, HO⟩⟩
  sl_exec
  iapply (wp_sent m 14 c _) $$ [S14 HO]
  · isplitl [S14]; · iexact S14
    iexact HO
  iintro ⟨Z14, ⟨%w14, HO⟩⟩
  sl_exec
  iapply (wp_arrived m 14 c _) $$ [R14 HO]
  · isplitl [R14]; · iexact R14
    iexact HO
  iintro ⟨⟨G14, Y14⟩, ⟨%u14, HO⟩⟩
  sl_exec
  sl_step
  unfold done
  isplitl [HO]; · iexists _; iexact HO
  isplitl [Z0 G0 Y0]
  · isplitl [Z0]; · iexact Z0
    isplitl [G0]; · iexact G0
    iexact Y0
  isplitl [Z1 G1 Y1]
  · isplitl [Z1]; · iexact Z1
    isplitl [G1]; · iexact G1
    iexact Y1
  isplitl [Z2 G2 Y2]
  · isplitl [Z2]; · iexact Z2
    isplitl [G2]; · iexact G2
    iexact Y2
  isplitl [Z3 G3 Y3]
  · isplitl [Z3]; · iexact Z3
    isplitl [G3]; · iexact G3
    iexact Y3
  isplitl [Z4 G4 Y4]
  · isplitl [Z4]; · iexact Z4
    isplitl [G4]; · iexact G4
    iexact Y4
  isplitl [Z5 G5 Y5]
  · isplitl [Z5]; · iexact Z5
    isplitl [G5]; · iexact G5
    iexact Y5
  isplitl [Z6 G6 Y6]
  · isplitl [Z6]; · iexact Z6
    isplitl [G6]; · iexact G6
    iexact Y6
  isplitl [Z7 G7 Y7]
  · isplitl [Z7]; · iexact Z7
    isplitl [G7]; · iexact G7
    iexact Y7
  isplitl [Z8 G8 Y8]
  · isplitl [Z8]; · iexact Z8
    isplitl [G8]; · iexact G8
    iexact Y8
  isplitl [Z9 G9 Y9]
  · isplitl [Z9]; · iexact Z9
    isplitl [G9]; · iexact G9
    iexact Y9
  isplitl [Z10 G10 Y10]
  · isplitl [Z10]; · iexact Z10
    isplitl [G10]; · iexact G10
    iexact Y10
  isplitl [Z11 G11 Y11]
  · isplitl [Z11]; · iexact Z11
    isplitl [G11]; · iexact G11
    iexact Y11
  isplitl [Z12 G12 Y12]
  · isplitl [Z12]; · iexact Z12
    isplitl [G12]; · iexact G12
    iexact Y12
  isplitl [Z13 G13 Y13]
  · isplitl [Z13]; · iexact Z13
    isplitl [G13]; · iexact G13
    iexact Y13
  isplitl [Z14]; · iexact Z14
  isplitl [G14]; · iexact G14
  iexact Y14

end Last

end Cert.KernelIdeal

end
-- ==== Proof.Point.lean ====
/- A grid point whole: at the first the copies are started, at the last they are awaited, and every point computes the
   same function of its blocks and of what the point before it left. -/
module

public import proofs.«01_k».proof.Proof.First
public import proofs.«01_k».proof.Proof.Last

@[expose] public section

set_option maxRecDepth 16384

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-- The fifteen copies before they start, in flight, and completed. -/
abbrev readyAll (m : (ℓ : Loc nD τ sig) → Buf (Elt F) ℓ) (c : Dev nD) : sProp 𝕄 := iprop(ready m 0 c ∗ ready m 1 c ∗ ready m 2 c ∗ ready m 3 c ∗ ready m 4 c ∗ ready m 5 c ∗ ready m 6 c ∗ ready m 7 c ∗ ready m 8 c ∗ ready m 9 c ∗ ready m 10 c ∗ ready m 11 c ∗ ready m 12 c ∗ ready m 13 c ∗ ready m 14 c)
abbrev flyingAll (m : (ℓ : Loc nD τ sig) → Buf (Elt F) ℓ) (c : Dev nD) : sProp 𝕄 := iprop(flying m 0 c ∗ flying m 1 c ∗ flying m 2 c ∗ flying m 3 c ∗ flying m 4 c ∗ flying m 5 c ∗ flying m 6 c ∗ flying m 7 c ∗ flying m 8 c ∗ flying m 9 c ∗ flying m 10 c ∗ flying m 11 c ∗ flying m 12 c ∗ flying m 13 c ∗ flying m 14 c)
abbrev doneAll (m : (ℓ : Loc nD τ sig) → Buf (Elt F) ℓ) (c : Dev nD) : sProp 𝕄 := iprop(done m 0 c ∗ done m 1 c ∗ done m 2 c ∗ done m 3 c ∗ done m 4 c ∗ done m 5 c ∗ done m 6 c ∗ done m 7 c ∗ done m 8 c ∗ done m 9 c ∗ done m 10 c ∗ done m 11 c ∗ done m 12 c ∗ done m 13 c ∗ done m 14 c)

section Point
variable (m : (ℓ : Loc nD τ sig) → Buf (Elt F) ℓ) (c : Dev nD) (i : grid0.Coords)
  (arg2 : Memref sig .tc .vmem S4096x256 .bf16) (harg2 : arg2.IsWhole)
  (arg3 : Memref sig .tc .vmem S512x256 .bf16) (harg3 : arg3.IsWhole)
  (arg4 : Memref sig .tc .vmem S512x128 .bf16) (harg4 : arg4.IsWhole)
  (arg5 : Memref sig .tc .vmem S4096x128 .bf16) (harg5 : arg5.IsWhole)
  (arg6 : Memref sig .tc .vmem S1x8x1x512 .f32) (harg6 : arg6.IsWhole)
  (arg7 : Memref sig .tc .vmem S1x16x1x256 .f32) (harg7 : arg7.IsWhole)
  (harg8 : (Memref.whole main_arg6).IsWhole)
  (harg9 : (Memref.whole main_arg7).IsWhole)
  (harg10 : (Memref.whole main_arg8).IsWhole)
  (harg11 : (Memref.whole main_arg9).IsWhole)
  (harg12 : (Memref.whole main_arg10).IsWhole)
  (arg13 : Memref sig .tc .vmem S4096x256 .bf16) (harg13 : arg13.IsWhole)
  (arg14 : Memref sig .tc .vmem S512x256 .bf16) (harg14 : arg14.IsWhole)
  (arg15 : Memref sig .tc .vmem S512x128 .bf16) (harg15 : arg15.IsWhole)
  (harg16 : (Memref.whole main_v1_3).IsWhole)
  (harg17 : (Memref.whole main_v1_4).IsWhole)
  (harg18 : (Memref.whole main_v1_5).IsWhole)
  (harg19 : (Memref.whole main_v1_6).IsWhole)
  (harg20 : (Memref.whole main_v1_7).IsWhole)
  (arg21 : Memref sig .tc .vmem S512x256 .f32) (harg21 : arg21.IsWhole)
  (arg22 : Memref sig .tc .vmem S512x128 .f32) (harg22 : arg22.IsWhole)
  (arg23 : Memref sig .tc .vmem S2x512x512 .f32) (harg23 : arg23.IsWhole)
  (arg24 : Memref sig .tc .vmem S2x512x512 .f32) (harg24 : arg24.IsWhole)
  (arg25 : Memref sig .tc .vmem S4096x256 .f32) (harg25 : arg25.IsWhole)
  (W : Waits sig Unit)

/-- The staged inputs and the scratch buffers. -/
abbrev allAt (X : In F) (S : St F) : sProp 𝕄 :=
  iprop(at_ c arg3 X.kr ∗ at_ c arg4 X.vr ∗ held c arg2 arg5 arg6 arg7 arg21 arg22 arg23 arg24 arg25 X S)

theorem first_head : ∀ i : grid0.Coords, k0_cond1 i = 1#1 → (i 1).val = 0 := by decide +kernel

set_option maxHeartbeats 1000000 in
theorem point_mid (h1 : ¬ k0_cond1 i = 1#1) (h5 : ¬ k0_cond5 i = 1#1) (X : In F) (S : St F) (O : S4096x256.Idx → Elt F .bf16) :
    iprop(allAt c arg2 arg3 arg4 arg5 arg6 arg7 arg21 arg22 arg23 arg24 arg25 X S ∗ at_ c arg13 O ∗ some_ c arg14 ∗ some_ c arg15 ∗ emp)
      ⊢ wp frame (wpE (defs₀ (F := F)) 𝒱₀ (c : Thread nD τ) none) Set.univ
          (Gen.cc0_attn_bwd_skel (F := F) i arg2 harg2 arg3 harg3 arg4 harg4 arg5 harg5 arg6 harg6 arg7 harg7 (Memref.whole main_arg6) harg8 (Memref.whole main_arg7) harg9 (Memref.whole main_arg8) harg10 (Memref.whole main_arg9) harg11 (Memref.whole main_arg10) harg12 arg13 harg13 arg14 harg14 arg15 harg15 (Memref.whole main_v1_3) harg16 (Memref.whole main_v1_4) harg17 (Memref.whole main_v1_5) harg18 (Memref.whole main_v1_6) harg19 (Memref.whole main_v1_7) harg20 arg21 harg21 arg22 harg22 arg23 harg23 arg24 harg24 arg25 harg25 cc0_scratch5 cc0_scratch6)
          (fun _ => iprop(allAt c arg2 arg3 arg4 arg5 arg6 arg7 arg21 arg22 arg23 arg24 arg25 X (pointSt i X S)
            ∗ outs c arg13 arg14 arg15 i (pointSt i X S) O ∗ emp)) := by
  iintro ⟨⟨Hk, Hv, Hq, Hdo, Hl, Hd, Hdk, Hdv, Hs, Hp, Hdq⟩, HO, H14, H15, HX⟩
  unfold Gen.cc0_attn_bwd_skel
  rw [wp_bind]
  iapply (wp_wand _ _ _) $$ [Hq Hk Hv Hdk Hdv Hs Hdq]
  · iapply (run28 c i arg2 harg2 arg3 harg3 arg4 harg4 arg5 harg5 arg6 harg6 arg7 harg7 (Memref.whole main_arg6) harg8 (Memref.whole main_arg7) harg9 (Memref.whole main_arg8) harg10 (Memref.whole main_arg9) harg11 (Memref.whole main_arg10) harg12 arg13 harg13 arg14 harg14 arg15 harg15 (Memref.whole main_v1_3) harg16 (Memref.whole main_v1_4) harg17 (Memref.whole main_v1_5) harg18 (Memref.whole main_v1_6) harg19 (Memref.whole main_v1_7) harg20 arg21 harg21 arg22 harg22 arg23 harg23 arg24 harg24 arg25 harg25 cc0_scratch5 cc0_scratch6 h1 X S)
    isplitl [Hq]; · iexact Hq
    isplitl [Hk]; · iexact Hk
    isplitl [Hv]; · iexact Hv
    isplitl [Hdk]; · iexact Hdk
    isplitl [Hdv]; · iexact Hdv
    isplitl [Hs]; · iexact Hs
    iexact Hdq
  iintro %r ⟨%hr, ⟨Hq, Hk, Hv, Hdk, Hdv, Hs, Hdq⟩⟩
  subst hr
  iapply (run29 c i arg2 harg2 arg3 harg3 arg4 harg4 arg5 harg5 arg6 harg6 arg7 harg7 (Memref.whole main_arg6) harg8 (Memref.whole main_arg7) harg9 (Memref.whole main_arg8) harg10 (Memref.whole main_arg9) harg11 (Memref.whole main_arg10) harg12 arg13 harg13 arg14 harg14 arg15 harg15 (Memref.whole main_v1_3) harg16 (Memref.whole main_v1_4) harg17 (Memref.whole main_v1_5) harg18 (Memref.whole main_v1_6) harg19 (Memref.whole main_v1_7) harg20 arg21 harg21 arg22 harg22 arg23 harg23 arg24 harg24 arg25 harg25 cc0_scratch5 cc0_scratch6 X (zeroSt i S) _ _)
  isplitl [Hq Hdo Hl Hd Hdk Hdv Hs Hp Hdq]
  · isplitl [Hq]; · iexact Hq
    isplitl [Hdo]; · iexact Hdo
    isplitl [Hl]; · iexact Hl
    isplitl [Hd]; · iexact Hd
    isplitl [Hdk]; · iexact Hdk
    isplitl [Hdv]; · iexact Hdv
    isplitl [Hs]; · iexact Hs
    isplitl [Hp]; · iexact Hp
    iexact Hdq
  iintro Hh
  rw [wp_bind]
  iapply (wp_wand _ _ _) $$ [Hh HO H14 H15]
  · iapply (run32 c i arg2 harg2 arg3 harg3 arg4 harg4 arg5 harg5 arg6 harg6 arg7 harg7 (Memref.whole main_arg6) harg8 (Memref.whole main_arg7) harg9 (Memref.whole main_arg8) harg10 (Memref.whole main_arg9) harg11 (Memref.whole main_arg10) harg12 arg13 harg13 arg14 harg14 arg15 harg15 (Memref.whole main_v1_3) harg16 (Memref.whole main_v1_4) harg17 (Memref.whole main_v1_5) harg18 (Memref.whole main_v1_6) harg19 (Memref.whole main_v1_7) harg20 arg21 harg21 arg22 harg22 arg23 harg23 arg24 harg24 arg25 harg25 cc0_scratch5 cc0_scratch6 X (startSt i X (zeroSt i S)) O _ _ _ _)
    isplitl [Hh]; · iexact Hh
    isplitl [HO]; · iexact HO
    isplitl [H14]; · iexact H14
    iexact H15
  iintro %r ⟨⟨Hq, Hdo, Hl, Hd, Hdk, Hdv, Hs, Hp, Hdq⟩, Ho⟩
  rw [dif_neg h5]
  sl_step
  isplitr [Ho HX]
  · isplitl [Hk]; · iexact Hk
    isplitl [Hv]; · iexact Hv
    isplitl [Hq]; · iexact Hq
    isplitl [Hdo]; · iexact Hdo
    isplitl [Hl]; · iexact Hl
    isplitl [Hd]; · iexact Hd
    isplitl [Hdk]; · iexact Hdk
    isplitl [Hdv]; · iexact Hdv
    isplitl [Hs]; · iexact Hs
    isplitl [Hp]; · iexact Hp
    iexact Hdq
  isplitl [Ho]; · iexact Ho
  iexact HX

set_option maxHeartbeats 1000000 in
theorem point_first (h1 : k0_cond1 i = 1#1) (h5 : ¬ k0_cond5 i = 1#1) (X : In F) (S : St F) (O : S4096x256.Idx → Elt F .bf16) :
    iprop(allAt c arg2 arg3 arg4 arg5 arg6 arg7 arg21 arg22 arg23 arg24 arg25 X S ∗ at_ c arg13 O ∗ some_ c arg14 ∗ some_ c arg15 ∗ readyAll m c ∗ owes (c : Thread nD τ) (owing 0 c) W)
      ⊢ wp frame (wpE (defs₀ (F := F)) 𝒱₀ (c : Thread nD τ) none) Set.univ
          (Gen.cc0_attn_bwd_skel (F := F) i arg2 harg2 arg3 harg3 arg4 harg4 arg5 harg5 arg6 harg6 arg7 harg7 (Memref.whole main_arg6) harg8 (Memref.whole main_arg7) harg9 (Memref.whole main_arg8) harg10 (Memref.whole main_arg9) harg11 (Memref.whole main_arg10) harg12 arg13 harg13 arg14 harg14 arg15 harg15 (Memref.whole main_v1_3) harg16 (Memref.whole main_v1_4) harg17 (Memref.whole main_v1_5) harg18 (Memref.whole main_v1_6) harg19 (Memref.whole main_v1_7) harg20 arg21 harg21 arg22 harg22 arg23 harg23 arg24 harg24 arg25 harg25 cc0_scratch5 cc0_scratch6)
          (fun _ => iprop(allAt c arg2 arg3 arg4 arg5 arg6 arg7 arg21 arg22 arg23 arg24 arg25 X (pointSt i X S)
            ∗ outs c arg13 arg14 arg15 i (pointSt i X S) O ∗ owes (c : Thread nD τ) 0 W ∗ flyingAll m c)) := by
  iintro ⟨⟨Hk, Hv, Hq, Hdo, Hl, Hd, Hdk, Hdv, Hs, Hp, Hdq⟩, HO, H14, H15, ⟨R0, R1, R2, R3, R4, R5, R6, R7, R8, R9, R10, R11, R12, R13, R14⟩, Hw⟩
  unfold Gen.cc0_attn_bwd_skel
  rw [wp_bind]
  iapply (wp_wand _ _ _) $$ [Hq Hk Hv Hdk Hdv Hs Hdq R0 R1 R2 R3 R4 R5 R6 R7 R8 R9 R10 R11 R12 R13 R14 Hw]
  · iapply (start m c i arg2 harg2 arg3 harg3 arg4 harg4 arg5 harg5 arg6 harg6 arg7 harg7 harg8 harg9 harg10 harg11 harg12 arg13 harg13 arg14 harg14 arg15 harg15 harg16 harg17 harg18 harg19 harg20 arg21 harg21 arg22 harg22 arg23 harg23 arg24 harg24 arg25 harg25 W h1 ((cond2_iff i).2 (first_head i h1)) X S)
    isplitl [Hq Hk Hv Hdk Hdv Hs Hdq]
    · isplitl [Hq]; · iexact Hq
      isplitl [Hk]; · iexact Hk
      isplitl [Hv]; · iexact Hv
      isplitl [Hdk]; · iexact Hdk
      isplitl [Hdv]; · iexact Hdv
      isplitl [Hs]; · iexact Hs
      iexact Hdq
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact Hw
  iintro %r ⟨%hr, ⟨Hq, Hk, Hv, Hdk, Hdv, Hs, Hdq⟩, HX⟩
  subst hr
  iapply (run29 c i arg2 harg2 arg3 harg3 arg4 harg4 arg5 harg5 arg6 harg6 arg7 harg7 (Memref.whole main_arg6) harg8 (Memref.whole main_arg7) harg9 (Memref.whole main_arg8) harg10 (Memref.whole main_arg9) harg11 (Memref.whole main_arg10) harg12 arg13 harg13 arg14 harg14 arg15 harg15 (Memref.whole main_v1_3) harg16 (Memref.whole main_v1_4) harg17 (Memref.whole main_v1_5) harg18 (Memref.whole main_v1_6) harg19 (Memref.whole main_v1_7) harg20 arg21 harg21 arg22 harg22 arg23 harg23 arg24 harg24 arg25 harg25 cc0_scratch5 cc0_scratch6 X (zeroSt i S) _ _)
  isplitl [Hq Hdo Hl Hd Hdk Hdv Hs Hp Hdq]
  · isplitl [Hq]; · iexact Hq
    isplitl [Hdo]; · iexact Hdo
    isplitl [Hl]; · iexact Hl
    isplitl [Hd]; · iexact Hd
    isplitl [Hdk]; · iexact Hdk
    isplitl [Hdv]; · iexact Hdv
    isplitl [Hs]; · iexact Hs
    isplitl [Hp]; · iexact Hp
    iexact Hdq
  iintro Hh
  rw [wp_bind]
  iapply (wp_wand _ _ _) $$ [Hh HO H14 H15]
  · iapply (run32 c i arg2 harg2 arg3 harg3 arg4 harg4 arg5 harg5 arg6 harg6 arg7 harg7 (Memref.whole main_arg6) harg8 (Memref.whole main_arg7) harg9 (Memref.whole main_arg8) harg10 (Memref.whole main_arg9) harg11 (Memref.whole main_arg10) harg12 arg13 harg13 arg14 harg14 arg15 harg15 (Memref.whole main_v1_3) harg16 (Memref.whole main_v1_4) harg17 (Memref.whole main_v1_5) harg18 (Memref.whole main_v1_6) harg19 (Memref.whole main_v1_7) harg20 arg21 harg21 arg22 harg22 arg23 harg23 arg24 harg24 arg25 harg25 cc0_scratch5 cc0_scratch6 X (startSt i X (zeroSt i S)) O _ _ _ _)
    isplitl [Hh]; · iexact Hh
    isplitl [HO]; · iexact HO
    isplitl [H14]; · iexact H14
    iexact H15
  iintro %r ⟨⟨Hq, Hdo, Hl, Hd, Hdk, Hdv, Hs, Hp, Hdq⟩, Ho⟩
  rw [dif_neg h5]
  sl_step
  isplitr [Ho HX]
  · isplitl [Hk]; · iexact Hk
    isplitl [Hv]; · iexact Hv
    isplitl [Hq]; · iexact Hq
    isplitl [Hdo]; · iexact Hdo
    isplitl [Hl]; · iexact Hl
    isplitl [Hd]; · iexact Hd
    isplitl [Hdk]; · iexact Hdk
    isplitl [Hdv]; · iexact Hdv
    isplitl [Hs]; · iexact Hs
    isplitl [Hp]; · iexact Hp
    iexact Hdq
  isplitl [Ho]; · iexact Ho
  iexact HX

set_option maxHeartbeats 1000000 in
theorem point_last (h1 : ¬ k0_cond1 i = 1#1) (h5 : k0_cond5 i = 1#1) (X : In F) (S : St F) (O : S4096x256.Idx → Elt F .bf16) :
    iprop(allAt c arg2 arg3 arg4 arg5 arg6 arg7 arg21 arg22 arg23 arg24 arg25 X S ∗ at_ c arg13 O ∗ some_ c arg14 ∗ some_ c arg15 ∗ owes (c : Thread nD τ) 0 W ∗ flyingAll m c)
      ⊢ wp frame (wpE (defs₀ (F := F)) 𝒱₀ (c : Thread nD τ) none) Set.univ
          (Gen.cc0_attn_bwd_skel (F := F) i arg2 harg2 arg3 harg3 arg4 harg4 arg5 harg5 arg6 harg6 arg7 harg7 (Memref.whole main_arg6) harg8 (Memref.whole main_arg7) harg9 (Memref.whole main_arg8) harg10 (Memref.whole main_arg9) harg11 (Memref.whole main_arg10) harg12 arg13 harg13 arg14 harg14 arg15 harg15 (Memref.whole main_v1_3) harg16 (Memref.whole main_v1_4) harg17 (Memref.whole main_v1_5) harg18 (Memref.whole main_v1_6) harg19 (Memref.whole main_v1_7) harg20 arg21 harg21 arg22 harg22 arg23 harg23 arg24 harg24 arg25 harg25 cc0_scratch5 cc0_scratch6)
          (fun _ => iprop(allAt c arg2 arg3 arg4 arg5 arg6 arg7 arg21 arg22 arg23 arg24 arg25 X (pointSt i X S)
            ∗ outs c arg13 arg14 arg15 i (pointSt i X S) O ∗ (∃ W', owes (c : Thread nD τ) 0 W') ∗ doneAll m c)) := by
  iintro ⟨⟨Hk, Hv, Hq, Hdo, Hl, Hd, Hdk, Hdv, Hs, Hp, Hdq⟩, HO, H14, H15, HX⟩
  unfold Gen.cc0_attn_bwd_skel
  rw [wp_bind]
  iapply (wp_wand _ _ _) $$ [Hq Hk Hv Hdk Hdv Hs Hdq]
  · iapply (run28 c i arg2 harg2 arg3 harg3 arg4 harg4 arg5 harg5 arg6 harg6 arg7 harg7 (Memref.whole main_arg6) harg8 (Memref.whole main_arg7) harg9 (Memref.whole main_arg8) harg10 (Memref.whole main_arg9) harg11 (Memref.whole main_arg10) harg12 arg13 harg13 arg14 harg14 arg15 harg15 (Memref.whole main_v1_3) harg16 (Memref.whole main_v1_4) harg17 (Memref.whole main_v1_5) harg18 (Memref.whole main_v1_6) harg19 (Memref.whole main_v1_7) harg20 arg21 harg21 arg22 harg22 arg23 harg23 arg24 harg24 arg25 harg25 cc0_scratch5 cc0_scratch6 h1 X S)
    isplitl [Hq]; · iexact Hq
    isplitl [Hk]; · iexact Hk
    isplitl [Hv]; · iexact Hv
    isplitl [Hdk]; · iexact Hdk
    isplitl [Hdv]; · iexact Hdv
    isplitl [Hs]; · iexact Hs
    iexact Hdq
  iintro %r ⟨%hr, ⟨Hq, Hk, Hv, Hdk, Hdv, Hs, Hdq⟩⟩
  subst hr
  iapply (run29 c i arg2 harg2 arg3 harg3 arg4 harg4 arg5 harg5 arg6 harg6 arg7 harg7 (Memref.whole main_arg6) harg8 (Memref.whole main_arg7) harg9 (Memref.whole main_arg8) harg10 (Memref.whole main_arg9) harg11 (Memref.whole main_arg10) harg12 arg13 harg13 arg14 harg14 arg15 harg15 (Memref.whole main_v1_3) harg16 (Memref.whole main_v1_4) harg17 (Memref.whole main_v1_5) harg18 (Memref.whole main_v1_6) harg19 (Memref.whole main_v1_7) harg20 arg21 harg21 arg22 harg22 arg23 harg23 arg24 harg24 arg25 harg25 cc0_scratch5 cc0_scratch6 X (zeroSt i S) _ _)
  isplitl [Hq Hdo Hl Hd Hdk Hdv Hs Hp Hdq]
  · isplitl [Hq]; · iexact Hq
    isplitl [Hdo]; · iexact Hdo
    isplitl [Hl]; · iexact Hl
    isplitl [Hd]; · iexact Hd
    isplitl [Hdk]; · iexact Hdk
    isplitl [Hdv]; · iexact Hdv
    isplitl [Hs]; · iexact Hs
    isplitl [Hp]; · iexact Hp
    iexact Hdq
  iintro Hh
  rw [wp_bind]
  iapply (wp_wand _ _ _) $$ [Hh HO H14 H15]
  · iapply (run32 c i arg2 harg2 arg3 harg3 arg4 harg4 arg5 harg5 arg6 harg6 arg7 harg7 (Memref.whole main_arg6) harg8 (Memref.whole main_arg7) harg9 (Memref.whole main_arg8) harg10 (Memref.whole main_arg9) harg11 (Memref.whole main_arg10) harg12 arg13 harg13 arg14 harg14 arg15 harg15 (Memref.whole main_v1_3) harg16 (Memref.whole main_v1_4) harg17 (Memref.whole main_v1_5) harg18 (Memref.whole main_v1_6) harg19 (Memref.whole main_v1_7) harg20 arg21 harg21 arg22 harg22 arg23 harg23 arg24 harg24 arg25 harg25 cc0_scratch5 cc0_scratch6 X (startSt i X (zeroSt i S)) O _ _ _ _)
    isplitl [Hh]; · iexact Hh
    isplitl [HO]; · iexact HO
    isplitl [H14]; · iexact H14
    iexact H15
  iintro %r ⟨⟨Hq, Hdo, Hl, Hd, Hdk, Hdv, Hs, Hp, Hdq⟩, Ho⟩
  rw [dif_pos h5]
  iapply (wp_wand _ _ _) $$ [HX]
  · iapply (finish m c i arg2 harg2 arg3 harg3 arg4 harg4 arg5 harg5 arg6 harg6 arg7 harg7 harg8 harg9 harg10 harg11 harg12 arg13 harg13 arg14 harg14 arg15 harg15 harg16 harg17 harg18 harg19 harg20 arg21 harg21 arg22 harg22 arg23 harg23 arg24 harg24 arg25 harg25 W h5)
    iexact HX
  iintro %r' HX
  isplitr [Ho HX]
  · isplitl [Hk]; · iexact Hk
    isplitl [Hv]; · iexact Hv
    isplitl [Hq]; · iexact Hq
    isplitl [Hdo]; · iexact Hdo
    isplitl [Hl]; · iexact Hl
    isplitl [Hd]; · iexact Hd
    isplitl [Hdk]; · iexact Hdk
    isplitl [Hdv]; · iexact Hdv
    isplitl [Hs]; · iexact Hs
    isplitl [Hp]; · iexact Hp
    iexact Hdq
  isplitl [Ho]; · iexact Ho
  iexact HX

end Point

end Cert.KernelIdeal

end
-- ==== Proof.Dat.lean ====
/- The states the 64 grid points pass through, the proof data of the pipelined call over them, and the obligation that
   every point of the body meets. -/
module

public import proofs.«01_k».proof.Proof.Point
public import proofs.«01_k».proof.Proof.Gen.KernelIdeal.Frame

@[expose] public section

set_option maxRecDepth 16384

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ UU ℕ

/-! ## A point's result does not depend on what the scratch buffers held, but for the query gradient inside a head -/

theorem slots_all (x y : S2x512x512.Idx → Elt F .f32) (a b : S1x512x512.Idx → Elt F .f32) :
    setSlot1 (setSlot0 x a) b = setSlot1 (setSlot0 y a) b := by
  funext p
  show VecWindow.put _ _ _ _ p = VecWindow.put _ _ _ _ p
  unfold VecWindow.put
  by_cases h1 : ∀ d, (![1, 0, 0] : Fin 3 → ℕ) d ≤ (p d).val ∧ (p d).val < (![1, 0, 0] : Fin 3 → ℕ) d + S1x512x512.size d
  · rw [dif_pos h1, dif_pos h1]
  rw [dif_neg h1, dif_neg h1]
  have h0 : ∀ d, (![0, 0, 0] : Fin 3 → ℕ) d ≤ (p d).val ∧ (p d).val < (![0, 0, 0] : Fin 3 → ℕ) d + S1x512x512.size d := by
    have e0 : (p 0).val < 2 := (p 0).isLt
    have e1 : (p 1).val < 512 := (p 1).isLt
    have e2 : (p 2).val < 512 := (p 2).isLt
    have n0 : ¬ (p 0).val = 1 := fun h => h1 fun d => by
      fin_cases d
      · exact ⟨h.ge, by show (p 0).val < 1 + 1; omega⟩
      · exact ⟨Nat.zero_le _, by show (p 1).val < 0 + 512; omega⟩
      · exact ⟨Nat.zero_le _, by show (p 2).val < 0 + 512; omega⟩
    intro d
    fin_cases d
    · exact ⟨Nat.zero_le _, by show (p 0).val < 0 + 1; omega⟩
    · exact ⟨Nat.zero_le _, by show (p 1).val < 0 + 512; omega⟩
    · exact ⟨Nat.zero_le _, by show (p 2).val < 0 + 512; omega⟩
  show VecWindow.put _ _ _ _ p = VecWindow.put _ _ _ _ p
  unfold VecWindow.put
  rw [dif_pos h0, dif_pos h0]

theorem startSt_congr (i : grid0.Coords) (X : In F) (S T : St F) (h1 : S.dk = T.dk) (h2 : S.dv = T.dv) (h3 : S.dq = T.dq) :
    startSt i X S = startSt i X T := by
  obtain ⟨dk, dv, sl, pl, dq⟩ := S
  obtain ⟨dk', dv', sl', pl', dq'⟩ := T
  dsimp only at h1 h2 h3
  subst h1 h2 h3
  unfold startSt
  dsimp only
  rw [slots_all sl sl', slots_all pl pl']

theorem pointSt_congr (i : grid0.Coords) (X : In F) (S T : St F) (h : (i 1).val = 0 ∨ S.dq = T.dq) : pointSt i X S = pointSt i X T := by
  unfold pointSt
  refine congrArg (endSt i X) (startSt_congr i X _ _ rfl rfl ?_)
  show (if (i 1).val = 0 then _ else _) = (if (i 1).val = 0 then _ else _)
  by_cases h0 : (i 1).val = 0
  · rw [if_pos h0, if_pos h0]
  · rw [if_neg h0, if_neg h0]; exact h.resolve_left h0

/-! ## The states -/

variable (m : (ℓ : Loc nD τ sig) → Buf (Elt F) ℓ)

/-- The blocks staged at a point. -/
def inAt (c : Dev nD) (t : Fin cfg0.N) : In F :=
  { q := Gen.iblk m c 0 t, dor := Gen.iblk m c 3 t, lse := Gen.iblk m c 4 t, del := Gen.iblk m c 5 t, kr := Gen.iblk m c 1 t, vr := Gen.iblk m c 2 t }

/-- The scratch buffers before point `n`. -/
def stSeq (c : Dev nD) : ℕ → St F
  | 0 => { dk := Gen.k0_pay38 (F := F), dv := Gen.k0_pay39 (F := F), sl := fun _ => FloatOps.ofBits .f32 0#32, pl := fun _ => FloatOps.ofBits .f32 0#32, dq := Gen.k0_pay37 (F := F) }
  | n + 1 => if h : n < cfg0.N then pointSt (grid0.coords ⟨n, h⟩) (inAt m c ⟨n, h⟩) (stSeq c n) else stSeq c n

theorem stSeq_succ (c : Dev nD) (t : Fin cfg0.N) : stSeq m c (t.val + 1) = pointSt (grid0.coords t) (inAt m c t) (stSeq m c t.val) := by
  rw [stSeq, dif_pos t.isLt]

/-- The five scratch buffers at a state. -/
def scr (c : Dev nD) (S : St F) : sProp 𝕄 :=
  iprop(at_ c (Memref.whole cc0_scratch0) S.dk ∗ at_ c (Memref.whole cc0_scratch1) S.dv ∗ at_ c (Memref.whole cc0_scratch2) S.sl
    ∗ at_ c (Memref.whole cc0_scratch3) S.pl ∗ at_ c (Memref.whole cc0_scratch4) S.dq)

/-- What is held between points: the scratch buffers, and the copies not yet started, in flight, or completed. -/
def PhiN (c : Dev nD) : ℕ → sProp 𝕄
  | 0 => iprop((∃ S, scr c S) ∗ readyAll m c)
  | n + 1 => iprop(scr c (stSeq m c (n + 1)) ∗ (if n + 1 < 64 then flyingAll m c else doneAll m c))

/-- What is owed between points: before the first, the arrival of every copy at its peer; from then on nothing. -/
def owedN (c : Dev nD) : ℕ → CellTallies nD τ sig Unit
  | 0 => owing 0 c
  | _ + 1 => 0

theorem PhiN_zero (c : Dev nD) : PhiN m c 0 = iprop((∃ S, scr c S) ∗ readyAll m c) := rfl
theorem PhiN_succ (c : Dev nD) (n : ℕ) :
    PhiN m c (n + 1) = iprop(scr c (stSeq m c (n + 1)) ∗ (if n + 1 < 64 then flyingAll m c else doneAll m c)) := rfl
theorem owedN_zero (c : Dev nD) : owedN c 0 = owing 0 c := rfl
theorem owedN_succ (c : Dev nD) (n : ℕ) : owedN c (n + 1) = 0 := rfl

def dats (_ : Fin 1) (c : Dev nD) : Dat τ (Elt F) Unit ℕ UU ℕ cfg0 c where
  A w := m ((cfg0.win w).arr.view.loc (c : Thread nD τ))
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.k0_pay63 (stSeq m c (t.val + 1)).dq
    | ⟨7, _⟩ => Gen.k0_pay64 (stSeq m c (t.val + 1)).dk
    | ⟨8, _⟩ => Gen.k0_pay65 (stSeq m c (t.val + 1)).dv
  Φ t := PhiN m c t.val
  q _ := fullShare
  owed t := owedN c t.val

/-! ## What an input window holds -/

theorem before_0 (c : Dev nD) (t : Fin cfg0.N) (d) : (dats m 0 c).before 0 t d = Gen.iblk m c 0 t :=
  ((dats m 0 c).before_in_eq_fetched 0 rfl (fun _ => rfl) (fun _ _ _ => rfl) (fun t => rfl) t d).trans (by unfold Dat.fetched; rfl)
theorem before_1 (c : Dev nD) (t : Fin cfg0.N) (d) : (dats m 0 c).before 1 t d = Gen.iblk m c 1 t :=
  ((dats m 0 c).before_in_eq_fetched 1 rfl (fun _ => rfl) (fun _ _ _ => rfl) (fun t => rfl) t d).trans (by unfold Dat.fetched; rfl)
theorem before_2 (c : Dev nD) (t : Fin cfg0.N) (d) : (dats m 0 c).before 2 t d = Gen.iblk m c 2 t :=
  ((dats m 0 c).before_in_eq_fetched 2 rfl (fun _ => rfl) (fun _ _ _ => rfl) (fun t => rfl) t d).trans (by unfold Dat.fetched; rfl)
theorem before_3 (c : Dev nD) (t : Fin cfg0.N) (d) : (dats m 0 c).before 3 t d = Gen.iblk m c 3 t :=
  ((dats m 0 c).before_in_eq_fetched 3 rfl (fun _ => rfl) (fun _ _ _ => rfl) (fun t => rfl) t d).trans (by unfold Dat.fetched; rfl)
theorem before_4 (c : Dev nD) (t : Fin cfg0.N) (d) : (dats m 0 c).before 4 t d = Gen.iblk m c 4 t :=
  ((dats m 0 c).before_in_eq_fetched 4 rfl (fun _ => rfl) (fun _ _ _ => rfl) (fun t => rfl) t d).trans (by unfold Dat.fetched; rfl)
theorem before_5 (c : Dev nD) (t : Fin cfg0.N) (d) : (dats m 0 c).before 5 t d = Gen.iblk m c 5 t :=
  ((dats m 0 c).before_in_eq_fetched 5 rfl (fun _ => rfl) (fun _ _ _ => rfl) (fun t => rfl) t d).trans (by unfold Dat.fetched; rfl)

/-! ## The grid's conditions by the point's number -/

theorem cond1_at : ∀ t : Fin grid0.N, k0_cond1 (grid0.coords t) = 1#1 ↔ t.val = 0 := by decide +kernel
theorem cond5_at : ∀ t : Fin grid0.N, k0_cond5 (grid0.coords t) = 1#1 ↔ t.val = 63 := by decide +kernel
theorem cond4_at : ∀ t : Fin grid0.N, k0_cond4 (grid0.coords t) = 1#1 ↔ t.val % 8 = 7 := by decide +kernel
theorem head_at : ∀ t : Fin grid0.N, t.val = 0 → (grid0.coords t 1).val = 0 := by decide +kernel

/-! ## Owning a staging buffer -/

theorem at_of_owns (c : Dev nD) {sp : Space} {s : Shape} {e : EltTy} (a : Memref sig .tc sp s e) (X : s.Idx → Elt F e) :
    (owns (c : Thread nD τ) a fullShare X : sProp 𝕄) ⊢ at_ c a X := by
  unfold owns
  iintro ⟨%f, %hf, H⟩
  iapply (at_of_read c a f X)
  isplitl [H]; · iexact H
  ipureintro; exact hf
theorem owns_of_at (c : Dev nD) {sp : Space} {s : Shape} {e : EltTy} (a : Memref sig .tc sp s e) (X : s.Idx → Elt F e) :
    at_ c a X ⊢ (owns (c : Thread nD τ) a fullShare X : sProp 𝕄) := by
  unfold owns
  iintro H
  iexists _
  isplitr
  swap
  · iexact H
  · ipureintro; exact View.read_rep _ _
theorem some_of_owns (c : Dev nD) {sp : Space} {s : Shape} {e : EltTy} (a : Memref sig .tc sp s e) (X : s.Idx → Elt F e) :
    (owns (c : Thread nD τ) a fullShare X : sProp 𝕄) ⊢ some_ c a := by
  unfold owns
  iintro ⟨%f, -, H⟩
  iexists f; iexact H

/-! ## The obligation -/

/-- The staged inputs. -/
abbrev ins (c : Dev nD) (t : Fin cfg0.N) : sProp 𝕄 :=
  iprop(owns (c : Thread nD τ) (Gen.st0_0 t) fullShare (Gen.iblk m c 0 t) ∗ owns (c : Thread nD τ) (Gen.st0_1 t) fullShare (Gen.iblk m c 1 t)
    ∗ owns (c : Thread nD τ) (Gen.st0_2 t) fullShare (Gen.iblk m c 2 t) ∗ owns (c : Thread nD τ) (Gen.st0_3 t) fullShare (Gen.iblk m c 3 t)
    ∗ owns (c : Thread nD τ) (Gen.st0_4 t) fullShare (Gen.iblk m c 4 t) ∗ owns (c : Thread nD τ) (Gen.st0_5 t) fullShare (Gen.iblk m c 5 t))

/-- The query gradient's window after a point: as found where the point leaves it, the head's gradient at the head's last. -/
abbrev leaves6 (c : Dev nD) (t : Fin cfg0.N) (O : S4096x256.Idx → Elt F .bf16) : sProp 𝕄 :=
  owns (c : Thread nD τ) (Gen.st0_6 t) fullShare (if k0_cond4 (grid0.coords t) = 1#1 then Gen.k0_pay63 (stSeq m c (t.val + 1)).dq else O)

set_option maxHeartbeats 1000000 in
theorem body_at (c : Dev nD) (t : Fin cfg0.N) (O : S4096x256.Idx → Elt F .bf16) :
    iprop(PhiN m c t.val ∗ (∃ W, owes (c : Thread nD τ) (owedN c t.val) W) ∗ ins m c t
        ∗ owns (c : Thread nD τ) (Gen.st0_6 t) fullShare O ∗ some_ c (Gen.st0_7 t) ∗ some_ c (Gen.st0_8 t))
      ⊢ wp frame (wpE (defs₀ (F := F)) 𝒱₀ (c : Thread nD τ) none) Set.univ (Gen.bodyAt0 (F := F) t)
          (fun _ => iprop(PhiN m c (t.val + 1) ∗ (∃ W, owes (c : Thread nD τ) (owedN c (t.val + 1)) W) ∗ ins m c t ∗ leaves6 m c t O
            ∗ owns (c : Thread nD τ) (Gen.st0_7 t) fullShare (Gen.k0_pay64 (stSeq m c (t.val + 1)).dk)
            ∗ owns (c : Thread nD τ) (Gen.st0_8 t) fullShare (Gen.k0_pay65 (stSeq m c (t.val + 1)).dv))) := by
  have hN : t.val < 64 := lt_of_lt_of_eq t.isLt Gen.N_0
  unfold Gen.bodyAt0
  rw [Gen.cc0_attn_bwd_eq_skeleton]
  unfold leaves6
  by_cases t0 : t.val = 0
  · have h1 := (cond1_at t).2 t0
    have h5 : ¬ k0_cond5 (grid0.coords t) = 1#1 := fun h => by have := (cond5_at t).1 h; omega
    rw [t0, PhiN_zero m c, PhiN_succ m c 0, owedN_zero c, owedN_succ c 0, if_pos (by decide : 0 + 1 < 64)]
    unfold scr
    iintro ⟨HP, ⟨%W, HO⟩, ⟨H0, H1, H2, H3, H4, H5⟩, H6, H7, H8⟩
    ihave H0 := (at_of_owns c (Gen.st0_0 t) (Gen.iblk m c 0 t)) $$ H0
    ihave H1 := (at_of_owns c (Gen.st0_1 t) (Gen.iblk m c 1 t)) $$ H1
    ihave H2 := (at_of_owns c (Gen.st0_2 t) (Gen.iblk m c 2 t)) $$ H2
    ihave H3 := (at_of_owns c (Gen.st0_3 t) (Gen.iblk m c 3 t)) $$ H3
    ihave H4 := (at_of_owns c (Gen.st0_4 t) (Gen.iblk m c 4 t)) $$ H4
    ihave H5 := (at_of_owns c (Gen.st0_5 t) (Gen.iblk m c 5 t)) $$ H5
    ihave H6 := (at_of_owns c (Gen.st0_6 t) O) $$ H6
    icases HP with ⟨⟨%S, Hdk, Hdv, Hs, Hp, Hdq⟩, HR⟩
    have e : stSeq m c (0 + 1) = pointSt (grid0.coords t) (inAt m c t) S := by
      rw [← t0, stSeq_succ]; exact pointSt_congr _ _ _ _ (.inl (head_at t t0))
    iapply (wp_wand _ _ _) $$ [HO H0 H1 H2 H3 H4 H5 H6 H7 H8 Hdk Hdv Hs Hp Hdq HR]
    · iapply (point_first m c (grid0.coords t) (Gen.st0_0 t) (Facts₀.hstage0_0 ((cfg0.slots t 0).cast Facts₀.nbuf0_0)) (Gen.st0_1 t) (Facts₀.hstage0_1 ((cfg0.slots t 1).cast Facts₀.nbuf0_1)) (Gen.st0_2 t) (Facts₀.hstage0_2 ((cfg0.slots t 2).cast Facts₀.nbuf0_2)) (Gen.st0_3 t) (Facts₀.hstage0_3 ((cfg0.slots t 3).cast Facts₀.nbuf0_3)) (Gen.st0_4 t) (Facts₀.hstage0_4 ((cfg0.slots t 4).cast Facts₀.nbuf0_4)) (Gen.st0_5 t) (Facts₀.hstage0_5 ((cfg0.slots t 5).cast Facts₀.nbuf0_5)) (Memref.isWhole_whole _) (Memref.isWhole_whole _) (Memref.isWhole_whole _) (Memref.isWhole_whole _) (Memref.isWhole_whole _) (Gen.st0_6 t) (Facts₀.hstage0_6 ((cfg0.slots t 6).cast Facts₀.nbuf0_6)) (Gen.st0_7 t) (Facts₀.hstage0_7 ((cfg0.slots t 7).cast Facts₀.nbuf0_7)) (Gen.st0_8 t) (Facts₀.hstage0_8 ((cfg0.slots t 8).cast Facts₀.nbuf0_8)) (Memref.isWhole_whole _) (Memref.isWhole_whole _) (Memref.isWhole_whole _) (Memref.isWhole_whole _) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) W h1 h5 (inAt m c t) S O)
      isplitl [H0 H1 H2 H3 H4 H5 Hdk Hdv Hs Hp Hdq]
      · isplitl [H1]; · iexact H1
        isplitl [H2]; · iexact H2
        isplitl [H0]; · iexact H0
        isplitl [H3]; · iexact H3
        isplitl [H4]; · iexact H4
        isplitl [H5]; · iexact H5
        isplitl [Hdk]; · iexact Hdk
        isplitl [Hdv]; · iexact Hdv
        isplitl [Hs]; · iexact Hs
        isplitl [Hp]; · iexact Hp
        iexact Hdq
      isplitl [H6]; · iexact H6
      isplitl [H7]; · iexact H7
      isplitl [H8]; · iexact H8
      isplitl [HR]; · iexact HR
      iexact HO
    iintro %r ⟨⟨H1, H2, H0, H3, H4, H5, Hdk, Hdv, Hs, Hp, Hdq⟩, ⟨H6, H7, H8⟩, HO, HX⟩
    rw [e]
    isplitl [Hdk Hdv Hs Hp Hdq HX]
    · isplitr [HX]
      · isplitl [Hdk]; · iexact Hdk
        isplitl [Hdv]; · iexact Hdv
        isplitl [Hs]; · iexact Hs
        isplitl [Hp]; · iexact Hp
        iexact Hdq
      · iexact HX
    isplitl [HO]; · iexists _; iexact HO
    isplitl [H0 H1 H2 H3 H4 H5]
    · isplitl [H0]; · iapply (owns_of_at c (Gen.st0_0 t) (Gen.iblk m c 0 t)); iexact H0
      isplitl [H1]; · iapply (owns_of_at c (Gen.st0_1 t) (Gen.iblk m c 1 t)); iexact H1
      isplitl [H2]; · iapply (owns_of_at c (Gen.st0_2 t) (Gen.iblk m c 2 t)); iexact H2
      isplitl [H3]; · iapply (owns_of_at c (Gen.st0_3 t) (Gen.iblk m c 3 t)); iexact H3
      isplitl [H4]; · iapply (owns_of_at c (Gen.st0_4 t) (Gen.iblk m c 4 t)); iexact H4
      iapply (owns_of_at c (Gen.st0_5 t) (Gen.iblk m c 5 t)); iexact H5
    isplitl [H6]; · iapply (owns_of_at c (Gen.st0_6 t) _); iexact H6
    isplitl [H7]; · iapply (owns_of_at c (Gen.st0_7 t) _); iexact H7
    iapply (owns_of_at c (Gen.st0_8 t) _); iexact H8
  have h1 : ¬ k0_cond1 (grid0.coords t) = 1#1 := fun h => t0 ((cond1_at t).1 h)
  obtain ⟨n, hn⟩ : ∃ n, t.val = n + 1 := Nat.exists_eq_succ_of_ne_zero t0
  have e : stSeq m c (n + 1 + 1) = pointSt (grid0.coords t) (inAt m c t) (stSeq m c (n + 1)) := by rw [← hn, stSeq_succ]
  have hn' : n + 1 < 64 := by omega
  rw [hn, PhiN_succ m c n, PhiN_succ m c (n + 1), owedN_succ c n, owedN_succ c (n + 1), if_pos hn', e]
  unfold scr
  iintro ⟨HP, ⟨%W, HO⟩, ⟨H0, H1, H2, H3, H4, H5⟩, H6, H7, H8⟩
  ihave H0 := (at_of_owns c (Gen.st0_0 t) (Gen.iblk m c 0 t)) $$ H0
  ihave H1 := (at_of_owns c (Gen.st0_1 t) (Gen.iblk m c 1 t)) $$ H1
  ihave H2 := (at_of_owns c (Gen.st0_2 t) (Gen.iblk m c 2 t)) $$ H2
  ihave H3 := (at_of_owns c (Gen.st0_3 t) (Gen.iblk m c 3 t)) $$ H3
  ihave H4 := (at_of_owns c (Gen.st0_4 t) (Gen.iblk m c 4 t)) $$ H4
  ihave H5 := (at_of_owns c (Gen.st0_5 t) (Gen.iblk m c 5 t)) $$ H5
  ihave H6 := (at_of_owns c (Gen.st0_6 t) O) $$ H6
  icases HP with ⟨⟨Hdk, Hdv, Hs, Hp, Hdq⟩, HR⟩
  by_cases t5 : t.val = 63
  · have h5 := (cond5_at t).2 t5
    iapply (wp_wand _ _ _) $$ [HO H0 H1 H2 H3 H4 H5 H6 H7 H8 Hdk Hdv Hs Hp Hdq HR]
    · iapply (point_last m c (grid0.coords t) (Gen.st0_0 t) (Facts₀.hstage0_0 ((cfg0.slots t 0).cast Facts₀.nbuf0_0)) (Gen.st0_1 t) (Facts₀.hstage0_1 ((cfg0.slots t 1).cast Facts₀.nbuf0_1)) (Gen.st0_2 t) (Facts₀.hstage0_2 ((cfg0.slots t 2).cast Facts₀.nbuf0_2)) (Gen.st0_3 t) (Facts₀.hstage0_3 ((cfg0.slots t 3).cast Facts₀.nbuf0_3)) (Gen.st0_4 t) (Facts₀.hstage0_4 ((cfg0.slots t 4).cast Facts₀.nbuf0_4)) (Gen.st0_5 t) (Facts₀.hstage0_5 ((cfg0.slots t 5).cast Facts₀.nbuf0_5)) (Memref.isWhole_whole _) (Memref.isWhole_whole _) (Memref.isWhole_whole _) (Memref.isWhole_whole _) (Memref.isWhole_whole _) (Gen.st0_6 t) (Facts₀.hstage0_6 ((cfg0.slots t 6).cast Facts₀.nbuf0_6)) (Gen.st0_7 t) (Facts₀.hstage0_7 ((cfg0.slots t 7).cast Facts₀.nbuf0_7)) (Gen.st0_8 t) (Facts₀.hstage0_8 ((cfg0.slots t 8).cast Facts₀.nbuf0_8)) (Memref.isWhole_whole _) (Memref.isWhole_whole _) (Memref.isWhole_whole _) (Memref.isWhole_whole _) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) W h1 h5 (inAt m c t) (stSeq m c (n + 1)) O)
      isplitl [H0 H1 H2 H3 H4 H5 Hdk Hdv Hs Hp Hdq]
      · isplitl [H1]; · iexact H1
        isplitl [H2]; · iexact H2
        isplitl [H0]; · iexact H0
        isplitl [H3]; · iexact H3
        isplitl [H4]; · iexact H4
        isplitl [H5]; · iexact H5
        isplitl [Hdk]; · iexact Hdk
        isplitl [Hdv]; · iexact Hdv
        isplitl [Hs]; · iexact Hs
        isplitl [Hp]; · iexact Hp
        iexact Hdq
      isplitl [H6]; · iexact H6
      isplitl [H7]; · iexact H7
      isplitl [H8]; · iexact H8
      isplitl [HO]; · iexact HO
      iexact HR
    iintro %r ⟨⟨H1, H2, H0, H3, H4, H5, Hdk, Hdv, Hs, Hp, Hdq⟩, ⟨H6, H7, H8⟩, ⟨%W', HO⟩, HX⟩
    rw [if_neg (by omega : ¬ n + 1 + 1 < 64)]
    isplitl [Hdk Hdv Hs Hp Hdq HX]
    · isplitr [HX]
      · isplitl [Hdk]; · iexact Hdk
        isplitl [Hdv]; · iexact Hdv
        isplitl [Hs]; · iexact Hs
        isplitl [Hp]; · iexact Hp
        iexact Hdq
      · iexact HX
    isplitl [HO]; · iexists _; iexact HO
    isplitl [H0 H1 H2 H3 H4 H5]
    · isplitl [H0]; · iapply (owns_of_at c (Gen.st0_0 t) (Gen.iblk m c 0 t)); iexact H0
      isplitl [H1]; · iapply (owns_of_at c (Gen.st0_1 t) (Gen.iblk m c 1 t)); iexact H1
      isplitl [H2]; · iapply (owns_of_at c (Gen.st0_2 t) (Gen.iblk m c 2 t)); iexact H2
      isplitl [H3]; · iapply (owns_of_at c (Gen.st0_3 t) (Gen.iblk m c 3 t)); iexact H3
      isplitl [H4]; · iapply (owns_of_at c (Gen.st0_4 t) (Gen.iblk m c 4 t)); iexact H4
      iapply (owns_of_at c (Gen.st0_5 t) (Gen.iblk m c 5 t)); iexact H5
    isplitl [H6]; · iapply (owns_of_at c (Gen.st0_6 t) _); iexact H6
    isplitl [H7]; · iapply (owns_of_at c (Gen.st0_7 t) _); iexact H7
    iapply (owns_of_at c (Gen.st0_8 t) _); iexact H8
  · have h5 : ¬ k0_cond5 (grid0.coords t) = 1#1 := fun h => t5 ((cond5_at t).1 h)
    iapply (wp_wand _ _ _) $$ [H0 H1 H2 H3 H4 H5 H6 H7 H8 Hdk Hdv Hs Hp Hdq]
    · iapply (point_mid c (grid0.coords t) (Gen.st0_0 t) (Facts₀.hstage0_0 ((cfg0.slots t 0).cast Facts₀.nbuf0_0)) (Gen.st0_1 t) (Facts₀.hstage0_1 ((cfg0.slots t 1).cast Facts₀.nbuf0_1)) (Gen.st0_2 t) (Facts₀.hstage0_2 ((cfg0.slots t 2).cast Facts₀.nbuf0_2)) (Gen.st0_3 t) (Facts₀.hstage0_3 ((cfg0.slots t 3).cast Facts₀.nbuf0_3)) (Gen.st0_4 t) (Facts₀.hstage0_4 ((cfg0.slots t 4).cast Facts₀.nbuf0_4)) (Gen.st0_5 t) (Facts₀.hstage0_5 ((cfg0.slots t 5).cast Facts₀.nbuf0_5)) (Memref.isWhole_whole _) (Memref.isWhole_whole _) (Memref.isWhole_whole _) (Memref.isWhole_whole _) (Memref.isWhole_whole _) (Gen.st0_6 t) (Facts₀.hstage0_6 ((cfg0.slots t 6).cast Facts₀.nbuf0_6)) (Gen.st0_7 t) (Facts₀.hstage0_7 ((cfg0.slots t 7).cast Facts₀.nbuf0_7)) (Gen.st0_8 t) (Facts₀.hstage0_8 ((cfg0.slots t 8).cast Facts₀.nbuf0_8)) (Memref.isWhole_whole _) (Memref.isWhole_whole _) (Memref.isWhole_whole _) (Memref.isWhole_whole _) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) h1 h5 (inAt m c t) (stSeq m c (n + 1)) O)
      isplitl [H0 H1 H2 H3 H4 H5 Hdk Hdv Hs Hp Hdq]
      · isplitl [H1]; · iexact H1
        isplitl [H2]; · iexact H2
        isplitl [H0]; · iexact H0
        isplitl [H3]; · iexact H3
        isplitl [H4]; · iexact H4
        isplitl [H5]; · iexact H5
        isplitl [Hdk]; · iexact Hdk
        isplitl [Hdv]; · iexact Hdv
        isplitl [Hs]; · iexact Hs
        isplitl [Hp]; · iexact Hp
        iexact Hdq
      isplitl [H6]; · iexact H6
      isplitl [H7]; · iexact H7
      isplitl [H8]; · iexact H8
      iempintro
    iintro %r ⟨⟨H1, H2, H0, H3, H4, H5, Hdk, Hdv, Hs, Hp, Hdq⟩, ⟨H6, H7, H8⟩, -⟩
    rw [if_pos (by omega : n + 1 + 1 < 64)]
    isplitl [Hdk Hdv Hs Hp Hdq HR]
    · isplitr [HR]
      · isplitl [Hdk]; · iexact Hdk
        isplitl [Hdv]; · iexact Hdv
        isplitl [Hs]; · iexact Hs
        isplitl [Hp]; · iexact Hp
        iexact Hdq
      · iexact HR
    isplitl [HO]; · iexists _; iexact HO
    isplitl [H0 H1 H2 H3 H4 H5]
    · isplitl [H0]; · iapply (owns_of_at c (Gen.st0_0 t) (Gen.iblk m c 0 t)); iexact H0
      isplitl [H1]; · iapply (owns_of_at c (Gen.st0_1 t) (Gen.iblk m c 1 t)); iexact H1
      isplitl [H2]; · iapply (owns_of_at c (Gen.st0_2 t) (Gen.iblk m c 2 t)); iexact H2
      isplitl [H3]; · iapply (owns_of_at c (Gen.st0_3 t) (Gen.iblk m c 3 t)); iexact H3
      isplitl [H4]; · iapply (owns_of_at c (Gen.st0_4 t) (Gen.iblk m c 4 t)); iexact H4
      iapply (owns_of_at c (Gen.st0_5 t) (Gen.iblk m c 5 t)); iexact H5
    isplitl [H6]; · iapply (owns_of_at c (Gen.st0_6 t) _); iexact H6
    isplitl [H7]; · iapply (owns_of_at c (Gen.st0_7 t) _); iexact H7
    iapply (owns_of_at c (Gen.st0_8 t) _); iexact H8

theorem idle6_of (t : Fin cfg0.N) (h : ¬ t.val % 8 = 7) : cfg0.idle 6 (cfg0.grid.coords t) = true := by
  have h4 : ¬ k0_cond4 (grid0.coords t) = 1#1 := fun e => h ((cond4_at t).1 e)
  show (!(k0_cond4 (grid0.coords t) == 1#1)) = true
  rw [show (k0_cond4 (grid0.coords t) == 1#1) = false from beq_eq_false_iff_ne.2 h4]; rfl
theorem busy6_of (t : Fin cfg0.N) (h : t.val % 8 = 7) : cfg0.idle 6 (cfg0.grid.coords t) = false := by
  have h4 : k0_cond4 (grid0.coords t) = 1#1 := (cond4_at t).2 h
  show (!(k0_cond4 (grid0.coords t) == 1#1)) = false
  rw [h4]; rfl
theorem kept6_of (t : Fin cfg0.N) (h : ¬ t.val % 8 = 7) : (cfg0.win 6).flush t = false :=
  Bool.eq_false_iff.2 fun e => h ((Gen.flush0_6 t).1 e)

theorem Phi_before (c : Dev nD) (t : Fin cfg0.N) : (dats m 0 c).Φ t.castSucc = PhiN m c t.val := by
  show PhiN m c t.castSucc.val = _; rw [Fin.val_castSucc]
theorem Phi_after (c : Dev nD) (t : Fin cfg0.N) : (dats m 0 c).Φ t.succ = PhiN m c (t.val + 1) := by
  show PhiN m c t.succ.val = _; rw [Fin.val_succ]
theorem owes_before (c : Dev nD) (t : Fin cfg0.N) :
    (dats m 0 c).owesAt () t.castSucc ⊢ iprop(∃ W, owes (c : Thread nD τ) (owedN c t.val) W) := by
  unfold Dat.owesAt Pipeline.owesWithin
  rw [show (dats m 0 c).owed t.castSucc = owedN c t.val from by show owedN c t.castSucc.val = _; rw [Fin.val_castSucc]]
  iintro ⟨%W, -, H⟩
  iexists W; iexact H
theorem owes_after (c : Dev nD) (t : Fin cfg0.N) :
    iprop(∃ W, owes (c : Thread nD τ) (owedN c (t.val + 1)) W) ⊢ (dats m 0 c).owesAt () t.succ := by
  unfold Dat.owesAt Pipeline.owesWithin
  rw [show (dats m 0 c).owed t.succ = owedN c (t.val + 1) from by show owedN c t.succ.val = _; rw [Fin.val_succ]]
  iintro ⟨%W, H⟩
  iexists W
  isplitr
  · ipureintro; exact fun x _ => Or.inl trivial
  · iexact H

/-- What the query gradient's window is left at, as the pipeline asks it. -/
theorem leaves6_to (c : Dev nD) (t : Fin cfg0.N) (d : S4096x256.Idx → Elt F .bf16) :
    leaves6 m c t ((dats m 0 c).before 6 t d) ⊢
      (match cfg0.idle 6 (cfg0.grid.coords t) with
        | true =>
          match (cfg0.win 6).flush t with
          | false => iprop(∃ d, owns (c : Thread nD τ) (Gen.st0_6 t) fullShare ((dats m 0 c).before 6 t d))
          | true => owns (c : Thread nD τ) (Gen.st0_6 t) fullShare ((dats m 0 c).after 6 t)
        | false => owns (c : Thread nD τ) (Gen.st0_6 t) fullShare ((dats m 0 c).after 6 t) : sProp 𝕄) := by
  unfold leaves6
  by_cases h : t.val % 8 = 7
  · rw [busy6_of t h, if_pos ((cond4_at t).2 h)]
    exact BI.Entails.refl _
  · rw [idle6_of t h, kept6_of t h, if_neg (fun e => h ((cond4_at t).1 e))]
    iintro H
    iexists d; iexact H

set_option maxHeartbeats 1000000 in
theorem body_obligation (c : Dev nD) : BodyObligation (dats (F := F) m 0 c) (defs₀ (F := F)) 𝒱₀ () Set.univ := fun t => by
  rw [Gen.bigSep_W0, Gen.bigSep_W0, Phi_before, Phi_after]
  simp only [before_0, before_1, before_2, before_3, before_4, before_5]
  iintro ⟨HP, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HO := (owes_before m c t) $$ HO
  ihave H7 := (some_of_owns c (Gen.st0_7 t) ((dats m 0 c).before 7 t d7)) $$ H7
  ihave H8 := (some_of_owns c (Gen.st0_8 t) ((dats m 0 c).before 8 t d8)) $$ H8
  iapply (wp_wand _ _ _) $$ [HP HO H0 H1 H2 H3 H4 H5 H6 H7 H8]
  · iapply (body_at m c t ((dats m 0 c).before 6 t d6))
    isplitl [HP]; · iexact HP
    isplitl [HO]; · iexact HO
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexact H6
    isplitl [H7]; · iexact H7
    iexact H8
  iintro %r ⟨HP, HO, ⟨H0, H1, H2, H3, H4, H5⟩, H6, H7, H8⟩
  isplitl [HP]; · iexact HP
  isplitl [HO]; · iapply (owes_after m c t); iexact HO
  isplitl [H0]; · iexact H0
  isplitl [H1]; · iexact H1
  isplitl [H2]; · iexact H2
  isplitl [H3]; · iexact H3
  isplitl [H4]; · iexact H4
  isplitl [H5]; · iexact H5
  isplitl [H6]; · iapply (leaves6_to m c t d6); iexact H6
  isplitl [H7]; · iexact H7
  iexact H8

end Cert.KernelIdeal

end
-- ==== Proof.Call.lean ====
/- The rule of a pipelined call without prefetched tables, stated of the pipelines' plain configurations. -/
module

public import proofs.«01_k».proof.Proof.Base

@[expose] public section

noncomputable section

namespace Cert.KernelIdeal.Plain

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ₀ : Idealize.SL.Sem.Labels} {P : Type} [Fintype P]
variable {Ix : Type} [DecidableEq Ix] {Name : Type} [DecidableEq Name] {U : Type} [URA U] {Lvl : Type} [Preorder Lvl]

local notation "𝕄" => MT nD τ sig Ix Val Name U Lvl

theorem call_rule [∀ e, Nonempty (Val e)] (cfgs : P → Cfg sig Λ₀) (dats : (p : P) → (c : Dev nD) → Dat τ Val Ix Name U Lvl (cfgs p) c)
    (ι : Ix) (ER : Emb (URounds (GSem nD τ sig) Unit) (MT nD τ sig Ix Val Name U Lvl)) (κ : GSem nD τ sig → Name)
    (hinj : Function.Injective (cellOf (nD := nD) (τ := τ) cfgs)) (p : P) (defs₀ : Defs nD τ sig Val Λ₀) (𝒱₀ : Variants) (c : Dev nD)
    (hbody : BodyObligationLoose (dats p c) defs₀ 𝒱₀ ι Set.univ) (hne : ∀ w : Fin (cfgs p).W, 0 < ((cfgs p).win w).block.numel)
    {X Y R I : sProp 𝕄} (hbufs : (scopedBufs (c.tc : Thread nD τ) : sProp 𝕄) ⊢ iprop(Dat.staging (cfgs p) c ∗ R))
    (hin : iprop(X ∗ R) ⊢ (dats p c).Φ 0)
    (hout : iprop((dats p c).Φ (Fin.last (cfgs p).N) ∗ cellsSems0 cfgs p c ∗ Dat.staging (cfgs p) c ∗ I)
      ⊢ iprop(Y ∗ scopedSems0 (c.tc : Thread nD τ) ∗ scopedBufs (c.tc : Thread nD τ)))
    {Q : PUnit → sProp 𝕄} :
    iprop((dats p c).arrays (dats p c).A ∗ owes (c : Thread nD τ) ((dats p c).owed 0) ∅ ∗ cellsWaits cfgs dats ι p c ∗ cellsInit cfgs dats ER κ p c
        ∗ toksInit cfgs ER p c ∗ X ∗ I ∗ scopedBufs (c.tc : Thread nD τ))
      ⊢ iprop(((((dats p c).arrays ((dats p c).arrAt · (cfgs p).N) ∗ ∃ W, owes (c : Thread nD τ) ((dats p c).owed (Fin.last (cfgs p).N)) W) ∗ Y ∗ scopedSems0 (c.tc : Thread nD τ) ∗ scopedBufs (c.tc : Thread nD τ)) -∗ Q ⟨⟩)
          -∗ wp frame (wpE (Pipeline.defs (fun p => (cfgs p).toPCfg) defs₀) (Variants.lift 𝒱₀) (c : Thread nD τ) none) Set.univ
              (.op (.customCall (entry p) ()) fun _ => .ret ⟨⟩) Q) := by
  have h := wp_customCall_entry_frame (fun p => (cfgs p).toPCfg) (fun p => (cfgs p).toPCfg_adm) dats ι ER κ hinj p defs₀ 𝒱₀
    (fun _ => fullShare) c Set.univ (fun _ _ => Set.mem_univ _) hbody hne none (fun u h => nomatch h) (X := X) (Y := Y) (R := R) (I := I) hbufs
    ((show _ ⊢ iprop(X ∗ R) from by iintro ⟨HX, -, HR⟩; isplitl [HX] <;> iassumption).trans hin) hout (k := fun _ => .ret ⟨⟩) (Q := Q)
  iintro ⟨Ha, Ho, Hw, Hi, Ht, HX, HI, Hs⟩ Hk
  iapply h $$ [Ha Ho Hw Hi Ht HX HI Hs]
  · isplitl [Ha Ho Hw Hi Ht]
    · unfold EntryPre PerCore.EntryPre
      isplitl [Ha]; · iexact Ha
      isplitl [Ho]
      · unfold Dat.owesAt Pipeline.owesWithin
        iexists ∅; isplitr; · ipureintro; rw [Finset.coe_empty]; exact Set.empty_subset _
        iexact Ho
      isplitl [Hw]; · iexact Hw
      isplitl [Hi] <;> iassumption
    isplitr
    · unfold prefHeld
      haveI : IsEmpty (Fin ((cfgs p).toPCfg (Val := Val)).pre.K) := ⟨fun k => k.elim0⟩
      rw [Finset.univ_eq_empty, BI.bigSep_empty]; iempintro
    isplitl [HX]; · iexact HX
    isplitl [HI] <;> iassumption
  · unfold EntryPost PerCore.EntryPost Dat.owesAt Pipeline.owesWithin
    iintro ⟨⟨Ha, ⟨%W, -, HO⟩⟩, HY⟩
    rw [wp_ret]; imodintro
    iapply Hk
    isplitl [Ha HO]
    · isplitl [Ha]; · iexact Ha
      iexists W; iexact HO
    · iexact HY

end Cert.KernelIdeal.Plain
end
-- ==== Proof.Launch.lean ====
/- The launch of the eight devices. Every device may write into its peers' buffers from its first grid point on, so the
   buffers that no window stages, and the semaphores of the exchange, are dealt out for the whole mesh at once before
   any device runs; what is dealt is left open here. -/
module

public import proofs.«01_k».proof.Proof.Dat
public import proofs.«01_k».proof.Proof.Call
public import proofs.«01_k».proof.Proof.Gen.KernelIdeal.Launch

@[expose] public section

set_option maxRecDepth 16384

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellsSems0 cellsGhost toksInit cellsWaits ownSems0 scopedRest unscopedRest launchCred prefHeld)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The exchange's own semaphores and their levels -/

/-- The semaphores of the exchange: for each copy the one counting its departure and the one counting its arrival. -/
abbrev osem : Fin 15 × Bool → SemLoc sig := fun x => if x.2 then .dma (recvSem x.1) else .dma (sendSem x.1)

theorem osem_facts : Pipeline.OwnSemFacts cfg0.spec osem := by decide +kernel

/-- Waits for a staging buffer come first, waits for an arrival second. -/
def lv (g : GSem nD τ sig) (_ : Unit) : ℕ := if (recvIx g.2).isSome then 1 else 0
def lvs (g : GSem nD τ sig) : Finset Unit := if g.1.2 = .tc then {()} else ∅
theorem lvs_tc (c : Dev nD) (sm : SemLoc sig) : lvs ((c : Thread nD τ), sm) = {()} := if_pos rfl
theorem lvs_ne (g : GSem nD τ sig) (h : g.1.2 ≠ .tc) : lvs g = ∅ := if_neg h

/-- What is owed is owed at arrivals. -/
theorem owing_at {c : Dev nD} {g : GSem nD τ sig} {u : Unit} (h : 0 < owing 0 c g u) : ∃ k, g = recvCell k (peer k c) := by
  unfold owing at h
  obtain ⟨k, -, hk⟩ := Pipeline.sum_pos_exists (D := fun k => tallyAt (recvCell k (peer k c)) () (amt k)) h
  refine ⟨k, ?_⟩
  generalize amt k = n at hk
  generalize recvCell k (peer k c) = r at hk ⊢
  beta_reduce at hk
  rw [tallyAt_apply] at hk
  by_contra hn
  rw [if_neg (fun e => hn e.1)] at hk
  exact absurd hk (lt_irrefl 0)

theorem stage_wait (c : Dev nD) (q : DmaSem sig) (hq : recvIx (.dma q) = none) (O : CellTallies nD τ sig Unit) (hO : O = owing 0 c ∨ O = 0) :
    (levAts lvs lv : sProp 𝕄) ⊢ MayWait (c : Thread nD τ) (.dma q) () O := by
  rcases hO with rfl | rfl
  · refine MayOwe.of_cut (L := lvs) (lev := lv) 0
      (fun p hp => by rw [Finset.mem_singleton.mp hp, lvs_tc]; exact Finset.mem_singleton_self _)
      (fun g u hg => by obtain ⟨k, rfl⟩ := owing_at hg; rw [lvs_tc]; exact Finset.mem_singleton_self _)
      (fun p hp => by rw [Finset.mem_singleton.mp hp]; dsimp only [lv]; rw [hq]; decide)
      (fun g u hg => by obtain ⟨k, rfl⟩ := owing_at hg; dsimp only [lv]; rw [recvIx_recv]; exact Nat.one_pos)
  · rw [MayWait_zero]; iintro -; iempintro

theorem staging_waits (c : Dev nD) : (levAts lvs lv : sProp 𝕄) ⊢ Pipeline.cellsWaits cfgs (dats m) () 0 c :=
  Pipeline.cellsWaits_intro cfgs (dats m) () 0 c fun w s t =>
    stage_wait c _ (by fin_cases w <;> revert s <;> decide +kernel) _ (by
      rcases t with ⟨_ | _, ht⟩
      · exact Or.inl rfl
      · exact Or.inr rfl)

theorem whole_share (c : Dev nD) (w : Fin cfg0.W) : (dats m 0 c).share w = fullShare := by unfold Dat.share; split <;> rfl

/-! ## What the pipeline starts from -/

abbrev noTab : (p : Fin 1) → ((cfgs p).toPCfg (Val := Elt F)).Adm := fun p => (cfgs p).toPCfg_adm

/-- A device's semaphores that neither the pipeline nor the exchange names. -/
abbrev idle (c : Dev nD) : sProp 𝕄 := Pipeline.idleSems0 cfgs Gen.cellOf_inj (0 : Fin 1) osem_facts c

abbrev bufs (c : Dev nD) : (b : Ref sig .tc) → Buf (Elt F) ((c : Thread nD τ).loc b) := fun b => m ((c : Thread nD τ).loc b)

theorem sems_split (c : Dev nD) :
    (scopedSems0 (c : Thread nD τ) : sProp 𝕄) = iprop((cellsSems0 cfgs (0 : Fin 1) c ∗ ownSems0 osem c) ∗ idle c) :=
  Pipeline.scopedSems0_split cfgs Gen.cellOf_inj (0 : Fin 1) Gen.winFacts0.to₀ osem_facts c
theorem scoped_split (c : Dev nD) : (scopedBufs (c : Thread nD τ) : sProp 𝕄) = iprop(Dat.staging cfg0 c ∗ scopedRest cfg0.spec c) :=
  Pipeline.scopedBufs_split cfgs (0 : Fin 1) Gen.winFacts0.stage_scoped Gen.winFacts0.stage_inj Gen.stage_whole0 c
theorem unscoped_split (c : Dev nD) :
    (unscopedBufs c (bufs m c) : sProp 𝕄) = iprop((dats m 0 c).arrays (dats m 0 c).A ∗ unscopedRest cfg0.spec c (bufs m c)) := by
  rw [Pipeline.unscopedBufs_split cfgs (0 : Fin 1) Gen.winFacts0.arr_unscoped Gen.winFacts0.arr_inj c (bufs m c),
    Pipeline.arrays_eq cfgs (dats m) (0 : Fin 1) c Gen.arr_whole0 (whole_share m c)]
  rfl

/-- What a device holds as it starts, beside what the mesh was dealt. -/
def held0 (c : Dev nD) : sProp 𝕄 :=
  iprop((scopedBufs (c : Thread nD τ) ∗ cellsSems0 cfgs (0 : Fin 1) c ∗ idle c) ∗ (dats m 0 c).arrays (dats m 0 c).A ∗ owes (c : Thread nD τ) (owing 0 c) ∅)

/-- A device's holdings at launch: what it starts from, what is to be dealt, and its semaphores' levels, yet unset. -/
theorem core_split (c : Dev nD) :
    coreInit (Ix := Unit) (Name := ℕ) (U := UU) (Lvl := ℕ) (Pipeline.owing (owing 0)) 0 (⟨m, fun _ => 0, ρ⟩ : MemSt nD τ sig (Elt F)) (c : Thread nD τ)
      ⊢ iprop(held0 m c ∗ (ownSems0 osem c ∗ unscopedRest cfg0.spec c (bufs m c) ∗ launchCred (owing 0) c) ∗ levels0 c : sProp 𝕄) := by
  refine (Pipeline.coreInit_boundary_owing (owing 0) m ρ c).trans ?_
  unfold boundary held0
  rw [sems_split c, show (unscopedBufs c fun b => m ((c : Thread nD τ).loc b) : sProp 𝕄) = _ from unscoped_split m c]
  iintro ⟨⟨Hs, ⟨⟨Hc, Ho⟩, Hi⟩, -⟩, ⟨Ha, Hu⟩, -, HO, Hl, -, Hcr⟩
  isplitl [Hs Hc Hi Ha HO]
  · isplitl [Hs Hc Hi]
    · isplitl [Hs]; · iexact Hs
      isplitl [Hc]; · iexact Hc
      iexact Hi
    isplitl [Ha]; · iexact Ha
    iexact HO
  isplitl [Ho Hu Hcr]
  · isplitl [Ho]; · iexact Ho
    isplitl [Hu]; · iexact Hu
    iexact Hcr
  iexact Hl

/-- The levels of every semaphore, set for the whole mesh. -/
theorem set_levels : (bigSep Finset.univ fun c : Dev nD => levels0 (Ix := Unit) (Val := Elt F) (Name := ℕ) (U := UU) (Lvl := ℕ) (τ := τ) (sig := sig) c)
    ⊢ (|==> levAts lvs lv : sProp 𝕄) := by
  classical
  have hnone (g : Thread nD τ) (h : g.2 ≠ .tc) : (coreLevAts g lvs lv : sProp 𝕄) = BI.emp := by
    unfold coreLevAts
    rw [bigSep_congr (Ψ := fun _ : SemLoc sig => (BI.emp : sProp 𝕄)) fun sm _ => by rw [lvs_ne (g, sm) h, BI.bigSep_empty], BI.bigSep_emp_const]
  have hothers : (bigSep Finset.univ fun d : Dev nD => bigSep (Finset.univ.erase Proc.tc) fun p => (coreLevAts ((d, p) : Thread nD τ) lvs lv : sProp 𝕄)) = BI.emp := by
    rw [bigSep_congr (Ψ := fun _ : Dev nD => (BI.emp : sProp 𝕄)) fun d _ => by
      rw [bigSep_congr (Ψ := fun _ : Proc τ => (BI.emp : sProp 𝕄)) fun p hp => hnone (d, p) (Finset.ne_of_mem_erase hp), BI.bigSep_emp_const],
      BI.bigSep_emp_const]
  have hall : (levAts lvs lv : sProp 𝕄) = iprop((bigSep Finset.univ fun d : Dev nD => coreLevAts (d : Thread nD τ) lvs lv) ∗ emp) := by
    rw [show (levAts lvs lv : sProp 𝕄) = bigSep Finset.univ fun c : Thread nD τ => coreLevAts c lvs lv
      from bigSep_univ_prod fun g : GSem nD τ sig => bigSep (lvs g) fun ι => levAt g ι (lv g ι), bigSep_threads, hothers]; rfl
  refine (bigSep_mono fun (c : Dev nD) _ => lev_assign_cells (c : Thread nD τ) lvs lv).trans ((BI.bigSep_bupd _ _).trans (BI.bupd_mono ?_))
  rw [hall, bigSep_sep' (Ψ := fun c : Dev nD => (coreLevAts (c : Thread nD τ) lvs lv : sProp 𝕄))]
  exact BI.Entails.trans (BI.sep_mono BI.affine (BI.Entails.refl _)) BI.sep_comm

/-! ## A device's run -/

/-- A device's part of what is dealt out, or kept. -/
abbrev Share (E : FTy → Type) : Type := Dev nD → sProp (MT nD τ sig Unit (Elt E) ℕ UU ℕ)

variable (X Y Z : Share F)

/-- What a device ends with. -/
def held1 (c : Dev nD) : sProp 𝕄 :=
  iprop((dats m 0 c).arrays ((dats m 0 c).arrAt · cfg0.N) ∗ Y c ∗ Z c ∗ scopedSems0 (c : Thread nD τ))

variable (hin : ∀ c, iprop(X c ∗ scopedRest cfg0.spec c) ⊢ (dats m 0 c).Φ 0)
  (hout : ∀ c, (dats m 0 c).Φ (Fin.last cfg0.N) ⊢ iprop(Y c ∗ ownSems0 osem c ∗ scopedRest cfg0.spec c))

include hin hout in
set_option maxHeartbeats 400000 in
theorem core_run (c : Dev nD) :
    iprop(held0 m c ∗ cellsGhost cfgs EP (0 : Fin 1) c ∗ toksInit cfgs EP (0 : Fin 1) c ∗ levAts lvs lv ∗ X c ∗ Z c)
      ⊢ wp frame (wpE (defs (F := F)) (Variants.lift 𝒱₀) (c : Thread nD τ) none) Set.univ (main (F := F) c)
          (fun _ => post (liftTc (held1 m Y Z) BI.emp) (c : Thread nD τ)) := by
  have hout' : iprop((dats m 0 c).Φ (Fin.last cfg0.N) ∗ cellsSems0 cfgs (0 : Fin 1) c ∗ Dat.staging cfg0 c ∗ idle c)
      ⊢ iprop(Y c ∗ scopedSems0 (c : Thread nD τ) ∗ scopedBufs (c : Thread nD τ)) := by
    rw [sems_split c, scoped_split c]
    iintro ⟨HΦ, Hc, Hst, Hi⟩
    ihave H := (hout c) $$ HΦ
    icases H with ⟨HY, Ho, HR⟩
    isplitl [HY]; · iexact HY
    isplitl [Hc Ho Hi]
    · isplitl [Hc Ho]
      · isplitl [Hc]; · iexact Hc
        iexact Ho
      iexact Hi
    isplitl [Hst]; · iexact Hst
    iexact HR
  rw [show main (F := F) c = .op (.customCall (Pipeline.entry 0) ()) fun _ => .ret ⟨⟩ from rfl]
  unfold held0
  iintro ⟨⟨⟨Hs, Hc, Hi⟩, Ha, HO⟩, Hg, Ht, #Hl, HX, HZ⟩
  ihave Hw := (staging_waits m c) $$ Hl
  iapply (fupd_wp frame (wpE (defs (F := F)) (Variants.lift 𝒱₀) (c : Thread nD τ) none) Set.univ _ _)
  imod (Pipeline.cellsInit_alloc cfgs (dats m) EP Gen.cellOf_inj (0 : Fin 1) c) $$ [Hc Hg] with ⟨%κ, -, Hinit⟩
  · isplitl [Hc]; · iexact Hc
    iexact Hg
  imodintro
  iapply (Plain.call_rule cfgs (dats m) () EP κ Gen.cellOf_inj (0 : Fin 1) defs₀ 𝒱₀ c (body_obligation m c) Gen.block_pos0
      (X := X c) (Y := Y c) (R := scopedRest cfg0.spec c) (I := idle c) (Entails.of_eq (scoped_split c)) (hin c) hout'
      (Q := fun _ => post (liftTc (held1 m Y Z) BI.emp) (c : Thread nD τ))) $$ [Ha HO Hinit Ht HX Hi Hs Hw]
  · isplitl [Ha]; · iexact Ha
    isplitl [HO]; · iexact HO
    isplitl [Hw]; · iexact Hw
    isplitl [Hinit]; · iexact Hinit
    isplitl [Ht]; · iexact Ht
    isplitl [HX]; · iexact HX
    isplitl [Hi] <;> iassumption
  iintro ⟨⟨Ha, ⟨%W, HO⟩⟩, HY, Hs, -⟩
  unfold post; simp only [liftTc_tc, held1]
  isplitr [HO]
  · isplitl [Ha]; · iexact Ha
    isplitl [HY]; · iexact HY
    isplitl [HZ]; · iexact HZ
    iexact Hs
  · iexists W; iexact HO

/-! ## The mesh's run -/

/-- Every run of the eight devices ends, with what `QY` reads, the windowed arrays at the values the pipeline names, and
    every counter at zero: from a way to deal the mesh's unstaged buffers and the exchange's semaphores (`hdeal`). -/
theorem mesh_run (G : Share F) (u₀ : UU)
    (hu₀ : (ownU u₀ : sProp 𝕄)
      ⊢ |={Set.univ}=> iprop(BI.own (EP (initOf (Pipeline.cells cfgs Gen.cellOf_inj) (Pipeline.launchToks cfgs Gen.cellOf_inj))) ∗ bigSep Finset.univ G))
    (hdeal : (bigSep Finset.univ fun c => iprop((ownSems0 osem c ∗ unscopedRest cfg0.spec c (bufs m c) ∗ launchCred (owing 0) c) ∗ G c) : sProp 𝕄)
      ⊢ |={Set.univ}=> bigSep Finset.univ fun c => iprop(X c ∗ Z c))
    (hin : ∀ c, iprop(X c ∗ scopedRest cfg0.spec c) ⊢ (dats m 0 c).Φ 0)
    (hout : ∀ c, (dats m 0 c).Φ (Fin.last cfg0.N) ⊢ iprop(Y c ∗ ownSems0 osem c ∗ scopedRest cfg0.spec c))
    (QY : Dev nD → MemSt nD τ sig (Elt F) → Prop)
    (hY : ∀ c (s' : Phys nD τ sig (Elt F)), iprop(Y c ∗ Z c ∗ SI s') ⊢ |={Set.univ}=> iprop(⌜QY c s'.mem⌝ ∗ SI s')) :
    θ_run (defs (F := F)) (onTc (τ := τ) (main (F := F))) ⟨m, fun _ => 0, ρ⟩
      (fun r => (∀ c : Dev nD, (∀ w : Fin cfg0.W, r.2.mem ((cfg0.win w).arr.view.loc (c : Thread nD τ)) = (dats m 0 c).arrAt w cfg0.N) ∧ QY c r.2)
        ∧ r.2.sem = fun _ => 0) := by
  classical
  let pre : Dev nD → sProp 𝕄 := fun c =>
    iprop(held0 m c ∗ cellsGhost cfgs EP (0 : Fin 1) c ∗ toksInit cfgs EP (0 : Fin 1) c ∗ levAts lvs lv ∗ X c ∗ Z c)
  refine (θ_run (defs (F := F)) _ _).mono (Q := fun r => (∀ c : Dev nD, ((∀ w : Fin cfg0.W,
        r.2.mem ((cfg0.win w).arr.view.loc (c : Thread nD τ)) = (dats m 0 c).arrAt w cfg0.N) ∧ QY c r.2)
      ∧ ∀ sm : SemLoc sig, sm.isScoped .tc = true → r.2.sem ((c : Thread nD τ), sm) = 0) ∧ ∀ g : GSem nD τ sig, g.1.2 ≠ .tc → r.2.sem g = 0)
    (fun r h => ⟨fun c => (h.1 c).1, sem_eq_zero_of_scoped (by decide +kernel) (sems_of_reads (fun c => (h.1 c).2) h.2)⟩)
    (adequate_tpu (defs (F := F)) _ _ _ (reflect_intro_fupd_tc_sems (X := Unit) (Variants.lift 𝒱₀) (Pipeline.owing (owing 0)) 0 (noBookings fun _ => le_rfl)
      (Pipeline.owing_of_ne (owing 0)) u₀ (fun _ => pre) (fun _ => held1 m Y Z) (fun _ => iprop(emp)) Set.univ ?_
      (fun _ c => core_run m X Y Z hin hout c) fun _ => ?_))
  · have hfirst (Φ : Fin 1 → Dev nD → sProp 𝕄) :
        (bigSep Finset.univ fun c : Dev nD => bigSep Finset.univ fun p => Φ p c) ⊢ bigSep Finset.univ fun c : Dev nD => Φ 0 c :=
      bigSep_mono fun c _ => BI.bigSep_elim (Finset.mem_univ _)
    have hcores : (bigSep Finset.univ fun d : Dev nD =>
          coreInit (Ix := Unit) (Name := ℕ) (U := UU) (Lvl := ℕ) (Pipeline.owing (owing 0)) 0 (⟨m, fun _ => 0, ρ⟩ : MemSt nD τ sig (Elt F)) (d : Thread nD τ))
        ⊢ iprop((bigSep Finset.univ fun c : Dev nD => held0 m c)
          ∗ (bigSep Finset.univ fun c : Dev nD => iprop(ownSems0 osem c ∗ unscopedRest cfg0.spec c (bufs m c) ∗ launchCred (owing 0) c))
          ∗ bigSep Finset.univ fun c : Dev nD => levels0 (Ix := Unit) (Val := Elt F) (Name := ℕ) (U := UU) (Lvl := ℕ) (τ := τ) (sig := sig) c) := by
      refine (bigSep_mono fun c _ => core_split m ρ c).trans ?_
      rw [bigSep_sep', bigSep_sep']
      exact BI.Entails.refl _
    iintro ⟨Hcores, Hu⟩
    ihave H := hcores $$ Hcores
    icases H with ⟨Hh, Hd, Hl⟩
    imod set_levels $$ Hl with Hl
    imod hu₀ $$ Hu with ⟨HP, HG⟩
    imod (Pipeline.fund_ghost cfgs EP Gen.cellOf_inj) $$ HP with ⟨Hg, Ht⟩
    imod hdeal $$ [Hd HG] with HXZ
    · iapply (Entails.of_eq (bigSep_sep' _ _ _).symm)
      isplitl [Hd]; · iexact Hd
      iexact HG
    imodintro
    iexists ()
    isplitl
    · simp only [pre, bigSep_sep']
      icases HXZ with ⟨HX, HZ⟩
      isplitl [Hh]; · iexact Hh
      isplitl [Hg]; · iapply (hfirst fun p c => cellsGhost cfgs EP p c); iexact Hg
      isplitl [Ht]; · iapply (hfirst fun p c => toksInit cfgs EP p c); iexact Ht
      isplitl [Hl]; · iapply (BI.bigSep_intro_persistent (S := Finset.univ) fun (c : Dev nD) _ => (BI.Entails.refl (levAts lvs lv : sProp 𝕄))); iexact Hl
      isplitl [HX]; · iexact HX
      iexact HZ
    · iempintro
  · have hread (c : Dev nD) (s' : Phys nD τ sig (Elt F)) : iprop(held1 m Y Z c ∗ SI s') ⊢ |={Set.univ}=>
        iprop(⌜((∀ w : Fin cfg0.W, s'.mem.mem ((cfg0.win w).arr.view.loc (c : Thread nD τ)) = (dats m 0 c).arrAt w cfg0.N) ∧ QY c s'.mem)
          ∧ ∀ sm : SemLoc sig, sm.isScoped .tc = true → s'.mem.sem ((c : Thread nD τ), sm) = 0⌝ ∗ SI s') := by
      unfold held1
      rw [Pipeline.arrays_eq cfgs (dats m) (0 : Fin 1) c Gen.arr_whole0 (whole_share m c)]
      iintro ⟨⟨Ha, HY, HZ, Hs⟩, HSI⟩
      ihave %hz := (tcScoped_read_pers c s') $$ [Hs HSI]
      · isplitl [Hs] <;> iassumption
      ihave Hr := (pointsTo_read_all Finset.univ (fun w : Fin cfg0.W => (c : Thread nD τ).loc (Pipeline.arrRef cfg0.spec w))
          (fun w => (dats m 0 c).arrAt w cfg0.N) s' fullShare) $$ [Ha HSI]
      · isplitl [Ha] <;> iassumption
      icases Hr with ⟨%ha, HSI⟩
      imod (hY c s') $$ [HY HZ HSI] with ⟨%hy, HSI⟩
      · isplitl [HY]; · iexact HY
        isplitl [HZ] <;> iassumption
      imodintro
      isplitr
      · ipureintro; exact ⟨⟨fun w => ha w (Finset.mem_univ w), hy⟩, hz⟩
      · iexact HSI
    iintro ⟨H, -, Hsc⟩ %s' HSI
    ihave %hsc := (scSems_read_zero m ρ s') $$ [Hsc HSI]
    · isplitl [Hsc] <;> iassumption
    imod (posts_fupd (Es := Set.univ) Finset.univ hread s') $$ [H HSI] with %h
    · isplitl [H] <;> iassumption
    imodintro
    ipureintro
    exact ⟨fun c => h c (Finset.mem_univ c), hsc⟩

end Cert.KernelIdeal

end
-- ==== Proof.Deal.lean ====
/- Dealing the mesh's exchange before any device runs: every device's two semaphores per copy become cells with a schedule,
   every source block stays with its device, and every slot, with the token of its arrival, goes to the peer that fills it. -/
module

public import proofs.«01_k».proof.Proof.Launch

@[expose] public section

set_option maxRecDepth 16384

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat ownSems0 scopedRest unscopedRest launchCred)

variable {F : FTy → Type} [FloatOps F] [Named F]

local notation "𝕄" => MT nD τ sig Unit (Elt F) ℕ UU ℕ

variable (m : (ℓ : Loc nD τ sig) → Buf (Elt F) ℓ)

/-! ## The cells and tokens of the exchange -/

abbrev Sem2 : Type := Fin 15 × Bool

abbrev xcell (cx : Dev nD × Sem2) : GSem nD τ sig := ((cx.1 : Thread nD τ), osem cx.2)
abbrev xtok (cx : Dev nD × Sem2) : GSem nD τ sig × ℕ × Bool := (xcell cx, 0, false)

theorem osem_injective : Function.Injective osem := by decide +kernel
theorem xcell_injective : Function.Injective xcell := by
  rintro ⟨c, x⟩ ⟨c', x'⟩ h
  have h1 : c = c' := congrArg (fun g : GSem nD τ sig => g.1.1) h
  have h2 : osem x = osem x' := congrArg Prod.snd h
  rw [h1, osem_injective h2]
theorem xtok_injective : Function.Injective xtok := fun a b h => xcell_injective (congrArg Prod.fst h)

def xcells : Finset (GSem nD τ sig) := Finset.univ.map ⟨xcell, xcell_injective⟩
def xtoks : Finset (GSem nD τ sig × ℕ × Bool) := Finset.univ.map ⟨xtok, xtok_injective⟩

def u₀ : UU := (initOf (Pipeline.cells cfgs Gen.cellOf_inj) (Pipeline.launchToks cfgs Gen.cellOf_inj), initOf xcells xtoks)

/-- What a device is minted: each cell's state, its position, the record that it is reached, and its one signal's token. -/
def minted (c : Dev nD) : sProp 𝕄 :=
  iprop((bigSep Finset.univ fun x : Sem2 => roundState ER (sch m) (xcell (c, x)) 0)
    ∗ (bigSep Finset.univ fun x : Sem2 => reached ER (xcell (c, x)) 0)
    ∗ (bigSep Finset.univ fun x : Sem2 => atPos ER (xcell (c, x)) 0 ∅ 0)
    ∗ bigSep Finset.univ fun x : Sem2 => dutyTok ER (xcell (c, x)) 0 false)

theorem mint : (BI.own (ER (initOf xcells xtoks)) : sProp 𝕄) ⊢ |==> bigSep Finset.univ (minted m) := by
  have hX (Φ : GSem nD τ sig → sProp 𝕄) : bigSep xcells Φ = bigSep Finset.univ fun c : Dev nD => bigSep Finset.univ fun x : Sem2 => Φ (xcell (c, x)) := by
    unfold xcells; rw [bigSep_map, bigSep_univ_prod]; rfl
  have hT : bigSep xtoks (fun x => (dutyTok ER x.1 x.2.1 x.2.2 : sProp 𝕄))
      = bigSep Finset.univ fun c : Dev nD => bigSep Finset.univ fun x : Sem2 => dutyTok ER (xcell (c, x)) 0 false := by
    unfold xtoks; rw [bigSep_map, bigSep_univ_prod]; rfl
  iintro HX
  imod (Rounds.fund ER (sch m) xcells xtoks) $$ HX with ⟨Hst, Hr, Hat, Htok⟩
  imodintro
  ihave Hst' := (Entails.of_eq (hX fun g => roundState ER (sch m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold minted; simp only [bigSep_sep']
  isplitl [Hst']; · iexact Hst'
  isplitl [Hr']; · iexact Hr'
  isplitl [Hat'] <;> iassumption

theorem launch_ghost : (ownU u₀ : sProp 𝕄)
    ⊢ |={Set.univ}=> iprop(BI.own (EP (initOf (Pipeline.cells cfgs Gen.cellOf_inj) (Pipeline.launchToks cfgs Gen.cellOf_inj))) ∗ bigSep Finset.univ (minted m)) := by
  unfold u₀
  iintro Hu
  ihave H := (ownU_pair _ _) $$ Hu
  icases H with ⟨HP, HX⟩
  imod (mint m) $$ HX with HG
  imodintro
  isplitl [HP] <;> iassumption

/-! ## Over every copy of every device -/

/-- A statement of every copy of every device. -/
abbrev total (P : Fin 15 → Dev nD → sProp 𝕄) : sProp 𝕄 := bigSep Finset.univ fun ck : Dev nD × Fin 15 => P ck.2 ck.1

/-- Every copy's device for every copy's peer. -/
def swap : Dev nD × Fin 15 ≃ Dev nD × Fin 15 where
  toFun ck := (peer ck.2 ck.1, ck.2)
  invFun ck := (peer ck.2 ck.1, ck.2)
  left_inv ck := by rcases ck with ⟨c, k⟩; simp only [peer_peer]
  right_inv ck := by rcases ck with ⟨c, k⟩; simp only [peer_peer]

theorem total_peer (P : Fin 15 → Dev nD → sProp 𝕄) : total P = total fun k c => P k (peer k c) :=
  bigSep_univ_equiv swap _

theorem total_at (P : Fin 15 → Dev nD → sProp 𝕄) (k : Fin 15) (c : Dev nD) : total P ⊢ P k c :=
  bigSep_elim (Φ := fun ck : Dev nD × Fin 15 => P ck.2 ck.1) (Finset.mem_univ (c, k))

theorem total_by_device (P : Fin 15 → Dev nD → sProp 𝕄) : total P = bigSep Finset.univ fun c : Dev nD => bigSep Finset.univ fun k : Fin 15 => P k c :=
  bigSep_univ_prod _

theorem chain15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem by_half (Φ : Sem2 → sProp 𝕄) :
    bigSep Finset.univ Φ = iprop((bigSep Finset.univ fun k : Fin 15 => Φ (k, false)) ∗ bigSep Finset.univ fun k : Fin 15 => Φ (k, true)) := by
  rw [bigSep_univ_prod, ← bigSep_sep']
  exact bigSep_congr fun k _ => bigSep_univ_eq_bigSepL [false, true] (by decide) (by decide) _

theorem total_half (Φ : Dev nD × Sem2 → sProp 𝕄) :
    (bigSep Finset.univ fun c : Dev nD => bigSep Finset.univ fun x : Sem2 => Φ (c, x))
      = iprop(total (fun k c => Φ (c, (k, false))) ∗ total (fun k c => Φ (c, (k, true)))) := by
  rw [total_by_device, total_by_device, ← bigSep_sep']
  exact bigSep_congr fun c _ => by_half fun x => Φ (c, x)

/-! ## The unstaged buffers -/

/-- One part of a source array's share stays, and each of its three copies reads one of the others. -/
theorem source_shares {ℓ : Loc nD τ sig} (f : Buf (Elt F) ℓ) (S0 S1 S2 : Finset ((ℓ.2).ty.Idx)) :
    (ℓ ↦{fullShare} f : sProp 𝕄) ⊢ iprop((ℓ ↦{fullShare.left} f) ∗ (ℓ ↦[S0]{fullShare.right.left} f)
      ∗ (ℓ ↦[S1]{fullShare.right.right.left} f) ∗ (ℓ ↦[S2]{fullShare.right.right.right} f)) := by
  iintro H
  ihave H := (pointsTo_share (PosShare.mem_left_op_right fullShare)).1 $$ H
  icases H with ⟨H0, H⟩
  ihave H := (pointsTo_share (PosShare.mem_left_op_right fullShare.right)).1 $$ H
  icases H with ⟨H1, H⟩
  ihave H := (pointsTo_share (PosShare.mem_left_op_right fullShare.right.right)).1 $$ H
  icases H with ⟨H2, H3⟩
  ihave H1 := (pointsTo_split_subset (Finset.subset_univ S0)).1 $$ H1
  icases H1 with ⟨H1, -⟩
  ihave H2 := (pointsTo_split_subset (Finset.subset_univ S1)).1 $$ H2
  icases H2 with ⟨H2, -⟩
  ihave H3 := (pointsTo_split_subset (Finset.subset_univ S2)).1 $$ H3
  icases H3 with ⟨H3, -⟩
  isplitl [H0]; · iexact H0
  isplitl [H1]; · iexact H1
  isplitl [H2] <;> iassumption

/-- A received array falls into its three slots. -/
theorem three_slots {ℓ : Loc nD τ sig} (f : Buf (Elt F) ℓ) (S0 S1 S2 : Finset ((ℓ.2).ty.Idx)) (h01 : Disjoint S0 S1) (h02 : Disjoint S0 S2) (h12 : Disjoint S1 S2) :
    (ℓ ↦{fullShare} f : sProp 𝕄) ⊢ iprop((ℓ ↦[S0]{fullShare} f) ∗ (ℓ ↦[S1]{fullShare} f) ∗ (ℓ ↦[S2]{fullShare} f)) := by
  iintro H
  ihave H := (pointsTo_split_subset (Finset.subset_univ S0)).1 $$ H
  icases H with ⟨H0, H⟩
  ihave H := (pointsTo_split_subset (I := S1) (by
    intro x hx; rw [Finset.mem_sdiff]; exact ⟨Finset.mem_univ _, fun h => Finset.disjoint_left.mp h01 h hx⟩)).1 $$ H
  icases H with ⟨H1, H⟩
  ihave H := (pointsTo_split_subset (I := S2) (by
    intro x hx; rw [Finset.mem_sdiff, Finset.mem_sdiff]
    exact ⟨⟨Finset.mem_univ _, fun h => Finset.disjoint_left.mp h02 h hx⟩, fun h => Finset.disjoint_left.mp h12 h hx⟩)).1 $$ H
  icases H with ⟨H2, -⟩
  isplitl [H0]; · iexact H0
  isplitl [H1] <;> iassumption

theorem apart0_1 : Disjoint (dstM 0).view.set (dstM 1).view.set := by
  simp only [Memref.view, View.set_reshape, View.set_slice]
  exact (Finset.disjoint_map _).mpr (Rect.disjoint_of_separated _ _ 0 (by simp))
theorem apart0_2 : Disjoint (dstM 0).view.set (dstM 2).view.set := by
  simp only [Memref.view, View.set_reshape, View.set_slice]
  exact (Finset.disjoint_map _).mpr (Rect.disjoint_of_separated _ _ 0 (by simp))
theorem apart1_2 : Disjoint (dstM 1).view.set (dstM 2).view.set := by
  simp only [Memref.view, View.set_reshape, View.set_slice]
  exact (Finset.disjoint_map _).mpr (Rect.disjoint_of_separated _ _ 0 (by simp))
theorem apart3_4 : Disjoint (dstM 3).view.set (dstM 4).view.set := by
  simp only [Memref.view, View.set_reshape, View.set_slice]
  exact (Finset.disjoint_map _).mpr (Rect.disjoint_of_separated _ _ 0 (by simp))
theorem apart3_5 : Disjoint (dstM 3).view.set (dstM 5).view.set := by
  simp only [Memref.view, View.set_reshape, View.set_slice]
  exact (Finset.disjoint_map _).mpr (Rect.disjoint_of_separated _ _ 0 (by simp))
theorem apart4_5 : Disjoint (dstM 4).view.set (dstM 5).view.set := by
  simp only [Memref.view, View.set_reshape, View.set_slice]
  exact (Finset.disjoint_map _).mpr (Rect.disjoint_of_separated _ _ 0 (by simp))
theorem apart6_7 : Disjoint (dstM 6).view.set (dstM 7).view.set := by
  simp only [Memref.view, View.set_reshape, View.set_slice]
  exact (Finset.disjoint_map _).mpr (Rect.disjoint_of_separated _ _ 0 (by simp))
theorem apart6_8 : Disjoint (dstM 6).view.set (dstM 8).view.set := by
  simp only [Memref.view, View.set_reshape, View.set_slice]
  exact (Finset.disjoint_map _).mpr (Rect.disjoint_of_separated _ _ 0 (by simp))
theorem apart7_8 : Disjoint (dstM 7).view.set (dstM 8).view.set := by
  simp only [Memref.view, View.set_reshape, View.set_slice]
  exact (Finset.disjoint_map _).mpr (Rect.disjoint_of_separated _ _ 0 (by simp))
theorem apart9_10 : Disjoint (dstM 9).view.set (dstM 10).view.set := by
  simp only [Memref.view, View.set_reshape, View.set_slice]
  exact (Finset.disjoint_map _).mpr (Rect.disjoint_of_separated _ _ 0 (by simp))
theorem apart9_11 : Disjoint (dstM 9).view.set (dstM 11).view.set := by
  simp only [Memref.view, View.set_reshape, View.set_slice]
  exact (Finset.disjoint_map _).mpr (Rect.disjoint_of_separated _ _ 0 (by simp))
theorem apart10_11 : Disjoint (dstM 10).view.set (dstM 11).view.set := by
  simp only [Memref.view, View.set_reshape, View.set_slice]
  exact (Finset.disjoint_map _).mpr (Rect.disjoint_of_separated _ _ 0 (by simp))
theorem apart12_13 : Disjoint (dstM 12).view.set (dstM 13).view.set := by
  simp only [Memref.view, View.set_reshape, View.set_slice]
  exact (Finset.disjoint_map _).mpr (Rect.disjoint_of_separated _ _ 0 (by simp))
theorem apart12_14 : Disjoint (dstM 12).view.set (dstM 14).view.set := by
  simp only [Memref.view, View.set_reshape, View.set_slice]
  exact (Finset.disjoint_map _).mpr (Rect.disjoint_of_separated _ _ 0 (by simp))
theorem apart13_14 : Disjoint (dstM 13).view.set (dstM 14).view.set := by
  simp only [Memref.view, View.set_reshape, View.set_slice]
  exact (Finset.disjoint_map _).mpr (Rect.disjoint_of_separated _ _ 0 (by simp))

/-- What a device keeps of its source arrays through the call: a share of each. -/
def kept (c : Dev nD) : sProp 𝕄 :=
  iprop((((c : Thread nD τ).loc main_arg6) ↦{fullShare.left} m ((c : Thread nD τ).loc main_arg6)) ∗ (((c : Thread nD τ).loc main_arg7) ↦{fullShare.left} m ((c : Thread nD τ).loc main_arg7)) ∗ (((c : Thread nD τ).loc main_arg8) ↦{fullShare.left} m ((c : Thread nD τ).loc main_arg8)) ∗ (((c : Thread nD τ).loc main_arg9) ↦{fullShare.left} m ((c : Thread nD τ).loc main_arg9)) ∗ (((c : Thread nD τ).loc main_arg10) ↦{fullShare.left} m ((c : Thread nD τ).loc main_arg10)))

theorem sources_main_arg6 (c : Dev nD) : (((c : Thread nD τ).loc main_arg6) ↦{fullShare} m ((c : Thread nD τ).loc main_arg6) : sProp 𝕄)
    ⊢ iprop((((c : Thread nD τ).loc main_arg6) ↦{fullShare.left} m ((c : Thread nD τ).loc main_arg6)) ∗ src m 0 c ∗ src m 1 c ∗ src m 2 c) :=
  source_shares (m ((c : Thread nD τ).loc main_arg6)) (srcM 0 c).view.set (srcM 1 c).view.set (srcM 2 c).view.set
theorem slots_main_v1_3 (c : Dev nD) : (((c : Thread nD τ).loc main_v1_3) ↦{fullShare} m ((c : Thread nD τ).loc main_v1_3) : sProp 𝕄)
    ⊢ iprop(slot (F := F) 0 c ∗ slot (F := F) 1 c ∗ slot (F := F) 2 c) := by
  refine (three_slots (m ((c : Thread nD τ).loc main_v1_3)) (dstM 0).view.set (dstM 1).view.set (dstM 2).view.set apart0_1 apart0_2 apart1_2).trans ?_
  unfold slot
  iintro ⟨H0, H1, H2⟩
  isplitl [H0]; · iexists _; iexact H0
  isplitl [H1]; · iexists _; iexact H1
  iexists _; iexact H2
theorem sources_main_arg7 (c : Dev nD) : (((c : Thread nD τ).loc main_arg7) ↦{fullShare} m ((c : Thread nD τ).loc main_arg7) : sProp 𝕄)
    ⊢ iprop((((c : Thread nD τ).loc main_arg7) ↦{fullShare.left} m ((c : Thread nD τ).loc main_arg7)) ∗ src m 3 c ∗ src m 4 c ∗ src m 5 c) :=
  source_shares (m ((c : Thread nD τ).loc main_arg7)) (srcM 3 c).view.set (srcM 4 c).view.set (srcM 5 c).view.set
theorem slots_main_v1_4 (c : Dev nD) : (((c : Thread nD τ).loc main_v1_4) ↦{fullShare} m ((c : Thread nD τ).loc main_v1_4) : sProp 𝕄)
    ⊢ iprop(slot (F := F) 3 c ∗ slot (F := F) 4 c ∗ slot (F := F) 5 c) := by
  refine (three_slots (m ((c : Thread nD τ).loc main_v1_4)) (dstM 3).view.set (dstM 4).view.set (dstM 5).view.set apart3_4 apart3_5 apart4_5).trans ?_
  unfold slot
  iintro ⟨H0, H1, H2⟩
  isplitl [H0]; · iexists _; iexact H0
  isplitl [H1]; · iexists _; iexact H1
  iexists _; iexact H2
theorem sources_main_arg8 (c : Dev nD) : (((c : Thread nD τ).loc main_arg8) ↦{fullShare} m ((c : Thread nD τ).loc main_arg8) : sProp 𝕄)
    ⊢ iprop((((c : Thread nD τ).loc main_arg8) ↦{fullShare.left} m ((c : Thread nD τ).loc main_arg8)) ∗ src m 6 c ∗ src m 7 c ∗ src m 8 c) :=
  source_shares (m ((c : Thread nD τ).loc main_arg8)) (srcM 6 c).view.set (srcM 7 c).view.set (srcM 8 c).view.set
theorem slots_main_v1_5 (c : Dev nD) : (((c : Thread nD τ).loc main_v1_5) ↦{fullShare} m ((c : Thread nD τ).loc main_v1_5) : sProp 𝕄)
    ⊢ iprop(slot (F := F) 6 c ∗ slot (F := F) 7 c ∗ slot (F := F) 8 c) := by
  refine (three_slots (m ((c : Thread nD τ).loc main_v1_5)) (dstM 6).view.set (dstM 7).view.set (dstM 8).view.set apart6_7 apart6_8 apart7_8).trans ?_
  unfold slot
  iintro ⟨H0, H1, H2⟩
  isplitl [H0]; · iexists _; iexact H0
  isplitl [H1]; · iexists _; iexact H1
  iexists _; iexact H2
theorem sources_main_arg9 (c : Dev nD) : (((c : Thread nD τ).loc main_arg9) ↦{fullShare} m ((c : Thread nD τ).loc main_arg9) : sProp 𝕄)
    ⊢ iprop((((c : Thread nD τ).loc main_arg9) ↦{fullShare.left} m ((c : Thread nD τ).loc main_arg9)) ∗ src m 9 c ∗ src m 10 c ∗ src m 11 c) :=
  source_shares (m ((c : Thread nD τ).loc main_arg9)) (srcM 9 c).view.set (srcM 10 c).view.set (srcM 11 c).view.set
theorem slots_main_v1_6 (c : Dev nD) : (((c : Thread nD τ).loc main_v1_6) ↦{fullShare} m ((c : Thread nD τ).loc main_v1_6) : sProp 𝕄)
    ⊢ iprop(slot (F := F) 9 c ∗ slot (F := F) 10 c ∗ slot (F := F) 11 c) := by
  refine (three_slots (m ((c : Thread nD τ).loc main_v1_6)) (dstM 9).view.set (dstM 10).view.set (dstM 11).view.set apart9_10 apart9_11 apart10_11).trans ?_
  unfold slot
  iintro ⟨H0, H1, H2⟩
  isplitl [H0]; · iexists _; iexact H0
  isplitl [H1]; · iexists _; iexact H1
  iexists _; iexact H2
theorem sources_main_arg10 (c : Dev nD) : (((c : Thread nD τ).loc main_arg10) ↦{fullShare} m ((c : Thread nD τ).loc main_arg10) : sProp 𝕄)
    ⊢ iprop((((c : Thread nD τ).loc main_arg10) ↦{fullShare.left} m ((c : Thread nD τ).loc main_arg10)) ∗ src m 12 c ∗ src m 13 c ∗ src m 14 c) :=
  source_shares (m ((c : Thread nD τ).loc main_arg10)) (srcM 12 c).view.set (srcM 13 c).view.set (srcM 14 c).view.set
theorem slots_main_v1_7 (c : Dev nD) : (((c : Thread nD τ).loc main_v1_7) ↦{fullShare} m ((c : Thread nD τ).loc main_v1_7) : sProp 𝕄)
    ⊢ iprop(slot (F := F) 12 c ∗ slot (F := F) 13 c ∗ slot (F := F) 14 c) := by
  refine (three_slots (m ((c : Thread nD τ).loc main_v1_7)) (dstM 12).view.set (dstM 13).view.set (dstM 14).view.set apart12_13 apart12_14 apart13_14).trans ?_
  unfold slot
  iintro ⟨H0, H1, H2⟩
  isplitl [H0]; · iexists _; iexact H0
  isplitl [H1]; · iexists _; iexact H1
  iexists _; iexact H2

theorem unstaged_split (c : Dev nD) : (unscopedRest cfg0.spec c (bufs m c) : sProp 𝕄)
    ⊢ iprop(kept m c ∗ (bigSep Finset.univ fun k : Fin 15 => src m k c) ∗ bigSep Finset.univ fun k : Fin 15 => slot (F := F) k c) := by
  rw [show (unscopedRest cfg0.spec c (bufs m c) : sProp 𝕄) = _ from Gen.unscopedRest0_eq c (bufs m c), chain15, chain15]
  unfold kept
  iintro ⟨A0, A1, A2, A3, A4, B0, B1, B2, B3, B4⟩
  ihave A0 := (sources_main_arg6 m c) $$ A0
  icases A0 with ⟨K0, S0, S1, S2⟩
  ihave B0 := (slots_main_v1_3 m c) $$ B0
  icases B0 with ⟨D0, D1, D2⟩
  ihave A1 := (sources_main_arg7 m c) $$ A1
  icases A1 with ⟨K1, S3, S4, S5⟩
  ihave B1 := (slots_main_v1_4 m c) $$ B1
  icases B1 with ⟨D3, D4, D5⟩
  ihave A2 := (sources_main_arg8 m c) $$ A2
  icases A2 with ⟨K2, S6, S7, S8⟩
  ihave B2 := (slots_main_v1_5 m c) $$ B2
  icases B2 with ⟨D6, D7, D8⟩
  ihave A3 := (sources_main_arg9 m c) $$ A3
  icases A3 with ⟨K3, S9, S10, S11⟩
  ihave B3 := (slots_main_v1_6 m c) $$ B3
  icases B3 with ⟨D9, D10, D11⟩
  ihave A4 := (sources_main_arg10 m c) $$ A4
  icases A4 with ⟨K4, S12, S13, S14⟩
  ihave B4 := (slots_main_v1_7 m c) $$ B4
  icases B4 with ⟨D12, D13, D14⟩
  isplitl [K0 K1 K2 K3 K4]
  · isplitl [K0]; · iexact K0
    isplitl [K1]; · iexact K1
    isplitl [K2]; · iexact K2
    isplitl [K3] <;> iassumption
  isplitl [S0 S1 S2 S3 S4 S5 S6 S7 S8 S9 S10 S11 S12 S13 S14]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13] <;> iassumption
  isplitl [D0]; · iexact D0
  isplitl [D1]; · iexact D1
  isplitl [D2]; · iexact D2
  isplitl [D3]; · iexact D3
  isplitl [D4]; · iexact D4
  isplitl [D5]; · iexact D5
  isplitl [D6]; · iexact D6
  isplitl [D7]; · iexact D7
  isplitl [D8]; · iexact D8
  isplitl [D9]; · iexact D9
  isplitl [D10]; · iexact D10
  isplitl [D11]; · iexact D11
  isplitl [D12]; · iexact D12
  isplitl [D13] <;> iassumption

/-! ## The launch's credit: each device's slots are owed to it -/

theorem credit_split (c : Dev nD) : (launchCred (owing 0) c : sProp 𝕄) ⊢ bigSep Finset.univ fun k : Fin 15 => cred (tallyAt (recvCell k c) () (amt k)) := by
  rw [show (owing 0 : Dev nD → CellTallies nD τ sig Unit) = fun d => ∑ k ∈ (Finset.univ : Finset (Fin 15)), tallyAt (recvCell k (peer k d)) () (amt k) from by
      funext d; unfold owing; rw [Finset.filter_true_of_mem fun k _ => Nat.zero_le _],
    Pipeline.launchCred_sum Finset.univ (fun k d => tallyAt (recvCell k (peer k d)) () (amt k)) c]
  exact bigSep_mono fun k _ => Pipeline.launchCred_tallyAt (.dma (recvSem k)) (peer k) (peer k) (peer_peer k) (peer_peer k) () (amt k) c

/-! ## The deal -/

/-- A device's cells under their schedules, with what it was minted for them. -/
def opened (c : Dev nD) : sProp 𝕄 :=
  iprop((bigSep Finset.univ fun x : Sem2 => inv m (xcell (c, x)))
      ∗ (bigSep Finset.univ fun x : Sem2 => reached ER (xcell (c, x)) 0)
      ∗ (bigSep Finset.univ fun x : Sem2 => atPos ER (xcell (c, x)) 0 ∅ 0)
      ∗ bigSep Finset.univ fun x : Sem2 => dutyTok ER (xcell (c, x)) 0 false)

/-- A device's own semaphores, with what it was minted, become cells under their schedules. -/
theorem open_cells (c : Dev nD) : iprop(ownSems0 osem c ∗ minted m c : sProp 𝕄)
    ⊢ |={Set.univ}=> opened m c := by
  unfold minted opened
  rw [show (ownSems0 osem c : sProp 𝕄) = bigSep Finset.univ fun x : Sem2 => semVal (xcell (c, x)) 0 from rfl]
  iintro ⟨Hv, Hst, Hr⟩
  imod (show iprop((bigSep Finset.univ fun x : Sem2 => semVal (xcell (c, x)) 0) ∗ bigSep Finset.univ fun x : Sem2 => roundState ER (sch m) (xcell (c, x)) 0)
      ⊢ (|={Set.univ}=> bigSep Finset.univ fun x : Sem2 => inv m (xcell (c, x)) : sProp 𝕄) from by
        rw [← bigSep_sep']
        exact (bigSep_mono fun x _ => (Rounds.body_intro ER (sch m) (xcell (c, x))).trans inv_alloc).trans (bigSep_fupd _ _)) $$ [Hv Hst] with Hinv
  · isplitl [Hv] <;> iassumption
  imodintro
  isplitl [Hinv]; · iexact Hinv
  iexact Hr

/-- The records every device may use: every cell's invariant, and that every cell is reached. -/
def records : sProp 𝕄 :=
  iprop((bigSep Finset.univ fun ck : Dev nD × Fin 15 => inv m (sendCell ck.2 ck.1)) ∗ (bigSep Finset.univ fun ck : Dev nD × Fin 15 => inv m (recvCell ck.2 ck.1))
    ∗ (bigSep Finset.univ fun ck : Dev nD × Fin 15 => reached ER (sendCell ck.2 ck.1) 0) ∗ bigSep Finset.univ fun ck : Dev nD × Fin 15 => reached ER (recvCell ck.2 ck.1) 0)
instance records_persistent : BI.Persistent (records (F := F) m) := by unfold records; infer_instance

/-- What a copy is dealt beside the records. -/
def dealt (k : Fin 15) (c : Dev nD) : sProp 𝕄 :=
  iprop(src m k c ∗ slot k (peer k c) ∗ dutyTok ER (sendCell k c) 0 false ∗ dutyTok ER (recvCell k (peer k c)) 0 false
    ∗ cred (tallyAt (recvCell k c) () (amt k)) ∗ atPos ER (sendCell k c) 0 ∅ 0 ∗ atPos ER (recvCell k c) 0 ∅ 0)

theorem ready_intro (ck : Dev nD × Fin 15) : iprop(records m ∗ dealt m ck.2 ck.1) ⊢ ready m ck.2 ck.1 := by
  rcases ck with ⟨c, k⟩
  unfold records dealt ready
  iintro ⟨⟨#I1, #I2, #R1, #R2⟩, H⟩
  isplitr
  · isplitr; · iapply (total_at (fun k c => inv m (sendCell k c)) k (c)); iexact I1
    isplitr; · iapply (total_at (fun k c => inv m (recvCell k c)) k (c)); iexact I2
    isplitr; · iapply (total_at (fun k c => inv m (recvCell k c)) k (peer k c)); iexact I2
    isplitr; · iapply (total_at (fun k c => (reached ER (sendCell k c) 0 : sProp 𝕄)) k (c)); iexact R1
    iapply (total_at (fun k c => (reached ER (recvCell k c) 0 : sProp 𝕄)) k (peer k c)); iexact R2
  · iexact H

/-- Every device's cells, buffers and credit, shared out among the copies. -/
theorem share_out :
    iprop(bigSep Finset.univ (opened m)
      ∗ total (fun k c => src m k c) ∗ total (fun k c => slot k c) ∗ total (fun k c => cred (tallyAt (recvCell k c) () (amt k))) : sProp 𝕄)
      ⊢ total (ready m) := by
  unfold opened
  rw [bigSep_sep', bigSep_sep', bigSep_sep', total_half (fun cx => inv m (xcell cx)), total_half (fun cx => reached ER (xcell cx) 0),
    total_half (fun cx => atPos ER (xcell cx) 0 ∅ 0), total_half (fun cx => dutyTok ER (xcell cx) 0 false),
    total_peer (fun k c => slot (F := F) k c), total_peer (fun k c => (dutyTok ER (xcell (c, (k, true))) 0 false : sProp 𝕄))]
  iintro ⟨⟨⟨#I1, #I2⟩, ⟨#R1, #R2⟩, ⟨A1, A2⟩, T1, T2⟩, Hs, Hd, Hc⟩
  iapply (bigSep_with_persistent (R := records m) (Φ := fun ck : Dev nD × Fin 15 => dealt m ck.2 ck.1) fun ck _ => ready_intro m ck)
  isplitr
  · unfold records
    isplitr; · iexact I1
    isplitr; · iexact I2
    isplitr; · iexact R1
    iexact R2
  · unfold dealt
    simp only [bigSep_sep']
    isplitl [Hs]; · iexact Hs
    isplitl [Hd]; · iexact Hd
    isplitl [T1]; · iexact T1
    isplitl [T2]; · iexact T2
    isplitl [Hc]; · iexact Hc
    isplitl [A1]; · iexact A1
    iexact A2

/-- What a device is dealt: its copies ready to start. -/
def starts (c : Dev nD) : sProp 𝕄 := readyAll m c

/-- A device's part of the deal before it is shared out. -/
def parts (c : Dev nD) : sProp 𝕄 :=
  iprop(opened m c ∗ (bigSep Finset.univ fun k : Fin 15 => src m k c) ∗ (bigSep Finset.univ fun k : Fin 15 => slot (F := F) k c)
    ∗ (bigSep Finset.univ fun k : Fin 15 => cred (tallyAt (recvCell k c) () (amt k))) ∗ kept m c)

theorem deal_parts (c : Dev nD) : iprop((ownSems0 osem c ∗ unscopedRest cfg0.spec c (bufs m c) ∗ launchCred (owing 0) c) ∗ minted m c : sProp 𝕄)
    ⊢ |={Set.univ}=> parts m c := by
  unfold parts
  iintro ⟨⟨Ho, Hu, Hc⟩, Hm⟩
  imod (open_cells m c) $$ [Ho Hm] with HI
  · isplitl [Ho] <;> iassumption
  imodintro
  ihave Hu := (unstaged_split m c) $$ Hu
  icases Hu with ⟨HK, HS, HD⟩
  ihave Hc := (credit_split c) $$ Hc
  isplitl [HI]; · iexact HI
  isplitl [HS]; · iexact HS
  isplitl [HD]; · iexact HD
  isplitl [Hc] <;> iassumption

theorem starts_of_total : total (ready m) ⊢ bigSep Finset.univ (starts m) := by
  rw [total_by_device]
  exact bigSep_mono fun c _ => Entails.of_eq (chain15 fun k => ready m k c)

theorem parts_share : bigSep Finset.univ (parts m) ⊢ bigSep Finset.univ fun c => iprop(starts m c ∗ kept m c) := by
  rw [bigSep_sep' Finset.univ (starts m) (kept m)]
  unfold parts
  rw [bigSep_sep' Finset.univ (opened m), bigSep_sep' Finset.univ (fun c => bigSep Finset.univ fun k : Fin 15 => src m k c),
    bigSep_sep' Finset.univ (fun c => bigSep Finset.univ fun k : Fin 15 => slot (F := F) k c),
    bigSep_sep' Finset.univ (fun c => bigSep Finset.univ fun k : Fin 15 => (cred (tallyAt (recvCell k c) () (amt k)) : sProp 𝕄)),
    ← total_by_device (fun k c => src m k c), ← total_by_device (fun k c => slot (F := F) k c),
    ← total_by_device (fun k c => (cred (tallyAt (recvCell k c) () (amt k)) : sProp 𝕄))]
  iintro ⟨HI, HS, HD, HC, HK⟩
  isplitr [HK]
  · iapply (starts_of_total m)
    iapply (share_out m)
    isplitl [HI]; · iexact HI
    isplitl [HS]; · iexact HS
    isplitl [HD] <;> iassumption
  · iexact HK

theorem deal :
    (bigSep Finset.univ fun c => iprop((ownSems0 osem c ∗ unscopedRest cfg0.spec c (bufs m c) ∗ launchCred (owing 0) c) ∗ minted m c) : sProp 𝕄)
      ⊢ |={Set.univ}=> bigSep Finset.univ fun c => iprop(starts m c ∗ kept m c) :=
  ((bigSep_mono fun c _ => deal_parts m c).trans (bigSep_fupd _ _)).trans (BI.fupd_mono (parts_share m))

end Cert.KernelIdeal

end
-- ==== Proof.Run.lean ====
/- The run of the mesh: from the deal to the end of every device's call, with what each result array holds, what each slot
   has received, and every argument array unchanged. -/
module

public import proofs.«01_k».proof.Proof.Deal

@[expose] public section

set_option maxRecDepth 16384

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat ownSems0 scopedRest unscopedRest launchCred)

variable {F : FTy → Type} [FloatOps F] [Named F]

local notation "𝕄" => MT nD τ sig Unit (Elt F) ℕ UU ℕ

variable (m : (ℓ : Loc nD τ sig) → Buf (Elt F) ℓ)

/-! ## The first point's condition -/

theorem at_whole (c : Dev nD) (b : Ref sig .tc) (f : Buf (Elt F) ((c : Thread nD τ).loc b)) :
    (((c : Thread nD τ).loc b) ↦{fullShare} f : sProp 𝕄) ⊢ at_ c (Memref.whole b) ((Memref.whole b).view.read (Elt F) f) := by
  have h : (((c : Thread nD τ).loc b) ↦{fullShare} f : sProp 𝕄) ⊢ owns (c : Thread nD τ) (Memref.whole b) fullShare f :=
    Entails.of_eq (owns_whole (c : Thread nD τ) b fullShare f).symm
  exact h.trans (at_of_owns c (Memref.whole b) f)

theorem whole_of_at (c : Dev nD) (b : Ref sig .tc) (X) :
    (at_ c (Memref.whole b) X : sProp 𝕄) ⊢ iprop(∃ f : Buf (Elt F) ((c : Thread nD τ).loc b), ((c : Thread nD τ).loc b) ↦{fullShare} f) := by
  have h : (owns (c : Thread nD τ) (Memref.whole b) fullShare X : sProp 𝕄) ⊢ ((c : Thread nD τ).loc b) ↦{fullShare} X :=
    Entails.of_eq (owns_whole (c : Thread nD τ) b fullShare X)
  iintro H
  ihave H := (owns_of_at c (Memref.whole b) X) $$ H
  ihave H := h $$ H
  iexists _
  iexact H

theorem first_holds (c : Dev nD) : iprop(starts m c ∗ scopedRest cfg0.spec c : sProp 𝕄) ⊢ PhiN m c 0 := by
  rw [PhiN_zero, show (scopedRest cfg0.spec c : sProp 𝕄) = _ from Gen.scopedRest0_eq c]
  unfold starts
  iintro ⟨HX, ⟨%f0, H0⟩, ⟨%f1, H1⟩, ⟨%f2, H2⟩, ⟨%f3, H3⟩, ⟨%f4, H4⟩⟩
  isplitr [HX]
  · iexists (⟨(Memref.whole cc0_scratch0).view.read (Elt F) f0, (Memref.whole cc0_scratch1).view.read (Elt F) f1,
      (Memref.whole cc0_scratch2).view.read (Elt F) f2, (Memref.whole cc0_scratch3).view.read (Elt F) f3,
      (Memref.whole cc0_scratch4).view.read (Elt F) f4⟩ : St F)
    unfold scr
    isplitl [H0]; · iapply (at_whole c cc0_scratch0 f0); iexact H0
    isplitl [H1]; · iapply (at_whole c cc0_scratch1 f1); iexact H1
    isplitl [H2]; · iapply (at_whole c cc0_scratch2 f2); iexact H2
    isplitl [H3]; · iapply (at_whole c cc0_scratch3 f3); iexact H3
    iapply (at_whole c cc0_scratch4 f4); iexact H4
  · iexact HX

/-! ## What the last point leaves -/

/-- Every slot filled. -/
def gots (c : Dev nD) : sProp 𝕄 := bigSep Finset.univ fun k : Fin 15 => got m k c

theorem scr_rest (c : Dev nD) (S : St F) : (scr c S : sProp 𝕄) ⊢ scopedRest cfg0.spec c := by
  rw [show (scopedRest cfg0.spec c : sProp 𝕄) = _ from Gen.scopedRest0_eq c]
  unfold scr
  iintro ⟨H0, H1, H2, H3, H4⟩
  isplitl [H0]; · iapply (whole_of_at c cc0_scratch0 S.dk); iexact H0
  isplitl [H1]; · iapply (whole_of_at c cc0_scratch1 S.dv); iexact H1
  isplitl [H2]; · iapply (whole_of_at c cc0_scratch2 S.sl); iexact H2
  isplitl [H3]; · iapply (whole_of_at c cc0_scratch3 S.pl); iexact H3
  iapply (whole_of_at c cc0_scratch4 S.dq); iexact H4

theorem doneAll_eq (c : Dev nD) : (doneAll m c : sProp 𝕄) = bigSep Finset.univ fun k : Fin 15 => done m k c :=
  (chain15 fun k => done m k c).symm

theorem done_parts (c : Dev nD) : (doneAll m c : sProp 𝕄) ⊢ iprop(gots m c ∗ ownSems0 osem c) := by
  have hs : (ownSems0 osem c : sProp 𝕄) = iprop((bigSep Finset.univ fun k : Fin 15 => semVal (sendCell k c) 0) ∗ (bigSep Finset.univ fun k : Fin 15 => semVal (recvCell k c) 0)) := by
    exact (by_half fun x => semVal (xcell (c, x)) 0)
  have hd : (doneAll m c : sProp 𝕄) = iprop((bigSep Finset.univ fun k : Fin 15 => semVal (sendCell k c) 0)
      ∗ (bigSep Finset.univ fun k : Fin 15 => got m k c) ∗ (bigSep Finset.univ fun k : Fin 15 => semVal (recvCell k c) 0)) := by
    rw [doneAll_eq]; unfold done
    rw [bigSep_sep' Finset.univ (fun k : Fin 15 => (semVal (sendCell k c) 0 : sProp 𝕄)) (fun k => iprop(got m k c ∗ semVal (recvCell k c) 0)),
      bigSep_sep' Finset.univ (fun k : Fin 15 => got m k c) (fun k => (semVal (recvCell k c) 0 : sProp 𝕄))]
  rw [hd, hs]
  unfold gots
  iintro ⟨HS, HG, HR⟩
  isplitl [HG]; · iexact HG
  isplitl [HS] <;> iassumption

theorem last_leaves (c : Dev nD) : PhiN m c 64 ⊢ iprop(gots m c ∗ ownSems0 osem c ∗ scopedRest cfg0.spec c : sProp 𝕄) := by
  rw [show PhiN m c 64 = iprop(scr c (stSeq m c 64) ∗ doneAll m c) from PhiN_succ m c 63]
  iintro ⟨HS, HD⟩
  ihave HS := (scr_rest c _) $$ HS
  ihave HD := (done_parts m c) $$ HD
  icases HD with ⟨HG, HO⟩
  isplitl [HG]; · iexact HG
  isplitl [HO] <;> iassumption

/-! ## Reading the end of the run -/

/-- Device `c`'s slots at the end hold what landed in them, and the arrays they were sent from are unchanged. -/
def Exchanged (c : Dev nD) (s : MemSt nD τ sig (Elt F)) : Prop :=
  (∀ k : Fin 15, (dstM k).view.read (Elt F) (s.mem ((dstM k).view.loc (c : Thread nD τ))) = landed m k c)
    ∧ s.mem ((c : Thread nD τ).loc main_arg6) = m ((c : Thread nD τ).loc main_arg6)
    ∧ s.mem ((c : Thread nD τ).loc main_arg7) = m ((c : Thread nD τ).loc main_arg7)
    ∧ s.mem ((c : Thread nD τ).loc main_arg8) = m ((c : Thread nD τ).loc main_arg8)
    ∧ s.mem ((c : Thread nD τ).loc main_arg9) = m ((c : Thread nD τ).loc main_arg9)
    ∧ s.mem ((c : Thread nD τ).loc main_arg10) = m ((c : Thread nD τ).loc main_arg10)

theorem got_read (k : Fin 15) (c : Dev nD) (s' : Phys nD τ sig (Elt F)) : iprop(SI s' ∗ got m k c : sProp 𝕄)
    ⊢ ⌜(dstM k).view.read (Elt F) (s'.mem.mem ((dstM k).view.loc (c : Thread nD τ))) = landed m k c⌝ := by
  unfold got owns
  iintro ⟨HSI, %f, %hf, Hf⟩
  icombine HSI Hf gives %h
  ipureintro
  rw [← hf]
  exact View.read_congr h

theorem gots_read (S : Finset (Fin 15)) (c : Dev nD) (s' : Phys nD τ sig (Elt F)) : iprop(SI s' ∗ bigSep S fun k : Fin 15 => got m k c : sProp 𝕄)
    ⊢ ⌜∀ k ∈ S, (dstM k).view.read (Elt F) (s'.mem.mem ((dstM k).view.loc (c : Thread nD τ))) = landed m k c⌝ := by
  induction S using Finset.induction_on with
  | empty => iintro -; ipureintro; simp
  | insert k S hk ih =>
    rw [bigSep_insert hk]
    refine (show iprop(SI s' ∗ got m k c ∗ bigSep S fun k : Fin 15 => got m k c : sProp 𝕄) ⊢ _ from ?_)
    refine Laws.pure_elim (φ := (dstM k).view.read (Elt F) (s'.mem.mem ((dstM k).view.loc (c : Thread nD τ))) = landed m k c) ?_ fun h1 => ?_
    · iintro ⟨HS, HK, -⟩
      iapply (got_read m k c s')
      isplitl [HS] <;> iassumption
    · refine Laws.pure_elim (φ := ∀ k ∈ S, (dstM k).view.read (Elt F) (s'.mem.mem ((dstM k).view.loc (c : Thread nD τ))) = landed m k c) ?_ fun h2 => ?_
      · iintro ⟨HS, -, HK⟩
        iapply ih
        isplitl [HS] <;> iassumption
      · iintro -
        ipureintro
        intro j hj
        rcases Finset.mem_insert.mp hj with rfl | hj
        exacts [h1, h2 j hj]

theorem read_end (c : Dev nD) (s' : Phys nD τ sig (Elt F)) : iprop(SI s' ∗ gots m c ∗ kept m c : sProp 𝕄) ⊢ ⌜Exchanged m c s'.mem⌝ := by
  refine Laws.pure_elim (φ := ∀ k ∈ Finset.univ, (dstM k).view.read (Elt F) (s'.mem.mem ((dstM k).view.loc (c : Thread nD τ))) = landed m k c) ?_ fun h1 => ?_
  · unfold gots
    iintro ⟨HS, HG, -⟩
    iapply (gots_read m Finset.univ c s')
    isplitl [HS] <;> iassumption
  · unfold kept
    iintro ⟨HS, -, H6, H7, H8, H9, H10⟩
    icombine HS H6 gives %h6
    icombine HS H7 gives %h7
    icombine HS H8 gives %h8
    icombine HS H9 gives %h9
    icombine HS H10 gives %h10
    ipureintro
    exact ⟨fun k => h1 k (Finset.mem_univ k), Buf.eq_of_forall_mem_univ h6, Buf.eq_of_forall_mem_univ h7, Buf.eq_of_forall_mem_univ h8,
      Buf.eq_of_forall_mem_univ h9, Buf.eq_of_forall_mem_univ h10⟩

theorem end_holds (c : Dev nD) (s' : Phys nD τ sig (Elt F)) : iprop(gots m c ∗ kept m c ∗ SI s' : sProp 𝕄) ⊢ |={Set.univ}=> iprop(⌜Exchanged m c s'.mem⌝ ∗ SI s') := by
  refine Laws.pure_elim (φ := Exchanged m c s'.mem) ?_ fun h => ?_
  · iintro ⟨HG, HK, HS⟩
    iapply (read_end m c s')
    isplitl [HS]; · iexact HS
    isplitl [HG] <;> iassumption
  · iintro ⟨-, -, HS⟩
    imodintro
    isplitr
    · ipureintro; exact h
    · iexact HS

/-! ## The run -/

theorem run_main (ρ : Dev nD → PrngReg) :
    θ_run (defs (F := F)) (onTc (τ := τ) (main (F := F))) ⟨m, fun _ => 0, ρ⟩
      (fun r => (∀ c : Dev nD, (∀ w : Fin cfg0.W, r.2.mem ((cfg0.win w).arr.view.loc (c : Thread nD τ)) = (dats m 0 c).arrAt w cfg0.N) ∧ Exchanged m c r.2)
        ∧ r.2.sem = fun _ => 0) :=
  mesh_run m ρ (starts m) (gots m) (kept m) (minted m) u₀ (launch_ghost m) (deal m) (first_holds m) (last_leaves m) (Exchanged m) (end_holds m)

theorem arg_kept (c : Dev nD) (w : Fin cfg0.W) (h : (cfg0.win w).isOut = false) :
    (dats m 0 c).arrAt w cfg0.N = m ((cfg0.win w).arr.view.loc (c : Thread nD τ)) :=
  (dats m 0 c).arrAt_in w h _

/-- Every argument array of every device ends unchanged. -/
theorem run_kept (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).1 0).trans (arg_kept m c 0 rfl), ((h.1 c).1 1).trans (arg_kept m c 1 rfl),
    ((h.1 c).1 2).trans (arg_kept m c 2 rfl), ((h.1 c).1 3).trans (arg_kept m c 3 rfl), ((h.1 c).1 4).trans (arg_kept m c 4 rfl),
    ((h.1 c).1 5).trans (arg_kept m c 5 rfl), (h.1 c).2.2⟩, h.2⟩) (run_main m ρ)

end Cert.KernelIdeal

end
-- ==== Proof.Frames.lean ====
/- The three frames and the rewrite's statement. -/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.SL.Sem

namespace Cert.Proof

/-- At the device's own numbers a named constant is the number its bits spell: there the two printed programs are one. -/
local instance namedBits : Named Bits := ⟨fun _ _ {φ} bits => Scalar.ofBits φ bits⟩

theorem attn_same : Cert.Kernel.cc0_attn_bwd (F := Bits) = Cert.KernelIdeal.cc0_attn_bwd (F := Bits) := rfl

theorem bodies_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    dsimp only
    rw [attn_same]
    rfl

theorem defs_same : Cert.Kernel.defs (F := Bits) = Cert.KernelIdeal.defs (F := Bits) :=
  congrArg (Pipeline.defs Cert.Kernel.pcfgs) bodies_same

theorem main_same : Cert.Kernel.main (F := Bits) = Cert.KernelIdeal.main (F := Bits) := rfl

theorem frame_kernel : Cert.quiescent_Kernel := by
  intro m ρ _
  rw [defs_same, main_same]
  exact Cert.KernelIdeal.run_kept (F := Bits) m ρ

theorem frame_ideal : Cert.quiescent_KernelIdeal := fun m ρ _ => Cert.KernelIdeal.run_kept (F := Ideal) m ρ

theorem frame_reference : Cert.quiescent_ReferenceIdeal := fun m ρ _ =>
  (θ_run Cert.ReferenceIdeal.defs _ _).mono
    (fun r h => ⟨fun c => (h c).2.2.2.2.2.2.2.2, Idealize.ShloMosaic.sem_eq_zero_of_no_sems (by decide) r.2⟩)
    (Cert.ReferenceIdeal.Value.run (F := Ideal) m ρ)

/-- The one named constant is the real logarithm of two. -/
theorem preserves : Cert.preserves_Kernel_KernelIdeal :=
  IdealRules.named_const.statement Cert.KernelIdeal.κ "ln2" .f32 0x3F317218#32 ((Real.log 2 : ℝ) : EReal) rfl

end Cert.Proof

end
-- ==== Proof.Pay.lean ====
/- The vector arithmetic of one visit read at an index, in the idealized float semantics: sums of products over the
   extended reals. Scores are kept transposed: rows are keys, columns are queries. -/
module

public import proofs.«01_k».proof.Proof.State
public import Idealize.ShloMosaic.Lib.Pointwise

@[expose] public section

set_option maxRecDepth 16384

noncomputable section

namespace Cert.KernelIdeal

open Idealize.ShloMosaic Idealize.ShloMosaic.TcCoe
open Facts₀ Facts

/-- A block's probability before the mask. -/
abbrev prob (s l : EReal) : EReal := Ideal.exp2 (s - l)

/-- The two halves of a block's row of `delta`, side by side. -/
def halves (a b : S1x1x1x256.Idx → Elt Ideal .f32) (x : Fin 512) : EReal :=
  if h : x.val < 256 then a (ix4 0 0 0 ⟨x.val, h⟩) else b (ix4 0 0 0 ⟨x.val - 256, by omega⟩)

theorem scores_at (X : In Ideal) (q : S512x256.Idx → Elt Ideal .bf16) (j x : Fin 512) :
    scores X q (ix3 0 j x) = ∑ d : Fin 256, X.kr (ix2 j d) * q (ix2 x d) := by
  unfold scores
  pointwise [In.kb, Gen.k0_pay1, Gen.k0_pay40]

theorem dps_at (X : In Ideal) (q : S512x128.Idx → Elt Ideal .bf16) (j x : Fin 512) :
    dps X q (ix3 0 j x) = ∑ d : Fin 128, X.vr (ix2 j d) * q (ix2 x d) := by
  unfold dps
  pointwise [In.vb, Gen.k0_pay2, Gen.k0_pay41]

theorem visitDv_at (dor : S512x128.Idx → Elt Ideal .bf16) (s : S1x512x512.Idx → Elt Ideal .f32) (l : S1x1x1x512.Idx → Elt Ideal .f32)
    (dv : S512x128.Idx → Elt Ideal .f32) (j : Fin 512) (d : Fin 128) :
    visitDv dor s l dv (ix2 j d) = dv (ix2 j d) + ∑ x : Fin 512, prob (s (ix3 0 j x)) (l (ix4 0 0 0 x)) * dor (ix2 x d) := by
  unfold visitDv
  pointwise [Gen.k0_pay4, Gen.k0_pay5, Gen.k0_pay6]
  rfl

theorem visitDk_at (qr : S512x256.Idx → Elt Ideal .bf16) (s : S1x512x512.Idx → Elt Ideal .f32) (l : S1x1x1x512.Idx → Elt Ideal .f32)
    (d0 d1 : S1x1x1x256.Idx → Elt Ideal .f32) (p : S1x512x512.Idx → Elt Ideal .f32) (dk : S512x256.Idx → Elt Ideal .f32) (j : Fin 512) (d : Fin 256) :
    visitDk qr s l d0 d1 p dk (ix2 j d) = dk (ix2 j d)
      + ∑ x : Fin 512, (prob (s (ix3 0 j x)) (l (ix4 0 0 0 x)) * (p (ix3 0 j x) - halves d0 d1 x)) * qr (ix2 x d) := by
  unfold visitDk halves
  pointwise [Gen.k0_pay3, Gen.k0_pay5, Gen.k0_pay7, Gen.k0_pay8, Gen.k0_pay9]
  rfl

theorem visitDq_at (X : In Ideal) (s : S1x512x512.Idx → Elt Ideal .f32) (l : S1x1x1x512.Idx → Elt Ideal .f32)
    (d0 d1 : S1x1x1x256.Idx → Elt Ideal .f32) (p : S1x512x512.Idx → Elt Ideal .f32) (dq : S512x256.Idx → Elt Ideal .f32) (x : Fin 512) (d : Fin 256) :
    visitDq X.kb s l d0 d1 p dq (ix2 x d) = dq (ix2 x d)
      + ∑ j : Fin 512, (prob (s (ix3 0 j x)) (l (ix4 0 0 0 x)) * (p (ix3 0 j x) - halves d0 d1 x)) * X.kr (ix2 j d) := by
  unfold visitDq halves
  pointwise [In.kb, Gen.k0_pay40, Gen.k0_pay5, Gen.k0_pay7, Gen.k0_pay10]
  rfl

/-! The visit of the block on the diagonal: keys after the query count nothing. -/

theorem sle_ofNat {m n : ℕ} (hm : m < 2 ^ 31) (hn : n < 2 ^ 31) : (BitVec.ofNat 32 m).sle (BitVec.ofNat 32 n) = decide (m ≤ n) := by
  rw [BitVec.sle_eq_decide]
  have e : ∀ k : ℕ, k < 2 ^ 31 → (BitVec.ofNat 32 k).toInt = (k : ℤ) := fun k hk => by
    rw [BitVec.toInt_eq_toNat_of_lt (by rw [BitVec.toNat_ofNat]; omega), BitVec.toNat_ofNat, Nat.mod_eq_of_lt (by omega)]
  rw [e m hm, e n hn]
  exact decide_eq_decide.mpr Int.ofNat_le

theorem diag_at (s : S1x512x512.Idx → Elt Ideal .f32) (l : S1x1x1x512.Idx → Elt Ideal .f32) (j x : Fin 512) :
    Gen.k0_pay47 s l (ix2 j x) = if j.val ≤ x.val then prob (s (ix3 0 j x)) (l (ix4 0 0 0 x)) else 0 := by
  pointwise [Gen.k0_pay47]
  have h : IntOp.cmpi .sle (BitVec.ofNat 32 j.val) (BitVec.ofNat 32 x.val) = BitVec.ofBool (decide (j.val ≤ x.val)) :=
    congrArg BitVec.ofBool (sle_ofNat (by omega) (by omega))
  rw [h]
  unfold Scalar.select
  by_cases hjx : j.val ≤ x.val
  · rw [if_pos hjx, decide_eq_true hjx]; rfl
  · rw [if_neg hjx, decide_eq_false hjx]; rfl

theorem diagDv_at (dor : S512x128.Idx → Elt Ideal .bf16) (s : S1x512x512.Idx → Elt Ideal .f32) (l : S1x1x1x512.Idx → Elt Ideal .f32)
    (dv : S512x128.Idx → Elt Ideal .f32) (j : Fin 512) (d : Fin 128) :
    Gen.k0_pay48 dor s l dv (ix2 j d) = dv (ix2 j d) + ∑ x : Fin 512, Gen.k0_pay47 s l (ix2 j x) * dor (ix2 x d) := by
  pointwise [Gen.k0_pay48]

theorem diagDk_at (qr : S512x256.Idx → Elt Ideal .bf16) (pt : S512x512.Idx → Elt Ideal .f32)
    (d0 d1 : S1x1x1x256.Idx → Elt Ideal .f32) (p : S1x512x512.Idx → Elt Ideal .f32) (dk : S512x256.Idx → Elt Ideal .f32) (j : Fin 512) (d : Fin 256) :
    Gen.k0_pay52 (Gen.k0_pay46 qr) pt (Gen.k0_pay49 d0) (Gen.k0_pay50 d1) p dk (ix2 j d) = dk (ix2 j d)
      + ∑ x : Fin 512, (pt (ix2 j x) * (p (ix3 0 j x) - halves d0 d1 x)) * qr (ix2 x d) := by
  unfold halves
  pointwise [Gen.k0_pay52, Gen.k0_pay46, Gen.k0_pay49, Gen.k0_pay50, Gen.k0_pay51]

theorem diagDq_at (X : In Ideal) (pt : S512x512.Idx → Elt Ideal .f32)
    (d0 d1 : S1x1x1x256.Idx → Elt Ideal .f32) (p : S1x512x512.Idx → Elt Ideal .f32) (dq : S512x256.Idx → Elt Ideal .f32) (x : Fin 512) (d : Fin 256) :
    Gen.k0_pay53 X.kb pt (Gen.k0_pay49 d0) (Gen.k0_pay50 d1) p dq (ix2 x d) = dq (ix2 x d)
      + ∑ j : Fin 512, (pt (ix2 j x) * (p (ix3 0 j x) - halves d0 d1 x)) * X.kr (ix2 j d) := by
  unfold halves
  pointwise [In.kb, Gen.k0_pay40, Gen.k0_pay53, Gen.k0_pay49, Gen.k0_pay50, Gen.k0_pay51]

/-! The last block's visit is a visit like the others. -/

theorem lastDv_eq (dor : S512x128.Idx → Elt Ideal .bf16) (s : S1x512x512.Idx → Elt Ideal .f32) (l : S1x1x1x512.Idx → Elt Ideal .f32)
    (dv : S512x128.Idx → Elt Ideal .f32) : Gen.k0_pay35 dor s l dv = visitDv dor s l dv := rfl

theorem lastDk_eq (qr : S512x256.Idx → Elt Ideal .bf16) (s : S1x512x512.Idx → Elt Ideal .f32) (l : S1x1x1x512.Idx → Elt Ideal .f32)
    (d0 d1 : S1x1x1x256.Idx → Elt Ideal .f32) (p : S1x512x512.Idx → Elt Ideal .f32) (dk : S512x256.Idx → Elt Ideal .f32) :
    Gen.k0_pay61 (Gen.k0_pay33 qr) (Gen.k0_pay36 s l d0 d1 p) dk = visitDk qr s l d0 d1 p dk := rfl

theorem lastDq_eq (kb : S512x256.Idx → Elt Ideal .bf16) (s : S1x512x512.Idx → Elt Ideal .f32) (l : S1x1x1x512.Idx → Elt Ideal .f32)
    (d0 d1 : S1x1x1x256.Idx → Elt Ideal .f32) (p : S1x512x512.Idx → Elt Ideal .f32) (dq : S512x256.Idx → Elt Ideal .f32) :
    Gen.k0_pay62 kb (Gen.k0_pay36 s l d0 d1 p) dq = visitDq kb s l d0 d1 p dq := rfl

/-! What is stored. -/

theorem zeroDk_at (j : S512x256.Idx) : Gen.k0_pay38 (F := Ideal) j = 0 := by pointwise [Gen.k0_pay38]
theorem zeroDv_at (j : S512x128.Idx) : Gen.k0_pay39 (F := Ideal) j = 0 := by pointwise [Gen.k0_pay39]
theorem zeroDq_at (j : S4096x256.Idx) : Gen.k0_pay37 (F := Ideal) j = 0 := by pointwise [Gen.k0_pay37]
theorem storeDq_at (x : S4096x256.Idx → Elt Ideal .f32) (j : S4096x256.Idx) : Gen.k0_pay63 x j = x j := by pointwise [Gen.k0_pay63]
theorem storeDk_at (x : S512x256.Idx → Elt Ideal .f32) (j : S512x256.Idx) : Gen.k0_pay64 x j = x j * ((Real.log 2 : ℝ) : EReal) := by
  pointwise [Gen.k0_pay64]
  exact congrArg (x j * ·) (IdealRules.named_const.ideal_named_scalar _ _ _ _ rfl)
theorem storeDv_at (x : S512x128.Idx → Elt Ideal .f32) (j : S512x128.Idx) : Gen.k0_pay65 x j = x j := by pointwise [Gen.k0_pay65]

end Cert.KernelIdeal

end
-- ==== Proof.Visit.lean ====
/- What the visits of one grid point add up to, in the idealized float semantics: the sums of a head's attention gradient
   over the query rows from the key block's diagonal on, and the key block's share of the query gradient. -/
module

public import proofs.«01_k».proof.Proof.Pay

@[expose] public section

set_option maxRecDepth 16384

noncomputable section

namespace Cert.KernelIdeal

open Idealize.ShloMosaic Idealize.ShloMosaic.TcCoe
open Facts₀ Facts

/-- One head's rows by number: queries, keys, output gradients, values, and the two saved statistics. -/
structure Head where
  q : ℕ → Fin 256 → EReal
  k : ℕ → Fin 256 → EReal
  dor : ℕ → Fin 128 → EReal
  v : ℕ → Fin 128 → EReal
  l : ℕ → EReal
  del : ℕ → EReal

namespace Head

variable (H : Head)

/-- Key row `kk` against query row `r`: the score, the product of value and output gradient, the masked probability and the
    gradient of the score. -/
def S (kk r : ℕ) : EReal := ∑ d : Fin 256, H.k kk d * H.q r d
def W (kk r : ℕ) : EReal := ∑ d : Fin 128, H.v kk d * H.dor r d
def P (kk r : ℕ) : EReal := if kk ≤ r then prob (H.S kk r) (H.l r) else 0
def D (kk r : ℕ) : EReal := H.P kk r * (H.W kk r - H.del r)

/-- What query block `a` adds to row `j` of key block `b`'s two gradients, and what key block `b` adds to query row `r`'s. -/
def cv (b a : ℕ) (j : Fin 512) (d : Fin 128) : EReal := ∑ x : Fin 512, H.P (512 * b + j) (512 * a + x) * H.dor (512 * a + x) d
def ck (b a : ℕ) (j : Fin 512) (d : Fin 256) : EReal := ∑ x : Fin 512, H.D (512 * b + j) (512 * a + x) * H.q (512 * a + x) d
def cq (b r : ℕ) (d : Fin 256) : EReal := ∑ j : Fin 512, H.D (512 * b + j) r * H.k (512 * b + j) d

end Head

/-- The staged blocks `X` are the head's rows and its key block `b`. -/
structure Fits (H : Head) (b : ℕ) (X : In Ideal) : Prop where
  q : ∀ (r : Fin 4096) (d : Fin 256), X.q (ix2 r d) = H.q r d
  dor : ∀ (r : Fin 4096) (d : Fin 128), X.dor (ix2 r d) = H.dor r d
  lse : ∀ (a : Fin 8) (x : Fin 512), X.lse (ix4 0 a 0 x) = H.l (512 * a + x)
  del : ∀ (a : Fin 16) (x : Fin 256), X.del (ix4 0 a 0 x) = H.del (256 * a + x)
  kr : ∀ (j : Fin 512) (d : Fin 256), X.kr (ix2 j d) = H.k (512 * b + j) d
  vr : ∀ (j : Fin 512) (d : Fin 128), X.vr (ix2 j d) = H.v (512 * b + j) d

/-! ## Windows at an index -/

variable {H : Head} {b : ℕ} {X : In Ideal}

theorem window2 {α : Type} {m n p : ℕ} (f : (⟨2, ![m, n]⟩ : Shape).Idx → α) (o : ℕ) (off : Fin 2 → ℕ) (ho : off = ![o, 0])
    (h : ∀ a, off a + (⟨2, ![p, n]⟩ : Shape).size a ≤ (⟨2, ![m, n]⟩ : Shape).size a) (x : Fin p) (d : Fin n) (hx : o + x.val < m) :
    VecWindow.window (s := ⟨2, ![m, n]⟩) f off (⟨2, ![p, n]⟩ : Shape).size h (ix2 x d) = f (ix2 ⟨o + x.val, hx⟩ d) := by
  subst ho
  refine congrArg f (funext fun a => Fin.ext ?_)
  fin_cases a
  · show o + 1 * x.val = o + x.val; omega
  · show 0 + 1 * d.val = d.val; omega

theorem window4 {α : Type} {m n : ℕ} (f : (⟨4, ![1, m, 1, n]⟩ : Shape).Idx → α) (o : ℕ) (off : Fin 4 → ℕ) (ho : off = ![0, o, 0, 0])
    (h : ∀ a, off a + (⟨4, ![1, 1, 1, n]⟩ : Shape).size a ≤ (⟨4, ![1, m, 1, n]⟩ : Shape).size a) (x : Fin n) (hx : o < m) :
    VecWindow.window (s := ⟨4, ![1, m, 1, n]⟩) f off (⟨4, ![1, 1, 1, n]⟩ : Shape).size h (ix4 0 0 0 x) = f (ix4 0 ⟨o, hx⟩ 0 x) := by
  subst ho
  refine congrArg f (funext fun a => Fin.ext ?_)
  fin_cases a
  · rfl
  · show o + 1 * 0 = o; omega
  · rfl
  · show 0 + 1 * x.val = x.val; omega

theorem Fits.qAt (hX : Fits H b X) {a : ℕ} (ha : a < 8) {off : Fin 2 → ℕ} (ho : off = ![512 * a, 0])
    (h : ∀ a, off a + S512x256.size a ≤ S4096x256.size a) (x : Fin 512) (d : Fin 256) : X.qAt off h (ix2 x d) = H.q (512 * a + x) d :=
  (window2 X.q (512 * a) off ho h x d (by omega)).trans (hX.q _ _)

theorem Fits.doAt (hX : Fits H b X) {a : ℕ} (ha : a < 8) {off : Fin 2 → ℕ} (ho : off = ![512 * a, 0])
    (h : ∀ a, off a + S512x128.size a ≤ S4096x128.size a) (x : Fin 512) (d : Fin 128) : X.doAt off h (ix2 x d) = H.dor (512 * a + x) d :=
  (window2 X.dor (512 * a) off ho h x d (by omega)).trans (hX.dor _ _)

theorem Fits.lseAt (hX : Fits H b X) {a : ℕ} (ha : a < 8) {off : Fin 4 → ℕ} (ho : off = ![0, a, 0, 0])
    (h : ∀ a, off a + S1x1x1x512.size a ≤ S1x8x1x512.size a) (x : Fin 512) : X.lseAt off h (ix4 0 0 0 x) = H.l (512 * a + x) :=
  (window4 X.lse a off ho h x ha).trans (hX.lse _ _)

theorem Fits.delAt (hX : Fits H b X) {a : ℕ} (ha : a < 16) {off : Fin 4 → ℕ} (ho : off = ![0, a, 0, 0])
    (h : ∀ a, off a + S1x1x1x256.size a ≤ S1x16x1x256.size a) (x : Fin 256) : X.delAt off h (ix4 0 0 0 x) = H.del (256 * a + x) :=
  (window4 X.del a off ho h x ha).trans (hX.del _ _)

theorem Fits.halves (hX : Fits H b X) {a : ℕ} (ha : a < 8) {off off' : Fin 4 → ℕ} (ho : off = ![0, 2 * a, 0, 0]) (ho' : off' = ![0, 2 * a + 1, 0, 0])
    (h : ∀ a, off a + S1x1x1x256.size a ≤ S1x16x1x256.size a) (h' : ∀ a, off' a + S1x1x1x256.size a ≤ S1x16x1x256.size a) (x : Fin 512) :
    halves (X.delAt off h) (X.delAt off' h') x = H.del (512 * a + x) := by
  unfold Cert.KernelIdeal.halves
  by_cases hx : x.val < 256
  · rw [dif_pos hx, hX.delAt (by omega) ho]; exact congrArg H.del (by show 256 * (2 * a) + x.val = _; omega)
  · rw [dif_neg hx, hX.delAt (by omega) ho']; exact congrArg H.del (by show 256 * (2 * a + 1) + (x.val - 256) = _; omega)

/-- The slot holds the scores, and the products, of key block `b` against query block `a`. -/
def Fills (H : Head) (b a : ℕ) (s : S1x512x512.Idx → Elt Ideal .f32) : Prop := ∀ j x : Fin 512, s (ix3 0 j x) = H.S (512 * b + j) (512 * a + x)
def FillsW (H : Head) (b a : ℕ) (s : S1x512x512.Idx → Elt Ideal .f32) : Prop := ∀ j x : Fin 512, s (ix3 0 j x) = H.W (512 * b + j) (512 * a + x)

theorem Fits.scores (hX : Fits H b X) {a : ℕ} (ha : a < 8) {off : Fin 2 → ℕ} (ho : off = ![512 * a, 0])
    (h : ∀ a, off a + S512x256.size a ≤ S4096x256.size a) : Fills H b a (scores X (X.qAt off h)) := fun j x => by
  rw [scores_at]; exact Finset.sum_congr rfl fun d _ => by rw [hX.qAt ha ho, hX.kr]

theorem Fits.dps (hX : Fits H b X) {a : ℕ} (ha : a < 8) {off : Fin 2 → ℕ} (ho : off = ![512 * a, 0])
    (h : ∀ a, off a + S512x128.size a ≤ S4096x128.size a) : FillsW H b a (dps X (X.doAt off h)) := fun j x => by
  rw [dps_at]; exact Finset.sum_congr rfl fun d _ => by rw [hX.doAt ha ho, hX.vr]

theorem slot1_set (x : S2x512x512.Idx → Elt Ideal .f32) (w : S1x512x512.Idx → Elt Ideal .f32) : slot1 (setSlot1 x w) = w :=
  VecWindow.window_put_same x ![1, 0, 0] S1x512x512.size inb_S2x512x512_S1x512x512_1_0_0 w

/-! ## One visit -/

theorem Fits.P_after (hX : Fits H b X) {a : ℕ} (hb : b < a) (ha : a < 8) {s : S1x512x512.Idx → Elt Ideal .f32} (hs : Fills H b a s)
    {off : Fin 4 → ℕ} (ho : off = ![0, a, 0, 0]) (h : ∀ a, off a + S1x1x1x512.size a ≤ S1x8x1x512.size a) (j x : Fin 512) :
    prob (s (ix3 0 j x)) (X.lseAt off h (ix4 0 0 0 x)) = H.P (512 * b + j) (512 * a + x) := by
  rw [hs, hX.lseAt ha ho, Head.P, if_pos (by omega)]

theorem Fits.P_diag (hX : Fits H b X) (ha : b < 8) {s : S1x512x512.Idx → Elt Ideal .f32} (hs : Fills H b b s)
    {off : Fin 4 → ℕ} (ho : off = ![0, b, 0, 0]) (h : ∀ a, off a + S1x1x1x512.size a ≤ S1x8x1x512.size a) (j x : Fin 512) :
    Gen.k0_pay47 s (X.lseAt off h) (ix2 j x) = H.P (512 * b + j) (512 * b + x) := by
  rw [diag_at, hs, hX.lseAt ha ho, Head.P]
  by_cases hjx : j.val ≤ x.val
  · rw [if_pos hjx, if_pos (by omega)]
  · rw [if_neg hjx, if_neg (by omega)]

/-- Rows `512 a …` of the query gradient replaced, read at a row. -/
theorem dqPut_at (dq : S4096x256.Idx → Elt Ideal .f32) (w : S512x256.Idx → Elt Ideal .f32) {a : ℕ} {off : Fin 2 → ℕ} (ho : off = ![512 * a, 0])
    (r : Fin 4096) (d : Fin 256) :
    dqPut dq off w (ix2 r d) = if h : 512 * a ≤ r.val ∧ r.val < 512 * a + 512 then w (ix2 ⟨r.val - 512 * a, by omega⟩ d) else dq (ix2 r d) := by
  subst ho
  show VecWindow.put _ _ _ _ _ = _
  unfold VecWindow.put
  by_cases h : 512 * a ≤ r.val ∧ r.val < 512 * a + 512
  · have h' : ∀ c, (![512 * a, 0] : Fin 2 → ℕ) c ≤ ((ix2 r d : S4096x256.Idx) c).val
        ∧ ((ix2 r d : S4096x256.Idx) c).val < (![512 * a, 0] : Fin 2 → ℕ) c + S512x256.size c := fun c => by
      fin_cases c
      · exact h
      · exact ⟨Nat.zero_le _, by show d.val < 0 + 256; omega⟩
    rw [dif_pos h, dif_pos h']
    refine congrArg w (funext fun c => Fin.ext ?_)
    fin_cases c
    · rfl
    · rfl
  · rw [dif_neg h, dif_neg fun h' => h (h' 0)]

/-- After `n` query blocks from the diagonal on: the two gradients of the key block, the query gradient over `base`, and the
    scores that stand in slot 1 for the next visit. -/
structure Inv (H : Head) (b : ℕ) (base : Fin 4096 → Fin 256 → EReal) (n : ℕ) (S : St Ideal) : Prop where
  dv : ∀ j d, S.dv (ix2 j d) = ∑ c ∈ Finset.range n, H.cv b (b + c) j d
  dk : ∀ j d, S.dk (ix2 j d) = ∑ c ∈ Finset.range n, H.ck b (b + c) j d
  dq : ∀ (r : Fin 4096) d, S.dq (ix2 r d) = if 512 * b ≤ r.val ∧ r.val < 512 * (b + n) then base r d + H.cq b r d else base r d
  sl : b + n < 8 → Fills H b (b + n) (slot1 S.sl)
  pl : b + n < 8 → FillsW H b (b + n) (slot1 S.pl)

theorem dv_step (hX : Fits H b X) {n : ℕ} (hn : 0 < n) (ha : b + n < 8) {dv : S512x128.Idx → Elt Ideal .f32}
    (hdv : ∀ j d, dv (ix2 j d) = ∑ c ∈ Finset.range n, H.cv b (b + c) j d) {s : S1x512x512.Idx → Elt Ideal .f32} (hs : Fills H b (b + n) s)
    {o1 : Fin 2 → ℕ} {o2 : Fin 4 → ℕ} (h1 : o1 = ![512 * (b + n), 0]) (h2 : o2 = ![0, b + n, 0, 0])
    (i1 : ∀ a, o1 a + S512x128.size a ≤ S4096x128.size a) (i2 : ∀ a, o2 a + S1x1x1x512.size a ≤ S1x8x1x512.size a) (j : Fin 512) (d : Fin 128) :
    visitDv (X.doAt o1 i1) s (X.lseAt o2 i2) dv (ix2 j d) = ∑ c ∈ Finset.range (n + 1), H.cv b (b + c) j d := by
  rw [visitDv_at, hdv, Finset.sum_range_succ]
  refine congrArg (_ + ·) (Finset.sum_congr rfl fun x _ => ?_)
  rw [hX.P_after (by omega) ha hs h2, hX.doAt ha h1]

theorem dk_step (hX : Fits H b X) {n : ℕ} (hn : 0 < n) (ha : b + n < 8) {dk : S512x256.Idx → Elt Ideal .f32}
    (hdk : ∀ j d, dk (ix2 j d) = ∑ c ∈ Finset.range n, H.ck b (b + c) j d) {s p : S1x512x512.Idx → Elt Ideal .f32} (hs : Fills H b (b + n) s)
    (hp : FillsW H b (b + n) p) {o1 : Fin 2 → ℕ} {o2 o3 o4 : Fin 4 → ℕ} (h1 : o1 = ![512 * (b + n), 0]) (h2 : o2 = ![0, b + n, 0, 0])
    (h3 : o3 = ![0, 2 * (b + n), 0, 0]) (h4 : o4 = ![0, 2 * (b + n) + 1, 0, 0])
    (i1 : ∀ a, o1 a + S512x256.size a ≤ S4096x256.size a) (i2 : ∀ a, o2 a + S1x1x1x512.size a ≤ S1x8x1x512.size a)
    (i3 : ∀ a, o3 a + S1x1x1x256.size a ≤ S1x16x1x256.size a) (i4 : ∀ a, o4 a + S1x1x1x256.size a ≤ S1x16x1x256.size a) (j : Fin 512) (d : Fin 256) :
    visitDk (X.qAt o1 i1) s (X.lseAt o2 i2) (X.delAt o3 i3) (X.delAt o4 i4) p dk (ix2 j d) = ∑ c ∈ Finset.range (n + 1), H.ck b (b + c) j d := by
  rw [visitDk_at, hdk, Finset.sum_range_succ]
  refine congrArg (_ + ·) (Finset.sum_congr rfl fun x _ => ?_)
  rw [hX.P_after (by omega) ha hs h2, hX.qAt ha h1, hp, hX.halves ha h3 h4]
  rfl

/-- Rows stored for one query block leave the rows of a later one. -/
theorem dqAt_put (dq : S4096x256.Idx → Elt Ideal .f32) (w : S512x256.Idx → Elt Ideal .f32) {a a' : ℕ} {o1 o2 : Fin 2 → ℕ} (h1 : o1 = ![512 * a, 0])
    (h2 : o2 = ![512 * a', 0]) (ha : a < a') (ha' : a' < 8) (i2 : ∀ a, o2 a + S512x256.size a ≤ S4096x256.size a) : dqAt (dqPut dq o1 w) o2 i2 = dqAt dq o2 i2 := by
  refine funext fun y => ?_
  obtain ⟨x, d, rfl⟩ : ∃ (x : Fin 512) (d : Fin 256), y = ix2 x d := ⟨y 0, y 1, by funext a; fin_cases a <;> rfl⟩
  have hx : 512 * a' + x.val < 4096 := by omega
  refine (window2 (dqPut dq o1 w) _ o2 h2 i2 x d hx).trans (Eq.trans ?_ (window2 dq _ o2 h2 i2 x d hx).symm)
  rw [dqPut_at _ _ h1, dif_neg]
  show ¬ (512 * a ≤ 512 * a' + x.val ∧ 512 * a' + x.val < 512 * a + 512)
  omega

theorem dq_step (hX : Fits H b X) {base : Fin 4096 → Fin 256 → EReal} {n : ℕ} (hn : 0 < n) (ha : b + n < 8) {dq : S4096x256.Idx → Elt Ideal .f32}
    (hdq : ∀ (r : Fin 4096) d, dq (ix2 r d) = if 512 * b ≤ r.val ∧ r.val < 512 * (b + n) then base r d + H.cq b r d else base r d)
    {s p : S1x512x512.Idx → Elt Ideal .f32} (hs : Fills H b (b + n) s)
    (hp : FillsW H b (b + n) p) {o1 : Fin 2 → ℕ} {o2 o3 o4 : Fin 4 → ℕ} (h1 : o1 = ![512 * (b + n), 0]) (h2 : o2 = ![0, b + n, 0, 0])
    (h3 : o3 = ![0, 2 * (b + n), 0, 0]) (h4 : o4 = ![0, 2 * (b + n) + 1, 0, 0])
    (i1 : ∀ a, o1 a + S512x256.size a ≤ S4096x256.size a) (i2 : ∀ a, o2 a + S1x1x1x512.size a ≤ S1x8x1x512.size a)
    (i3 : ∀ a, o3 a + S1x1x1x256.size a ≤ S1x16x1x256.size a) (i4 : ∀ a, o4 a + S1x1x1x256.size a ≤ S1x16x1x256.size a) (r : Fin 4096) (d : Fin 256) :
    dqPut dq o1 (visitDq X.kb s (X.lseAt o2 i2) (X.delAt o3 i3) (X.delAt o4 i4) p (dqAt dq o1 i1)) (ix2 r d)
      = if 512 * b ≤ r.val ∧ r.val < 512 * (b + (n + 1)) then base r d + H.cq b r d else base r d := by
  rw [dqPut_at _ _ h1]
  by_cases h : 512 * (b + n) ≤ r.val ∧ r.val < 512 * (b + n) + 512
  · rw [dif_pos h, if_pos (by omega), visitDq_at]
    have hr : 512 * (b + n) + (⟨r.val - 512 * (b + n), by omega⟩ : Fin 512).val = r.val := by show _ + (r.val - _) = _; omega
    refine congrArg₂ (· + ·) ?_ (Finset.sum_congr rfl fun j _ => ?_)
    · refine (window2 dq _ o1 h1 i1 _ d (by omega)).trans ?_
      have e : (⟨512 * (b + n) + (⟨r.val - 512 * (b + n), by omega⟩ : Fin 512).val, by omega⟩ : Fin 4096) = r := Fin.ext hr
      rw [e, hdq, if_neg (by omega)]
    · rw [hX.P_after (by omega) ha hs h2, hp, hX.halves ha h3 h4, hX.kr, hr]
      rfl
  · rw [dif_neg h, hdq]
    by_cases h' : 512 * b ≤ r.val ∧ r.val < 512 * (b + n)
    · rw [if_pos h', if_pos (by omega)]
    · rw [if_neg h', if_neg (by omega)]

/-! ## The diagonal, the trips, the remainder -/

theorem start_inv (i : grid0.Coords) (hX : Fits H (i 1).val X) (S : St Ideal) (base : Fin 4096 → Fin 256 → EReal)
    (hdq : ∀ (r : Fin 4096) d, S.dq (ix2 r d) = base r d) (hdk : ∀ j d, S.dk (ix2 j d) = 0) (hdv : ∀ j d, S.dv (ix2 j d) = 0) :
    Inv H (i 1).val base 1 (startSt i X S) := by
  have hi : (i 1).val < 8 := (i 1).isLt
  have hs : Fills H (i 1).val (i 1).val _ := hX.scores hi (k0_off10_eq i) (k0_off10_inb i)
  have hp : FillsW H (i 1).val (i 1).val _ := hX.dps hi (k0_off11_eq i) (k0_off11_inb i)
  refine ⟨fun j d => ?_, fun j d => ?_, fun r d => ?_, fun h => ?_, fun h => ?_⟩
  · show Gen.k0_pay48 _ _ _ _ _ = _
    rw [diagDv_at, hdv, zero_add, Finset.sum_range_one]
    refine Finset.sum_congr rfl fun x _ => ?_
    rw [hX.P_diag hi hs (k0_off16_eq i), hX.doAt hi (k0_off15_eq i)]
    rfl
  · show Gen.k0_pay52 _ _ _ _ _ _ _ = _
    rw [diagDk_at, hdk, zero_add, Finset.sum_range_one]
    refine Finset.sum_congr rfl fun x _ => ?_
    rw [hX.P_diag hi hs (k0_off16_eq i), hX.qAt hi (k0_off14_eq i), hp, hX.halves hi (k0_off17_eq0 i) (k0_off17_eq1 i)]
    rfl
  · show dqPut _ _ _ _ = _
    rw [dqPut_at _ _ (k0_off14_eq i)]
    by_cases h : 512 * (i 1).val ≤ r.val ∧ r.val < 512 * (i 1).val + 512
    · rw [dif_pos h, if_pos (by omega), diagDq_at]
      have hr : 512 * (i 1).val + (⟨r.val - 512 * (i 1).val, by omega⟩ : Fin 512).val = r.val := by show _ + (r.val - _) = _; omega
      refine congrArg₂ (· + ·) ?_ (Finset.sum_congr rfl fun j _ => ?_)
      · refine (window2 S.dq _ _ (k0_off14_eq i) (k0_off14_inb i) _ d (by omega)).trans ?_
        have e : (⟨512 * (i 1).val + (⟨r.val - 512 * (i 1).val, by omega⟩ : Fin 512).val, by omega⟩ : Fin 4096) = r := Fin.ext hr
        rw [e, hdq]
      · rw [hX.P_diag hi hs (k0_off16_eq i), hp, hX.halves hi (k0_off17_eq0 i) (k0_off17_eq1 i), hX.kr, hr]
        rfl
    · rw [dif_neg h, if_neg (by omega), hdq]
  · show Fills _ _ _ (slot1 (setSlot1 _ _))
    rw [slot1_set]
    exact hX.scores (by omega) ((k0_off12_eq i).trans (by rw [show min ((i 1).val + 1) 7 = (i 1).val + 1 by omega])) _
  · show FillsW _ _ _ (slot1 (setSlot1 _ _))
    rw [slot1_set]
    exact hX.dps (by omega) ((k0_off13_eq i).trans (by rw [show min ((i 1).val + 1) 7 = (i 1).val + 1 by omega])) _

theorem trip_inv (i : grid0.Coords) (hX : Fits H (i 1).val X) (base : Fin 4096 → Fin 256 → EReal) (t : Fin (k0_t1_loop i).trips) (S : St Ideal)
    (hI : Inv H (i 1).val base (2 * t.val + 1) S) : Inv H (i 1).val base (2 * (t.val + 1) + 1) (tripSt i X t S) := by
  have ht : t.val < (7 - (i 1).val) / 2 := lt_of_lt_of_eq t.isLt (k0_t1_trips_eq i)
  rw [show 2 * (t.val + 1) + 1 = 2 * t.val + 1 + 1 + 1 by omega]
  have e1 : (i 1).val + (2 * t.val + 1) = (i 1).val + 2 * t.val + 1 := by omega
  have e2 : (i 1).val + (2 * t.val + 1 + 1) = (i 1).val + 2 * t.val + 2 := by omega
  have hs := hI.sl (by omega)
  have hp := hI.pl (by omega)
  have hs0 : Fills H (i 1).val ((i 1).val + (2 * t.val + 1 + 1)) _ := e2 ▸ hX.scores (by omega) (k0_off18_eq1 i t) (k0_off18_inb i t 0)
  have hp0 : FillsW H (i 1).val ((i 1).val + (2 * t.val + 1 + 1)) _ := e2 ▸ hX.dps (by omega) (k0_off19_eq1 i t) (k0_off19_inb i t 0)
  have o20 := (k0_off20_eq i t).trans (by rw [← e1])
  have o21 := (k0_off21_eq i t).trans (by rw [← e1])
  have o22 := (k0_off22_eq i t).trans (by rw [← e1])
  have o230 := (k0_off23_eq0 i t).trans (by rw [← e1])
  have o231 := (k0_off23_eq1 i t).trans (by rw [← e1])
  have o24 := (k0_off24_eq i t).trans (by rw [← e2])
  have o25 := (k0_off25_eq i t).trans (by rw [← e2])
  have o26 := (k0_off26_eq i t).trans (by rw [← e2])
  have o270 := (k0_off27_eq0 i t).trans (by rw [← e2])
  have o271 := (k0_off27_eq1 i t).trans (by rw [← e2])
  refine ⟨fun j d => ?_, fun j d => ?_, fun r d => ?_, fun h => ?_, fun h => ?_⟩
  · exact dv_step hX (by omega) (by omega) (dv_step hX (by omega) (by omega) hI.dv hs o21 o22 _ _) hs0 o25 o26 _ _ j d
  · exact dk_step hX (by omega) (by omega) (dk_step hX (by omega) (by omega) hI.dk hs hp o20 o22 o230 o231 _ _ _ _) hs0 hp0 o24 o26 o270 o271 _ _ _ _ j d
  · have h1 := dq_step hX (by omega) (by omega) hI.dq hs hp o20 o22 o230 o231 (k0_off20_inb i t) (k0_off22_inb i t) (k0_off23_inb i t 0) (k0_off23_inb i t 1)
    have h2 := dq_step hX (by omega) (by omega) h1 hs0 hp0 o24 o26 o270 o271 (k0_off24_inb i t) (k0_off26_inb i t) (k0_off27_inb i t 0) (k0_off27_inb i t 1) r d
    rw [dqAt_put _ _ o20 o24 (by omega) (by omega)] at h2
    exact h2
  · show Fills _ _ _ (slot1 (setSlot1 _ _))
    rw [slot1_set]
    exact hX.scores (by omega) ((k0_off18_eq2 i t).trans (by rw [show min ((i 1).val + 2 * t.val + 3) 7 = (i 1).val + (2 * t.val + 1 + 1 + 1) by omega])) _
  · show FillsW _ _ _ (slot1 (setSlot1 _ _))
    rw [slot1_set]
    exact hX.dps (by omega) ((k0_off19_eq2 i t).trans (by rw [show min ((i 1).val + 2 * t.val + 3) 7 = (i 1).val + (2 * t.val + 1 + 1 + 1) by omega])) _

theorem trips_inv (i : grid0.Coords) (hX : Fits H (i 1).val X) (base : Fin 4096 → Fin 256 → EReal) (S : St Ideal)
    (hI : Inv H (i 1).val base 1 S) : ∀ n, n ≤ (k0_t1_loop i).trips → Inv H (i 1).val base (2 * n + 1) (tripsSt i X S n)
  | 0, _ => hI
  | n + 1, hn => by
    rw [tripsSt_succ i X S ⟨n, hn⟩]
    exact trip_inv i hX base ⟨n, hn⟩ _ (trips_inv i hX base S hI n (by omega))

theorem cond3_odd : ∀ i : grid0.Coords, k0_cond3 i = 1#1 ↔ (7 - (i 1).val) % 2 = 1 := by decide +kernel

theorem last_inv (hX : Fits H b X) (base : Fin 4096 → Fin 256 → EReal) {n : ℕ} (hn : 0 < n) (hb : b + n = 7) (S : St Ideal)
    (hI : Inv H b base n S) : Inv H b base (n + 1) (lastSt X S) := by
  have hs := hI.sl (by omega)
  have hp := hI.pl (by omega)
  have o1 : (![3584, 0] : Fin 2 → ℕ) = ![512 * (b + n), 0] := by rw [hb]
  have o2 : (![0, 7, 0, 0] : Fin 4 → ℕ) = ![0, b + n, 0, 0] := by rw [hb]
  have o3 : (![0, 14, 0, 0] : Fin 4 → ℕ) = ![0, 2 * (b + n), 0, 0] := by rw [hb]
  have o4 : (![0, 15, 0, 0] : Fin 4 → ℕ) = ![0, 2 * (b + n) + 1, 0, 0] := by rw [hb]
  refine ⟨fun j d => ?_, fun j d => ?_, fun r d => ?_, fun h => ?_, fun h => ?_⟩
  · show Gen.k0_pay35 _ _ _ _ _ = _
    rw [lastDv_eq]
    exact dv_step hX hn (by omega) hI.dv hs o1 o2 _ _ j d
  · show Gen.k0_pay61 _ _ _ _ = _
    rw [lastDk_eq]
    exact dk_step hX hn (by omega) hI.dk hs hp o1 o2 o3 o4 _ _ _ _ j d
  · show dqPut _ _ (Gen.k0_pay62 _ _ _) _ = _
    rw [lastDq_eq]
    exact dq_step hX hn (by omega) hI.dq hs hp o1 o2 o3 o4 _ _ _ _ r d
  · omega
  · omega

/-- A grid point visits every query block from the diagonal on. -/
theorem point_inv (i : grid0.Coords) (hX : Fits H (i 1).val X) (S : St Ideal) (base : Fin 4096 → Fin 256 → EReal)
    (hdq : ∀ (r : Fin 4096) d, (if (i 1).val = 0 then 0 else S.dq (ix2 r d)) = base r d) : Inv H (i 1).val base (8 - (i 1).val) (pointSt i X S) := by
  have hi : (i 1).val < 8 := (i 1).isLt
  have h0 : Inv H (i 1).val base 1 (startSt i X (zeroSt i S)) := start_inv i hX _ base (fun r d => by
      rw [← hdq]
      show (if (i 1).val = 0 then Gen.k0_pay37 (F := Ideal) else S.dq) (ix2 r d) = _
      by_cases h : (i 1).val = 0
      · rw [if_pos h, if_pos h, zeroDq_at]
      · rw [if_neg h, if_neg h]) (fun j d => zeroDk_at (ix2 j d)) (fun j d => zeroDv_at (ix2 j d))
  have h1 := trips_inv i hX base _ h0 (k0_t1_loop i).trips le_rfl
  unfold pointSt endSt
  have hc := cond3_odd i
  have ht := k0_t1_trips_eq i
  by_cases h3 : k0_cond3 i = 1#1
  · rw [if_pos h3]
    have := hc.mp h3
    have e : 8 - (i 1).val = 2 * (k0_t1_loop i).trips + 1 + 1 := by omega
    rw [e]
    exact last_inv hX base (by omega) (by omega) _ h1
  · rw [if_neg h3]
    have := mt hc.mpr h3
    have e : 8 - (i 1).val = 2 * (k0_t1_loop i).trips + 1 := by omega
    rw [e]
    exact h1

end Cert.KernelIdeal

end
-- ==== Proof.Heads.lean ====
/- The attention gradient of one head as sums over all its rows, and the three gradients as arrays: what the visits' blocks
   add up to, since no query row reads a later key. -/
module

public import proofs.«01_k».proof.Proof.Visit
public import Idealize.ShloMosaic.Lib.Pipeline.ValueKit.Acc

@[expose] public section

set_option maxRecDepth 16384

noncomputable section

namespace Cert.KernelIdeal

open Idealize.ShloMosaic Idealize.ShloMosaic.TcCoe
open Facts₀ Facts

namespace Head

variable (H : Head)

/-- The gradients of value row `kk`, of key row `kk` (up to the factor the score's base asks for) and of query row `r`. -/
def gv (kk : ℕ) (d : Fin 128) : EReal := ∑ r : Fin 4096, H.P kk r * H.dor r d
def gk (kk : ℕ) (d : Fin 256) : EReal := ∑ r : Fin 4096, H.D kk r * H.q r d
def gq (r : ℕ) (d : Fin 256) : EReal := ∑ kk : Fin 4096, H.D kk r * H.k kk d

theorem P_later {kk r : ℕ} (h : r < kk) : H.P kk r = 0 := if_neg (by omega)
theorem D_later {kk r : ℕ} (h : r < kk) : H.D kk r = 0 := by unfold D; rw [P_later H h, zero_mul]

theorem cv_before {b a : ℕ} (h : a < b) (j : Fin 512) (d : Fin 128) : H.cv b a j d = 0 :=
  Finset.sum_eq_zero fun x _ => by rw [P_later H (by omega), zero_mul]
theorem ck_before {b a : ℕ} (h : a < b) (j : Fin 512) (d : Fin 256) : H.ck b a j d = 0 :=
  Finset.sum_eq_zero fun x _ => by rw [D_later H (by omega), zero_mul]
theorem cq_later {b r : ℕ} (h : r < 512 * b) (d : Fin 256) : H.cq b r d = 0 :=
  Finset.sum_eq_zero fun x _ => by rw [D_later H (by omega), zero_mul]

/-- The blocks from `b` on are all the blocks, when the earlier ones add nothing. -/
theorem sum_from {b : ℕ} (hb : b ≤ 8) (f : ℕ → EReal) (hf : ∀ a, a < b → f a = 0) :
    ∑ c ∈ Finset.range (8 - b), f (b + c) = ∑ a : Fin 8, f a := by
  rw [Fin.sum_univ_eq_sum_range f 8, show (8 : ℕ) = b + (8 - b) by omega, Finset.sum_range_add,
    Finset.sum_eq_zero (s := Finset.range b) fun a ha => hf a (Finset.mem_range.mp ha), zero_add]
  simp

theorem sum_rows (f : ℕ → EReal) : ∑ a : Fin 8, ∑ x : Fin 512, f (512 * a + x) = ∑ r : Fin 4096, f r := by
  rw [← Fin.sum_mul_add_fin 8 512 (fun r : Fin 4096 => f r.val)]
  exact Finset.sum_congr rfl fun a _ => Finset.sum_congr rfl fun x _ => congrArg f (by show _ = a.val * 512 + x.val; omega)

theorem sum_cv {b : ℕ} (hb : b ≤ 8) (j : Fin 512) (d : Fin 128) : ∑ c ∈ Finset.range (8 - b), H.cv b (b + c) j d = H.gv (512 * b + j) d := by
  rw [sum_from hb (fun a => H.cv b a j d) fun a ha => cv_before H ha j d]
  exact sum_rows fun r => H.P (512 * b + j) r * H.dor r d
theorem sum_ck {b : ℕ} (hb : b ≤ 8) (j : Fin 512) (d : Fin 256) : ∑ c ∈ Finset.range (8 - b), H.ck b (b + c) j d = H.gk (512 * b + j) d := by
  rw [sum_from hb (fun a => H.ck b a j d) fun a ha => ck_before H ha j d]
  exact sum_rows fun r => H.D (512 * b + j) r * H.q r d
theorem sum_cq (r : ℕ) (d : Fin 256) : ∑ b ∈ Finset.range 8, H.cq b r d = H.gq r d := by
  rw [← Fin.sum_univ_eq_sum_range fun b => H.cq b r d]
  exact sum_rows fun kk => H.D kk r * H.k kk d

end Head

/-- Head `h` of one device's arrays: 256 columns of queries and keys, 128 of values and output gradients, and its saved
    statistics, kept in rows of 512 and of 256. -/
def headOf (Q K : S4096x2048.Idx → EReal) (V O : S4096x1024.Idx → EReal) (L : S8x8x1x512.Idx → EReal) (D : S8x16x1x256.Idx → EReal) (h : Fin 8) : Head where
  q r d := if hr : r < 4096 then Q (ix2 ⟨r, hr⟩ ⟨256 * h.val + d.val, by omega⟩) else 0
  k r d := if hr : r < 4096 then K (ix2 ⟨r, hr⟩ ⟨256 * h.val + d.val, by omega⟩) else 0
  v r d := if hr : r < 4096 then V (ix2 ⟨r, hr⟩ ⟨128 * h.val + d.val, by omega⟩) else 0
  dor r d := if hr : r < 4096 then O (ix2 ⟨r, hr⟩ ⟨128 * h.val + d.val, by omega⟩) else 0
  l r := if hr : r < 4096 then L (ix4 h ⟨r / 512, by omega⟩ 0 ⟨r % 512, by omega⟩) else 0
  del r := if hr : r < 4096 then D (ix4 h ⟨r / 256, by omega⟩ 0 ⟨r % 256, by omega⟩) else 0

/-- The gradients of the queries, keys and values of one device as arrays. -/
def gradQ (hd : Fin 8 → Head) : S4096x2048.Idx → EReal := fun i =>
  (hd ⟨(i 1).val / 256, Nat.div_lt_of_lt_mul (i 1).isLt⟩).gq (i 0).val ⟨(i 1).val % 256, Nat.mod_lt _ (by decide)⟩
def gradK (hd : Fin 8 → Head) : S4096x2048.Idx → EReal := fun i =>
  (hd ⟨(i 1).val / 256, Nat.div_lt_of_lt_mul (i 1).isLt⟩).gk (i 0).val ⟨(i 1).val % 256, Nat.mod_lt _ (by decide)⟩ * ((Real.log 2 : ℝ) : EReal)
def gradV (hd : Fin 8 → Head) : S4096x1024.Idx → EReal := fun i =>
  (hd ⟨(i 1).val / 128, Nat.div_lt_of_lt_mul (i 1).isLt⟩).gv (i 0).val ⟨(i 1).val % 128, Nat.mod_lt _ (by decide)⟩

theorem gradQ_at (hd : Fin 8 → Head) (i : S4096x2048.Idx) (h : Fin 8) (r : ℕ) (d : Fin 256) (h0 : (i 0).val = r) (h1 : (i 1).val = 256 * h.val + d.val) :
    gradQ hd i = (hd h).gq r d := by
  subst h0
  have e : (⟨(i 1).val / 256, Nat.div_lt_of_lt_mul (i 1).isLt⟩ : Fin 8) = h := Fin.ext (by show (i 1).val / 256 = _; omega)
  have e' : (⟨(i 1).val % 256, Nat.mod_lt _ (by decide)⟩ : Fin 256) = d := Fin.ext (by show (i 1).val % 256 = _; omega)
  rw [gradQ, e, e']
theorem gradK_at (hd : Fin 8 → Head) (i : S4096x2048.Idx) (h : Fin 8) (r : ℕ) (d : Fin 256) (h0 : (i 0).val = r) (h1 : (i 1).val = 256 * h.val + d.val) :
    gradK hd i = (hd h).gk r d * ((Real.log 2 : ℝ) : EReal) := by
  subst h0
  have e : (⟨(i 1).val / 256, Nat.div_lt_of_lt_mul (i 1).isLt⟩ : Fin 8) = h := Fin.ext (by show (i 1).val / 256 = _; omega)
  have e' : (⟨(i 1).val % 256, Nat.mod_lt _ (by decide)⟩ : Fin 256) = d := Fin.ext (by show (i 1).val % 256 = _; omega)
  rw [gradK, e, e']
theorem gradV_at (hd : Fin 8 → Head) (i : S4096x1024.Idx) (h : Fin 8) (r : ℕ) (d : Fin 128) (h0 : (i 0).val = r) (h1 : (i 1).val = 128 * h.val + d.val) :
    gradV hd i = (hd h).gv r d := by
  subst h0
  have e : (⟨(i 1).val / 128, Nat.div_lt_of_lt_mul (i 1).isLt⟩ : Fin 8) = h := Fin.ext (by show (i 1).val / 128 = _; omega)
  have e' : (⟨(i 1).val % 128, Nat.mod_lt _ (by decide)⟩ : Fin 128) = d := Fin.ext (by show (i 1).val % 128 = _; omega)
  rw [gradV, e, e']

end Cert.KernelIdeal

end
-- ==== Proof.Arrays.lean ====
/- The three gradient arrays one device's grid leaves: each point's staged blocks are a head's rows, the query gradient
   grows over the head's key blocks, and the key and value gradients are whole at every point. -/
module

public import proofs.«01_k».proof.Proof.Heads
public import proofs.«01_k».proof.Proof.Dat
public import Idealize.ShloMosaic.Lib.Pipeline.ValueKit.Geometry
public import Idealize.ShloMosaic.Lib.Pipeline.ValueKit.Point

@[expose] public section

set_option maxRecDepth 16384

noncomputable section

namespace Cert.KernelIdeal

open Idealize.ShloMosaic Idealize.ShloMosaic.TcCoe
open Idealize.ShloMosaic.Pipeline (Dat)
open Facts₀ Facts

variable (m : (ℓ : Loc nD τ sig) → Buf (Elt Ideal) ℓ)

/-! ## A grid point's head and key block -/

theorem coords_head : ∀ t : Fin cfg0.N, (grid0.coords t 0).val = t.val / 8 := (by decide +kernel : ∀ t : Fin grid0.N, _)
theorem coords_block : ∀ t : Fin cfg0.N, (grid0.coords t 1).val = t.val % 8 := (by decide +kernel : ∀ t : Fin grid0.N, _)

theorem at_q : ∀ t : Fin cfg0.N, win0_0.index t = ![0, t.val / 8] := (by decide +kernel : ∀ t : Fin grid0.N, _)
theorem at_k : ∀ t : Fin cfg0.N, win0_1.index t = ![t.val % 8, t.val / 8] := (by decide +kernel : ∀ t : Fin grid0.N, _)
theorem at_v : ∀ t : Fin cfg0.N, win0_2.index t = ![t.val % 8, t.val / 8] := (by decide +kernel : ∀ t : Fin grid0.N, _)
theorem at_do : ∀ t : Fin cfg0.N, win0_3.index t = ![0, t.val / 8] := (by decide +kernel : ∀ t : Fin grid0.N, _)
theorem at_lse : ∀ t : Fin cfg0.N, win0_4.index t = ![t.val / 8, 0, 0, 0] := (by decide +kernel : ∀ t : Fin grid0.N, _)
theorem at_del : ∀ t : Fin cfg0.N, win0_5.index t = ![t.val / 8, 0, 0, 0] := (by decide +kernel : ∀ t : Fin grid0.N, _)
theorem at_dq : ∀ t : Fin cfg0.N, win0_6.index t = ![0, t.val / 8] := (by decide +kernel : ∀ t : Fin grid0.N, _)
theorem at_dk : ∀ t : Fin cfg0.N, win0_7.index t = ![t.val % 8, t.val / 8] := (by decide +kernel : ∀ t : Fin grid0.N, _)
theorem at_dv : ∀ t : Fin cfg0.N, win0_8.index t = ![t.val % 8, t.val / 8] := (by decide +kernel : ∀ t : Fin grid0.N, _)

/-- Head `h` of device `c`. -/
def devHead (c : Dev nD) (h : Fin 8) : Head :=
  headOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) h

theorem head_lt (t : Fin cfg0.N) : t.val / 8 < 8 := by have h : t.val < 64 := t.isLt; omega

theorem fits_at (c : Dev nD) (t : Fin cfg0.N) : Fits (devHead m c ⟨t.val / 8, head_lt t⟩) (grid0.coords t 1).val (inAt m c t) := by
  have h8 := head_lt t
  rw [coords_block]
  refine ⟨fun r d => ?_, fun r d => ?_, fun a x => ?_, fun a x => ?_, fun j d => ?_, fun j d => ?_⟩
  · refine Eq.trans ?_ (dif_pos r.isLt).symm
    show Gen.iblk m c 0 t (ix2 r d) = _
    blk_ext [Gen.iblk, Gen.V, at_q]
  · refine Eq.trans ?_ (dif_pos r.isLt).symm
    show Gen.iblk m c 3 t (ix2 r d) = _
    blk_ext [Gen.iblk, Gen.V, at_do]
  · refine Eq.trans ?_ (dif_pos (by omega)).symm
    show Gen.iblk m c 4 t (ix4 0 a 0 x) = _
    blk_ext [Gen.iblk, Gen.V, at_lse]
  · refine Eq.trans ?_ (dif_pos (by omega)).symm
    show Gen.iblk m c 5 t (ix4 0 a 0 x) = _
    blk_ext [Gen.iblk, Gen.V, at_del]
  · refine Eq.trans ?_ (dif_pos (by omega)).symm
    show Gen.iblk m c 1 t (ix2 j d) = _
    blk_ext [Gen.iblk, Gen.V, at_k]
  · refine Eq.trans ?_ (dif_pos (by omega)).symm
    show Gen.iblk m c 2 t (ix2 j d) = _
    blk_ext [Gen.iblk, Gen.V, at_v]

/-! ## The grid -/

/-- What a point leaves, with the query gradient over its head's earlier key blocks before it: that gradient with its own
    block's share, and the key and value gradients of its block. -/
theorem point_at (c : Dev nD) (n : ℕ) (hn : n < cfg0.N)
    (hdq : ∀ (r : Fin 4096) (d : Fin 256), (if n % 8 = 0 then 0 else (stSeq m c n).dq (ix2 r d)) = ∑ b ∈ Finset.range (n % 8), (devHead m c ⟨n / 8, head_lt ⟨n, hn⟩⟩).cq b r d) :
    (∀ (r : Fin 4096) (d : Fin 256), (stSeq m c (n + 1)).dq (ix2 r d) = ∑ b ∈ Finset.range (n % 8 + 1), (devHead m c ⟨n / 8, head_lt ⟨n, hn⟩⟩).cq b r d)
    ∧ (∀ (j : Fin 512) (d : Fin 256), (stSeq m c (n + 1)).dk (ix2 j d) = (devHead m c ⟨n / 8, head_lt ⟨n, hn⟩⟩).gk (512 * (n % 8) + j) d)
    ∧ (∀ (j : Fin 512) (d : Fin 128), (stSeq m c (n + 1)).dv (ix2 j d) = (devHead m c ⟨n / 8, head_lt ⟨n, hn⟩⟩).gv (512 * (n % 8) + j) d) := by
  have hI := point_inv (grid0.coords ⟨n, hn⟩) (fits_at m c ⟨n, hn⟩) (stSeq m c n)
    (fun r d => ∑ b ∈ Finset.range (n % 8), (devHead m c ⟨n / 8, head_lt ⟨n, hn⟩⟩).cq b r d) (by rw [coords_block]; exact hdq)
  rw [coords_block, ← stSeq_succ m c ⟨n, hn⟩] at hI
  have h8 : n % 8 < 8 := Nat.mod_lt _ (by decide)
  refine ⟨fun r d => (hI.dq r d).trans ?_, fun j d => (hI.dk j d).trans (Head.sum_ck _ (by omega) j d), fun j d => (hI.dv j d).trans (Head.sum_cv _ (by omega) j d)⟩
  show (if 512 * (n % 8) ≤ r.val ∧ r.val < 512 * (n % 8 + (8 - n % 8)) then _ else _) = _
  rw [Finset.sum_range_succ]
  by_cases h : 512 * (n % 8) ≤ r.val
  · rw [if_pos ⟨h, by omega⟩]
  · rw [if_neg (fun hh => h hh.1), Head.cq_later _ (by omega), add_zero]

theorem grid_at (c : Dev nD) : ∀ n (hn : n < cfg0.N),
    (∀ (r : Fin 4096) (d : Fin 256), (stSeq m c (n + 1)).dq (ix2 r d) = ∑ b ∈ Finset.range (n % 8 + 1), (devHead m c ⟨n / 8, head_lt ⟨n, hn⟩⟩).cq b r d)
    ∧ (∀ (j : Fin 512) (d : Fin 256), (stSeq m c (n + 1)).dk (ix2 j d) = (devHead m c ⟨n / 8, head_lt ⟨n, hn⟩⟩).gk (512 * (n % 8) + j) d)
    ∧ (∀ (j : Fin 512) (d : Fin 128), (stSeq m c (n + 1)).dv (ix2 j d) = (devHead m c ⟨n / 8, head_lt ⟨n, hn⟩⟩).gv (512 * (n % 8) + j) d) := by
  intro n
  induction n with
  | zero => exact fun hn => point_at m c 0 hn fun r d => by rw [if_pos rfl]; rfl
  | succ n ih =>
    intro hn
    refine point_at m c (n + 1) hn fun r d => ?_
    by_cases h : (n + 1) % 8 = 0
    · rw [if_pos h, h]; rfl
    · rw [if_neg h, (ih (by omega)).1 r d]
      have e1 : n % 8 + 1 = (n + 1) % 8 := by omega
      have e2 : n / 8 = (n + 1) / 8 := by omega
      simp only [e1, e2]

/-! ## The arrays -/

theorem final_dq (c : Dev nD) : (dats m 0 c).arrAt 6 cfg0.N = gradQ (devHead m c) := by
  refine (dats m 0 c).arrAt_eq_of_covers 6 _ (by decide +kernel) fun t hf y => ?_
  blk_simp
  obtain ⟨r, d, rfl⟩ : ∃ (r : Fin 4096) (d : Fin 256), y = ix2 r d := ⟨y 0, y 1, by funext a; fin_cases a <;> rfl⟩
  show Gen.k0_pay63 (stSeq m c (t.val + 1)).dq (ix2 r d) = _
  have h7 : t.val % 8 = 7 := (Gen.flush0_6 t).mp hf
  rw [storeDq_at, (grid_at m c t.val t.isLt).1 r d, h7, Head.sum_cq]
  refine (gradQ_at _ _ ⟨t.val / 8, head_lt t⟩ r.val d ?_ ?_).symm
  · blk_simp [at_dq]
  · blk_simp [at_dq]
    show t.val / 8 * 256 + d.val = 256 * (t.val / 8) + d.val
    omega

theorem final_dk (c : Dev nD) : (dats m 0 c).arrAt 7 cfg0.N = gradK (devHead m c) := by
  refine (dats m 0 c).arrAt_eq_of_covers 7 _ (by decide +kernel) fun t hf y => ?_
  blk_simp
  obtain ⟨r, d, rfl⟩ : ∃ (r : Fin 512) (d : Fin 256), y = ix2 r d := ⟨y 0, y 1, by funext a; fin_cases a <;> rfl⟩
  show Gen.k0_pay64 (stSeq m c (t.val + 1)).dk (ix2 r d) = _
  rw [storeDk_at, (grid_at m c t.val t.isLt).2.1 r d]
  refine (gradK_at _ _ ⟨t.val / 8, head_lt t⟩ (512 * (t.val % 8) + r.val) d ?_ ?_).symm
  · blk_simp [at_dk]
    show _ * 512 + r.val = _; omega
  · blk_simp [at_dk]
    show t.val / 8 * 256 + d.val = 256 * (t.val / 8) + d.val
    omega

theorem final_dv (c : Dev nD) : (dats m 0 c).arrAt 8 cfg0.N = gradV (devHead m c) := by
  refine (dats m 0 c).arrAt_eq_of_covers 8 _ (by decide +kernel) fun t hf y => ?_
  blk_simp
  obtain ⟨r, d, rfl⟩ : ∃ (r : Fin 512) (d : Fin 128), y = ix2 r d := ⟨y 0, y 1, by funext a; fin_cases a <;> rfl⟩
  show Gen.k0_pay65 (stSeq m c (t.val + 1)).dv (ix2 r d) = _
  rw [storeDv_at, (grid_at m c t.val t.isLt).2.2 r d]
  refine (gradV_at _ _ ⟨t.val / 8, head_lt t⟩ (512 * (t.val % 8) + r.val) d ?_ ?_).symm
  · blk_simp [at_dv]
    show _ * 512 + r.val = _; omega
  · blk_simp [at_dv]
    show t.val / 8 * 128 + d.val = 128 * (t.val / 8) + d.val
    omega

end Cert.KernelIdeal

end
-- ==== Proof.RefRecv.lean ====
/- The reference's received arrays read at an index: each slot is one row of the array sent. -/
module

public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo

/-- The row of the sent array that ends in slot `s` of the received one. -/
def sentRow (s : Fin 24) : Fin 32 :=
  ⟨4 * (match s.val % 3 with
    | 0 => (s.val / 3 + 4) % 8
    | 1 => 4 * (s.val / 3 / 4) + (s.val / 3 + 2) % 4
    | _ => 4 * ((s.val / 3 / 4 + 1) % 2) + (s.val / 3 + 2) % 4) + s.val / 3 / 2, by revert s; decide⟩

variable (V : Valuation τ sig (Elt Ideal))

theorem v71_at (s : Fin 24) (i : Fin 1024) (j : Fin 512) : res_main_v71 V (ix3 s i j) = V (Proc.devRef .tc main_arg6) (ix3 (sentRow s) i j) := by
  unfold res_main_v71
  clean_types
  fin_cases s
  all_goals
    pointwise
    exact congrArg (fun r => V (Proc.devRef .tc main_arg6) (ix3 r i j)) (by decide)

theorem v98_at (s : Fin 24) (i : Fin 512) (j : Fin 1024) : res_main_v98 V (ix3 s i j) = V (Proc.devRef .tc main_arg7) (ix3 (sentRow s) i j) := by
  unfold res_main_v98
  clean_types
  fin_cases s
  all_goals
    pointwise
    exact congrArg (fun r => V (Proc.devRef .tc main_arg7) (ix3 r i j)) (by decide)

theorem v125_at (s : Fin 24) (i : Fin 128) (j : Fin 1024) : res_main_v125 V (ix3 s i j) = V (Proc.devRef .tc main_arg8) (ix3 (sentRow s) i j) := by
  unfold res_main_v125
  clean_types
  fin_cases s
  all_goals
    pointwise
    exact congrArg (fun r => V (Proc.devRef .tc main_arg8) (ix3 r i j)) (by decide)

theorem v152_at (s : Fin 24) (i : Fin 128) (j : Fin 1024) : res_main_v152 V (ix3 s i j) = V (Proc.devRef .tc main_arg9) (ix3 (sentRow s) i j) := by
  unfold res_main_v152
  clean_types
  fin_cases s
  all_goals
    pointwise
    exact congrArg (fun r => V (Proc.devRef .tc main_arg9) (ix3 r i j)) (by decide)

theorem v179_at (s : Fin 24) (i : Fin 128) (j : Fin 1024) : res_main_v179 V (ix3 s i j) = V (Proc.devRef .tc main_arg10) (ix3 (sentRow s) i j) := by
  unfold res_main_v179
  clean_types
  fin_cases s
  all_goals
    pointwise
    exact congrArg (fun r => V (Proc.devRef .tc main_arg10) (ix3 r i j)) (by decide)

end Cert.ReferenceIdeal.Value

end
-- ==== Proof.Recv.lean ====
/- The arrays the exchange fills read at an index: each slot is the row its peer sent. -/
module

public import proofs.«01_k».proof.Proof.Run
public import proofs.«01_k».proof.Proof.RefRecv
public import Idealize.ShloMosaic.Lib.Pointwise

@[expose] public section

set_option maxRecDepth 16384

noncomputable section

namespace Cert.KernelIdeal

open Idealize.ShloMosaic Idealize.ShloMosaic.TcCoe
open Facts₀ Facts

/-- A row of an array, its leading axis dropped. -/
theorem row_index {a b : ℕ} (h : (⟨2, ![a, b]⟩ : Shape).numel = (⟨3, ![1, a, b]⟩ : Shape).numel) (i : Fin a) (j : Fin b) :
    Shape.reshapeEquiv h (ix2 i j) = (ix3 0 i j : (⟨3, ![1, a, b]⟩ : Shape).Idx) := by
  refine Shape.reshapeEquiv_eq_of_rowMajor h ?_
  rw [rowMajor_val2 _ b rfl, rowMajor_val3 _ (a * b) b rfl rfl]
  show 0 * (a * b) + i.val * b + j.val = i.val * b + j.val
  omega

/-- A row of an array read through a view of it. -/
theorem read_row {κ : Kind} {cs : Space} {e : EltTy} {n a b o : ℕ} (M : Memref sig κ cs ⟨3, ![n, a, b]⟩ e) (off : Fin 3 → ℕ)
    (inb : ∀ x, off x + (![1, a, b] : Fin 3 → ℕ) x ≤ (⟨3, ![n, a, b]⟩ : Shape).size x) (hu) (hq : (Rect.unit (s := ⟨3, ![n, a, b]⟩) off ![1, a, b] inb).shape.Squeezes ⟨2, ![a, b]⟩)
    (hoff : off = ![o, 0, 0]) (ho : o < n) (f : M.view.ty.Contents (Elt Ideal)) (i : Fin a) (j : Fin b) :
    ((M.slice (Rect.unit (s := ⟨3, ![n, a, b]⟩) off ![1, a, b] inb) hu).squeeze ⟨2, ![a, b]⟩ hq).view.read (Elt Ideal) f (ix2 i j)
      = M.view.read (Elt Ideal) f (ix3 ⟨o, ho⟩ i j) := by
  subst hoff
  have e : (Rect.unit (s := ⟨3, ![n, a, b]⟩) ![o, 0, 0] ![1, a, b] inb).emb (Shape.reshapeEquiv hq.numel_eq (ix2 i j)) = ix3 ⟨o, ho⟩ i j := by
    refine (congrArg _ (row_index hq.numel_eq i j)).trans (funext fun x => Fin.ext ?_)
    fin_cases x
    · show o + 1 * 0 = o; omega
    · show 0 + 1 * i.val = i.val; omega
    · show 0 + 1 * j.val = j.val; omega
  exact congrArg (M.view.read (Elt Ideal) f) e

/-- The row of a sent array meant for device `c`'s chip. -/
theorem off_row : ∀ c : Dev nD,
    k0_off1 (peer 0 c) = ![c.val / 2, 0, 0] ∧ k0_off2 (peer 1 c) = ![c.val / 2, 0, 0] ∧ k0_off3 (peer 2 c) = ![c.val / 2, 0, 0]
    ∧ k0_off4 (peer 0 c) = ![c.val / 2, 0, 0] ∧ k0_off5 (peer 1 c) = ![c.val / 2, 0, 0] ∧ k0_off6 (peer 2 c) = ![c.val / 2, 0, 0]
    ∧ k0_off7 (peer 0 c) = ![c.val / 2, 0, 0] ∧ k0_off8 (peer 1 c) = ![c.val / 2, 0, 0] ∧ k0_off9 (peer 2 c) = ![c.val / 2, 0, 0] := by decide +kernel

/-- Slot `k` of device `c` among all devices' slots comes from the peer's row. -/
theorem sentRow_peer : ∀ (c : Dev nD) (k : Fin 3), (Cert.ReferenceIdeal.Value.sentRow ⟨c.val * 3 + k.val, by have h : c.val < 8 := c.isLt; omega⟩).val
    = (peer ⟨k.val, by omega⟩ c).val * 4 + c.val / 2 := by decide +kernel

/-- A received array whose slots are the peers' rows is the device's block of the array of all devices' slots. -/
theorem slots_eq {a b : ℕ} {α : Type} (c : Dev nD) (X : (⟨3, ![3, a, b]⟩ : Shape).Idx → α) (M : Dev nD → (⟨3, ![4, a, b]⟩ : Shape).Idx → α)
    (A : (⟨3, ![32, a, b]⟩ : Shape).Idx → α) (B : (⟨3, ![24, a, b]⟩ : Shape).Idx → α) (h1 : Layout.Tiles ⟨3, ![4, a, b]⟩ ⟨3, ![32, a, b]⟩ 0 8)
    (h2 : Layout.Tiles ⟨3, ![3, a, b]⟩ ⟨3, ![24, a, b]⟩ 0 8) (hM : ∀ c : Dev nD, M c = Layout.block ⟨3, ![4, a, b]⟩ ⟨3, ![32, a, b]⟩ 0 8 c A h1)
    (hB : ∀ (s : Fin 24) (i : Fin a) (j : Fin b), B (ix3 s i j) = A (ix3 (Cert.ReferenceIdeal.Value.sentRow s) i j))
    (hX : ∀ (k : Fin 3) (i : Fin a) (j : Fin b), X (ix3 k i j) = M (peer ⟨k.val, by omega⟩ c) (ix3 ⟨c.val / 2, by have h : c.val < 8 := c.isLt; omega⟩ i j)) :
    X = Layout.block ⟨3, ![3, a, b]⟩ ⟨3, ![24, a, b]⟩ 0 8 c B h2 := by
  funext y
  obtain ⟨k, i, j, rfl⟩ : ∃ (k : Fin 3) (i : Fin a) (j : Fin b), y = ix3 k i j := ⟨y 0, y 1, y 2, by funext x; fin_cases x <;> rfl⟩
  have h8 : c.val < 8 := c.isLt
  rw [hX, hM]
  have e : Layout.block ⟨3, ![3, a, b]⟩ ⟨3, ![24, a, b]⟩ 0 8 c B h2 (ix3 k i j) = B (ix3 ⟨c.val * 3 + k.val, by omega⟩ i j) :=
    congrArg B (funext fun x => Fin.ext (by fin_cases x <;> rfl))
  rw [e, hB]
  refine congrArg A (funext fun x => Fin.ext ?_)
  fin_cases x
  · exact (sentRow_peer c k).symm
  · rfl
  · rfl

variable (m : (ℓ : Loc nD τ sig) → Buf (Elt Ideal) ℓ)

theorem slots_v1_3 (c : Dev nD) (s : MemSt nD τ sig (Elt Ideal)) (hs : Exchanged m c s) (k : Fin 3) (i : Fin 1024) (j : Fin 512) :
    s.mem ((c : Thread nD τ).loc main_v1_3) (ix3 k i j)
      = m ((peer ⟨k.val, by omega⟩ c : Thread nD τ).loc main_arg6) (ix3 ⟨c.val / 2, by have h : c.val < 8 := c.isLt; omega⟩ i j) := by
  have h8 : c.val < 8 := c.isLt
  have ho : c.val / 2 < 4 := by omega
  have h0 := (read_row (Memref.whole main_v1_3) _ inb_S3x1024x512_S1x1024x512_0_0_0 (fun _ => rfl) squeezes_S1x1024x512_S1024x512 rfl (by decide) (s.mem ((c : Thread nD τ).loc main_v1_3)) i j).symm.trans
    ((congrFun (hs.1 0) (ix2 i j)).trans (read_row (Memref.whole main_arg6) _ _ (fun _ => rfl) squeezes_S1x1024x512_S1024x512 (off_row c).1 ho (m ((peer 0 c : Thread nD τ).loc main_arg6)) i j))
  have h1 := (read_row (Memref.whole main_v1_3) _ inb_S3x1024x512_S1x1024x512_1_0_0 (fun _ => rfl) squeezes_S1x1024x512_S1024x512 rfl (by decide) (s.mem ((c : Thread nD τ).loc main_v1_3)) i j).symm.trans
    ((congrFun (hs.1 1) (ix2 i j)).trans (read_row (Memref.whole main_arg6) _ _ (fun _ => rfl) squeezes_S1x1024x512_S1024x512 (off_row c).2.1 ho (m ((peer 1 c : Thread nD τ).loc main_arg6)) i j))
  have h2 := (read_row (Memref.whole main_v1_3) _ inb_S3x1024x512_S1x1024x512_2_0_0 (fun _ => rfl) squeezes_S1x1024x512_S1024x512 rfl (by decide) (s.mem ((c : Thread nD τ).loc main_v1_3)) i j).symm.trans
    ((congrFun (hs.1 2) (ix2 i j)).trans (read_row (Memref.whole main_arg6) _ _ (fun _ => rfl) squeezes_S1x1024x512_S1024x512 (off_row c).2.2.1 ho (m ((peer 2 c : Thread nD τ).loc main_arg6)) i j))
  fin_cases k
  · exact h0
  · exact h1
  · exact h2

theorem slots_v1_4 (c : Dev nD) (s : MemSt nD τ sig (Elt Ideal)) (hs : Exchanged m c s) (k : Fin 3) (i : Fin 512) (j : Fin 1024) :
    s.mem ((c : Thread nD τ).loc main_v1_4) (ix3 k i j)
      = m ((peer ⟨k.val, by omega⟩ c : Thread nD τ).loc main_arg7) (ix3 ⟨c.val / 2, by have h : c.val < 8 := c.isLt; omega⟩ i j) := by
  have h8 : c.val < 8 := c.isLt
  have ho : c.val / 2 < 4 := by omega
  have h0 := (read_row (Memref.whole main_v1_4) _ inb_S3x512x1024_S1x512x1024_0_0_0 (fun _ => rfl) squeezes_S1x512x1024_S512x1024 rfl (by decide) (s.mem ((c : Thread nD τ).loc main_v1_4)) i j).symm.trans
    ((congrFun (hs.1 3) (ix2 i j)).trans (read_row (Memref.whole main_arg7) _ _ (fun _ => rfl) squeezes_S1x512x1024_S512x1024 (off_row c).2.2.2.1 ho (m ((peer 0 c : Thread nD τ).loc main_arg7)) i j))
  have h1 := (read_row (Memref.whole main_v1_4) _ inb_S3x512x1024_S1x512x1024_1_0_0 (fun _ => rfl) squeezes_S1x512x1024_S512x1024 rfl (by decide) (s.mem ((c : Thread nD τ).loc main_v1_4)) i j).symm.trans
    ((congrFun (hs.1 4) (ix2 i j)).trans (read_row (Memref.whole main_arg7) _ _ (fun _ => rfl) squeezes_S1x512x1024_S512x1024 (off_row c).2.2.2.2.1 ho (m ((peer 1 c : Thread nD τ).loc main_arg7)) i j))
  have h2 := (read_row (Memref.whole main_v1_4) _ inb_S3x512x1024_S1x512x1024_2_0_0 (fun _ => rfl) squeezes_S1x512x1024_S512x1024 rfl (by decide) (s.mem ((c : Thread nD τ).loc main_v1_4)) i j).symm.trans
    ((congrFun (hs.1 5) (ix2 i j)).trans (read_row (Memref.whole main_arg7) _ _ (fun _ => rfl) squeezes_S1x512x1024_S512x1024 (off_row c).2.2.2.2.2.1 ho (m ((peer 2 c : Thread nD τ).loc main_arg7)) i j))
  fin_cases k
  · exact h0
  · exact h1
  · exact h2

theorem slots_v1_5 (c : Dev nD) (s : MemSt nD τ sig (Elt Ideal)) (hs : Exchanged m c s) (k : Fin 3) (i : Fin 128) (j : Fin 1024) :
    s.mem ((c : Thread nD τ).loc main_v1_5) (ix3 k i j)
      = m ((peer ⟨k.val, by omega⟩ c : Thread nD τ).loc main_arg8) (ix3 ⟨c.val / 2, by have h : c.val < 8 := c.isLt; omega⟩ i j) := by
  have h8 : c.val < 8 := c.isLt
  have ho : c.val / 2 < 4 := by omega
  have h0 := (read_row (Memref.whole main_v1_5) _ inb_S3x128x1024_S1x128x1024_0_0_0 (fun _ => rfl) squeezes_S1x128x1024_S128x1024 rfl (by decide) (s.mem ((c : Thread nD τ).loc main_v1_5)) i j).symm.trans
    ((congrFun (hs.1 6) (ix2 i j)).trans (read_row (Memref.whole main_arg8) _ _ (fun _ => rfl) squeezes_S1x128x1024_S128x1024 (off_row c).2.2.2.2.2.2.1 ho (m ((peer 0 c : Thread nD τ).loc main_arg8)) i j))
  have h1 := (read_row (Memref.whole main_v1_5) _ inb_S3x128x1024_S1x128x1024_1_0_0 (fun _ => rfl) squeezes_S1x128x1024_S128x1024 rfl (by decide) (s.mem ((c : Thread nD τ).loc main_v1_5)) i j).symm.trans
    ((congrFun (hs.1 7) (ix2 i j)).trans (read_row (Memref.whole main_arg8) _ _ (fun _ => rfl) squeezes_S1x128x1024_S128x1024 (off_row c).2.2.2.2.2.2.2.1 ho (m ((peer 1 c : Thread nD τ).loc main_arg8)) i j))
  have h2 := (read_row (Memref.whole main_v1_5) _ inb_S3x128x1024_S1x128x1024_2_0_0 (fun _ => rfl) squeezes_S1x128x1024_S128x1024 rfl (by decide) (s.mem ((c : Thread nD τ).loc main_v1_5)) i j).symm.trans
    ((congrFun (hs.1 8) (ix2 i j)).trans (read_row (Memref.whole main_arg8) _ _ (fun _ => rfl) squeezes_S1x128x1024_S128x1024 (off_row c).2.2.2.2.2.2.2.2 ho (m ((peer 2 c : Thread nD τ).loc main_arg8)) i j))
  fin_cases k
  · exact h0
  · exact h1
  · exact h2

theorem slots_v1_6 (c : Dev nD) (s : MemSt nD τ sig (Elt Ideal)) (hs : Exchanged m c s) (k : Fin 3) (i : Fin 128) (j : Fin 1024) :
    s.mem ((c : Thread nD τ).loc main_v1_6) (ix3 k i j)
      = m ((peer ⟨k.val, by omega⟩ c : Thread nD τ).loc main_arg9) (ix3 ⟨c.val / 2, by have h : c.val < 8 := c.isLt; omega⟩ i j) := by
  have h8 : c.val < 8 := c.isLt
  have ho : c.val / 2 < 4 := by omega
  have h0 := (read_row (Memref.whole main_v1_6) _ inb_S3x128x1024_S1x128x1024_0_0_0 (fun _ => rfl) squeezes_S1x128x1024_S128x1024 rfl (by decide) (s.mem ((c : Thread nD τ).loc main_v1_6)) i j).symm.trans
    ((congrFun (hs.1 9) (ix2 i j)).trans (read_row (Memref.whole main_arg9) _ _ (fun _ => rfl) squeezes_S1x128x1024_S128x1024 (off_row c).2.2.2.2.2.2.1 ho (m ((peer 0 c : Thread nD τ).loc main_arg9)) i j))
  have h1 := (read_row (Memref.whole main_v1_6) _ inb_S3x128x1024_S1x128x1024_1_0_0 (fun _ => rfl) squeezes_S1x128x1024_S128x1024 rfl (by decide) (s.mem ((c : Thread nD τ).loc main_v1_6)) i j).symm.trans
    ((congrFun (hs.1 10) (ix2 i j)).trans (read_row (Memref.whole main_arg9) _ _ (fun _ => rfl) squeezes_S1x128x1024_S128x1024 (off_row c).2.2.2.2.2.2.2.1 ho (m ((peer 1 c : Thread nD τ).loc main_arg9)) i j))
  have h2 := (read_row (Memref.whole main_v1_6) _ inb_S3x128x1024_S1x128x1024_2_0_0 (fun _ => rfl) squeezes_S1x128x1024_S128x1024 rfl (by decide) (s.mem ((c : Thread nD τ).loc main_v1_6)) i j).symm.trans
    ((congrFun (hs.1 11) (ix2 i j)).trans (read_row (Memref.whole main_arg9) _ _ (fun _ => rfl) squeezes_S1x128x1024_S128x1024 (off_row c).2.2.2.2.2.2.2.2 ho (m ((peer 2 c : Thread nD τ).loc main_arg9)) i j))
  fin_cases k
  · exact h0
  · exact h1
  · exact h2

theorem slots_v1_7 (c : Dev nD) (s : MemSt nD τ sig (Elt Ideal)) (hs : Exchanged m c s) (k : Fin 3) (i : Fin 128) (j : Fin 1024) :
    s.mem ((c : Thread nD τ).loc main_v1_7) (ix3 k i j)
      = m ((peer ⟨k.val, by omega⟩ c : Thread nD τ).loc main_arg10) (ix3 ⟨c.val / 2, by have h : c.val < 8 := c.isLt; omega⟩ i j) := by
  have h8 : c.val < 8 := c.isLt
  have ho : c.val / 2 < 4 := by omega
  have h0 := (read_row (Memref.whole main_v1_7) _ inb_S3x128x1024_S1x128x1024_0_0_0 (fun _ => rfl) squeezes_S1x128x1024_S128x1024 rfl (by decide) (s.mem ((c : Thread nD τ).loc main_v1_7)) i j).symm.trans
    ((congrFun (hs.1 12) (ix2 i j)).trans (read_row (Memref.whole main_arg10) _ _ (fun _ => rfl) squeezes_S1x128x1024_S128x1024 (off_row c).2.2.2.2.2.2.1 ho (m ((peer 0 c : Thread nD τ).loc main_arg10)) i j))
  have h1 := (read_row (Memref.whole main_v1_7) _ inb_S3x128x1024_S1x128x1024_1_0_0 (fun _ => rfl) squeezes_S1x128x1024_S128x1024 rfl (by decide) (s.mem ((c : Thread nD τ).loc main_v1_7)) i j).symm.trans
    ((congrFun (hs.1 13) (ix2 i j)).trans (read_row (Memref.whole main_arg10) _ _ (fun _ => rfl) squeezes_S1x128x1024_S128x1024 (off_row c).2.2.2.2.2.2.2.1 ho (m ((peer 1 c : Thread nD τ).loc main_arg10)) i j))
  have h2 := (read_row (Memref.whole main_v1_7) _ inb_S3x128x1024_S1x128x1024_2_0_0 (fun _ => rfl) squeezes_S1x128x1024_S128x1024 rfl (by decide) (s.mem ((c : Thread nD τ).loc main_v1_7)) i j).symm.trans
    ((congrFun (hs.1 14) (ix2 i j)).trans (read_row (Memref.whole main_arg10) _ _ (fun _ => rfl) squeezes_S1x128x1024_S128x1024 (off_row c).2.2.2.2.2.2.2.2 ho (m ((peer 2 c : Thread nD τ).loc main_arg10)) i j))
  fin_cases k
  · exact h0
  · exact h1
  · exact h2

end Cert.KernelIdeal

end
-- ==== Proof.RefRead.lean ====
/- The reference's gradients read at an index: over a device's block of the arrays they are its heads' gradients. -/
module

public import proofs.«01_k».proof.Proof.Gen.ReferenceIdeal.Run
public import proofs.«01_k».proof.Proof.Heads
public import Idealize.ShloMosaic.Lib.Pointwise
public import Idealize.ShloMosaic.Lib.Tactic.CleanTypes
public import Idealize.ShloMosaic.Lib.Layout

@[expose] public section

set_option maxRecDepth 16384

noncomputable section

namespace Cert.ReferenceIdeal.Value

open Cert.ReferenceIdeal Cert.ReferenceIdeal.Gen Idealize.ShloMosaic Idealize.ShloMosaic.TcCoe Idealize.ShloMosaic.StableHlo
open Cert.KernelIdeal (Head headOf gradQ gradK gradV prob sle_ofNat)

/-- Head `h` of the arrays' block `b`. -/
def refHead (V : Valuation τ sig (Elt Ideal)) (b h : Fin 8) : Head :=
  headOf (Layout.block ⟨2, ![4096, 2048]⟩ ⟨2, ![32768, 2048]⟩ 0 8 b (V (Proc.devRef .tc main_arg0)))
    (Layout.block ⟨2, ![4096, 2048]⟩ ⟨2, ![32768, 2048]⟩ 0 8 b (V (Proc.devRef .tc main_arg1)))
    (Layout.block ⟨2, ![4096, 1024]⟩ ⟨2, ![32768, 1024]⟩ 0 8 b (V (Proc.devRef .tc main_arg2)))
    (Layout.block ⟨2, ![4096, 1024]⟩ ⟨2, ![32768, 1024]⟩ 0 8 b (V (Proc.devRef .tc main_arg3)))
    (Layout.block ⟨4, ![8, 8, 1, 512]⟩ ⟨4, ![64, 8, 1, 512]⟩ 0 8 b (V (Proc.devRef .tc main_arg4)))
    (Layout.block ⟨4, ![8, 16, 1, 256]⟩ ⟨4, ![64, 16, 1, 256]⟩ 0 8 b (V (Proc.devRef .tc main_arg5))) h

variable (V : Valuation τ sig (Elt Ideal)) (b h : Fin 8)

/-! ## The arguments -/

theorem q_at (r : Fin 4096) (d : Fin 256) : res_main_v1 V (ix4 b r h d) = (refHead V b h).q r d := by
  refine Eq.trans ?_ (dif_pos r.isLt).symm
  unfold res_main_v1
  clean_types
  pointwise
  refine congrArg (V (Proc.devRef .tc main_arg0)) (funext fun a => Fin.ext ?_)
  fin_cases a
  · rfl
  · show h.val * 256 + d.val = 256 * h.val + d.val; omega

theorem k_at (r : Fin 4096) (d : Fin 256) : res_main_v3 V (ix4 b r h d) = (refHead V b h).k r d := by
  refine Eq.trans ?_ (dif_pos r.isLt).symm
  unfold res_main_v3
  clean_types
  pointwise
  refine congrArg (V (Proc.devRef .tc main_arg1)) (funext fun a => Fin.ext ?_)
  fin_cases a
  · rfl
  · show h.val * 256 + d.val = 256 * h.val + d.val; omega

theorem v_at (r : Fin 4096) (d : Fin 128) (h1 : b.val * 4096 + r.val < 32768) (h2 : h.val * 128 + d.val < 1024) :
    V (Proc.devRef .tc main_arg2) (ix2 ⟨b.val * 4096 + r.val, h1⟩ ⟨h.val * 128 + d.val, h2⟩) = (refHead V b h).v r d := by
  refine Eq.trans ?_ (dif_pos r.isLt).symm
  refine congrArg (V (Proc.devRef .tc main_arg2)) (funext fun a => Fin.ext ?_)
  fin_cases a
  · rfl
  · show h.val * 128 + d.val = 128 * h.val + d.val; omega

theorem do_at (r : Fin 4096) (d : Fin 128) : res_main_v7 V (ix4 b r h d) = (refHead V b h).dor r d := by
  refine Eq.trans ?_ (dif_pos r.isLt).symm
  unfold res_main_v7
  clean_types
  pointwise
  refine congrArg (V (Proc.devRef .tc main_arg3)) (funext fun a => Fin.ext ?_)
  fin_cases a
  · rfl
  · show h.val * 128 + d.val = 128 * h.val + d.val; omega

theorem l_at (r : Fin 4096) (h1 : b.val * 8 + h.val < 64) (h2 : r.val / 512 < 8) (h3 : r.val % 512 < 512) :
    V (Proc.devRef .tc main_arg4) (ix4 ⟨b.val * 8 + h.val, h1⟩ ⟨r.val / 512, h2⟩ 0 ⟨r.val % 512, h3⟩) = (refHead V b h).l r := by
  refine Eq.trans ?_ (dif_pos r.isLt).symm
  refine congrArg (V (Proc.devRef .tc main_arg4)) (funext fun a => Fin.ext ?_)
  fin_cases a <;> rfl

theorem del_at (r : Fin 4096) (h1 : b.val * 8 + h.val < 64) (h2 : r.val / 256 < 16) (h3 : r.val % 256 < 256) :
    V (Proc.devRef .tc main_arg5) (ix4 ⟨b.val * 8 + h.val, h1⟩ ⟨r.val / 256, h2⟩ 0 ⟨r.val % 256, h3⟩) = (refHead V b h).del r := by
  refine Eq.trans ?_ (dif_pos r.isLt).symm
  refine congrArg (V (Proc.devRef .tc main_arg5)) (funext fun a => Fin.ext ?_)
  fin_cases a <;> rfl

/-! ## The probabilities -/

theorem ofBits_two : Ideal.ofBits .f32 0x40000000#32 = ((2 : ℝ) : EReal) := by
  simp [Ideal.ofBits, Ideal.ieee, -EReal.coe_mul]; norm_num

theorem ln2_at (i) : res_main_v10 V i = ((Real.log 2 : ℝ) : EReal) := by
  unfold res_main_v10
  clean_types
  pointwise
  rw [ofBits_two, Ideal.log_coe, if_neg (by norm_num)]

/-- A power of two is a power of `e`. -/
theorem exp_ln2 (x : EReal) : Ideal.exp (x * ((Real.log 2 : ℝ) : EReal)) = Ideal.exp2 x := by
  have hp : (0 : ℝ) < Real.log 2 := Real.log_pos (by norm_num)
  induction x with
  | bot => rw [EReal.bot_mul_coe_of_pos hp]; rfl
  | top => rw [EReal.top_mul_coe_of_pos hp]; rfl
  | coe x =>
    rw [← EReal.coe_mul, Ideal.exp_coe, Ideal.exp2_coe]
    refine congrArg _ ?_
    rw [mul_comm]
    exact (Real.rpow_def_of_pos (by norm_num) x).symm

theorem p_at (r kk : Fin 4096) : res_main_v24 V (ix4 b h r kk) = (refHead V b h).P kk r := by
  unfold res_main_v24
  clean_types
  pointwise
  have hc : IntOp.cmpi .sge (BitVec.ofNat 32 r.val) (BitVec.ofNat 32 kk.val) = BitVec.ofBool (decide (kk.val ≤ r.val)) :=
    congrArg BitVec.ofBool (sle_ofNat (by omega) (by omega))
  rw [hc, ln2_at, exp_ln2, l_at V b h r]
  simp only [q_at, k_at]
  unfold Head.P Head.S Scalar.select
  by_cases hjx : kk.val ≤ r.val
  · rw [if_pos hjx, decide_eq_true hjx]
    refine (if_pos rfl).trans ?_
    refine congrArg (fun s => Ideal.exp2 (s - _)) (Finset.sum_congr rfl fun d _ => mul_comm _ _)
  · rw [if_neg hjx, decide_eq_false hjx]
    refine (if_neg (by decide)).trans ?_
    show constant (F := Ideal) S_ FTy.f32 0#32 ix0 = 0
    pointwise

theorem d_at (r kk : Fin 4096) : res_main_v32 V (ix4 b h r kk) = (refHead V b h).D kk r := by
  unfold res_main_v32
  clean_types
  pointwise
  rw [p_at, del_at V b h r]
  simp only [do_at, v_at]
  refine congrArg (fun s => (refHead V b h).P kk r * (s - (refHead V b h).del r)) (Finset.sum_congr rfl fun d _ => mul_comm _ _)

/-! ## The gradients -/

/-- The arrays the reference returns for the three gradients. -/
def outQ : (Proc.devRef .tc main_v40 : DevRef τ sig).ty.Contents (Elt Ideal) :=
  truncf .bf16 (shapeCast _ (transpose S8x4096x8x256 [0, 3, 1, 2] (Host.dotGeneral (φ₁ := .f32) (φ₂ := .f32) dot_S8x4096x8x256_S8x8x4096x4096_S8x8x256x4096_1_3_3_2_02_01 none (res_main_v3 V) (res_main_v32 V)) transposes_S8x8x256x4096_S8x4096x8x256_0_3_1_2) shapeCasts_S8x4096x8x256_S32768x2048) bitsLt_bf16_f32
def outK : (Proc.devRef .tc main_v42 : DevRef τ sig).ty.Contents (Elt Ideal) :=
  truncf .bf16 (shapeCast _ (mulf (transpose S8x4096x8x256 [0, 3, 1, 2] (Host.dotGeneral (φ₁ := .f32) (φ₂ := .f32) dot_S8x4096x8x256_S8x8x4096x4096_S8x8x256x4096_1_2_3_3_02_01 none (res_main_v1 V) (res_main_v32 V)) transposes_S8x8x256x4096_S8x4096x8x256_0_3_1_2) (broadcastInDim S8x4096x8x256 ![] bcast_S_S8x4096x8x256 (res_main_v10 V))) shapeCasts_S8x4096x8x256_S32768x2048) bitsLt_bf16_f32
def outV : (Proc.devRef .tc main_v44 : DevRef τ sig).ty.Contents (Elt Ideal) :=
  truncf .bf16 (shapeCast _ (transpose S8x4096x8x128 [0, 3, 1, 2] (Host.dotGeneral (φ₁ := .f32) (φ₂ := .f32) dot_S8x4096x8x128_S8x8x4096x4096_S8x8x128x4096_1_2_3_3_02_01 none (res_main_v7 V) (extf .f32 (truncf .bf16 (res_main_v24 V) bitsLt_bf16_f32) bitsLt_bf16_f32)) transposes_S8x8x128x4096_S8x4096x8x128_0_3_1_2) shapeCasts_S8x4096x8x128_S32768x1024) bitsLt_bf16_f32

theorem outQ_at (p : Fin 32768) (q : Fin 2048) : outQ V (ix2 p q)
    = (refHead V ⟨p.val / 4096, by omega⟩ ⟨q.val / 256, by omega⟩).gq (p.val % 4096) ⟨q.val % 256, by omega⟩ := by
  unfold outQ
  clean_types
  pointwise
  unfold Head.gq
  refine Finset.sum_congr rfl fun kk _ => ?_
  rw [mul_comm]
  exact congrArg₂ (· * ·) (d_at V _ _ ⟨p.val % 4096, by omega⟩ kk) (k_at V _ _ kk _)

theorem outK_at (p : Fin 32768) (q : Fin 2048) : outK V (ix2 p q)
    = (refHead V ⟨p.val / 4096, by omega⟩ ⟨q.val / 256, by omega⟩).gk (p.val % 4096) ⟨q.val % 256, by omega⟩ * ((Real.log 2 : ℝ) : EReal) := by
  unfold outK
  clean_types
  pointwise
  rw [ln2_at]
  refine congrArg (· * ((Real.log 2 : ℝ) : EReal)) ?_
  unfold Head.gk
  refine Finset.sum_congr rfl fun r _ => ?_
  rw [mul_comm]
  exact congrArg₂ (· * ·) (d_at V _ _ r ⟨p.val % 4096, by omega⟩) (q_at V _ _ r _)

theorem outV_at (p : Fin 32768) (q : Fin 1024) : outV V (ix2 p q)
    = (refHead V ⟨p.val / 4096, by omega⟩ ⟨q.val / 128, by omega⟩).gv (p.val % 4096) ⟨q.val % 128, by omega⟩ := by
  unfold outV
  clean_types
  pointwise
  unfold Head.gv
  refine Finset.sum_congr rfl fun r _ => ?_
  rw [mul_comm]
  exact congrArg₂ (· * ·) (p_at V _ _ r ⟨p.val % 4096, by omega⟩) (do_at V _ _ r _)

/-! Each device's block of them is the gradient over its heads. -/

theorem outQ_block : gradQ (refHead V b) = Layout.block ⟨2, ![4096, 2048]⟩ ⟨2, ![32768, 2048]⟩ 0 8 b (outQ V) := by
  funext i
  obtain ⟨r, q, rfl⟩ : ∃ (r : Fin 4096) (q : Fin 2048), i = ix2 r q := ⟨i 0, i 1, by funext a; fin_cases a <;> rfl⟩
  have e : Layout.block ⟨2, ![4096, 2048]⟩ ⟨2, ![32768, 2048]⟩ 0 8 b (outQ V) (by decide) (ix2 r q) = outQ V (ix2 ⟨b.val * 4096 + r.val, by omega⟩ q) :=
    congrArg (outQ V) (funext fun a => Fin.ext (by fin_cases a <;> rfl))
  rw [e, outQ_at]
  have e0 : (⟨(b.val * 4096 + r.val) / 4096, by omega⟩ : Fin 8) = b := Fin.ext (by show (b.val * 4096 + r.val) / 4096 = b.val; omega)
  have e1 : (b.val * 4096 + r.val) % 4096 = r.val := by omega
  simp only [e0, e1]
  exact Cert.KernelIdeal.gradQ_at _ _ _ _ _ rfl (by show q.val = 256 * (q.val / 256) + q.val % 256; omega)

theorem outK_block : gradK (refHead V b) = Layout.block ⟨2, ![4096, 2048]⟩ ⟨2, ![32768, 2048]⟩ 0 8 b (outK V) := by
  funext i
  obtain ⟨r, q, rfl⟩ : ∃ (r : Fin 4096) (q : Fin 2048), i = ix2 r q := ⟨i 0, i 1, by funext a; fin_cases a <;> rfl⟩
  have e : Layout.block ⟨2, ![4096, 2048]⟩ ⟨2, ![32768, 2048]⟩ 0 8 b (outK V) (by decide) (ix2 r q) = outK V (ix2 ⟨b.val * 4096 + r.val, by omega⟩ q) :=
    congrArg (outK V) (funext fun a => Fin.ext (by fin_cases a <;> rfl))
  rw [e, outK_at]
  have e0 : (⟨(b.val * 4096 + r.val) / 4096, by omega⟩ : Fin 8) = b := Fin.ext (by show (b.val * 4096 + r.val) / 4096 = b.val; omega)
  have e1 : (b.val * 4096 + r.val) % 4096 = r.val := by omega
  simp only [e0, e1]
  exact Cert.KernelIdeal.gradK_at _ _ _ _ _ rfl (by show q.val = 256 * (q.val / 256) + q.val % 256; omega)

theorem outV_block : gradV (refHead V b) = Layout.block ⟨2, ![4096, 1024]⟩ ⟨2, ![32768, 1024]⟩ 0 8 b (outV V) := by
  funext i
  obtain ⟨r, q, rfl⟩ : ∃ (r : Fin 4096) (q : Fin 1024), i = ix2 r q := ⟨i 0, i 1, by funext a; fin_cases a <;> rfl⟩
  have e : Layout.block ⟨2, ![4096, 1024]⟩ ⟨2, ![32768, 1024]⟩ 0 8 b (outV V) (by decide) (ix2 r q) = outV V (ix2 ⟨b.val * 4096 + r.val, by omega⟩ q) :=
    congrArg (outV V) (funext fun a => Fin.ext (by fin_cases a <;> rfl))
  rw [e, outV_at]
  have e0 : (⟨(b.val * 4096 + r.val) / 4096, by omega⟩ : Fin 8) = b := Fin.ext (by show (b.val * 4096 + r.val) / 4096 = b.val; omega)
  have e1 : (b.val * 4096 + r.val) % 4096 = r.val := by omega
  simp only [e0, e1]
  exact Cert.KernelIdeal.gradV_at _ _ _ _ _ rfl (by show q.val = 128 * (q.val / 128) + q.val % 128; omega)

end Cert.ReferenceIdeal.Value

end
-- ==== Proof.Algebra.lean ====
/- The value claim: every device's gradients and received arrays are its blocks of the reference's results. -/
module

public import proofs.«01_k».proof.Defs
public import proofs.«01_k».proof.Proof.Arrays
public import proofs.«01_k».proof.Proof.Recv
public import proofs.«01_k».proof.Proof.RefRead

@[expose] public section

set_option maxRecDepth 16384

noncomputable section

open Idealize.ShloMosaic Idealize.ShloMosaic.TcCoe Idealize.ShloMosaic.StableHlo Idealize.SL.Sem

namespace Cert.Proof

open Cert.ReferenceIdeal.Value (refHead outQ outK outV outQ_block outK_block outV_block)

theorem algebraic : Cert.algebraic_KernelIdeal_ReferenceIdeal := by
  intro m g m' g' _ hm
  have hd : ∀ c : Dev Cert.KernelIdeal.nD, Cert.KernelIdeal.devHead m c = refHead (launchContents m' 0) c := fun c => by
    obtain ⟨h0, h1, h2, h3, h4, h5, -⟩ := hm c
    funext h
    unfold Cert.KernelIdeal.devHead refHead
    rw [h0, h1, h2, h3, h4, h5]
  refine ⟨outQ (launchContents m' 0), outK (launchContents m' 0), outV (launchContents m' 0), Cert.ReferenceIdeal.Value.res_main_v71 (launchContents m' 0),
    Cert.ReferenceIdeal.Value.res_main_v98 (launchContents m' 0), Cert.ReferenceIdeal.Value.res_main_v125 (launchContents m' 0),
    Cert.ReferenceIdeal.Value.res_main_v152 (launchContents m' 0), Cert.ReferenceIdeal.Value.res_main_v179 (launchContents m' 0), ?_, ?_⟩
  · refine (θ_run Cert.KernelIdeal.defs _ _).mono (fun r h c => ?_) (Cert.KernelIdeal.run_main m g)
    obtain ⟨hw, he⟩ := h.1 c
    refine ⟨?_, ?_, ?_, ?_, ?_, ?_, ?_, ?_, (hw 0).trans (Cert.KernelIdeal.arg_kept m c 0 rfl), (hw 1).trans (Cert.KernelIdeal.arg_kept m c 1 rfl),
      (hw 2).trans (Cert.KernelIdeal.arg_kept m c 2 rfl), (hw 3).trans (Cert.KernelIdeal.arg_kept m c 3 rfl),
      (hw 4).trans (Cert.KernelIdeal.arg_kept m c 4 rfl), (hw 5).trans (Cert.KernelIdeal.arg_kept m c 5 rfl), he.2⟩
    · exact (hw 6).trans ((Cert.KernelIdeal.final_dq m c).trans ((congrArg Cert.KernelIdeal.gradQ (hd c)).trans (outQ_block _ c)))
    · exact (hw 7).trans ((Cert.KernelIdeal.final_dk m c).trans ((congrArg Cert.KernelIdeal.gradK (hd c)).trans (outK_block _ c)))
    · exact (hw 8).trans ((Cert.KernelIdeal.final_dv m c).trans ((congrArg Cert.KernelIdeal.gradV (hd c)).trans (outV_block _ c)))
    · exact Cert.KernelIdeal.slots_eq c _ (fun c => m ((c : Thread Cert.KernelIdeal.nD Cert.KernelIdeal.τ).loc Cert.KernelIdeal.main_arg6)) _ _ (by decide) (by decide) (fun c => (hm c).2.2.2.2.2.2.1)
        (Cert.ReferenceIdeal.Value.v71_at (launchContents m' 0)) (Cert.KernelIdeal.slots_v1_3 m c _ he)
    · exact Cert.KernelIdeal.slots_eq c _ (fun c => m ((c : Thread Cert.KernelIdeal.nD Cert.KernelIdeal.τ).loc Cert.KernelIdeal.main_arg7)) _ _ (by decide) (by decide) (fun c => (hm c).2.2.2.2.2.2.2.1)
        (Cert.ReferenceIdeal.Value.v98_at (launchContents m' 0)) (Cert.KernelIdeal.slots_v1_4 m c _ he)
    · exact Cert.KernelIdeal.slots_eq c _ (fun c => m ((c : Thread Cert.KernelIdeal.nD Cert.KernelIdeal.τ).loc Cert.KernelIdeal.main_arg8)) _ _ (by decide) (by decide) (fun c => (hm c).2.2.2.2.2.2.2.2.1)
        (Cert.ReferenceIdeal.Value.v125_at (launchContents m' 0)) (Cert.KernelIdeal.slots_v1_5 m c _ he)
    · exact Cert.KernelIdeal.slots_eq c _ (fun c => m ((c : Thread Cert.KernelIdeal.nD Cert.KernelIdeal.τ).loc Cert.KernelIdeal.main_arg9)) _ _ (by decide) (by decide) (fun c => (hm c).2.2.2.2.2.2.2.2.2.1)
        (Cert.ReferenceIdeal.Value.v152_at (launchContents m' 0)) (Cert.KernelIdeal.slots_v1_6 m c _ he)
    · exact Cert.KernelIdeal.slots_eq c _ (fun c => m ((c : Thread Cert.KernelIdeal.nD Cert.KernelIdeal.τ).loc Cert.KernelIdeal.main_arg10)) _ _ (by decide) (by decide) (fun c => (hm c).2.2.2.2.2.2.2.2.2.2)
        (Cert.ReferenceIdeal.Value.v179_at (launchContents m' 0)) (Cert.KernelIdeal.slots_v1_7 m c _ he)
  · exact (θ_run Cert.ReferenceIdeal.defs _ _).mono (fun r h => h 0) (Cert.ReferenceIdeal.Value.run m' g')

end Cert.Proof

end
-- ==== Proof.GradBase.lean ====
/- What the weight gradients share: a product over all the token rows, as two grid points add it up. -/
module

public import Idealize.ShloMosaic.PureOps.Ideal
public import Idealize.ShloMosaic.Lib.Pointwise

@[expose] public section

noncomputable section

open Idealize.ShloMosaic

namespace Cert.Grad

theorem at00 : (![0, 0] : Fin 2 → ℕ) = fun _ => 0 := funext fun a => by fin_cases a <;> rfl

/-- Entry `(r, s)` of the product of `a` transposed and `b`, whose rows are the token rows. -/
def prodAt {p q : ℕ} (a : (⟨2, ![4096, p]⟩ : Shape).Idx → EReal) (b : (⟨2, ![4096, q]⟩ : Shape).Idx → EReal) (r : Fin p) (s : Fin q) : EReal :=
  ∑ k : Fin 4096, a (ix2 k r) * b (ix2 k s)

/-- The same entry from the two halves of the rows. -/
theorem prodAt_halves {p q : ℕ} (a : (⟨2, ![4096, p]⟩ : Shape).Idx → EReal) (b : (⟨2, ![4096, q]⟩ : Shape).Idx → EReal) (r : Fin p) (s : Fin q) :
    prodAt a b r s = (∑ k : Fin 2048, a (ix2 ⟨k.val, by omega⟩ r) * b (ix2 ⟨k.val, by omega⟩ s))
      + ∑ k : Fin 2048, a (ix2 ⟨2048 + k.val, by omega⟩ r) * b (ix2 ⟨2048 + k.val, by omega⟩ s) :=
  Fin.sum_univ_add (a := 2048) (b := 2048) (fun k : Fin (2048 + 2048) => a (ix2 (n0 := 4096) k r) * b (ix2 (n0 := 4096) k s))

/-- Two points, the first at an even place `n - 1`, over the rows `2048 · (n % 2) …` that each stages, make up an entry. -/
theorem prodAt_points {p q : ℕ} (a : (⟨2, ![4096, p]⟩ : Shape).Idx → EReal) (b : (⟨2, ![4096, q]⟩ : Shape).Idx → EReal) (r : Fin p) (s : Fin q)
    (e e' : ℕ) (he : e = 0) (he' : e' = 1) (f f' : Fin 2048 → EReal)
    (hf : ∀ k : Fin 2048, f k = a (ix2 ⟨e * 2048 + k.val, by subst he; omega⟩ r) * b (ix2 ⟨e * 2048 + k.val, by subst he; omega⟩ s))
    (hf' : ∀ k : Fin 2048, f' k = a (ix2 ⟨e' * 2048 + k.val, by subst he'; omega⟩ r) * b (ix2 ⟨e' * 2048 + k.val, by subst he'; omega⟩ s)) :
    (∑ k, f k) + ∑ k, f' k = prodAt a b r s := by
  subst he he'
  rw [prodAt_halves]
  refine congrArg₂ (· + ·) (Finset.sum_congr rfl fun k _ => (hf k).trans ?_) (Finset.sum_congr rfl fun k _ => (hf' k).trans ?_)
  · simp only [Nat.zero_mul, Nat.zero_add]
  · simp only [Nat.one_mul]

end Cert.Grad

end
-- ==== Proof.GradFf2.lean ====
/- The gradient of the feed-forward block's second matrix: two grid points share a block of the result, each adds the
   product of its half of the rows, and the second writes the block back. -/
module

public import proofs.«01_k».proof.Defs
public import proofs.«01_k».proof.Proof.GradBase
public import proofs.«01_k».proof.Proof.Gen.KernelFf2.Frame
public import proofs.«01_k».proof.Proof.Gen.KernelFf2Ideal.Value
public import proofs.«01_k».proof.Proof.Gen.ReferenceFf2Ideal.Run
public import Idealize.ShloMosaic.Lib.Pipeline.ValueKit.Geometry
public import Idealize.ShloMosaic.Lib.Pipeline.ValueKit.Point
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.KernelFf2Ideal

open Gen Cert.Grad
open Idealize.ShloMosaic.Pipeline (Dat)

/-! ## The two points of a block -/

/-- A block's first point leaves the product of its rows in the accumulator. -/
theorem first_leaves (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole) (hc0 : cond0_0 i) (hc1 : ¬cond0_1 i)
    (x y : Vec Ideal S2048x1024 .bf16) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) at00, View.readCov_unit_zero (S := S1024x1024) _ at00]
  simp only [View.readAt_eq_ld, h3.read_unread, h4.read_unread, View.ld_unit_zero (S := S2048x1024) at00]

/-- Its second point writes back the accumulator, with the product of its own rows added, in the result's format. -/
theorem second_writes (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole) (hc0 : ¬cond0_0 i) (hc1 : cond0_1 i)
    (x y : Vec Ideal S2048x1024 .bf16) (acc : Vec Ideal S1024x1024 .f32) : out0_B_2 c i a3 h3 a4 h4 a5 h5 a6 h6 hc0 hc1 x y acc = k0_pay3 (k0_pay2 acc x y) := by
  unfold out0_B_2
  rw [View.read_writes_eq_canon _ _ _ (cover0_B_2 c i a3 h3 a4 h4 a5 h5 a6 h6 hc0 hc1 x y acc)]
  unfold kernelRun0_B
  dsimp only
  sl_unfold_words
  rw [View.canon_unit_zero (S := S1024x1024) at00, View.readCov_unit_zero (S := S1024x1024) _ at00]
  simp only [View.readAt_eq_ld, h3.read_unread, h4.read_unread, h6.read_unread, View.ld_unit_zero (S := S2048x1024) at00, View.ld_unit_zero (S := S1024x1024) at00]

/-- The block written back, at an index. -/
theorem block_at (x y x' y' : Vec Ideal S2048x1024 .bf16) (r s : Fin 1024) : k0_pay3 (k0_pay2 (k0_pay2 k0_pay1 x y) x' y') (ix2 r s)
    = (∑ k : Fin 2048, x (ix2 k r) * y (ix2 k s)) + ∑ k : Fin 2048, x' (ix2 k r) * y' (ix2 k s) := by
  pointwise [k0_pay3, k0_pay2, k0_pay1]

/-! ## The array -/

variable (m : (ℓ : Loc nD τ sig) → Buf (Elt Ideal) ℓ)

/-- The product of the transposed first array and the second. -/
def prod (a : S4096x4096.Idx → EReal) (b : S4096x1024.Idx → EReal) : S4096x1024.Idx → EReal := fun i => prodAt a b (i 0) (i 1)

theorem at_a : ∀ t : Fin cfg0.N, win0_0.index t = ![t.val % 2, t.val / 2] := (by decide +kernel : ∀ t : Fin grid0.N, _)
theorem at_b : ∀ t : Fin cfg0.N, win0_1.index t = ![t.val % 2, 0] := (by decide +kernel : ∀ t : Fin grid0.N, _)
theorem at_o : ∀ t : Fin cfg0.N, win0_2.index t = ![t.val / 2, 0] := (by decide +kernel : ∀ t : Fin grid0.N, _)

theorem a_at (c : Dev nD) (t : Fin cfg0.N) (k : Fin 2048) (r : Fin 1024) : iblk m c 0 t (ix2 k r)
    = m ((c : Thread nD τ).loc main_arg0) (ix2 ⟨t.val % 2 * 2048 + k, by omega⟩ ⟨t.val / 2 * 1024 + r, by have h : t.val < 8 := t.isLt; omega⟩) := by
  blk_ext [Gen.iblk, Gen.V, at_a]

theorem b_at (c : Dev nD) (t : Fin cfg0.N) (k : Fin 2048) (s : Fin 1024) : iblk m c 1 t (ix2 k s)
    = m ((c : Thread nD τ).loc main_arg1) (ix2 ⟨t.val % 2 * 2048 + k, by omega⟩ s) := by
  blk_ext [Gen.iblk, Gen.V, at_b]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have hp : t.val - 1 < cfg0.N := Nat.lt_of_le_of_lt (Nat.sub_le _ _) t.isLt
  have hc : (dats m 0 c).after 2 t = k0_pay3 (k0_pay2 (k0_pay2 k0_pay1 (iblk m c 0 ⟨t.val - 1, hp⟩) (iblk m c 1 ⟨t.val - 1, hp⟩)) (iblk m c 0 t) (iblk m c 1 t)) := by
    rw [after0_2, outsAt0_B m c t h0 h1]
    dsimp only
    rw [second_writes, outsAt0_A m c ⟨t.val - 1, hp⟩ (by show (t.val - 1) % 2 = 0; omega) (by show ¬(t.val - 1) % 2 = 1; omega)]
    dsimp only
    rw [first_leaves]
  rw [hc]
  blk_simp
  obtain ⟨r, s, rfl⟩ : ∃ (r s : Fin 1024), y = ix2 r s := ⟨y 0, y 1, by funext a; fin_cases a <;> rfl⟩
  refine (block_at _ _ _ _ r s).trans ?_
  have h8 : t.val < 8 := t.isLt
  have er : ((cfg0.win 2).blk t).view.emb (ix2 r s) 0 = (⟨t.val / 2 * 1024 + r, by omega⟩ : Fin 4096) := Fin.ext (by blk_simp [at_o])
  have es : ((cfg0.win 2).blk t).view.emb (ix2 r s) 1 = s := Fin.ext (by blk_simp [at_o])
  unfold prod
  rw [er, es]
  have e2 : (t.val - 1) / 2 = t.val / 2 := by omega
  refine prodAt_points _ _ _ _ ((t.val - 1) % 2) (t.val % 2) (by omega) h1 _ _ (fun k => ?_) (fun k => ?_)
  · exact congrArg₂ (· * ·) ((a_at m c _ k r).trans (congrArg _ (congrArg₂ ix2 rfl (Fin.ext (by dsimp only; rw [e2]))))) (b_at m c _ k s)
  · exact congrArg₂ (· * ·) (a_at m c _ k r) (b_at m c _ k s)

end Cert.KernelFf2Ideal

namespace Cert.Proof

open Cert.ReferenceFf2Ideal Cert.ReferenceFf2Ideal.Gen

/-- What the reference returns is the same product. -/
theorem ff2_reference (a : S4096x4096.Idx → Elt Ideal .bf16) (b : S4096x1024.Idx → Elt Ideal .bf16) :
    truncf (F := Ideal) (φ := .f32) .bf16 (transpose S4096x1024 [1, 0] (Host.dotGeneral (F := Ideal) (φ₁ := .f32) (φ₂ := .f32) dot_S4096x1024_S4096x4096_S1024x4096_0_0_1_1_n_n none
      (extf (F := Ideal) (φ := .bf16) .f32 b bitsLt_bf16_f32) (extf (F := Ideal) (φ := .bf16) .f32 a bitsLt_bf16_f32)) transposes_S1024x4096_S4096x1024_1_0) bitsLt_bf16_f32
      = Cert.KernelFf2Ideal.prod a b := by
  funext i
  obtain ⟨r, s, rfl⟩ : ∃ (r : Fin 4096) (s : Fin 1024), i = ix2 r s := ⟨i 0, i 1, by funext x; fin_cases x <;> rfl⟩
  pointwise
  exact Finset.sum_congr rfl fun k _ => mul_comm _ _

theorem frame_ff2 : Cert.quiescent_KernelFf2 := fun m ρ _ => Cert.KernelFf2.Gen.frame m ρ

theorem frame_ff2_ideal : Cert.quiescent_KernelFf2Ideal := fun m ρ _ => Cert.KernelFf2Ideal.Gen.frame m ρ

theorem frame_ff2_reference : Cert.quiescent_ReferenceFf2Ideal := fun m ρ _ =>
  (θ_run Cert.ReferenceFf2Ideal.defs _ _).mono
    (fun r h => ⟨fun c => (h c).2, sem_eq_zero_of_no_sems (by decide) r.2⟩)
    (Cert.ReferenceFf2Ideal.Value.run (F := Ideal) m ρ)

theorem algebraic_ff2 : Cert.algebraic_KernelFf2Ideal_ReferenceFf2Ideal := by
  intro m g m' g' _ hm
  refine ⟨fun c => Cert.KernelFf2Ideal.prod (m ((c : Thread Cert.KernelFf2Ideal.nD Cert.KernelFf2Ideal.τ).loc Cert.KernelFf2Ideal.main_arg0))
      (m ((c : Thread Cert.KernelFf2Ideal.nD Cert.KernelFf2Ideal.τ).loc Cert.KernelFf2Ideal.main_arg1)),
    (θ_run Cert.KernelFf2Ideal.defs _ _).mono (fun r h c => ⟨(h c).1.trans (Cert.KernelFf2Ideal.final m c), (h c).2⟩) (Cert.KernelFf2Ideal.Value.run_blocks m g),
    (θ_run Cert.ReferenceFf2Ideal.defs _ _).mono (fun r h c => ⟨(h c).1.trans ?_, (h c).2⟩) (Cert.ReferenceFf2Ideal.Value.run m' g')⟩
  rw [(hm c).1, (hm c).2]
  exact ff2_reference _ _

end Cert.Proof

end
-- ==== Proof.GradFf1.lean ====
/- The gradient of the feed-forward block's first matrix, in the device's shards of its columns: two grid points share two
   shards of the result, each adds the product of its half of the rows, and the second writes the shards back. -/
module

public import proofs.«01_k».proof.Defs
public import proofs.«01_k».proof.Proof.GradBase
public import proofs.«01_k».proof.Proof.Gen.KernelFf1.Frame
public import proofs.«01_k».proof.Proof.Gen.KernelFf1Ideal.Value
public import proofs.«01_k».proof.Proof.Gen.ReferenceFf1Ideal.Run
public import Idealize.ShloMosaic.Lib.Pipeline.ValueKit.Geometry
public import Idealize.ShloMosaic.Lib.Pipeline.ValueKit.Point
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.KernelFf1Ideal

open Gen Cert.Grad
open Idealize.ShloMosaic.Pipeline (Dat)

/-! ## The two points of a block -/

/-- A block's first point leaves the product of its rows in the accumulator. -/
theorem first_leaves (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S2x1024x512 .bf16) (h5 : a5.IsWhole) (a6 : Memref sig .tc .vmem S1024x1024 .f32) (h6 : a6.IsWhole) (hc0 : cond0_0 i) (hc1 : ¬cond0_1 i)
    (x y : Vec Ideal S2048x1024 .bf16) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) at00, View.readCov_unit_zero (S := S1024x1024) _ at00]
  simp only [View.readAt_eq_ld, h3.read_unread, h4.read_unread, View.ld_unit_zero (S := S2048x1024) at00]

/-- A block's columns as its two shards. -/
def shards (v : S1024x1024.Idx → EReal) : S2x1024x512.Idx → EReal := fun y =>
  v (ix2 (y 1) ⟨512 * (y 0).val + (y 2).val, by have h : (y 0).val < 2 := (y 0).isLt; have h' : (y 2).val < 512 := (y 2).isLt; omega⟩)

/-- The two stores of the shards change the format alone. -/
theorem store1_at (v : Vec Ideal S1024x512 .f32) (z : Fin 1) (r : Fin 1024) (s : Fin 512) : k0_pay3 v (ix3 z r s) = v (ix2 r s) := by
  pointwise [k0_pay3]
theorem store2_at (v : Vec Ideal S1024x512 .f32) (z : Fin 1) (r : Fin 1024) (s : Fin 512) : k0_pay4 v (ix3 z r s) = v (ix2 r s) := by
  pointwise [k0_pay4]

/-- Its second point writes back the accumulator, with the product of its own rows added, as two shards. -/
theorem second_writes (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S2x1024x512 .bf16) (h5 : a5.IsWhole) (a6 : Memref sig .tc .vmem S1024x1024 .f32) (h6 : a6.IsWhole) (hc0 : ¬cond0_0 i) (hc1 : cond0_1 i)
    (x y : Vec Ideal S2048x1024 .bf16) (acc : Vec Ideal S1024x1024 .f32) : out0_B_2 c i a3 h3 a4 h4 a5 h5 a6 h6 hc0 hc1 x y acc = shards (k0_pay2 acc x y) := by
  unfold out0_B_2
  rw [View.read_writes_eq_canon _ _ _ (cover0_B_2 c i a3 h3 a4 h4 a5 h5 a6 h6 hc0 hc1 x y acc)]
  refine funext fun j => View.canon_apply_of_pieces (shards (k0_pay2 acc x y)) _ (fun p hp u => ?_) j (cover0_B_2 c i a3 h3 a4 h4 a5 h5 a6 h6 hc0 hc1 x y acc j)
  unfold kernelRun0_B at hp
  dsimp only at hp
  simp only [List.mem_cons, List.not_mem_nil, or_false] at hp
  rcases hp with rfl | rfl
  all_goals
    dsimp only
    sl_unfold_words
    simp only [View.readAt_eq_ld, h3.read_unread, h4.read_unread, h6.read_unread, View.ld_unit_zero (S := S2048x1024) at00, View.ld_unit_zero (S := S1024x1024) at00,
      View.readCov_eq_canon', View.canon_unit_zero (S := S1024x1024) at00]
    obtain ⟨z, r, s, rfl⟩ : ∃ (z : Fin 1) (r : Fin 1024) (s : Fin 512), u = ix3 z r s := ⟨u 0, u 1, u 2, by funext a; fin_cases a <;> rfl⟩
  · refine (store2_at _ z r s).trans (congrArg (k0_pay2 acc x y) (funext fun a => Fin.ext ?_))
    fin_cases a
    · show 0 + 1 * r.val = 0 + 1 * r.val; rfl
    · show 512 + 1 * s.val = 512 * (1 + 1 * z.val) + (0 + 1 * s.val); omega
  · refine (store1_at _ z r s).trans (congrArg (k0_pay2 acc x y) (funext fun a => Fin.ext ?_))
    fin_cases a
    · show 0 + 1 * r.val = 0 + 1 * r.val; rfl
    · show 0 + 1 * s.val = 512 * (0 + 1 * z.val) + (0 + 1 * s.val); omega

/-- A block after its two points, at an index. -/
theorem block_at (x y x' y' : Vec Ideal S2048x1024 .bf16) (r s : Fin 1024) : k0_pay2 (k0_pay2 k0_pay1 x y) x' y' (ix2 r s)
    = (∑ k : Fin 2048, x (ix2 k r) * y (ix2 k s)) + ∑ k : Fin 2048, x' (ix2 k r) * y' (ix2 k s) := by
  pointwise [k0_pay2, k0_pay1]

/-! ## The array -/

variable (m : (ℓ : Loc nD τ sig) → Buf (Elt Ideal) ℓ)

/-- The product of the transposed first array and the second, in shards of 512 columns. -/
def prod (a : S4096x1024.Idx → EReal) (b : S4096x4096.Idx → EReal) : S8x1024x512.Idx → EReal := fun i =>
  prodAt a b (i 1) ⟨(i 0).val * 512 + (i 2).val, by have h : (i 0).val < 8 := (i 0).isLt; have h' : (i 2).val < 512 := (i 2).isLt; omega⟩

theorem at_a : ∀ t : Fin cfg0.N, win0_0.index t = ![t.val % 2, 0] := (by decide +kernel : ∀ t : Fin grid0.N, _)
theorem at_b : ∀ t : Fin cfg0.N, win0_1.index t = ![t.val % 2, t.val / 2] := (by decide +kernel : ∀ t : Fin grid0.N, _)
theorem at_o : ∀ t : Fin cfg0.N, win0_2.index t = ![t.val / 2, 0, 0] := (by decide +kernel : ∀ t : Fin grid0.N, _)

theorem a_at (c : Dev nD) (t : Fin cfg0.N) (k : Fin 2048) (r : Fin 1024) : iblk m c 0 t (ix2 k r)
    = m ((c : Thread nD τ).loc main_arg0) (ix2 ⟨t.val % 2 * 2048 + k, by omega⟩ r) := by
  blk_ext [Gen.iblk, Gen.V, at_a]

theorem b_at (c : Dev nD) (t : Fin cfg0.N) (k : Fin 2048) (s : Fin 1024) : iblk m c 1 t (ix2 k s)
    = m ((c : Thread nD τ).loc main_arg1) (ix2 ⟨t.val % 2 * 2048 + k, by omega⟩ ⟨t.val / 2 * 1024 + s, by have h : t.val < 8 := t.isLt; omega⟩) := by
  blk_ext [Gen.iblk, Gen.V, at_b]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have hp : t.val - 1 < cfg0.N := Nat.lt_of_le_of_lt (Nat.sub_le _ _) t.isLt
  have hc : (dats m 0 c).after 2 t = shards (k0_pay2 (k0_pay2 k0_pay1 (iblk m c 0 ⟨t.val - 1, hp⟩) (iblk m c 1 ⟨t.val - 1, hp⟩)) (iblk m c 0 t) (iblk m c 1 t)) := by
    rw [after0_2, outsAt0_B m c t h0 h1]
    dsimp only
    rw [second_writes, outsAt0_A m c ⟨t.val - 1, hp⟩ (by show (t.val - 1) % 2 = 0; omega) (by show ¬(t.val - 1) % 2 = 1; omega)]
    dsimp only
    rw [first_leaves]
  rw [hc]
  blk_simp
  obtain ⟨z, r, s, rfl⟩ : ∃ (z : Fin 2) (r : Fin 1024) (s : Fin 512), y = ix3 z r s := ⟨y 0, y 1, y 2, by funext a; fin_cases a <;> rfl⟩
  refine (block_at _ _ _ _ r ⟨512 * z.val + s.val, by omega⟩).trans ?_
  have h8 : t.val < 8 := t.isLt
  have ez : (((cfg0.win 2).blk t).view.emb (ix3 z r s) 0).val = t.val / 2 * 2 + z := by blk_simp [at_o]
  have er : ((cfg0.win 2).blk t).view.emb (ix3 z r s) 1 = r := Fin.ext (by blk_simp [at_o])
  have es : (((cfg0.win 2).blk t).view.emb (ix3 z r s) 2).val = s := by blk_simp [at_o]
  have ep : (((cfg0.win 2).blk t).view.emb (ix3 z r s) 0).val * 512 + (((cfg0.win 2).blk t).view.emb (ix3 z r s) 2).val = t.val / 2 * 1024 + (512 * z.val + s.val) := by
    rw [ez, es]; omega
  unfold prod
  rw [er]
  have e2 : (t.val - 1) / 2 = t.val / 2 := by omega
  refine prodAt_points _ _ _ _ ((t.val - 1) % 2) (t.val % 2) (by omega) h1 _ _ (fun k => ?_) (fun k => ?_)
  · exact congrArg₂ (· * ·) (a_at m c _ k r) ((b_at m c _ k _).trans (congrArg _ (congrArg₂ ix2 rfl (Fin.ext (by dsimp only; rw [e2, ep])))))
  · exact congrArg₂ (· * ·) (a_at m c _ k r) ((b_at m c _ k _).trans (congrArg _ (congrArg₂ ix2 rfl (Fin.ext (by dsimp only; rw [ep])))))

end Cert.KernelFf1Ideal

namespace Cert.Proof

open Cert.ReferenceFf1Ideal Cert.ReferenceFf1Ideal.Gen

/-- What the reference returns is the same product. -/
theorem ff1_reference (a : S4096x1024.Idx → Elt Ideal .bf16) (b : S4096x4096.Idx → Elt Ideal .bf16) :
    truncf (F := Ideal) (φ := .f32) .bf16 (transpose S8x1024x512 [1, 0, 2] (shapeCast _ (transpose S1024x4096 [1, 0] (Host.dotGeneral (F := Ideal) (φ₁ := .f32) (φ₂ := .f32)
      dot_S4096x4096_S4096x1024_S4096x1024_0_0_1_1_n_n none (extf (F := Ideal) (φ := .bf16) .f32 b bitsLt_bf16_f32) (extf (F := Ideal) (φ := .bf16) .f32 a bitsLt_bf16_f32))
      transposes_S4096x1024_S1024x4096_1_0) shapeCasts_S1024x4096_S1024x8x512) transposes_S1024x8x512_S8x1024x512_1_0_2) bitsLt_bf16_f32
      = Cert.KernelFf1Ideal.prod a b := by
  funext i
  obtain ⟨z, r, s, rfl⟩ : ∃ (z : Fin 8) (r : Fin 1024) (s : Fin 512), i = ix3 z r s := ⟨i 0, i 1, i 2, by funext x; fin_cases x <;> rfl⟩
  pointwise
  exact Finset.sum_congr rfl fun k _ => mul_comm _ _

theorem frame_ff1 : Cert.quiescent_KernelFf1 := fun m ρ _ => Cert.KernelFf1.Gen.frame m ρ

theorem frame_ff1_ideal : Cert.quiescent_KernelFf1Ideal := fun m ρ _ => Cert.KernelFf1Ideal.Gen.frame m ρ

theorem frame_ff1_reference : Cert.quiescent_ReferenceFf1Ideal := fun m ρ _ =>
  (θ_run Cert.ReferenceFf1Ideal.defs _ _).mono
    (fun r h => ⟨fun c => (h c).2, sem_eq_zero_of_no_sems (by decide) r.2⟩)
    (Cert.ReferenceFf1Ideal.Value.run (F := Ideal) m ρ)

theorem algebraic_ff1 : Cert.algebraic_KernelFf1Ideal_ReferenceFf1Ideal := by
  intro m g m' g' _ hm
  refine ⟨fun c => Cert.KernelFf1Ideal.prod (m ((c : Thread Cert.KernelFf1Ideal.nD Cert.KernelFf1Ideal.τ).loc Cert.KernelFf1Ideal.main_arg0))
      (m ((c : Thread Cert.KernelFf1Ideal.nD Cert.KernelFf1Ideal.τ).loc Cert.KernelFf1Ideal.main_arg1)),
    (θ_run Cert.KernelFf1Ideal.defs _ _).mono (fun r h c => ⟨(h c).1.trans (Cert.KernelFf1Ideal.final m c), (h c).2⟩) (Cert.KernelFf1Ideal.Value.run_blocks m g),
    (θ_run Cert.ReferenceFf1Ideal.defs _ _).mono (fun r h c => ⟨(h c).1.trans ?_, (h c).2⟩) (Cert.ReferenceFf1Ideal.Value.run m' g')⟩
  rw [(hm c).1, (hm c).2]
  exact ff1_reference _ _

end Cert.Proof

end
-- ==== Proof.GradMix.lean ====
/- The gradient of a square matrix of the mixers: two grid points, each adds the product of its half of the rows, and the
   second writes the result back. -/
module

public import proofs.«01_k».proof.Defs
public import proofs.«01_k».proof.Proof.GradBase
public import proofs.«01_k».proof.Proof.Gen.KernelMix.Frame
public import proofs.«01_k».proof.Proof.Gen.KernelMixIdeal.Value
public import proofs.«01_k».proof.Proof.Gen.ReferenceMixIdeal.Run
public import Idealize.ShloMosaic.Lib.Pipeline.ValueKit.Geometry
public import Idealize.ShloMosaic.Lib.Pipeline.ValueKit.Point
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.KernelMixIdeal

open Gen Cert.Grad
open Idealize.ShloMosaic.Pipeline (Dat)

/-! ## The two points of a block -/

/-- A block's first point leaves the product of its rows in the accumulator. -/
theorem first_leaves (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole) (hc0 : cond0_0 i) (hc1 : ¬cond0_1 i)
    (x y : Vec Ideal S2048x1024 .bf16) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) at00, View.readCov_unit_zero (S := S1024x1024) _ at00]
  simp only [View.readAt_eq_ld, h3.read_unread, h4.read_unread, View.ld_unit_zero (S := S2048x1024) at00]

/-- Its second point writes back the accumulator, with the product of its own rows added, in the result's format. -/
theorem second_writes (c : Dev nD) (i : grid0.Coords) (a3 : Memref sig .tc .vmem S2048x1024 .bf16) (h3 : a3.IsWhole) (a4 : Memref sig .tc .vmem S2048x1024 .bf16) (h4 : a4.IsWhole)
    (a5 : Memref sig .tc .vmem S1024x1024 .bf16) (h5 : a5.IsWhole) (a6 : Memref sig .tc .vmem S1024x1024 .f32) (h6 : a6.IsWhole) (hc0 : ¬cond0_0 i) (hc1 : cond0_1 i)
    (x y : Vec Ideal S2048x1024 .bf16) (acc : Vec Ideal S1024x1024 .f32) : out0_B_2 c i a3 h3 a4 h4 a5 h5 a6 h6 hc0 hc1 x y acc = k0_pay3 (k0_pay2 acc x y) := by
  unfold out0_B_2
  rw [View.read_writes_eq_canon _ _ _ (cover0_B_2 c i a3 h3 a4 h4 a5 h5 a6 h6 hc0 hc1 x y acc)]
  unfold kernelRun0_B
  dsimp only
  sl_unfold_words
  rw [View.canon_unit_zero (S := S1024x1024) at00, View.readCov_unit_zero (S := S1024x1024) _ at00]
  simp only [View.readAt_eq_ld, h3.read_unread, h4.read_unread, h6.read_unread, View.ld_unit_zero (S := S2048x1024) at00, View.ld_unit_zero (S := S1024x1024) at00]

/-- The block written back, at an index. -/
theorem block_at (x y x' y' : Vec Ideal S2048x1024 .bf16) (r s : Fin 1024) : k0_pay3 (k0_pay2 (k0_pay2 k0_pay1 x y) x' y') (ix2 r s)
    = (∑ k : Fin 2048, x (ix2 k r) * y (ix2 k s)) + ∑ k : Fin 2048, x' (ix2 k r) * y' (ix2 k s) := by
  pointwise [k0_pay3, k0_pay2, k0_pay1]

/-! ## The array -/

variable (m : (ℓ : Loc nD τ sig) → Buf (Elt Ideal) ℓ)

/-- The product of the transposed first array and the second. -/
def prod (a : S4096x1024.Idx → EReal) (b : S4096x1024.Idx → EReal) : S1024x1024.Idx → EReal := fun i => prodAt a b (i 0) (i 1)

theorem at_a : ∀ t : Fin cfg0.N, win0_0.index t = ![t.val % 2, 0] := (by decide +kernel : ∀ t : Fin grid0.N, _)
theorem at_b : ∀ t : Fin cfg0.N, win0_1.index t = ![t.val % 2, 0] := (by decide +kernel : ∀ t : Fin grid0.N, _)
theorem at_o : ∀ t : Fin cfg0.N, win0_2.index t = ![0, 0] := (by decide +kernel : ∀ t : Fin grid0.N, _)

theorem a_at (c : Dev nD) (t : Fin cfg0.N) (k : Fin 2048) (r : Fin 1024) : iblk m c 0 t (ix2 k r)
    = m ((c : Thread nD τ).loc main_arg0) (ix2 ⟨t.val % 2 * 2048 + k, by omega⟩ r) := by
  blk_ext [Gen.iblk, Gen.V, at_a]

theorem b_at (c : Dev nD) (t : Fin cfg0.N) (k : Fin 2048) (s : Fin 1024) : iblk m c 1 t (ix2 k s)
    = m ((c : Thread nD τ).loc main_arg1) (ix2 ⟨t.val % 2 * 2048 + k, by omega⟩ s) := by
  blk_ext [Gen.iblk, Gen.V, at_b]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have hp : t.val - 1 < cfg0.N := Nat.lt_of_le_of_lt (Nat.sub_le _ _) t.isLt
  have hc : (dats m 0 c).after 2 t = k0_pay3 (k0_pay2 (k0_pay2 k0_pay1 (iblk m c 0 ⟨t.val - 1, hp⟩) (iblk m c 1 ⟨t.val - 1, hp⟩)) (iblk m c 0 t) (iblk m c 1 t)) := by
    rw [after0_2, outsAt0_B m c t h0 h1]
    dsimp only
    rw [second_writes, outsAt0_A m c ⟨t.val - 1, hp⟩ (by show (t.val - 1) % 2 = 0; omega) (by show ¬(t.val - 1) % 2 = 1; omega)]
    dsimp only
    rw [first_leaves]
  rw [hc]
  blk_simp
  obtain ⟨r, s, rfl⟩ : ∃ (r s : Fin 1024), y = ix2 r s := ⟨y 0, y 1, by funext a; fin_cases a <;> rfl⟩
  refine (block_at _ _ _ _ r s).trans ?_
  have er : ((cfg0.win 2).blk t).view.emb (ix2 r s) 0 = r := Fin.ext (by blk_simp [at_o])
  have es : ((cfg0.win 2).blk t).view.emb (ix2 r s) 1 = s := Fin.ext (by blk_simp [at_o])
  unfold prod
  rw [er, es]
  refine prodAt_points _ _ _ _ ((t.val - 1) % 2) (t.val % 2) (by omega) h1 _ _ (fun k => ?_) (fun k => ?_)
  · exact congrArg₂ (· * ·) (a_at m c _ k r) (b_at m c _ k s)
  · exact congrArg₂ (· * ·) (a_at m c _ k r) (b_at m c _ k s)

end Cert.KernelMixIdeal

namespace Cert.Proof

open Cert.ReferenceMixIdeal Cert.ReferenceMixIdeal.Gen

/-- What the reference returns is the same product. -/
theorem mix_reference (a : S4096x1024.Idx → Elt Ideal .bf16) (b : S4096x1024.Idx → Elt Ideal .bf16) :
    truncf (F := Ideal) (φ := .f32) .bf16 (transpose S1024x1024 [1, 0] (Host.dotGeneral (F := Ideal) (φ₁ := .f32) (φ₂ := .f32) dot_S4096x1024_S4096x1024_S1024x1024_0_0_1_1_n_n none
      (extf (F := Ideal) (φ := .bf16) .f32 b bitsLt_bf16_f32) (extf (F := Ideal) (φ := .bf16) .f32 a bitsLt_bf16_f32)) transposes_S1024x1024_S1024x1024_1_0) bitsLt_bf16_f32
      = Cert.KernelMixIdeal.prod a b := by
  funext i
  obtain ⟨r, s, rfl⟩ : ∃ (r s : Fin 1024), i = ix2 r s := ⟨i 0, i 1, by funext x; fin_cases x <;> rfl⟩
  pointwise
  exact Finset.sum_congr rfl fun k _ => mul_comm _ _

theorem frame_mix : Cert.quiescent_KernelMix := fun m ρ _ => Cert.KernelMix.Gen.frame m ρ

theorem frame_mix_ideal : Cert.quiescent_KernelMixIdeal := fun m ρ _ => Cert.KernelMixIdeal.Gen.frame m ρ

theorem frame_mix_reference : Cert.quiescent_ReferenceMixIdeal := fun m ρ _ =>
  (θ_run Cert.ReferenceMixIdeal.defs _ _).mono
    (fun r h => ⟨fun c => (h c).2, sem_eq_zero_of_no_sems (by decide) r.2⟩)
    (Cert.ReferenceMixIdeal.Value.run (F := Ideal) m ρ)

theorem algebraic_mix : Cert.algebraic_KernelMixIdeal_ReferenceMixIdeal := by
  intro m g m' g' _ hm
  refine ⟨fun c => Cert.KernelMixIdeal.prod (m ((c : Thread Cert.KernelMixIdeal.nD Cert.KernelMixIdeal.τ).loc Cert.KernelMixIdeal.main_arg0))
      (m ((c : Thread Cert.KernelMixIdeal.nD Cert.KernelMixIdeal.τ).loc Cert.KernelMixIdeal.main_arg1)),
    (θ_run Cert.KernelMixIdeal.defs _ _).mono (fun r h c => ⟨(h c).1.trans (Cert.KernelMixIdeal.final m c), (h c).2⟩) (Cert.KernelMixIdeal.Value.run_blocks m g),
    (θ_run Cert.ReferenceMixIdeal.defs _ _).mono (fun r h c => ⟨(h c).1.trans ?_, (h c).2⟩) (Cert.ReferenceMixIdeal.Value.run m' g')⟩
  rw [(hm c).1, (hm c).2]
  exact mix_reference _ _

end Cert.Proof

end
-- ==== Proof.NormBase.lean ====
/- A row over its root mean square. -/
module

public import Idealize.ShloMosaic.PureOps.Ideal
public import Idealize.ShloMosaic.Lib.Tactic

@[expose] public section

noncomputable section

namespace Cert.Norm

open Idealize.ShloMosaic

/-- The square root's argument: the mean of a row's squares, with the small constant added. -/
def mean (v : Fin 1024 → EReal) : EReal :=
  Ideal.div (∑ k, v k * v k) (Ideal.ofBits FTy.f32 0x44800000#32) + Ideal.ofBits FTy.f32 0x358637BD#32

/-- A row over its root mean square, times the gains. -/
def norm (v g : Fin 1024 → EReal) (s : Fin 1024) : EReal := v s * Ideal.rsqrt (mean v) * g s

end Cert.Norm

end
-- ==== Proof.Up.lean ====
/- The first half of the feed-forward block: a row is normalised, taken through the eight shards of the first matrix, cut off at 0
   and squared; a grid point does 512 rows and stores the shards' columns one by one. -/
module

public import proofs.«01_k».proof.Defs
public import proofs.«01_k».proof.Proof.GradBase
public import proofs.«01_k».proof.Proof.NormBase
public import proofs.«01_k».proof.Proof.Gen.KernelUp.Frame
public import proofs.«01_k».proof.Proof.Gen.KernelUpIdeal.Value
public import proofs.«01_k».proof.Proof.Gen.ReferenceUpIdeal.Run
public import Idealize.ShloMosaic.Lib.Pipeline.ValueKit.Geometry
public import Idealize.ShloMosaic.Lib.Pipeline.ValueKit.Point
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.KernelUpIdeal

open Gen Cert.Grad Cert.Norm
open Idealize.ShloMosaic.Pipeline (Dat)

/-! ## A block -/

/-- A row of the feed-forward block's inner values, before the square: the normalised row through a shard's column, cut off at 0. -/
def up (v g : Fin 1024 → EReal) (w : S8x1024x512.Idx → EReal) (j : Fin 8) (s : Fin 512) : EReal := max (∑ k, norm v g k * w (ix3 j k s)) 0

/-- The shard a column is in, and its place there. -/
def shardOf (c : Fin 4096) : Fin 8 := ⟨c.val / 512, by omega⟩
def placeOf (c : Fin 4096) : Fin 512 := ⟨c.val % 512, by omega⟩

theorem norm_at (x : Vec Ideal S512x1024 .f32) (g : Vec Ideal S1x1024 .f32) (r : Fin 512) (s : Fin 1024) :
    k0_pay4 x g (ix2 r s) = norm (fun k => x (ix2 r k)) (fun k => g (ix2 0 k)) s := by
  pointwise [k0_pay4]
  rfl

theorem up_at (x : Vec Ideal S512x1024 .f32) (g : Vec Ideal S1x1024 .f32) (w : Vec Ideal S1x1024x512 .bf16) (r s : Fin 512) :
    k0_pay6 x g w (ix2 r s) = max (∑ k, norm (fun k => x (ix2 r k)) (fun k => g (ix2 0 k)) k * w (ix3 0 k s)) 0 := by
  pointwise [k0_pay6, k0_pay5]
  simp only [norm_at]

/-- What is left of a block of rows: the inner values, and their squares. -/
def inner (x : Vec Ideal S512x1024 .f32) (g : Vec Ideal S1x1024 .f32) (w : Vec Ideal S8x1024x512 .bf16) : Vec Ideal S512x4096 .bf16 := fun y =>
  up (fun k => x (ix2 (y 0) k)) (fun k => g (ix2 0 k)) w (shardOf (y 1)) (placeOf (y 1))
def squares (x : Vec Ideal S512x1024 .f32) (g : Vec Ideal S1x1024 .f32) (w : Vec Ideal S8x1024x512 .bf16) : Vec Ideal S512x4096 .bf16 := fun y =>
  (inner x g w y * inner x g w y : EReal)

/-- A shard's columns of the block. -/
theorem piece_at (x : Vec Ideal S512x1024 .f32) (g : Vec Ideal S1x1024 .f32) (w : Vec Ideal S8x1024x512 .bf16) (w' : Vec Ideal S1x1024x512 .bf16) (j : Fin 8)
    (hw : ∀ k s, w' (ix3 0 k s) = w (ix3 j k s)) (u : S512x512.Idx) (y : S512x4096.Idx) (h0 : (y 0).val = (u 0).val) (h1 : (y 1).val = 512 * j.val + (u 1).val) :
    k0_pay6 x g w' u = inner x g w y := by
  obtain ⟨r, s, rfl⟩ : ∃ r s : Fin 512, u = ix2 r s := ⟨u 0, u 1, by funext a; fin_cases a <;> rfl⟩
  have h1' : (y 1).val = 512 * j.val + s.val := h1
  have e0 : y 0 = r := Fin.ext h0
  have e1 : shardOf (y 1) = j := Fin.ext (by show (y 1).val / 512 = j.val; omega)
  have e2 : placeOf (y 1) = s := Fin.ext (by show (y 1).val % 512 = s.val; omega)
  unfold inner
  rw [e0, e1, e2]
  refine (up_at x g w' r s).trans ?_
  simp only [hw]
  rfl

theorem square_at (x : Vec Ideal S512x1024 .f32) (g : Vec Ideal S1x1024 .f32) (w : Vec Ideal S1x1024x512 .bf16) (u : S512x512.Idx) :
    k0_pay7 x g w u = (k0_pay6 x g w u * k0_pay6 x g w u : EReal) := rfl

theorem shard_at (w : Vec Ideal S8x1024x512 .bf16) (j : Fin 8) (o : Fin 3 → ℕ) (h : ∀ a, o a + S1x1024x512.size a ≤ S8x1024x512.size a) (ho : o = ![j.val, 0, 0]) (k : Fin 1024) (s : Fin 512) :
    View.ld w (Rect.unit (s := S8x1024x512) o S1x1024x512.size h) (ix3 0 k s) = w (ix3 j k s) := by
  subst ho
  refine congrArg w (funext fun a => Fin.ext ?_)
  fin_cases a
  · show j.val + 1 * 0 = j.val; omega
  · show 0 + 1 * k.val = k.val; omega
  · show 0 + 1 * s.val = s.val; omega

/-! The eight pieces of either result are one function of their shards. -/

theorem same4_7 (x : Vec Ideal S512x1024 .f32) (g : Vec Ideal S1x1024 .f32) (w : Vec Ideal S1x1024x512 .bf16) : k0_pay2 (k0_pay4 x g) (k0_pay28 w) (constant S512x512 .f32 0x00000000#32) = k0_pay6 x g w := rfl
theorem same4_6 (x : Vec Ideal S512x1024 .f32) (g : Vec Ideal S1x1024 .f32) (w : Vec Ideal S1x1024x512 .bf16) : k0_pay26 (k0_pay4 x g) w = k0_pay6 x g w := rfl
theorem same4_5 (x : Vec Ideal S512x1024 .f32) (g : Vec Ideal S1x1024 .f32) (w : Vec Ideal S1x1024x512 .bf16) : k0_pay23 (k0_pay4 x g) w = k0_pay6 x g w := rfl
theorem same4_4 (x : Vec Ideal S512x1024 .f32) (g : Vec Ideal S1x1024 .f32) (w : Vec Ideal S1x1024x512 .bf16) : k0_pay20 (k0_pay17 (k0_pay4 x g) w) k0_pay18 = k0_pay6 x g w := rfl
theorem same4_3 (x : Vec Ideal S512x1024 .f32) (g : Vec Ideal S1x1024 .f32) (w : Vec Ideal S1x1024x512 .bf16) : k0_pay15 (k0_pay4 x g) w = k0_pay6 x g w := rfl
theorem same4_2 (x : Vec Ideal S512x1024 .f32) (g : Vec Ideal S1x1024 .f32) (w : Vec Ideal S1x1024x512 .bf16) : k0_pay12 (k0_pay4 x g) w = k0_pay6 x g w := rfl
theorem same4_1 (x : Vec Ideal S512x1024 .f32) (g : Vec Ideal S1x1024 .f32) (w : Vec Ideal S1x1024x512 .bf16) : k0_pay9 x g w = k0_pay6 x g w := rfl

theorem pieces4 (x : Vec Ideal S512x1024 .f32) (g : Vec Ideal S1x1024 .f32) (w : Vec Ideal S8x1024x512 .bf16) : out0_4 x g w = View.canon [⟨r0_17, k0_pay6 x g (View.ld w r0_16)⟩,
      ⟨r0_15, k0_pay6 x g (View.ld w r0_14)⟩,
      ⟨r0_13, k0_pay6 x g (View.ld w r0_12)⟩,
      ⟨r0_11, k0_pay6 x g (View.ld w r0_10)⟩,
      ⟨r0_9, k0_pay6 x g (View.ld w r0_8)⟩,
      ⟨r0_7, k0_pay6 x g (View.ld w r0_6)⟩,
      ⟨r0_5, k0_pay6 x g (View.ld w r0_4)⟩,
      ⟨r0_3, k0_pay6 x g (View.ld w r0_2)⟩] := by
  unfold out0_4 k0_pay33 k0_pay32 k0_pay31 k0_pay30 k0_pay29
  simp only [View.ld_unit_zero (S := S512x1024) at00, View.ld_unit_zero (S := S1x1024) at00, same4_7, same4_6, same4_5, same4_4, same4_3, same4_2, same4_1]

theorem same5_7 (x : Vec Ideal S512x1024 .f32) (g : Vec Ideal S1x1024 .f32) (w : Vec Ideal S1x1024x512 .bf16) : k0_pay3 (k0_pay4 x g) (k0_pay28 w) (constant S512x512 .f32 0x00000000#32) = k0_pay7 x g w := rfl
theorem same5_6 (x : Vec Ideal S512x1024 .f32) (g : Vec Ideal S1x1024 .f32) (w : Vec Ideal S1x1024x512 .bf16) : k0_pay27 (k0_pay4 x g) w = k0_pay7 x g w := rfl
theorem same5_5 (x : Vec Ideal S512x1024 .f32) (g : Vec Ideal S1x1024 .f32) (w : Vec Ideal S1x1024x512 .bf16) : k0_pay24 (k0_pay4 x g) w = k0_pay7 x g w := rfl
theorem same5_4 (x : Vec Ideal S512x1024 .f32) (g : Vec Ideal S1x1024 .f32) (w : Vec Ideal S1x1024x512 .bf16) : k0_pay21 (k0_pay17 (k0_pay4 x g) w) k0_pay18 = k0_pay7 x g w := rfl
theorem same5_3 (x : Vec Ideal S512x1024 .f32) (g : Vec Ideal S1x1024 .f32) (w : Vec Ideal S1x1024x512 .bf16) : k0_pay16 (k0_pay4 x g) w = k0_pay7 x g w := rfl
theorem same5_2 (x : Vec Ideal S512x1024 .f32) (g : Vec Ideal S1x1024 .f32) (w : Vec Ideal S1x1024x512 .bf16) : k0_pay13 (k0_pay4 x g) w = k0_pay7 x g w := rfl
theorem same5_1 (x : Vec Ideal S512x1024 .f32) (g : Vec Ideal S1x1024 .f32) (w : Vec Ideal S1x1024x512 .bf16) : k0_pay10 (k0_pay8 x g w) = k0_pay7 x g w := rfl

theorem pieces5 (x : Vec Ideal S512x1024 .f32) (g : Vec Ideal S1x1024 .f32) (w : Vec Ideal S8x1024x512 .bf16) : out0_5 x g w = View.canon [⟨r0_17, k0_pay7 x g (View.ld w r0_16)⟩,
      ⟨r0_15, k0_pay7 x g (View.ld w r0_14)⟩,
      ⟨r0_13, k0_pay7 x g (View.ld w r0_12)⟩,
      ⟨r0_11, k0_pay7 x g (View.ld w r0_10)⟩,
      ⟨r0_9, k0_pay7 x g (View.ld w r0_8)⟩,
      ⟨r0_7, k0_pay7 x g (View.ld w r0_6)⟩,
      ⟨r0_5, k0_pay7 x g (View.ld w r0_4)⟩,
      ⟨r0_3, k0_pay7 x g (View.ld w r0_2)⟩] := by
  unfold out0_5 k0_pay33 k0_pay32 k0_pay31 k0_pay30 k0_pay29
  simp only [View.ld_unit_zero (S := S512x1024) at00, View.ld_unit_zero (S := S1x1024) at00, same5_7, same5_6, same5_5, same5_4, same5_3, same5_2, same5_1]

theorem inner_left (x : Vec Ideal S512x1024 .f32) (g : Vec Ideal S1x1024 .f32) (w : Vec Ideal S8x1024x512 .bf16) : out0_4 x g w = inner x g w := by
  rw [pieces4]
  refine funext fun j => ?_
  refine View.canon_apply_of_pieces (inner x g w) _ ?_ j (cover0_4 _ _ _ _ _ _ _ _ j)
  intro p hp u
  simp only [List.mem_cons, List.not_mem_nil, or_false] at hp
  rcases hp with rfl | rfl | rfl | rfl | rfl | rfl | rfl | rfl
  · exact piece_at x g w (View.ld w r0_16) 7 (shard_at w 7 _ _ rfl) u (r0_17.idx u) (by show 0 + 1 * (u 0).val = (u 0).val; omega) (by show 3584 + 1 * (u 1).val = 512 * 7 + (u 1).val; omega)
  · exact piece_at x g w (View.ld w r0_14) 6 (shard_at w 6 _ _ rfl) u (r0_15.idx u) (by show 0 + 1 * (u 0).val = (u 0).val; omega) (by show 3072 + 1 * (u 1).val = 512 * 6 + (u 1).val; omega)
  · exact piece_at x g w (View.ld w r0_12) 5 (shard_at w 5 _ _ rfl) u (r0_13.idx u) (by show 0 + 1 * (u 0).val = (u 0).val; omega) (by show 2560 + 1 * (u 1).val = 512 * 5 + (u 1).val; omega)
  · exact piece_at x g w (View.ld w r0_10) 4 (shard_at w 4 _ _ rfl) u (r0_11.idx u) (by show 0 + 1 * (u 0).val = (u 0).val; omega) (by show 2048 + 1 * (u 1).val = 512 * 4 + (u 1).val; omega)
  · exact piece_at x g w (View.ld w r0_8) 3 (shard_at w 3 _ _ rfl) u (r0_9.idx u) (by show 0 + 1 * (u 0).val = (u 0).val; omega) (by show 1536 + 1 * (u 1).val = 512 * 3 + (u 1).val; omega)
  · exact piece_at x g w (View.ld w r0_6) 2 (shard_at w 2 _ _ rfl) u (r0_7.idx u) (by show 0 + 1 * (u 0).val = (u 0).val; omega) (by show 1024 + 1 * (u 1).val = 512 * 2 + (u 1).val; omega)
  · exact piece_at x g w (View.ld w r0_4) 1 (shard_at w 1 _ _ rfl) u (r0_5.idx u) (by show 0 + 1 * (u 0).val = (u 0).val; omega) (by show 512 + 1 * (u 1).val = 512 * 1 + (u 1).val; omega)
  · exact piece_at x g w (View.ld w r0_2) 0 (shard_at w 0 _ _ rfl) u (r0_3.idx u) (by show 0 + 1 * (u 0).val = (u 0).val; omega) (by show 0 + 1 * (u 1).val = 512 * 0 + (u 1).val; omega)

/-- The square of a piece. -/
theorem squares_of {x : Vec Ideal S512x1024 .f32} {g : Vec Ideal S1x1024 .f32} {w : Vec Ideal S8x1024x512 .bf16} {w' : Vec Ideal S1x1024x512 .bf16} {u : S512x512.Idx} {y : S512x4096.Idx}
    (h : k0_pay6 x g w' u = inner x g w y) : k0_pay7 x g w' u = squares x g w y := by
  rw [square_at, h]
  rfl

theorem squares_left (x : Vec Ideal S512x1024 .f32) (g : Vec Ideal S1x1024 .f32) (w : Vec Ideal S8x1024x512 .bf16) : out0_5 x g w = squares x g w := by
  rw [pieces5]
  refine funext fun j => ?_
  refine View.canon_apply_of_pieces (squares x g w) _ ?_ j (cover0_5 _ _ _ _ _ _ _ _ j)
  intro p hp u
  simp only [List.mem_cons, List.not_mem_nil, or_false] at hp
  rcases hp with rfl | rfl | rfl | rfl | rfl | rfl | rfl | rfl
  · exact squares_of (piece_at x g w (View.ld w r0_16) 7 (shard_at w 7 _ _ rfl) u (r0_17.idx u) (by show 0 + 1 * (u 0).val = (u 0).val; omega) (by show 3584 + 1 * (u 1).val = 512 * 7 + (u 1).val; omega))
  · exact squares_of (piece_at x g w (View.ld w r0_14) 6 (shard_at w 6 _ _ rfl) u (r0_15.idx u) (by show 0 + 1 * (u 0).val = (u 0).val; omega) (by show 3072 + 1 * (u 1).val = 512 * 6 + (u 1).val; omega))
  · exact squares_of (piece_at x g w (View.ld w r0_12) 5 (shard_at w 5 _ _ rfl) u (r0_13.idx u) (by show 0 + 1 * (u 0).val = (u 0).val; omega) (by show 2560 + 1 * (u 1).val = 512 * 5 + (u 1).val; omega))
  · exact squares_of (piece_at x g w (View.ld w r0_10) 4 (shard_at w 4 _ _ rfl) u (r0_11.idx u) (by show 0 + 1 * (u 0).val = (u 0).val; omega) (by show 2048 + 1 * (u 1).val = 512 * 4 + (u 1).val; omega))
  · exact squares_of (piece_at x g w (View.ld w r0_8) 3 (shard_at w 3 _ _ rfl) u (r0_9.idx u) (by show 0 + 1 * (u 0).val = (u 0).val; omega) (by show 1536 + 1 * (u 1).val = 512 * 3 + (u 1).val; omega))
  · exact squares_of (piece_at x g w (View.ld w r0_6) 2 (shard_at w 2 _ _ rfl) u (r0_7.idx u) (by show 0 + 1 * (u 0).val = (u 0).val; omega) (by show 1024 + 1 * (u 1).val = 512 * 2 + (u 1).val; omega))
  · exact squares_of (piece_at x g w (View.ld w r0_4) 1 (shard_at w 1 _ _ rfl) u (r0_5.idx u) (by show 0 + 1 * (u 0).val = (u 0).val; omega) (by show 512 + 1 * (u 1).val = 512 * 1 + (u 1).val; omega))
  · exact squares_of (piece_at x g w (View.ld w r0_2) 0 (shard_at w 0 _ _ rfl) u (r0_3.idx u) (by show 0 + 1 * (u 0).val = (u 0).val; omega) (by show 0 + 1 * (u 1).val = 512 * 0 + (u 1).val; omega))

theorem norms_left (x : Vec Ideal S512x1024 .f32) (g : Vec Ideal S1x1024 .f32) (w : Vec Ideal S8x1024x512 .bf16) : out0_3 x g w = k0_pay4 x g := by
  unfold out0_3
  rw [View.canon_unit_zero (S := S512x1024) at00, View.ld_unit_zero (S := S512x1024) at00, View.ld_unit_zero (S := S1x1024) at00]

/-! ## The arrays -/

variable (m : (ℓ : Loc nD τ sig) → Buf (Elt Ideal) ℓ)

/-- The three results over whole arrays. -/
def norms (x : S4096x1024.Idx → EReal) (g : S1x1024.Idx → EReal) : S4096x1024.Idx → EReal := fun i =>
  norm (fun k => x (ix2 (i 0) k)) (fun k => g (ix2 0 k)) (i 1)
def inners (x : S4096x1024.Idx → EReal) (g : S1x1024.Idx → EReal) (w : S8x1024x512.Idx → EReal) : S4096x4096.Idx → EReal := fun i =>
  up (fun k => x (ix2 (i 0) k)) (fun k => g (ix2 0 k)) w (shardOf (i 1)) (placeOf (i 1))
def acts (x : S4096x1024.Idx → EReal) (g : S1x1024.Idx → EReal) (w : S8x1024x512.Idx → EReal) : S4096x4096.Idx → EReal := fun i =>
  inners x g w i * inners x g w i

theorem at_x : ∀ t : Fin cfg0.N, win0_0.index t = ![t.val, 0] := (by decide +kernel : ∀ t : Fin grid0.N, _)
theorem at_g : ∀ t : Fin cfg0.N, win0_1.index t = ![0, 0] := (by decide +kernel : ∀ t : Fin grid0.N, _)
theorem at_w : ∀ t : Fin cfg0.N, win0_2.index t = ![0, 0, 0] := (by decide +kernel : ∀ t : Fin grid0.N, _)
theorem at_h : ∀ t : Fin cfg0.N, win0_3.index t = ![t.val, 0] := (by decide +kernel : ∀ t : Fin grid0.N, _)
theorem at_r : ∀ t : Fin cfg0.N, win0_4.index t = ![t.val, 0] := (by decide +kernel : ∀ t : Fin grid0.N, _)
theorem at_a : ∀ t : Fin cfg0.N, win0_5.index t = ![t.val, 0] := (by decide +kernel : ∀ t : Fin grid0.N, _)

theorem x_at (c : Dev nD) (t : Fin cfg0.N) (r : Fin 512) (k : Fin 1024) : iblk m c 0 t (ix2 r k)
    = m ((c : Thread nD τ).loc main_arg0) (ix2 ⟨t.val * 512 + r, by have h : t.val < 8 := t.isLt; omega⟩ k) := by
  blk_ext [Gen.iblk, Gen.V, at_x]

theorem g_at (c : Dev nD) (t : Fin cfg0.N) (k : Fin 1024) : iblk m c 1 t (ix2 0 k) = m ((c : Thread nD τ).loc main_arg1) (ix2 0 k) := by
  blk_ext [Gen.iblk, Gen.V, at_g]

theorem w_at (c : Dev nD) (t : Fin cfg0.N) (j : Fin 8) (k : Fin 1024) (s : Fin 512) : iblk m c 2 t (ix3 j k s) = m ((c : Thread nD τ).loc main_arg2) (ix3 j k s) := by
  blk_ext [Gen.iblk, Gen.V, at_w]

theorem norms_final (c : Dev nD) : (dats m 0 c).arrAt 3 cfg0.N = norms (m ((c : Thread nD τ).loc main_arg0)) (m ((c : Thread nD τ).loc main_arg1)) := by
  refine (dats m 0 c).arrAt_eq_of_covers 3 _ (by decide +kernel) fun t hf y => ?_
  rw [after0_3, norms_left]
  blk_simp
  obtain ⟨r, s, rfl⟩ : ∃ (r : Fin 512) (s : Fin 1024), y = ix2 r s := ⟨y 0, y 1, by funext a; fin_cases a <;> rfl⟩
  refine (norm_at _ _ r s).trans ?_
  have hb : t.val * 512 + r.val < 4096 := by have h : t.val < 8 := t.isLt; omega
  have e0 : ((cfg0.win 3).blk t).view.emb (ix2 r s) 0 = (⟨t.val * 512 + r.val, hb⟩ : Fin 4096) := Fin.ext (by blk_simp [at_h])
  have e1 : ((cfg0.win 3).blk t).view.emb (ix2 r s) 1 = s := Fin.ext (by blk_simp [at_h])
  unfold norms
  rw [e0, e1]
  simp only [x_at, g_at]

theorem inners_at (c : Dev nD) (t : Fin cfg0.N) (r : Fin 512) (s : Fin 4096) (i : S4096x4096.Idx) (h0 : (i 0).val = t.val * 512 + r) (h1 : i 1 = s) :
    inner (iblk m c 0 t) (iblk m c 1 t) (iblk m c 2 t) (ix2 r s)
      = inners (m ((c : Thread nD τ).loc main_arg0)) (m ((c : Thread nD τ).loc main_arg1)) (m ((c : Thread nD τ).loc main_arg2)) i := by
  have e0 : i 0 = ⟨t.val * 512 + r, by have h : t.val < 8 := t.isLt; omega⟩ := Fin.ext h0
  show up (fun k => iblk m c 0 t (ix2 r k)) (fun k => iblk m c 1 t (ix2 0 k)) (iblk m c 2 t) (shardOf s) (placeOf s) = _
  unfold inners up
  rw [e0, h1]
  simp only [x_at, g_at, w_at]
  rfl

theorem inners_final (c : Dev nD) : (dats m 0 c).arrAt 4 cfg0.N
    = inners (m ((c : Thread nD τ).loc main_arg0)) (m ((c : Thread nD τ).loc main_arg1)) (m ((c : Thread nD τ).loc main_arg2)) := by
  refine (dats m 0 c).arrAt_eq_of_covers 4 _ (by decide +kernel) fun t hf y => ?_
  rw [after0_4, inner_left]
  blk_simp
  obtain ⟨r, s, rfl⟩ : ∃ (r : Fin 512) (s : Fin 4096), y = ix2 r s := ⟨y 0, y 1, by funext a; fin_cases a <;> rfl⟩
  exact inners_at m c t r s _ (by blk_simp [at_r]) (Fin.ext (by blk_simp [at_r]))

theorem acts_final (c : Dev nD) : (dats m 0 c).arrAt 5 cfg0.N
    = acts (m ((c : Thread nD τ).loc main_arg0)) (m ((c : Thread nD τ).loc main_arg1)) (m ((c : Thread nD τ).loc main_arg2)) := by
  refine (dats m 0 c).arrAt_eq_of_covers 5 _ (by decide +kernel) fun t hf y => ?_
  rw [after0_5, squares_left]
  blk_simp
  obtain ⟨r, s, rfl⟩ : ∃ (r : Fin 512) (s : Fin 4096), y = ix2 r s := ⟨y 0, y 1, by funext a; fin_cases a <;> rfl⟩
  have e := inners_at m c t r s (((cfg0.win 5).blk t).view.emb (ix2 r s)) (by blk_simp [at_a]) (Fin.ext (by blk_simp [at_a]))
  exact congrArg₂ (· * ·) e e

end Cert.KernelUpIdeal

namespace Cert.Proof

open Cert.ReferenceUpIdeal Cert.ReferenceUpIdeal.Gen

theorem frame_up : Cert.quiescent_KernelUp := fun m ρ _ => Cert.KernelUp.Gen.frame m ρ

theorem frame_up_ideal : Cert.quiescent_KernelUpIdeal := fun m ρ _ => Cert.KernelUpIdeal.Gen.frame m ρ

theorem frame_up_reference : Cert.quiescent_ReferenceUpIdeal := fun m ρ _ =>
  (θ_run Cert.ReferenceUpIdeal.defs _ _).mono
    (fun r h => ⟨fun c => (h c).2.2.2, sem_eq_zero_of_no_sems (by decide) r.2⟩)
    (Cert.ReferenceUpIdeal.Value.run (F := Ideal) m ρ)

/-! ## The reference -/

/-- The reference's normalised rows and inner values. -/
abbrev refNorm (x : FVec Ideal S4096x1024 .f32) (g : FVec Ideal S1x1024 .f32) : FVec Ideal S4096x1024 .f32 :=
  mulf (F := Ideal) (φ := .f32) (mulf x (broadcastInDim S4096x1024 ![0, 1] bcast_S4096x1_S4096x1024_0_1 (Host.rsqrt (addf (Host.divf (broadcastInDim S4096x1 ![0] bcast_S4096_S4096x1_0
    (Host.reduceAdd (mulf x x) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32)))))) (broadcastInDim S4096x1024 ![0, 1] bcast_S1x1024_S4096x1024_0_1 g)

theorem refNorm_at (x : FVec Ideal S4096x1024 .f32) (g : FVec Ideal S1x1024 .f32) (i : Fin 4096) (s : Fin 1024) :
    refNorm x g (ix2 i s) = Cert.Norm.norm (fun k => x (ix2 i k)) (fun k => g (ix2 0 k)) s := by
  pointwise
  rfl

abbrev refInner (x : FVec Ideal S4096x1024 .f32) (g : FVec Ideal S1x1024 .f32) (w : FVec Ideal S8x1024x512 .bf16) : FVec Ideal S4096x4096 .f32 :=
  maximumf (F := Ideal) (φ := .f32) (Host.dotGeneral (F := Ideal) (φ₁ := .f32) (φ₂ := .f32) dot_S4096x1024_S1024x4096_S4096x4096_1_0_0_1_n_n none (refNorm x g)
    (shapeCast _ (transpose S1024x8x512 [1, 0, 2] (extf (F := Ideal) (φ := .bf16) .f32 w bitsLt_bf16_f32) transposes_S8x1024x512_S1024x8x512_1_0_2) shapeCasts_S1024x8x512_S1024x4096))
    (broadcastInDim S4096x4096 ![] bcast_S_S4096x4096 (constant S_ .f32 0x00000000#32))

theorem refInner_at (x : FVec Ideal S4096x1024 .f32) (g : FVec Ideal S1x1024 .f32) (w : FVec Ideal S8x1024x512 .bf16) (i c : Fin 4096) :
    refInner x g w (ix2 i c) = Cert.KernelUpIdeal.up (fun k => x (ix2 i k)) (fun k => g (ix2 0 k)) w (Cert.KernelUpIdeal.shardOf c) (Cert.KernelUpIdeal.placeOf c) := by
  unfold refInner
  generalize hn : refNorm x g = n
  pointwise
  subst hn
  simp only [refNorm_at]
  rfl

theorem algebraic_up : Cert.algebraic_KernelUpIdeal_ReferenceUpIdeal := by
  intro m g m' g' _ hm
  refine ⟨fun c => Cert.KernelUpIdeal.norms (m ((c : Thread Cert.KernelUpIdeal.nD Cert.KernelUpIdeal.τ).loc Cert.KernelUpIdeal.main_arg0))
      (m ((c : Thread Cert.KernelUpIdeal.nD Cert.KernelUpIdeal.τ).loc Cert.KernelUpIdeal.main_arg1)),
    fun c => Cert.KernelUpIdeal.inners (m ((c : Thread Cert.KernelUpIdeal.nD Cert.KernelUpIdeal.τ).loc Cert.KernelUpIdeal.main_arg0))
      (m ((c : Thread Cert.KernelUpIdeal.nD Cert.KernelUpIdeal.τ).loc Cert.KernelUpIdeal.main_arg1)) (m ((c : Thread Cert.KernelUpIdeal.nD Cert.KernelUpIdeal.τ).loc Cert.KernelUpIdeal.main_arg2)),
    fun c => Cert.KernelUpIdeal.acts (m ((c : Thread Cert.KernelUpIdeal.nD Cert.KernelUpIdeal.τ).loc Cert.KernelUpIdeal.main_arg0))
      (m ((c : Thread Cert.KernelUpIdeal.nD Cert.KernelUpIdeal.τ).loc Cert.KernelUpIdeal.main_arg1)) (m ((c : Thread Cert.KernelUpIdeal.nD Cert.KernelUpIdeal.τ).loc Cert.KernelUpIdeal.main_arg2)),
    (θ_run Cert.KernelUpIdeal.defs _ _).mono (fun r h c => ⟨(h c).1.trans (Cert.KernelUpIdeal.norms_final m c), (h c).2.1.trans (Cert.KernelUpIdeal.inners_final m c),
      (h c).2.2.1.trans (Cert.KernelUpIdeal.acts_final m c), (h c).2.2.2⟩) (Cert.KernelUpIdeal.Value.run_blocks m g),
    (θ_run Cert.ReferenceUpIdeal.defs _ _).mono (fun r h c => ⟨(h c).1.trans ?_, (h c).2.1.trans ?_, (h c).2.2.1.trans ?_, (h c).2.2.2⟩) (Cert.ReferenceUpIdeal.Value.run m' g')⟩
  all_goals
    rw [(hm c).1, (hm c).2.1]
    try rw [(hm c).2.2]
    funext i
    obtain ⟨i, s, rfl⟩ : ∃ (a : Fin _) (b : Fin _), i = ix2 a b := ⟨i 0, i 1, by funext x; fin_cases x <;> rfl⟩
  · exact refNorm_at _ _ i s
  · exact refInner_at _ _ _ i s
  · exact congrArg₂ (· * ·) (refInner_at _ _ _ i s) (refInner_at _ _ _ i s)

end Cert.Proof

end
-- ==== Proof.Down.lean ====
/- The second matrix of the feed-forward block, its residual and norm, and the error against the target with its squares
   summed; a grid point does 512 rows, and the sum of squares runs through the grid. -/
module

public import proofs.«01_k».proof.Defs
public import proofs.«01_k».proof.Proof.GradBase
public import proofs.«01_k».proof.Proof.NormBase
public import proofs.«01_k».proof.Proof.Gen.KernelDown.Frame
public import proofs.«01_k».proof.Proof.Gen.KernelDownIdeal.Value
public import proofs.«01_k».proof.Proof.Gen.ReferenceDownIdeal.Run
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.KernelDownIdeal

open Gen Cert.Grad Cert.Norm
open Idealize.ShloMosaic.Pipeline (Dat)
/-! ## A row -/

/-- A row through the matrix. -/
def down (v : Fin 4096 → EReal) (w : S4096x1024.Idx → EReal) (s : Fin 1024) : EReal := ∑ k, v k * w (ix2 k s)

/-- The error of a row: its input and the normalised row added, less the target. -/
def err (a : Fin 4096 → EReal) (x y : Fin 1024 → EReal) (w : S4096x1024.Idx → EReal) (g : S1x1024.Idx → EReal) (s : Fin 1024) : EReal :=
  x s + norm (down a w) (fun k => g (ix2 0 k)) s - y s

/-! ## A block -/

section
variable (a : Vec Ideal S512x4096 .bf16) (x y : Vec Ideal S512x1024 .f32) (w : Vec Ideal S4096x1024 .bf16) (g : Vec Ideal S1x1024 .f32)

theorem down_at (r : Fin 512) (s : Fin 1024) : k0_pay2 a w (ix2 r s) = down (fun k => a (ix2 r k)) w s := by
  pointwise [k0_pay2]
  rfl

theorem err_at (r : Fin 512) (s : Fin 1024) : k0_pay3 a w x g y (ix2 r s)
    = err (fun k => a (ix2 r k)) (fun k => x (ix2 r k)) (fun k => y (ix2 r k)) w g s := by
  pointwise [k0_pay3, k0_pay2]
  rfl

theorem grad_at (r : Fin 512) (s : Fin 1024) : k0_pay4 a w x g y (ix2 r s)
    = (err (fun k => a (ix2 r k)) (fun k => x (ix2 r k)) (fun k => y (ix2 r k)) w g s * Ideal.ofBits FTy.f32 0x3A800000#32 : EReal) := by
  pointwise [k0_pay4]
  rw [err_at]

/-- The sum of a block's squares. -/
theorem squares_eq : k0_pay5 a w x g y = (∑ r : Fin 512, ∑ s : Fin 1024, err (fun k => a (ix2 r k)) (fun k => x (ix2 r k)) (fun k => y (ix2 r k)) w g s
    * err (fun k => a (ix2 r k)) (fun k => x (ix2 r k)) (fun k => y (ix2 r k)) w g s : EReal) := by
  pointwise [k0_pay5]
  simp only [err_at]
end

theorem zeros_at (r : Fin 8) (s : Fin 128) : k0_pay6 (F := Ideal) (ix2 r s) = (0 : EReal) := by
  pointwise [k0_pay6]

theorem gain_at (v : Ideal .f32) (acc : Vec Ideal S8x128 .f32) (r : Fin 8) (s : Fin 128) : k0_pay1 v acc (ix2 r s) = (acc (ix2 r s) + v : EReal) := by
  pointwise [k0_pay1]

/-! ## What a point leaves -/

section
variable (c : Dev nD) (i : grid0.Coords) (a1 : Memref sig .tc .vmem S512x4096 .bf16) (h1 : a1.IsWhole) (a2 : Memref sig .tc .vmem S512x1024 .f32) (h2 : a2.IsWhole) (a3 : Memref sig .tc .vmem S512x1024 .f32) (h3 : a3.IsWhole) (a4 : Memref sig .tc .vmem S4096x1024 .bf16) (h4 : a4.IsWhole) (a5 : Memref sig .tc .vmem S1x1024 .f32) (h5 : a5.IsWhole) (a6 : Memref sig .tc .vmem S512x1024 .f32) (h6 : a6.IsWhole) (a7 : Memref sig .tc .vmem S512x1024 .f32) (h7 : a7.IsWhole) (a8 : Memref sig .tc .vmem S8x128 .f32) (h8 : a8.IsWhole)
    (x0 : Vec Ideal S512x4096 .bf16) (x1 x2 : Vec Ideal S512x1024 .f32) (x3 : Vec Ideal S4096x1024 .bf16) (x4 : Vec Ideal S1x1024 .f32)

theorem first_down (hc : cond0_0 i) : out0_A_5 c i a1 h1 a2 h2 a3 h3 a4 h4 a5 h5 a6 h6 a7 h7 a8 h8 hc x0 x1 x2 x3 x4 = k0_pay2 x0 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero (S := S512x1024) at00]
  simp only [View.readAt_eq_ld, h1.read_unread, h2.read_unread, h3.read_unread, h4.read_unread, h5.read_unread, h8.read_unread, View.ld_unit_zero (S := S512x4096) at00, View.ld_unit_zero (S := S512x1024) at00, View.ld_unit_zero (S := S4096x1024) at00, View.ld_unit_zero (S := S1x1024) at00, View.ld_unit_zero (S := S8x128) at00]

theorem first_grad (hc : cond0_0 i) : out0_A_6 c i a1 h1 a2 h2 a3 h3 a4 h4 a5 h5 a6 h6 a7 h7 a8 h8 hc x0 x1 x2 x3 x4 = k0_pay4 x0 x3 x1 x4 x2 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_unit_zero (S := S512x1024) at00]
  simp only [View.readAt_eq_ld, h1.read_unread, h2.read_unread, h3.read_unread, h4.read_unread, h5.read_unread, h8.read_unread, View.ld_unit_zero (S := S512x4096) at00, View.ld_unit_zero (S := S512x1024) at00, View.ld_unit_zero (S := S4096x1024) at00, View.ld_unit_zero (S := S1x1024) at00, View.ld_unit_zero (S := S8x128) at00]

theorem first_loss (hc : cond0_0 i) : out0_A_7 c i a1 h1 a2 h2 a3 h3 a4 h4 a5 h5 a6 h6 a7 h7 a8 h8 hc x0 x1 x2 x3 x4 = k0_pay1 (k0_pay5 x0 x3 x1 x4 x2) (k0_pay6 (F := Ideal)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S8x128) at00, View.readCov_unit_zero (S := S8x128) _ at00]
  simp only [View.readAt_eq_ld, h1.read_unread, h2.read_unread, h3.read_unread, h4.read_unread, h5.read_unread, h8.read_unread, View.ld_unit_zero (S := S512x4096) at00, View.ld_unit_zero (S := S512x1024) at00, View.ld_unit_zero (S := S4096x1024) at00, View.ld_unit_zero (S := S1x1024) at00, View.ld_unit_zero (S := S8x128) at00]

theorem next_down (hc : ¬cond0_0 i) (acc : Vec Ideal S8x128 .f32) : out0_B_5 c i a1 h1 a2 h2 a3 h3 a4 h4 a5 h5 a6 h6 a7 h7 a8 h8 hc x0 x1 x2 x3 x4 acc = k0_pay2 x0 x3 := by
  unfold out0_B_5
  rw [View.read_writes_eq_canon _ _ _ (cover0_B_5 c i a1 h1 a2 h2 a3 h3 a4 h4 a5 h5 a6 h6 a7 h7 a8 h8 hc x0 x1 x2 x3 x4 acc)]
  unfold kernelRun0_B
  dsimp only
  sl_unfold_words
  rw [View.canon_unit_zero (S := S512x1024) at00]
  simp only [View.readAt_eq_ld, h1.read_unread, h2.read_unread, h3.read_unread, h4.read_unread, h5.read_unread, h8.read_unread, View.ld_unit_zero (S := S512x4096) at00, View.ld_unit_zero (S := S512x1024) at00, View.ld_unit_zero (S := S4096x1024) at00, View.ld_unit_zero (S := S1x1024) at00, View.ld_unit_zero (S := S8x128) at00]

theorem next_grad (hc : ¬cond0_0 i) (acc : Vec Ideal S8x128 .f32) : out0_B_6 c i a1 h1 a2 h2 a3 h3 a4 h4 a5 h5 a6 h6 a7 h7 a8 h8 hc x0 x1 x2 x3 x4 acc = k0_pay4 x0 x3 x1 x4 x2 := by
  unfold out0_B_6
  rw [View.read_writes_eq_canon _ _ _ (cover0_B_6 c i a1 h1 a2 h2 a3 h3 a4 h4 a5 h5 a6 h6 a7 h7 a8 h8 hc x0 x1 x2 x3 x4 acc)]
  unfold kernelRun0_B
  dsimp only
  sl_unfold_words
  rw [View.canon_unit_zero (S := S512x1024) at00]
  simp only [View.readAt_eq_ld, h1.read_unread, h2.read_unread, h3.read_unread, h4.read_unread, h5.read_unread, h8.read_unread, View.ld_unit_zero (S := S512x4096) at00, View.ld_unit_zero (S := S512x1024) at00, View.ld_unit_zero (S := S4096x1024) at00, View.ld_unit_zero (S := S1x1024) at00, View.ld_unit_zero (S := S8x128) at00]

theorem next_loss (hc : ¬cond0_0 i) (acc : Vec Ideal S8x128 .f32) : out0_B_7 c i a1 h1 a2 h2 a3 h3 a4 h4 a5 h5 a6 h6 a7 h7 a8 h8 hc x0 x1 x2 x3 x4 acc = k0_pay1 (k0_pay5 x0 x3 x1 x4 x2) acc := by
  unfold out0_B_7
  rw [View.read_writes_eq_canon _ _ _ (cover0_B_7 c i a1 h1 a2 h2 a3 h3 a4 h4 a5 h5 a6 h6 a7 h7 a8 h8 hc x0 x1 x2 x3 x4 acc)]
  unfold kernelRun0_B
  dsimp only
  sl_unfold_words
  rw [View.canon_unit_zero (S := S8x128) at00]
  simp only [View.readAt_eq_ld, h1.read_unread, h2.read_unread, h3.read_unread, h4.read_unread, h5.read_unread, h8.read_unread, View.ld_unit_zero (S := S512x4096) at00, View.ld_unit_zero (S := S512x1024) at00, View.ld_unit_zero (S := S4096x1024) at00, View.ld_unit_zero (S := S1x1024) at00, View.ld_unit_zero (S := S8x128) at00]

end

/-! ## The arrays -/

/-- The three results over whole arrays. -/
def downs (a : S4096x4096.Idx → EReal) (w : S4096x1024.Idx → EReal) : S4096x1024.Idx → EReal := fun i => down (fun k => a (ix2 (i 0) k)) w (i 1)
def errs (a : S4096x4096.Idx → EReal) (x y : S4096x1024.Idx → EReal) (w : S4096x1024.Idx → EReal) (g : S1x1024.Idx → EReal) (r : Fin 4096) : Fin 1024 → EReal :=
  err (fun k => a (ix2 r k)) (fun k => x (ix2 r k)) (fun k => y (ix2 r k)) w g
def grads (a : S4096x4096.Idx → EReal) (x y : S4096x1024.Idx → EReal) (w : S4096x1024.Idx → EReal) (g : S1x1024.Idx → EReal) : S4096x1024.Idx → EReal := fun i =>
  errs a x y w g (i 0) (i 1) * Ideal.ofBits FTy.f32 0x3A800000#32
def loss (a : S4096x4096.Idx → EReal) (x y : S4096x1024.Idx → EReal) (w : S4096x1024.Idx → EReal) (g : S1x1024.Idx → EReal) : S8x128.Idx → EReal := fun _ =>
  ∑ r : Fin 4096, ∑ s : Fin 1024, errs a x y w g r s * errs a x y w g r s

theorem below (t : Fin cfg0.N) (r : Fin 512) : t.val * 512 + r.val < 4096 := by
  have h : t.val < 8 := t.isLt
  omega

variable (m : (ℓ : Loc nD τ sig) → Buf (Elt Ideal) ℓ)

theorem at0 : ∀ t : Fin cfg0.N, win0_0.index t = ![t.val, 0] := (by decide +kernel : ∀ t : Fin grid0.N, _)
theorem arg0_at (c : Dev nD) (t : Fin cfg0.N) (r : Fin 512) (k : Fin 4096) : iblk m c 0 t (ix2 r k)
    = m ((c : Thread nD τ).loc main_arg0) (ix2 ⟨t.val * 512 + r.val, below t r⟩ k) := by
  blk_ext [Gen.iblk, Gen.V, at0]
theorem at1 : ∀ t : Fin cfg0.N, win0_1.index t = ![t.val, 0] := (by decide +kernel : ∀ t : Fin grid0.N, _)
theorem arg1_at (c : Dev nD) (t : Fin cfg0.N) (r : Fin 512) (k : Fin 1024) : iblk m c 1 t (ix2 r k)
    = m ((c : Thread nD τ).loc main_arg1) (ix2 ⟨t.val * 512 + r.val, below t r⟩ k) := by
  blk_ext [Gen.iblk, Gen.V, at1]
theorem at2 : ∀ t : Fin cfg0.N, win0_2.index t = ![t.val, 0] := (by decide +kernel : ∀ t : Fin grid0.N, _)
theorem arg2_at (c : Dev nD) (t : Fin cfg0.N) (r : Fin 512) (k : Fin 1024) : iblk m c 2 t (ix2 r k)
    = m ((c : Thread nD τ).loc main_arg2) (ix2 ⟨t.val * 512 + r.val, below t r⟩ k) := by
  blk_ext [Gen.iblk, Gen.V, at2]
theorem at3 : ∀ t : Fin cfg0.N, win0_3.index t = ![0, 0] := (by decide +kernel : ∀ t : Fin grid0.N, _)
theorem arg3_at (c : Dev nD) (t : Fin cfg0.N) (r : Fin 4096) (k : Fin 1024) : iblk m c 3 t (ix2 r k) = m ((c : Thread nD τ).loc main_arg3) (ix2 r k) := by
  blk_ext [Gen.iblk, Gen.V, at3]
theorem whole3 (c : Dev nD) (t : Fin cfg0.N) : (iblk m c 3 t : S4096x1024.Idx → EReal) = m ((c : Thread nD τ).loc main_arg3) := by
  funext y
  rw [show y = ix2 (y 0) (y 1) from by funext a; fin_cases a <;> rfl]
  exact arg3_at m c t _ _
theorem at4 : ∀ t : Fin cfg0.N, win0_4.index t = ![0, 0] := (by decide +kernel : ∀ t : Fin grid0.N, _)
theorem arg4_at (c : Dev nD) (t : Fin cfg0.N) (r : Fin 1) (k : Fin 1024) : iblk m c 4 t (ix2 r k) = m ((c : Thread nD τ).loc main_arg4) (ix2 r k) := by
  blk_ext [Gen.iblk, Gen.V, at4]
theorem whole4 (c : Dev nD) (t : Fin cfg0.N) : (iblk m c 4 t : S1x1024.Idx → EReal) = m ((c : Thread nD τ).loc main_arg4) := by
  funext y
  rw [show y = ix2 (y 0) (y 1) from by funext a; fin_cases a <;> rfl]
  exact arg4_at m c t _ _
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![0, 0] := (by decide +kernel : ∀ t : Fin grid0.N, _)

theorem down_left (c : Dev nD) (t : Fin cfg0.N) : (outsAt0 m c t.val t.isLt).1 = k0_pay2 (iblk m c 0 t) (iblk m c 3 t) := by
  by_cases h0 : t.val % 8 = 0
  · rw [outsAt0_A m c t h0]
    dsimp only
    rw [first_down]
  · rw [outsAt0_B m c t h0]
    dsimp only
    rw [next_down]

theorem down_final (c : Dev nD) : (dats m 0 c).arrAt 5 cfg0.N = downs (m ((c : Thread nD τ).loc main_arg0)) (m ((c : Thread nD τ).loc main_arg3)) := by
  refine (dats m 0 c).arrAt_eq_of_covers 5 _ (by decide +kernel) fun t hf y => ?_
  rw [after0_5, down_left]
  blk_simp
  obtain ⟨r, s, rfl⟩ : ∃ (r : Fin 512) (s : Fin 1024), y = ix2 r s := ⟨y 0, y 1, by funext a; fin_cases a <;> rfl⟩
  have ei : ((cfg0.win 5).blk t).view.emb (ix2 r s) = (ix2 (⟨t.val * 512 + r.val, below t r⟩ : Fin 4096) s : S4096x1024.Idx) := by
    funext a
    fin_cases a
    · exact Fin.ext (by blk_simp [at5]; rfl)
    · exact Fin.ext (by blk_simp [at5]; rfl)
  rw [ei]
  refine (down_at _ _ r s).trans ?_
  simp only [arg0_at, whole3]
  rfl

theorem grad_left (c : Dev nD) (t : Fin cfg0.N) : (outsAt0 m c t.val t.isLt).2.1 = k0_pay4 (iblk m c 0 t) (iblk m c 3 t) (iblk m c 1 t) (iblk m c 4 t) (iblk m c 2 t) := by
  by_cases h0 : t.val % 8 = 0
  · rw [outsAt0_A m c t h0]
    dsimp only
    rw [first_grad]
  · rw [outsAt0_B m c t h0]
    dsimp only
    rw [next_grad]

theorem grad_final (c : Dev nD) : (dats m 0 c).arrAt 6 cfg0.N = grads (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  rw [after0_6, grad_left]
  blk_simp
  obtain ⟨r, s, rfl⟩ : ∃ (r : Fin 512) (s : Fin 1024), y = ix2 r s := ⟨y 0, y 1, by funext a; fin_cases a <;> rfl⟩
  have ei : ((cfg0.win 6).blk t).view.emb (ix2 r s) = (ix2 (⟨t.val * 512 + r.val, below t r⟩ : Fin 4096) s : S4096x1024.Idx) := by
    funext a
    fin_cases a
    · exact Fin.ext (by blk_simp [at6]; rfl)
    · exact Fin.ext (by blk_simp [at6]; rfl)
  rw [ei]
  refine (grad_at _ _ _ _ _ r s).trans ?_
  simp only [arg0_at, arg1_at, arg2_at, whole3, whole4]
  rfl

/-- The squares of block `p`, for the grid's eight points; nothing beyond. -/
def part (c : Dev nD) (p : ℕ) : EReal := if h : p < 8 then
  ∑ r : Fin 512, ∑ s : Fin 1024, errs (m ((c : Thread nD τ).loc main_arg0)) (m ((c : Thread nD τ).loc main_arg1)) (m ((c : Thread nD τ).loc main_arg2)) (m ((c : Thread nD τ).loc main_arg3)) (m ((c : Thread nD τ).loc main_arg4)) ⟨p * 512 + r.val, by omega⟩ s
    * errs (m ((c : Thread nD τ).loc main_arg0)) (m ((c : Thread nD τ).loc main_arg1)) (m ((c : Thread nD τ).loc main_arg2)) (m ((c : Thread nD τ).loc main_arg3)) (m ((c : Thread nD τ).loc main_arg4)) ⟨p * 512 + r.val, by omega⟩ s else 0

theorem part_eq (c : Dev nD) (t : Fin cfg0.N) : k0_pay5 (iblk m c 0 t) (iblk m c 3 t) (iblk m c 1 t) (iblk m c 4 t) (iblk m c 2 t) = part m c t.val := by
  refine (squares_eq _ _ _ _ _).trans ?_
  have h : t.val < 8 := t.isLt
  rw [part, dif_pos h]
  simp only [arg0_at, arg1_at, arg2_at, whole3, whole4]
  rfl

/-- After point `n` the running sum holds the squares of the blocks so far. -/
theorem running (c : Dev nD) : ∀ (n : ℕ) (hn : n < cfg0.N) (r : Fin 8) (s : Fin 128),
    (outsAt0 m c n hn).2.2 (ix2 r s) = (∑ p ∈ Finset.range (n + 1), part m c p : EReal)
  | 0, hn, r, s => by
    have e := outsAt0_A m c ⟨0, hn⟩ rfl
    dsimp only at e
    rw [e]
    dsimp only
    rw [first_loss, part_eq]
    refine (gain_at _ _ r s).trans ?_
    rw [zeros_at, Finset.sum_range_one, zero_add]
  | n + 1, hn, r, s => by
    have h8 : n + 1 < 8 := hn
    have e := outsAt0_B m c ⟨n + 1, hn⟩ (by dsimp only; omega)
    dsimp only at e
    rw [e]
    dsimp only
    rw [next_loss, part_eq]
    refine (gain_at _ _ r s).trans ?_
    rw [Finset.sum_range_succ]
    exact congrArg (· + part m c (n + 1)) (running c n (Nat.lt_of_succ_lt hn) r s)

theorem parts (c : Dev nD) (i : S8x128.Idx) : ∑ p ∈ Finset.range 8, part m c p = loss (m ((c : Thread nD τ).loc main_arg0)) (m ((c : Thread nD τ).loc main_arg1)) (m ((c : Thread nD τ).loc main_arg2)) (m ((c : Thread nD τ).loc main_arg3)) (m ((c : Thread nD τ).loc main_arg4)) i := by
  rw [Finset.sum_range]
  unfold loss
  rw [← Fin.sum_mul_add_fin 8 512 (fun r : Fin 4096 => ∑ s : Fin 1024, errs (m ((c : Thread nD τ).loc main_arg0)) (m ((c : Thread nD τ).loc main_arg1)) (m ((c : Thread nD τ).loc main_arg2)) (m ((c : Thread nD τ).loc main_arg3)) (m ((c : Thread nD τ).loc main_arg4)) r s
    * errs (m ((c : Thread nD τ).loc main_arg0)) (m ((c : Thread nD τ).loc main_arg1)) (m ((c : Thread nD τ).loc main_arg2)) (m ((c : Thread nD τ).loc main_arg3)) (m ((c : Thread nD τ).loc main_arg4)) r s)]
  exact Finset.sum_congr rfl fun p _ => (dif_pos p.isLt).trans rfl

theorem loss_final (c : Dev nD) : (dats m 0 c).arrAt 7 cfg0.N = loss (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have h7 : t.val = 7 := (by decide +kernel : ∀ t : Fin grid0.N, win0_7.flush t = true → t.val = 7) t hf
  rw [after0_7]
  blk_simp
  obtain ⟨r, s, rfl⟩ : ∃ (r : Fin 8) (s : Fin 128), y = ix2 r s := ⟨y 0, y 1, by funext a; fin_cases a <;> rfl⟩
  refine (running m c t.val t.isLt r s).trans ?_
  rw [h7]
  exact parts m c _

end Cert.KernelDownIdeal

namespace Cert.Proof

open Cert.ReferenceDownIdeal Cert.ReferenceDownIdeal.Gen

theorem frame_down : Cert.quiescent_KernelDown := fun m ρ _ => Cert.KernelDown.Gen.frame m ρ

theorem frame_down_ideal : Cert.quiescent_KernelDownIdeal := fun m ρ _ => Cert.KernelDownIdeal.Gen.frame m ρ

theorem frame_down_reference : Cert.quiescent_ReferenceDownIdeal := fun m ρ _ =>
  (θ_run Cert.ReferenceDownIdeal.defs _ _).mono
    (fun r h => ⟨fun c => (h c).2.2.2, sem_eq_zero_of_no_sems (by decide) r.2⟩)
    (Cert.ReferenceDownIdeal.Value.run (F := Ideal) m ρ)

/-! ## The reference -/

section
variable (a : FVec Ideal S4096x4096 .bf16) (x y : FVec Ideal S4096x1024 .f32) (w : FVec Ideal S4096x1024 .bf16) (g : FVec Ideal S1x1024 .f32)

abbrev refDown : FVec Ideal S4096x1024 .f32 :=
  Host.dotGeneral (F := Ideal) (φ₁ := .f32) (φ₂ := .f32) dot_S4096x4096_S4096x1024_S4096x1024_1_0_0_1_n_n none (extf (F := Ideal) (φ := .bf16) .f32 a bitsLt_bf16_f32)
    (extf (F := Ideal) (φ := .bf16) .f32 w bitsLt_bf16_f32)

abbrev refErr (v : FVec Ideal S4096x1024 .f32) : FVec Ideal S4096x1024 .f32 :=
  subf (F := Ideal) (φ := .f32) (addf x (mulf (F := Ideal) (φ := .f32) (mulf v (broadcastInDim S4096x1024 ![0, 1] bcast_S4096x1_S4096x1024_0_1 (Host.rsqrt (addf (Host.divf (broadcastInDim S4096x1 ![0] bcast_S4096_S4096x1_0
    (Host.reduceAdd (mulf v v) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32)))))) (broadcastInDim S4096x1024 ![0, 1] bcast_S1x1024_S4096x1024_0_1 g))) y

abbrev refGrad (e : FVec Ideal S4096x1024 .f32) : FVec Ideal S4096x1024 .f32 :=
  mulf (F := Ideal) (φ := .f32) e (broadcastInDim S4096x1024 ![] bcast_S_S4096x1024 (constant S_ .f32 0x3A800000#32))

abbrev refLoss (e : FVec Ideal S4096x1024 .f32) : FVec Ideal S8x128 .f32 :=
  broadcastInDim S8x128 ![] bcast_S_S8x128 (Host.reduceAdd (F := Ideal) (φ := .f32) (mulf e e) (constant S_ .f32 0x00000000#32) reducesTo_S4096x1024_S_d0_1 h_S_)

theorem refDown_at (i : Fin 4096) (s : Fin 1024) : refDown a w (ix2 i s) = Cert.KernelDownIdeal.down (fun k => a (ix2 i k)) w s := by
  pointwise
  rfl

theorem refErr_of (v : FVec Ideal S4096x1024 .f32) (i : Fin 4096) (s : Fin 1024) :
    refErr x y g v (ix2 i s) = (x (ix2 i s) + Cert.Norm.norm (fun k => v (ix2 i k)) (fun k => g (ix2 0 k)) s - y (ix2 i s) : EReal) := by
  pointwise
  rfl

theorem refErr_at (i : Fin 4096) (s : Fin 1024) : refErr x y g (refDown a w) (ix2 i s) = Cert.KernelDownIdeal.errs a x y w g i s := by
  refine (refErr_of x y g _ i s).trans ?_
  simp only [refDown_at]
  rfl

theorem refGrad_at (e : FVec Ideal S4096x1024 .f32) (i : Fin 4096) (s : Fin 1024) : refGrad e (ix2 i s) = (e (ix2 i s) * Ideal.ofBits FTy.f32 0x3A800000#32 : EReal) := by
  pointwise

theorem refLoss_at (e : FVec Ideal S4096x1024 .f32) (i : Fin 8) (s : Fin 128) : refLoss e (ix2 i s) = (∑ r : Fin 4096, ∑ k : Fin 1024, e (ix2 r k) * e (ix2 r k) : EReal) := by
  pointwise
end

theorem algebraic_down : Cert.algebraic_KernelDownIdeal_ReferenceDownIdeal := by
  intro m g m' g' _ hm
  refine ⟨fun c => Cert.KernelDownIdeal.downs (m ((c : Thread Cert.KernelDownIdeal.nD Cert.KernelDownIdeal.τ).loc Cert.KernelDownIdeal.main_arg0)) (m ((c : Thread Cert.KernelDownIdeal.nD Cert.KernelDownIdeal.τ).loc Cert.KernelDownIdeal.main_arg3)),
    fun c => Cert.KernelDownIdeal.grads (m ((c : Thread Cert.KernelDownIdeal.nD Cert.KernelDownIdeal.τ).loc Cert.KernelDownIdeal.main_arg0)) (m ((c : Thread Cert.KernelDownIdeal.nD Cert.KernelDownIdeal.τ).loc Cert.KernelDownIdeal.main_arg1)) (m ((c : Thread Cert.KernelDownIdeal.nD Cert.KernelDownIdeal.τ).loc Cert.KernelDownIdeal.main_arg2)) (m ((c : Thread Cert.KernelDownIdeal.nD Cert.KernelDownIdeal.τ).loc Cert.KernelDownIdeal.main_arg3)) (m ((c : Thread Cert.KernelDownIdeal.nD Cert.KernelDownIdeal.τ).loc Cert.KernelDownIdeal.main_arg4)),
    fun c => Cert.KernelDownIdeal.loss (m ((c : Thread Cert.KernelDownIdeal.nD Cert.KernelDownIdeal.τ).loc Cert.KernelDownIdeal.main_arg0)) (m ((c : Thread Cert.KernelDownIdeal.nD Cert.KernelDownIdeal.τ).loc Cert.KernelDownIdeal.main_arg1)) (m ((c : Thread Cert.KernelDownIdeal.nD Cert.KernelDownIdeal.τ).loc Cert.KernelDownIdeal.main_arg2)) (m ((c : Thread Cert.KernelDownIdeal.nD Cert.KernelDownIdeal.τ).loc Cert.KernelDownIdeal.main_arg3)) (m ((c : Thread Cert.KernelDownIdeal.nD Cert.KernelDownIdeal.τ).loc Cert.KernelDownIdeal.main_arg4)),
    (θ_run Cert.KernelDownIdeal.defs _ _).mono (fun r h c => ⟨(h c).1.trans (Cert.KernelDownIdeal.down_final m c), (h c).2.1.trans (Cert.KernelDownIdeal.grad_final m c), (h c).2.2.1.trans (Cert.KernelDownIdeal.loss_final m c), (h c).2.2.2⟩) (Cert.KernelDownIdeal.Value.run_blocks m g),
    (θ_run Cert.ReferenceDownIdeal.defs _ _).mono (fun r h c => ⟨(h c).1.trans ?_, (h c).2.1.trans ?_, (h c).2.2.1.trans ?_, (h c).2.2.2⟩) (Cert.ReferenceDownIdeal.Value.run m' g')⟩
  all_goals
    obtain ⟨h0, h1, h2, h3, h4⟩ := hm c
    simp only [h0, h1, h2, h3, h4]
    funext i
    obtain ⟨i, s, rfl⟩ : ∃ (a : Fin _) (b : Fin _), i = ix2 a b := ⟨i 0, i 1, by funext x; fin_cases x <;> rfl⟩
  · exact refDown_at _ _ i s
  · refine (refGrad_at _ i s).trans ?_
    exact congrArg (· * Ideal.ofBits FTy.f32 0x3A800000#32) (refErr_at _ _ _ _ _ i s)
  · refine (refLoss_at _ i s).trans ?_
    exact Finset.sum_congr rfl fun r _ => Finset.sum_congr rfl fun k _ => congrArg₂ (· * ·) (refErr_at _ _ _ _ _ r k) (refErr_at _ _ _ _ _ r k)

end Cert.Proof

end
-- ==== Proof.Merge.lean ====
/- The sum of the two mixers: the attention's and the convolution's last products, weighed by their gates, through the mixing
   matrix, normalised and added to the input; a grid point does 512 rows. -/
module

public import proofs.«01_k».proof.Defs
public import proofs.«01_k».proof.Proof.GradBase
public import proofs.«01_k».proof.Proof.NormBase
public import proofs.«01_k».proof.Proof.Gen.KernelMerge.Frame
public import proofs.«01_k».proof.Proof.Gen.KernelMergeIdeal.Value
public import proofs.«01_k».proof.Proof.Gen.ReferenceMergeIdeal.Run
public import Idealize.ShloMosaic.Lib.Pipeline.ValueKit.Geometry
public import Idealize.ShloMosaic.Lib.Pipeline.ValueKit.Point
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.KernelMergeIdeal

open Gen Cert.Grad Cert.Norm
open Idealize.ShloMosaic.Pipeline (Dat)

/-! ## A row -/

/-- A row through a matrix. -/
def lin (v : Fin 1024 → EReal) (w : S1024x1024.Idx → EReal) (s : Fin 1024) : EReal := ∑ k, v k * w (ix2 k s)

/-- The gated sum of the two mixers' rows. -/
def gated (a u sa sc : Fin 1024 → EReal) (wo wp : S1024x1024.Idx → EReal) (b : S1x1024.Idx → EReal) (s : Fin 1024) : EReal :=
  sa s * lin a wo s + sc s * (lin u wp s + b (ix2 0 s))

/-! ## A block -/

section
variable (a u : Vec Ideal S512x1024 .bf16) (sa sc x : Vec Ideal S512x1024 .f32) (wo wp : Vec Ideal S1024x1024 .bf16) (bp : Vec Ideal S1x1024 .f32)
    (wm : Vec Ideal S1024x1024 .bf16) (g : Vec Ideal S1x1024 .f32) (r : Fin 512) (s : Fin 1024)

theorem ya_at : k0_pay4 a wo (ix2 r s) = lin (fun k => a (ix2 r k)) wo s := by
  pointwise [k0_pay4, k0_pay2]
  rfl

theorem yc_at : k0_pay5 u wp bp (ix2 r s) = (lin (fun k => u (ix2 r k)) wp s + bp (ix2 0 s) : EReal) := by
  pointwise [k0_pay5, k0_pay3]
  rfl

theorem mixed_at : k0_pay6 a wo u wp bp sa sc (ix2 r s)
    = gated (fun k => a (ix2 r k)) (fun k => u (ix2 r k)) (fun k => sa (ix2 r k)) (fun k => sc (ix2 r k)) wo wp bp s := by
  pointwise [k0_pay6, k0_pay2, k0_pay3]
  rfl

theorem through_at : k0_pay7 a wo u wp bp sa sc wm (ix2 r s)
    = lin (gated (fun k => a (ix2 r k)) (fun k => u (ix2 r k)) (fun k => sa (ix2 r k)) (fun k => sc (ix2 r k)) wo wp bp) wm s := by
  pointwise [k0_pay7]
  simp only [mixed_at]
  rfl

theorem added_at (v : Vec Ideal S512x1024 .f32) : k0_pay1 v x g (ix2 r s) = (x (ix2 r s) + norm (fun k => v (ix2 r k)) (fun k => g (ix2 0 k)) s : EReal) := by
  pointwise [k0_pay1]
  rfl

theorem ya_left : out0_10 a u sa sc x wo wp bp wm g = k0_pay4 a wo := by
  unfold out0_10
  rw [View.canon_unit_zero (S := S512x1024) at00]
  simp only [View.ld_unit_zero (S := S512x1024) at00, View.ld_unit_zero (S := S1024x1024) at00, View.ld_unit_zero (S := S1x1024) at00]

theorem yc_left : out0_11 a u sa sc x wo wp bp wm g = k0_pay5 u wp bp := by
  unfold out0_11
  rw [View.canon_unit_zero (S := S512x1024) at00]
  simp only [View.ld_unit_zero (S := S512x1024) at00, View.ld_unit_zero (S := S1024x1024) at00, View.ld_unit_zero (S := S1x1024) at00]

theorem mixed_left : out0_12 a u sa sc x wo wp bp wm g = k0_pay6 a wo u wp bp sa sc := by
  unfold out0_12
  rw [View.canon_unit_zero (S := S512x1024) at00]
  simp only [View.ld_unit_zero (S := S512x1024) at00, View.ld_unit_zero (S := S1024x1024) at00, View.ld_unit_zero (S := S1x1024) at00]

theorem through_left : out0_13 a u sa sc x wo wp bp wm g = k0_pay7 a wo u wp bp sa sc wm := by
  unfold out0_13
  rw [View.canon_unit_zero (S := S512x1024) at00]
  simp only [View.ld_unit_zero (S := S512x1024) at00, View.ld_unit_zero (S := S1024x1024) at00, View.ld_unit_zero (S := S1x1024) at00]

theorem added_left : out0_14 a u sa sc x wo wp bp wm g = k0_pay1 (k0_pay7 a wo u wp bp sa sc wm) x g := by
  unfold out0_14
  rw [View.canon_unit_zero (S := S512x1024) at00]
  simp only [View.ld_unit_zero (S := S512x1024) at00, View.ld_unit_zero (S := S1024x1024) at00, View.ld_unit_zero (S := S1x1024) at00]

end

/-! ## The arrays -/

/-- The five results over whole arrays. -/
def yas (a : S4096x1024.Idx → EReal) (wo : S1024x1024.Idx → EReal) : S4096x1024.Idx → EReal := fun i => lin (fun k => a (ix2 (i 0) k)) wo (i 1)
def ycs (u : S4096x1024.Idx → EReal) (wp : S1024x1024.Idx → EReal) (b : S1x1024.Idx → EReal) : S4096x1024.Idx → EReal := fun i =>
  lin (fun k => u (ix2 (i 0) k)) wp (i 1) + b (ix2 0 (i 1))
def mixeds (a u sa sc : S4096x1024.Idx → EReal) (wo wp : S1024x1024.Idx → EReal) (b : S1x1024.Idx → EReal) : S4096x1024.Idx → EReal := fun i =>
  gated (fun k => a (ix2 (i 0) k)) (fun k => u (ix2 (i 0) k)) (fun k => sa (ix2 (i 0) k)) (fun k => sc (ix2 (i 0) k)) wo wp b (i 1)
def throughs (a u sa sc : S4096x1024.Idx → EReal) (wo wp : S1024x1024.Idx → EReal) (b : S1x1024.Idx → EReal) (wm : S1024x1024.Idx → EReal) : S4096x1024.Idx → EReal := fun i =>
  lin (gated (fun k => a (ix2 (i 0) k)) (fun k => u (ix2 (i 0) k)) (fun k => sa (ix2 (i 0) k)) (fun k => sc (ix2 (i 0) k)) wo wp b) wm (i 1)
def addeds (a u sa sc x : S4096x1024.Idx → EReal) (wo wp : S1024x1024.Idx → EReal) (b : S1x1024.Idx → EReal) (wm : S1024x1024.Idx → EReal) (g : S1x1024.Idx → EReal) :
    S4096x1024.Idx → EReal := fun i =>
  x i + norm (lin (gated (fun k => a (ix2 (i 0) k)) (fun k => u (ix2 (i 0) k)) (fun k => sa (ix2 (i 0) k)) (fun k => sc (ix2 (i 0) k)) wo wp b) wm) (fun k => g (ix2 0 k)) (i 1)

theorem below (t : Fin cfg0.N) (r : Fin 512) : t.val * 512 + r.val < 4096 := by
  have h : t.val < 8 := t.isLt
  omega

variable (m : (ℓ : Loc nD τ sig) → Buf (Elt Ideal) ℓ)

theorem at0 : ∀ t : Fin cfg0.N, win0_0.index t = ![t.val, 0] := (by decide +kernel : ∀ t : Fin grid0.N, _)
theorem arg0_at (c : Dev nD) (t : Fin cfg0.N) (r : Fin 512) (k : Fin 1024) : iblk m c 0 t (ix2 r k)
    = m ((c : Thread nD τ).loc main_arg0) (ix2 ⟨t.val * 512 + r.val, below t r⟩ k) := by
  blk_ext [Gen.iblk, Gen.V, at0]
theorem at1 : ∀ t : Fin cfg0.N, win0_1.index t = ![t.val, 0] := (by decide +kernel : ∀ t : Fin grid0.N, _)
theorem arg1_at (c : Dev nD) (t : Fin cfg0.N) (r : Fin 512) (k : Fin 1024) : iblk m c 1 t (ix2 r k)
    = m ((c : Thread nD τ).loc main_arg1) (ix2 ⟨t.val * 512 + r.val, below t r⟩ k) := by
  blk_ext [Gen.iblk, Gen.V, at1]
theorem at2 : ∀ t : Fin cfg0.N, win0_2.index t = ![t.val, 0] := (by decide +kernel : ∀ t : Fin grid0.N, _)
theorem arg2_at (c : Dev nD) (t : Fin cfg0.N) (r : Fin 512) (k : Fin 1024) : iblk m c 2 t (ix2 r k)
    = m ((c : Thread nD τ).loc main_arg2) (ix2 ⟨t.val * 512 + r.val, below t r⟩ k) := by
  blk_ext [Gen.iblk, Gen.V, at2]
theorem at3 : ∀ t : Fin cfg0.N, win0_3.index t = ![t.val, 0] := (by decide +kernel : ∀ t : Fin grid0.N, _)
theorem arg3_at (c : Dev nD) (t : Fin cfg0.N) (r : Fin 512) (k : Fin 1024) : iblk m c 3 t (ix2 r k)
    = m ((c : Thread nD τ).loc main_arg3) (ix2 ⟨t.val * 512 + r.val, below t r⟩ k) := by
  blk_ext [Gen.iblk, Gen.V, at3]
theorem at4 : ∀ t : Fin cfg0.N, win0_4.index t = ![t.val, 0] := (by decide +kernel : ∀ t : Fin grid0.N, _)
theorem arg4_at (c : Dev nD) (t : Fin cfg0.N) (r : Fin 512) (k : Fin 1024) : iblk m c 4 t (ix2 r k)
    = m ((c : Thread nD τ).loc main_arg4) (ix2 ⟨t.val * 512 + r.val, below t r⟩ k) := by
  blk_ext [Gen.iblk, Gen.V, at4]
theorem at5 : ∀ t : Fin cfg0.N, win0_5.index t = ![0, 0] := (by decide +kernel : ∀ t : Fin grid0.N, _)
theorem arg5_at (c : Dev nD) (t : Fin cfg0.N) (r : Fin 1024) (k : Fin 1024) : iblk m c 5 t (ix2 r k) = m ((c : Thread nD τ).loc main_arg5) (ix2 r k) := by
  blk_ext [Gen.iblk, Gen.V, at5]
theorem at6 : ∀ t : Fin cfg0.N, win0_6.index t = ![0, 0] := (by decide +kernel : ∀ t : Fin grid0.N, _)
theorem arg6_at (c : Dev nD) (t : Fin cfg0.N) (r : Fin 1024) (k : Fin 1024) : iblk m c 6 t (ix2 r k) = m ((c : Thread nD τ).loc main_arg6) (ix2 r k) := by
  blk_ext [Gen.iblk, Gen.V, at6]
theorem at7 : ∀ t : Fin cfg0.N, win0_7.index t = ![0, 0] := (by decide +kernel : ∀ t : Fin grid0.N, _)
theorem arg7_at (c : Dev nD) (t : Fin cfg0.N) (r : Fin 1) (k : Fin 1024) : iblk m c 7 t (ix2 r k) = m ((c : Thread nD τ).loc main_arg7) (ix2 r k) := by
  blk_ext [Gen.iblk, Gen.V, at7]
theorem at8 : ∀ t : Fin cfg0.N, win0_8.index t = ![0, 0] := (by decide +kernel : ∀ t : Fin grid0.N, _)
theorem arg8_at (c : Dev nD) (t : Fin cfg0.N) (r : Fin 1024) (k : Fin 1024) : iblk m c 8 t (ix2 r k) = m ((c : Thread nD τ).loc main_arg8) (ix2 r k) := by
  blk_ext [Gen.iblk, Gen.V, at8]
theorem at9 : ∀ t : Fin cfg0.N, win0_9.index t = ![0, 0] := (by decide +kernel : ∀ t : Fin grid0.N, _)
theorem arg9_at (c : Dev nD) (t : Fin cfg0.N) (r : Fin 1) (k : Fin 1024) : iblk m c 9 t (ix2 r k) = m ((c : Thread nD τ).loc main_arg9) (ix2 r k) := by
  blk_ext [Gen.iblk, Gen.V, at9]
theorem at10 : ∀ t : Fin cfg0.N, win0_10.index t = ![t.val, 0] := (by decide +kernel : ∀ t : Fin grid0.N, _)
theorem at11 : ∀ t : Fin cfg0.N, win0_11.index t = ![t.val, 0] := (by decide +kernel : ∀ t : Fin grid0.N, _)
theorem at12 : ∀ t : Fin cfg0.N, win0_12.index t = ![t.val, 0] := (by decide +kernel : ∀ t : Fin grid0.N, _)
theorem at13 : ∀ t : Fin cfg0.N, win0_13.index t = ![t.val, 0] := (by decide +kernel : ∀ t : Fin grid0.N, _)
theorem at14 : ∀ t : Fin cfg0.N, win0_14.index t = ![t.val, 0] := (by decide +kernel : ∀ t : Fin grid0.N, _)

/-- A matrix or a row of gains is whole at every point. -/
theorem whole5 (c : Dev nD) (t : Fin cfg0.N) : (iblk m c 5 t : S1024x1024.Idx → EReal) = m ((c : Thread nD τ).loc main_arg5) := by
  funext y
  rw [show y = ix2 (y 0) (y 1) from by funext a; fin_cases a <;> rfl]
  exact arg5_at m c t _ _
theorem whole6 (c : Dev nD) (t : Fin cfg0.N) : (iblk m c 6 t : S1024x1024.Idx → EReal) = m ((c : Thread nD τ).loc main_arg6) := by
  funext y
  rw [show y = ix2 (y 0) (y 1) from by funext a; fin_cases a <;> rfl]
  exact arg6_at m c t _ _
theorem whole8 (c : Dev nD) (t : Fin cfg0.N) : (iblk m c 8 t : S1024x1024.Idx → EReal) = m ((c : Thread nD τ).loc main_arg8) := by
  funext y
  rw [show y = ix2 (y 0) (y 1) from by funext a; fin_cases a <;> rfl]
  exact arg8_at m c t _ _
theorem whole7 (c : Dev nD) (t : Fin cfg0.N) : (iblk m c 7 t : S1x1024.Idx → EReal) = m ((c : Thread nD τ).loc main_arg7) := by
  funext y
  rw [show y = ix2 (y 0) (y 1) from by funext a; fin_cases a <;> rfl]
  exact arg7_at m c t _ _
theorem whole9 (c : Dev nD) (t : Fin cfg0.N) : (iblk m c 9 t : S1x1024.Idx → EReal) = m ((c : Thread nD τ).loc main_arg9) := by
  funext y
  rw [show y = ix2 (y 0) (y 1) from by funext a; fin_cases a <;> rfl]
  exact arg9_at m c t _ _

theorem ya_final (c : Dev nD) : (dats m 0 c).arrAt 10 cfg0.N
    = yas (m ((c : Thread nD τ).loc main_arg0)) (m ((c : Thread nD τ).loc main_arg5)) := by
  refine (dats m 0 c).arrAt_eq_of_covers 10 _ (by decide +kernel) fun t hf y => ?_
  rw [after0_10, ya_left]
  blk_simp
  obtain ⟨r, s, rfl⟩ : ∃ (r : Fin 512) (s : Fin 1024), y = ix2 r s := ⟨y 0, y 1, by funext a; fin_cases a <;> rfl⟩
  have ei : ((cfg0.win 10).blk t).view.emb (ix2 r s) = (ix2 (⟨t.val * 512 + r.val, below t r⟩ : Fin 4096) s : S4096x1024.Idx) := by
    funext a
    fin_cases a
    · exact Fin.ext (by blk_simp [at10]; rfl)
    · exact Fin.ext (by blk_simp [at10]; rfl)
  rw [ei]
  refine (ya_at _ _ r s).trans ?_
  simp only [arg0_at, whole5]
  rfl

theorem yc_final (c : Dev nD) : (dats m 0 c).arrAt 11 cfg0.N
    = ycs (m ((c : Thread nD τ).loc main_arg1)) (m ((c : Thread nD τ).loc main_arg6)) (m ((c : Thread nD τ).loc main_arg7)) := by
  refine (dats m 0 c).arrAt_eq_of_covers 11 _ (by decide +kernel) fun t hf y => ?_
  rw [after0_11, yc_left]
  blk_simp
  obtain ⟨r, s, rfl⟩ : ∃ (r : Fin 512) (s : Fin 1024), y = ix2 r s := ⟨y 0, y 1, by funext a; fin_cases a <;> rfl⟩
  have ei : ((cfg0.win 11).blk t).view.emb (ix2 r s) = (ix2 (⟨t.val * 512 + r.val, below t r⟩ : Fin 4096) s : S4096x1024.Idx) := by
    funext a
    fin_cases a
    · exact Fin.ext (by blk_simp [at11]; rfl)
    · exact Fin.ext (by blk_simp [at11]; rfl)
  rw [ei]
  refine (yc_at _ _ _ r s).trans ?_
  simp only [arg1_at, whole6, whole7]
  rfl

theorem mixed_final (c : Dev nD) : (dats m 0 c).arrAt 12 cfg0.N
    = mixeds (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) := by
  refine (dats m 0 c).arrAt_eq_of_covers 12 _ (by decide +kernel) fun t hf y => ?_
  rw [after0_12, mixed_left]
  blk_simp
  obtain ⟨r, s, rfl⟩ : ∃ (r : Fin 512) (s : Fin 1024), y = ix2 r s := ⟨y 0, y 1, by funext a; fin_cases a <;> rfl⟩
  have ei : ((cfg0.win 12).blk t).view.emb (ix2 r s) = (ix2 (⟨t.val * 512 + r.val, below t r⟩ : Fin 4096) s : S4096x1024.Idx) := by
    funext a
    fin_cases a
    · exact Fin.ext (by blk_simp [at12]; rfl)
    · exact Fin.ext (by blk_simp [at12]; rfl)
  rw [ei]
  refine (mixed_at _ _ _ _ _ _ _ r s).trans ?_
  simp only [arg0_at, arg1_at, arg2_at, arg3_at, whole5, whole6, whole7]
  rfl

theorem through_final (c : Dev nD) : (dats m 0 c).arrAt 13 cfg0.N
    = throughs (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  rw [after0_13, through_left]
  blk_simp
  obtain ⟨r, s, rfl⟩ : ∃ (r : Fin 512) (s : Fin 1024), y = ix2 r s := ⟨y 0, y 1, by funext a; fin_cases a <;> rfl⟩
  have ei : ((cfg0.win 13).blk t).view.emb (ix2 r s) = (ix2 (⟨t.val * 512 + r.val, below t r⟩ : Fin 4096) s : S4096x1024.Idx) := by
    funext a
    fin_cases a
    · exact Fin.ext (by blk_simp [at13]; rfl)
    · exact Fin.ext (by blk_simp [at13]; rfl)
  rw [ei]
  refine (through_at _ _ _ _ _ _ _ _ r s).trans ?_
  simp only [arg0_at, arg1_at, arg2_at, arg3_at, whole5, whole6, whole7, whole8]
  rfl

theorem added_final (c : Dev nD) : (dats m 0 c).arrAt 14 cfg0.N
    = addeds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t hf y => ?_
  rw [after0_14, added_left]
  blk_simp
  obtain ⟨r, s, rfl⟩ : ∃ (r : Fin 512) (s : Fin 1024), y = ix2 r s := ⟨y 0, y 1, by funext a; fin_cases a <;> rfl⟩
  have ei : ((cfg0.win 14).blk t).view.emb (ix2 r s) = (ix2 (⟨t.val * 512 + r.val, below t r⟩ : Fin 4096) s : S4096x1024.Idx) := by
    funext a
    fin_cases a
    · exact Fin.ext (by blk_simp [at14]; rfl)
    · exact Fin.ext (by blk_simp [at14]; rfl)
  rw [ei]
  refine (added_at _ _ r s _).trans ?_
  simp only [through_at]
  simp only [arg0_at, arg1_at, arg2_at, arg3_at, arg4_at, whole5, whole6, whole7, whole8, whole9]
  rfl

end Cert.KernelMergeIdeal

namespace Cert.Proof

open Cert.ReferenceMergeIdeal Cert.ReferenceMergeIdeal.Gen

theorem frame_merge : Cert.quiescent_KernelMerge := fun m ρ _ => Cert.KernelMerge.Gen.frame m ρ

theorem frame_merge_ideal : Cert.quiescent_KernelMergeIdeal := fun m ρ _ => Cert.KernelMergeIdeal.Gen.frame m ρ

theorem frame_merge_reference : Cert.quiescent_ReferenceMergeIdeal := fun m ρ _ =>
  (θ_run Cert.ReferenceMergeIdeal.defs _ _).mono
    (fun r h => ⟨fun c => (h c).2.2.2.2.2, sem_eq_zero_of_no_sems (by decide) r.2⟩)
    (Cert.ReferenceMergeIdeal.Value.run (F := Ideal) m ρ)

/-! ## The reference -/

section
variable (a u : FVec Ideal S4096x1024 .bf16) (sa sc x : FVec Ideal S4096x1024 .f32) (wo wp : FVec Ideal S1024x1024 .bf16) (bp : FVec Ideal S1x1024 .f32)
    (wm : FVec Ideal S1024x1024 .bf16) (g : FVec Ideal S1x1024 .f32)

abbrev refLin (v : FVec Ideal S4096x1024 .f32) (w : FVec Ideal S1024x1024 .bf16) : FVec Ideal S4096x1024 .f32 :=
  Host.dotGeneral (F := Ideal) (φ₁ := .f32) (φ₂ := .f32) dot_S4096x1024_S1024x1024_S4096x1024_1_0_0_1_n_n none v (extf (F := Ideal) (φ := .bf16) .f32 w bitsLt_bf16_f32)

abbrev refYc : FVec Ideal S4096x1024 .f32 :=
  addf (F := Ideal) (φ := .f32) (refLin (extf (F := Ideal) (φ := .bf16) .f32 u bitsLt_bf16_f32) wp) (broadcastInDim S4096x1024 ![0, 1] bcast_S1x1024_S4096x1024_0_1 bp)

abbrev refMixed : FVec Ideal S4096x1024 .f32 :=
  addf (F := Ideal) (φ := .f32) (mulf sa (refLin (extf (F := Ideal) (φ := .bf16) .f32 a bitsLt_bf16_f32) wo)) (mulf sc (refYc u wp bp))

abbrev refAdded (v : FVec Ideal S4096x1024 .f32) : FVec Ideal S4096x1024 .f32 :=
  addf (F := Ideal) (φ := .f32) x (mulf (F := Ideal) (φ := .f32) (mulf v (broadcastInDim S4096x1024 ![0, 1] bcast_S4096x1_S4096x1024_0_1 (Host.rsqrt (addf (Host.divf (broadcastInDim S4096x1 ![0] bcast_S4096_S4096x1_0
    (Host.reduceAdd (mulf v v) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32)))))) (broadcastInDim S4096x1024 ![0, 1] bcast_S1x1024_S4096x1024_0_1 g))

theorem refLin_at (v : FVec Ideal S4096x1024 .f32) (w : FVec Ideal S1024x1024 .bf16) (i : Fin 4096) (s : Fin 1024) :
    refLin v w (ix2 i s) = Cert.KernelMergeIdeal.lin (fun k => v (ix2 i k)) w s := by
  pointwise
  rfl

theorem refYc_at (i : Fin 4096) (s : Fin 1024) : refYc u wp bp (ix2 i s) = (Cert.KernelMergeIdeal.lin (fun k => u (ix2 i k)) wp s + bp (ix2 0 s) : EReal) := by
  pointwise
  rfl

theorem refMixed_at (i : Fin 4096) (s : Fin 1024) : refMixed a u sa sc wo wp bp (ix2 i s)
    = Cert.KernelMergeIdeal.gated (fun k => a (ix2 i k)) (fun k => u (ix2 i k)) (fun k => sa (ix2 i k)) (fun k => sc (ix2 i k)) wo wp bp s := by
  pointwise
  rfl

theorem refThrough_at (i : Fin 4096) (s : Fin 1024) : refLin (refMixed a u sa sc wo wp bp) wm (ix2 i s)
    = Cert.KernelMergeIdeal.lin (Cert.KernelMergeIdeal.gated (fun k => a (ix2 i k)) (fun k => u (ix2 i k)) (fun k => sa (ix2 i k)) (fun k => sc (ix2 i k)) wo wp bp) wm s := by
  refine (refLin_at _ wm i s).trans ?_
  simp only [refMixed_at]

theorem refAdded_at (v : FVec Ideal S4096x1024 .f32) (i : Fin 4096) (s : Fin 1024) :
    refAdded x g v (ix2 i s) = (x (ix2 i s) + Cert.Norm.norm (fun k => v (ix2 i k)) (fun k => g (ix2 0 k)) s : EReal) := by
  pointwise
  rfl

theorem refSum_at (i : Fin 4096) (s : Fin 1024) : refAdded x g (refLin (refMixed a u sa sc wo wp bp) wm) (ix2 i s)
    = Cert.KernelMergeIdeal.addeds a u sa sc x wo wp bp wm g (ix2 i s) := by
  refine (refAdded_at x g _ i s).trans ?_
  simp only [refThrough_at]
  rfl
end

theorem algebraic_merge : Cert.algebraic_KernelMergeIdeal_ReferenceMergeIdeal := by
  intro m g m' g' _ hm
  refine ⟨fun c => Cert.KernelMergeIdeal.yas (m ((c : Thread Cert.KernelMergeIdeal.nD Cert.KernelMergeIdeal.τ).loc Cert.KernelMergeIdeal.main_arg0)) (m ((c : Thread Cert.KernelMergeIdeal.nD Cert.KernelMergeIdeal.τ).loc Cert.KernelMergeIdeal.main_arg5)),
    fun c => Cert.KernelMergeIdeal.ycs (m ((c : Thread Cert.KernelMergeIdeal.nD Cert.KernelMergeIdeal.τ).loc Cert.KernelMergeIdeal.main_arg1)) (m ((c : Thread Cert.KernelMergeIdeal.nD Cert.KernelMergeIdeal.τ).loc Cert.KernelMergeIdeal.main_arg6)) (m ((c : Thread Cert.KernelMergeIdeal.nD Cert.KernelMergeIdeal.τ).loc Cert.KernelMergeIdeal.main_arg7)),
    fun c => Cert.KernelMergeIdeal.mixeds (m ((c : Thread Cert.KernelMergeIdeal.nD Cert.KernelMergeIdeal.τ).loc Cert.KernelMergeIdeal.main_arg0)) (m ((c : Thread Cert.KernelMergeIdeal.nD Cert.KernelMergeIdeal.τ).loc Cert.KernelMergeIdeal.main_arg1)) (m ((c : Thread Cert.KernelMergeIdeal.nD Cert.KernelMergeIdeal.τ).loc Cert.KernelMergeIdeal.main_arg2)) (m ((c : Thread Cert.KernelMergeIdeal.nD Cert.KernelMergeIdeal.τ).loc Cert.KernelMergeIdeal.main_arg3)) (m ((c : Thread Cert.KernelMergeIdeal.nD Cert.KernelMergeIdeal.τ).loc Cert.KernelMergeIdeal.main_arg5)) (m ((c : Thread Cert.KernelMergeIdeal.nD Cert.KernelMergeIdeal.τ).loc Cert.KernelMergeIdeal.main_arg6)) (m ((c : Thread Cert.KernelMergeIdeal.nD Cert.KernelMergeIdeal.τ).loc Cert.KernelMergeIdeal.main_arg7)),
    fun c => Cert.KernelMergeIdeal.throughs (m ((c : Thread Cert.KernelMergeIdeal.nD Cert.KernelMergeIdeal.τ).loc Cert.KernelMergeIdeal.main_arg0)) (m ((c : Thread Cert.KernelMergeIdeal.nD Cert.KernelMergeIdeal.τ).loc Cert.KernelMergeIdeal.main_arg1)) (m ((c : Thread Cert.KernelMergeIdeal.nD Cert.KernelMergeIdeal.τ).loc Cert.KernelMergeIdeal.main_arg2)) (m ((c : Thread Cert.KernelMergeIdeal.nD Cert.KernelMergeIdeal.τ).loc Cert.KernelMergeIdeal.main_arg3)) (m ((c : Thread Cert.KernelMergeIdeal.nD Cert.KernelMergeIdeal.τ).loc Cert.KernelMergeIdeal.main_arg5)) (m ((c : Thread Cert.KernelMergeIdeal.nD Cert.KernelMergeIdeal.τ).loc Cert.KernelMergeIdeal.main_arg6)) (m ((c : Thread Cert.KernelMergeIdeal.nD Cert.KernelMergeIdeal.τ).loc Cert.KernelMergeIdeal.main_arg7)) (m ((c : Thread Cert.KernelMergeIdeal.nD Cert.KernelMergeIdeal.τ).loc Cert.KernelMergeIdeal.main_arg8)),
    fun c => Cert.KernelMergeIdeal.addeds (m ((c : Thread Cert.KernelMergeIdeal.nD Cert.KernelMergeIdeal.τ).loc Cert.KernelMergeIdeal.main_arg0)) (m ((c : Thread Cert.KernelMergeIdeal.nD Cert.KernelMergeIdeal.τ).loc Cert.KernelMergeIdeal.main_arg1)) (m ((c : Thread Cert.KernelMergeIdeal.nD Cert.KernelMergeIdeal.τ).loc Cert.KernelMergeIdeal.main_arg2)) (m ((c : Thread Cert.KernelMergeIdeal.nD Cert.KernelMergeIdeal.τ).loc Cert.KernelMergeIdeal.main_arg3)) (m ((c : Thread Cert.KernelMergeIdeal.nD Cert.KernelMergeIdeal.τ).loc Cert.KernelMergeIdeal.main_arg4)) (m ((c : Thread Cert.KernelMergeIdeal.nD Cert.KernelMergeIdeal.τ).loc Cert.KernelMergeIdeal.main_arg5)) (m ((c : Thread Cert.KernelMergeIdeal.nD Cert.KernelMergeIdeal.τ).loc Cert.KernelMergeIdeal.main_arg6)) (m ((c : Thread Cert.KernelMergeIdeal.nD Cert.KernelMergeIdeal.τ).loc Cert.KernelMergeIdeal.main_arg7)) (m ((c : Thread Cert.KernelMergeIdeal.nD Cert.KernelMergeIdeal.τ).loc Cert.KernelMergeIdeal.main_arg8)) (m ((c : Thread Cert.KernelMergeIdeal.nD Cert.KernelMergeIdeal.τ).loc Cert.KernelMergeIdeal.main_arg9)),
    (θ_run Cert.KernelMergeIdeal.defs _ _).mono (fun r h c => ⟨(h c).1.trans (Cert.KernelMergeIdeal.ya_final m c), (h c).2.1.trans (Cert.KernelMergeIdeal.yc_final m c), (h c).2.2.1.trans (Cert.KernelMergeIdeal.mixed_final m c), (h c).2.2.2.1.trans (Cert.KernelMergeIdeal.through_final m c), (h c).2.2.2.2.1.trans (Cert.KernelMergeIdeal.added_final m c), (h c).2.2.2.2.2⟩) (Cert.KernelMergeIdeal.Value.run_blocks m g),
    (θ_run Cert.ReferenceMergeIdeal.defs _ _).mono (fun r h c => ⟨(h c).1.trans ?_, (h c).2.1.trans ?_, (h c).2.2.1.trans ?_, (h c).2.2.2.1.trans ?_, (h c).2.2.2.2.1.trans ?_, (h c).2.2.2.2.2⟩) (Cert.ReferenceMergeIdeal.Value.run m' g')⟩
  all_goals
    obtain ⟨h0, h1, h2, h3, h4, h5, h6, h7, h8, h9⟩ := hm c
    simp only [h0, h1, h2, h3, h4, h5, h6, h7, h8, h9]
    funext i
    obtain ⟨i, s, rfl⟩ : ∃ (a : Fin _) (b : Fin _), i = ix2 a b := ⟨i 0, i 1, by funext x; fin_cases x <;> rfl⟩
  · exact refLin_at _ _ i s
  · exact refYc_at _ _ _ i s
  · exact refMixed_at _ _ _ _ _ _ _ i s
  · exact refThrough_at _ _ _ _ _ _ _ _ i s
  · exact refSum_at _ _ _ _ _ _ _ _ _ _ i s

end Cert.Proof

end
-- ==== Proof.NormBack.lean ====
/- The gradient of a row over its root mean square: the form with one mean taken out and the derivative as the rules of
   calculus give it are the same extended real, whatever the row. -/
module

public import proofs.«01_k».proof.Proof.NormBase
public import Mathlib.Tactic.Positivity
public import Mathlib.Tactic.FieldSimp

@[expose] public section

noncomputable section

namespace Cert.Norm

open Idealize.ShloMosaic

theorem bits_1024 : Ideal.ofBits FTy.f32 0x44800000#32 = ((1024 : ℝ) : EReal) := by
  simp [Ideal.ofBits, Ideal.ieee, -EReal.coe_mul]; norm_num

theorem bits_half : Ideal.ofBits FTy.f32 0xBF000000#32 = ((-(1 / 2) : ℝ) : EReal) := by
  simp [Ideal.ofBits, Ideal.ieee, -EReal.coe_mul]; norm_num

theorem bits_small : ∃ e : ℝ, 0 < e ∧ Ideal.ofBits FTy.f32 0x358637BD#32 = (e : EReal) := by
  refine ⟨8796093 / 2 ^ 43, by positivity, ?_⟩
  simp [Ideal.ofBits, Ideal.ieee, -EReal.coe_mul]; norm_num

/-- The gradient with one mean taken out. -/
def back (x p : Fin 1024 → EReal) (s : Fin 1024) : EReal :=
  Ideal.rsqrt (mean x) * (p s - x s * Ideal.rsqrt (mean x) * Ideal.div (∑ k, p k * (x k * Ideal.rsqrt (mean x))) (Ideal.ofBits FTy.f32 0x44800000#32))

/-- What reaches each of the two factors of a row's squares. -/
def squared (x p : Fin 1024 → EReal) : EReal :=
  Ideal.div ((∑ k, x k * p k) * (Ideal.ofBits FTy.f32 0xBF000000#32 * Ideal.div (Ideal.rsqrt (mean x)) (mean x))) (Ideal.ofBits FTy.f32 0x44800000#32)

/-- The derivative, term by term. -/
def chain (x p : Fin 1024 → EReal) (s : Fin 1024) : EReal :=
  p s * Ideal.rsqrt (mean x) + x s * squared x p + squared x p * x s

/-- The mean's argument is infinite or a positive real. -/
theorem mean_cases (x : Fin 1024 → EReal) : mean x = ⊤ ∨ ∃ v : ℝ, 0 < v ∧ mean x = (v : EReal) := by
  obtain ⟨e, he, hb⟩ := bits_small
  unfold mean
  rw [bits_1024, hb, Ideal.div_coe (by norm_num)]
  have h : (0 : EReal) ≤ ∑ k, x k * x k := Finset.sum_nonneg fun k _ => by
    rcases le_total 0 (x k) with h | h
    · exact mul_nonneg h h
    · exact EReal.mul_nonneg_iff.mpr (Or.inr ⟨h, h⟩)
  induction hs : ∑ k, x k * x k using EReal.rec with
  | bot => rw [hs] at h; exact absurd h (by simp)
  | top => left; rw [EReal.top_mul_coe_of_pos (by norm_num)]; rfl
  | coe v =>
    right
    rw [hs] at h
    have hv : 0 ≤ v := EReal.coe_nonneg.mp h
    exact ⟨v * (1 / 1024) + e, by positivity, by rw [← EReal.coe_mul, ← EReal.coe_add]⟩

/-- A real factor that is not negative comes out of a sum. -/
theorem sum_factor (r : ℝ) (hr : 0 ≤ r) (f : Fin 1024 → EReal) : ∑ k, f k * (r : EReal) = (∑ k, f k) * (r : EReal) := by
  have h : ∀ t : Finset (Fin 1024), ∑ k ∈ t, f k * (r : EReal) = (∑ k ∈ t, f k) * (r : EReal) := by
    intro t
    induction t using Finset.induction_on with
    | empty => simp
    | insert a t ha ih => rw [Finset.sum_insert ha, Finset.sum_insert ha, ih, EReal.right_distrib_of_nonneg_of_ne_top (EReal.coe_nonneg.mpr hr) (EReal.coe_ne_top r)]
  exact h _

theorem twice (z : EReal) : z + z = z * ((2 : ℝ) : EReal) := by
  have h : (1 + 1 : EReal) * z = 1 * z + 1 * z := EReal.right_distrib_of_nonneg zero_le_one zero_le_one
  rw [one_mul] at h
  rw [← h, mul_comm]
  congr 1
  rw [show ((2 : ℝ) : EReal) = ((1 + 1 : ℝ) : EReal) by norm_num, EReal.coe_add, EReal.coe_one]

theorem chain_eq (x p : Fin 1024 → EReal) (s : Fin 1024) : chain x p s = back x p s := by
  unfold chain back squared
  rcases mean_cases x with h | ⟨v, hv, h⟩
  · rw [h, Ideal.rsqrt_top]
    have h0 : Ideal.div 0 ⊤ = 0 := by simp [Ideal.div]
    have h1 : Ideal.div 0 (Ideal.ofBits FTy.f32 0x44800000#32) = 0 := by rw [bits_1024, Ideal.div_coe (by norm_num), zero_mul]
    simp only [h0, mul_zero, zero_mul, h1, add_zero]
  · obtain ⟨ρ, hρ, hr, hq⟩ : ∃ ρ : ℝ, 0 < ρ ∧ Ideal.rsqrt (v : EReal) = (ρ : EReal) ∧ ρ * ρ = 1 / v := by
      refine ⟨(Real.sqrt v)⁻¹, inv_pos.mpr (Real.sqrt_pos.mpr hv), ?_, ?_⟩
      · rw [Ideal.rsqrt_coe, if_neg (not_lt.mpr hv.le), if_neg hv.ne']
      · rw [← mul_inv, Real.mul_self_sqrt hv.le, one_div]
    rw [h, hr, bits_1024, bits_half, Ideal.div_coe hv.ne', Ideal.div_coe (by norm_num), Ideal.div_coe (by norm_num)]
    have hm : ∑ k, p k * (x k * (ρ : EReal)) = (∑ k, x k * p k) * (ρ : EReal) := by
      rw [← sum_factor ρ hρ.le]
      exact Finset.sum_congr rfl fun k _ => by rw [← mul_assoc, mul_comm (p k)]
    rw [hm]
    generalize ∑ k, x k * p k = M
    have el : M * (((-(1 / 2) : ℝ) : EReal) * ((ρ : EReal) * ((1 / v : ℝ) : EReal))) * ((1 / 1024 : ℝ) : EReal)
        = M * ((-(1 / 2) * (ρ * (1 / v)) * (1 / 1024) : ℝ) : EReal) := by
      rw [mul_assoc, ← EReal.coe_mul, ← EReal.coe_mul, ← EReal.coe_mul]
    rw [el, mul_comm (M * _) (x s), add_assoc, twice, sub_eq_add_neg, mul_comm (ρ : EReal),
      EReal.right_distrib_of_nonneg_of_ne_top (EReal.coe_nonneg.mpr hρ.le) (EReal.coe_ne_top ρ)]
    congr 1
    have er : x s * (ρ : EReal) * (M * (ρ : EReal) * ((1 / 1024 : ℝ) : EReal)) = x s * M * ((ρ * ρ * (1 / 1024) : ℝ) : EReal) := by
      rw [EReal.coe_mul, EReal.coe_mul]
      ac_rfl
    rw [er, ← mul_assoc, mul_assoc (x s * M), ← EReal.coe_mul, ← mul_neg, ← EReal.coe_neg, mul_assoc (x s * M), ← EReal.coe_mul]
    congr 2
    rw [hq]
    ring

end Cert.Norm

end
-- ==== Proof.Back.lean ====
/- The gradient through the norm and the second matrix of the feed-forward block with its squared relu: a grid point does 512
   rows, and the gradient of the gains runs through the grid. -/
module

public import proofs.«01_k».proof.Defs
public import proofs.«01_k».proof.Proof.GradBase
public import proofs.«01_k».proof.Proof.NormBack
public import proofs.«01_k».proof.Proof.Gen.KernelBack.Frame
public import proofs.«01_k».proof.Proof.Gen.KernelBackIdeal.Value
public import proofs.«01_k».proof.Proof.Gen.ReferenceBackIdeal.Run
public import Idealize.ShloMosaic.Lib.Pipeline.ValueKit.Geometry
public import Idealize.ShloMosaic.Lib.Pipeline.ValueKit.Point
public import Idealize.ShloMosaic.Lib.Pipeline.ValueKit.Acc
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.KernelBackIdeal

open Gen Cert.Grad Cert.Norm
open Idealize.ShloMosaic.Pipeline (Dat)
/-! ## A row -/

/-- A row times the matrix's rows. -/
def across (v : Fin 1024 → EReal) (w : S4096x1024.Idx → EReal) (j : Fin 4096) : EReal := ∑ k, v k * w (ix2 j k)

/-- The gradient of a row before its norm. -/
def before (d x : Fin 1024 → EReal) (g : S1x1024.Idx → EReal) : Fin 1024 → EReal := back x fun k => d k * g (ix2 0 k)

/-- A row's part of the gradient of the gains. -/
def gain (d x : Fin 1024 → EReal) (s : Fin 1024) : EReal := d s * (x s * Ideal.rsqrt (mean x))

/-! ## A block -/

section
variable (d x : Vec Ideal S512x1024 .f32) (g : Vec Ideal S1x1024 .f32)

theorem before_at (r : Fin 512) (s : Fin 1024) : k0_pay6 d x g (ix2 r s) = before (fun k => d (ix2 r k)) (fun k => x (ix2 r k)) g s := by
  pointwise [k0_pay6, k0_pay3, k0_pay2]
  rfl

theorem gains_at (acc : Vec Ideal S1x1024 .f32) (z : Fin 1) (s : Fin 1024) : k0_pay5 d x acc (ix2 z s)
    = (acc (ix2 z s) + ∑ r : Fin 512, gain (fun k => d (ix2 r k)) (fun k => x (ix2 r k)) s : EReal) := by
  pointwise [k0_pay5, k0_pay3, k0_pay2]
  rfl

theorem inner_at (w : Vec Ideal S4096x1024 .bf16) (v : Vec Ideal S512x4096 .bf16) (r : Fin 512) (j : Fin 4096) : k0_pay1 (k0_pay6 d x g) w v (ix2 r j)
    = (across (before (fun k => d (ix2 r k)) (fun k => x (ix2 r k)) g) w j * (Ideal.ofBits FTy.f32 0x40000000#32 * v (ix2 r j)) : EReal) := by
  pointwise [k0_pay1]
  simp only [before_at]
  rfl

theorem none_at (z : Fin 1) (s : Fin 1024) : k0_pay4 (F := Ideal) (ix2 z s) = (0 : EReal) := by
  pointwise [k0_pay4]
end

/-! ## What a point leaves -/

section
variable (c : Dev nD) (i : grid0.Coords) (a1 : Memref sig .tc .vmem S512x1024 .f32) (h1 : a1.IsWhole) (a2 : Memref sig .tc .vmem S512x1024 .f32) (h2 : a2.IsWhole) (a3 : Memref sig .tc .vmem S512x4096 .bf16) (h3 : a3.IsWhole) (a4 : Memref sig .tc .vmem S4096x1024 .bf16) (h4 : a4.IsWhole) (a5 : Memref sig .tc .vmem S1x1024 .f32) (h5 : a5.IsWhole) (a6 : Memref sig .tc .vmem S512x1024 .bf16) (h6 : a6.IsWhole) (a7 : Memref sig .tc .vmem S512x4096 .bf16) (h7 : a7.IsWhole) (a8 : Memref sig .tc .vmem S1x1024 .f32) (h8 : a8.IsWhole)
    (x0 x1 : Vec Ideal S512x1024 .f32) (x2 : Vec Ideal S512x4096 .bf16) (x3 : Vec Ideal S4096x1024 .bf16) (x4 : Vec Ideal S1x1024 .f32)

theorem first_before (hc : cond0_0 i) : out0_A_5 c i a1 h1 a2 h2 a3 h3 a4 h4 a5 h5 a6 h6 a7 h7 a8 h8 hc x0 x1 x2 x3 x4 = k0_pay6 x0 x1 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero (S := S512x1024) at00]
  simp only [View.readAt_eq_ld, h1.read_unread, h2.read_unread, h3.read_unread, h4.read_unread, h5.read_unread, h8.read_unread, View.ld_unit_zero (S := S512x4096) at00, View.ld_unit_zero (S := S512x1024) at00, View.ld_unit_zero (S := S4096x1024) at00, View.ld_unit_zero (S := S1x1024) at00]

theorem first_inner (hc : cond0_0 i) : out0_A_6 c i a1 h1 a2 h2 a3 h3 a4 h4 a5 h5 a6 h6 a7 h7 a8 h8 hc x0 x1 x2 x3 x4 = k0_pay1 (k0_pay6 x0 x1 x4) x3 x2 := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_unit_zero (S := S512x4096) at00]
  simp only [View.readAt_eq_ld, h1.read_unread, h2.read_unread, h3.read_unread, h4.read_unread, h5.read_unread, h8.read_unread, View.ld_unit_zero (S := S512x4096) at00, View.ld_unit_zero (S := S512x1024) at00, View.ld_unit_zero (S := S4096x1024) at00, View.ld_unit_zero (S := S1x1024) at00]

theorem first_gains (hc : cond0_0 i) : out0_A_7 c i a1 h1 a2 h2 a3 h3 a4 h4 a5 h5 a6 h6 a7 h7 a8 h8 hc x0 x1 x2 x3 x4 = k0_pay5 x0 x1 (k0_pay4 (F := Ideal)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x1024) at00, View.readCov_unit_zero (S := S1x1024) _ at00]
  simp only [View.readAt_eq_ld, h1.read_unread, h2.read_unread, h3.read_unread, h4.read_unread, h5.read_unread, h8.read_unread, View.ld_unit_zero (S := S512x4096) at00, View.ld_unit_zero (S := S512x1024) at00, View.ld_unit_zero (S := S4096x1024) at00, View.ld_unit_zero (S := S1x1024) at00]

theorem next_before (hc : ¬cond0_0 i) (acc : Vec Ideal S1x1024 .f32) : out0_B_5 c i a1 h1 a2 h2 a3 h3 a4 h4 a5 h5 a6 h6 a7 h7 a8 h8 hc x0 x1 x2 x3 x4 acc = k0_pay6 x0 x1 x4 := by
  unfold out0_B_5
  rw [View.read_writes_eq_canon _ _ _ (cover0_B_5 c i a1 h1 a2 h2 a3 h3 a4 h4 a5 h5 a6 h6 a7 h7 a8 h8 hc x0 x1 x2 x3 x4 acc)]
  unfold kernelRun0_B
  dsimp only
  sl_unfold_words
  rw [View.canon_unit_zero (S := S512x1024) at00]
  simp only [View.readAt_eq_ld, h1.read_unread, h2.read_unread, h3.read_unread, h4.read_unread, h5.read_unread, h8.read_unread, View.ld_unit_zero (S := S512x4096) at00, View.ld_unit_zero (S := S512x1024) at00, View.ld_unit_zero (S := S4096x1024) at00, View.ld_unit_zero (S := S1x1024) at00]

theorem next_inner (hc : ¬cond0_0 i) (acc : Vec Ideal S1x1024 .f32) : out0_B_6 c i a1 h1 a2 h2 a3 h3 a4 h4 a5 h5 a6 h6 a7 h7 a8 h8 hc x0 x1 x2 x3 x4 acc = k0_pay1 (k0_pay6 x0 x1 x4) x3 x2 := by
  unfold out0_B_6
  rw [View.read_writes_eq_canon _ _ _ (cover0_B_6 c i a1 h1 a2 h2 a3 h3 a4 h4 a5 h5 a6 h6 a7 h7 a8 h8 hc x0 x1 x2 x3 x4 acc)]
  unfold kernelRun0_B
  dsimp only
  sl_unfold_words
  rw [View.canon_unit_zero (S := S512x4096) at00]
  simp only [View.readAt_eq_ld, h1.read_unread, h2.read_unread, h3.read_unread, h4.read_unread, h5.read_unread, h8.read_unread, View.ld_unit_zero (S := S512x4096) at00, View.ld_unit_zero (S := S512x1024) at00, View.ld_unit_zero (S := S4096x1024) at00, View.ld_unit_zero (S := S1x1024) at00]

theorem next_gains (hc : ¬cond0_0 i) (acc : Vec Ideal S1x1024 .f32) : out0_B_7 c i a1 h1 a2 h2 a3 h3 a4 h4 a5 h5 a6 h6 a7 h7 a8 h8 hc x0 x1 x2 x3 x4 acc = k0_pay5 x0 x1 acc := by
  unfold out0_B_7
  rw [View.read_writes_eq_canon _ _ _ (cover0_B_7 c i a1 h1 a2 h2 a3 h3 a4 h4 a5 h5 a6 h6 a7 h7 a8 h8 hc x0 x1 x2 x3 x4 acc)]
  unfold kernelRun0_B
  dsimp only
  sl_unfold_words
  rw [View.canon_unit_zero (S := S1x1024) at00]
  simp only [View.readAt_eq_ld, h1.read_unread, h2.read_unread, h3.read_unread, h4.read_unread, h5.read_unread, h8.read_unread, View.ld_unit_zero (S := S512x4096) at00, View.ld_unit_zero (S := S512x1024) at00, View.ld_unit_zero (S := S4096x1024) at00, View.ld_unit_zero (S := S1x1024) at00]

end

/-! ## The arrays -/

/-- The three results over whole arrays. -/
def befores (d x : S4096x1024.Idx → EReal) (g : S1x1024.Idx → EReal) : S4096x1024.Idx → EReal := fun i =>
  before (fun k => d (ix2 (i 0) k)) (fun k => x (ix2 (i 0) k)) g (i 1)
def inners (d x : S4096x1024.Idx → EReal) (v : S4096x4096.Idx → EReal) (w : S4096x1024.Idx → EReal) (g : S1x1024.Idx → EReal) : S4096x4096.Idx → EReal := fun i =>
  across (before (fun k => d (ix2 (i 0) k)) (fun k => x (ix2 (i 0) k)) g) w (i 1) * (Ideal.ofBits FTy.f32 0x40000000#32 * max (v i) 0)
def gains (d x : S4096x1024.Idx → EReal) : S1x1024.Idx → EReal := fun i =>
  ∑ r : Fin 4096, gain (fun k => d (ix2 r k)) (fun k => x (ix2 r k)) (i 1)

theorem below (t : Fin cfg0.N) (r : Fin 512) : t.val * 512 + r.val < 4096 := by
  have h : t.val < 8 := t.isLt
  omega

variable (m : (ℓ : Loc nD τ sig) → Buf (Elt Ideal) ℓ)

/-- The saved activation as the call finds it: the relu of its argument. -/
theorem V_relu (c : Dev nD) : V m c main_v1 = truncf (F := Ideal) (φ := .f32) .bf16 (maximumf (F := Ideal) (φ := .f32) (m ((c : Thread nD τ).loc main_arg2))
    (broadcastInDim S4096x4096 ![] bcast_S_S4096x4096 (constant S_ .f32 0x00000000#32))) bitsLt_bf16_f32 := by
  unfold V
  simp only [hostOps0, hostOps0_1, List.flatten_cons, List.flatten_nil, List.append_nil, List.cons_append, List.nil_append, StableHlo.TRef.binary, StableHlo.TRef.nullary,
    StableHlo.TRef.unary, StableHlo.TRef.toBuf, StableHlo.TRef.ofBuf, cast_eq]
  after_results_simp <;> rfl

theorem relu_at (c : Dev nD) (r j : Fin 4096) : V m c main_v1 (ix2 r j) = (max (m ((c : Thread nD τ).loc main_arg2) (ix2 r j)) 0 : EReal) := by
  rw [V_relu]
  pointwise

theorem at0 : ∀ t : Fin cfg0.N, win0_0.index t = ![t.val, 0] := (by decide +kernel : ∀ t : Fin grid0.N, _)
theorem arg0_at (c : Dev nD) (t : Fin cfg0.N) (r : Fin 512) (k : Fin 1024) : iblk m c 0 t (ix2 r k)
    = m ((c : Thread nD τ).loc main_arg0) (ix2 ⟨t.val * 512 + r.val, below t r⟩ k) := by
  simp only [Gen.iblk]
  blk_simp [at0]
  refine (congrFun (V_main_arg0 m c) _).trans (congrArg _ ?_)
  funext a
  fin_cases a
  · exact Fin.ext (by blk_simp [at0]; rfl)
  · exact Fin.ext (by blk_simp [at0]; rfl)
theorem at1 : ∀ t : Fin cfg0.N, win0_1.index t = ![t.val, 0] := (by decide +kernel : ∀ t : Fin grid0.N, _)
theorem arg1_at (c : Dev nD) (t : Fin cfg0.N) (r : Fin 512) (k : Fin 1024) : iblk m c 1 t (ix2 r k)
    = m ((c : Thread nD τ).loc main_arg1) (ix2 ⟨t.val * 512 + r.val, below t r⟩ k) := by
  simp only [Gen.iblk]
  blk_simp [at1]
  refine (congrFun (V_main_arg1 m c) _).trans (congrArg _ ?_)
  funext a
  fin_cases a
  · exact Fin.ext (by blk_simp [at1]; rfl)
  · exact Fin.ext (by blk_simp [at1]; rfl)
theorem at2 : ∀ t : Fin cfg0.N, win0_2.index t = ![t.val, 0] := (by decide +kernel : ∀ t : Fin grid0.N, _)
theorem arg2_at (c : Dev nD) (t : Fin cfg0.N) (r : Fin 512) (j : Fin 4096) : iblk m c 2 t (ix2 r j)
    = (max (m ((c : Thread nD τ).loc main_arg2) (ix2 ⟨t.val * 512 + r.val, below t r⟩ j)) 0 : EReal) := by
  simp only [Gen.iblk]
  blk_simp [at2]
  refine (congrArg _ ?_).trans (relu_at m c ⟨t.val * 512 + r.val, below t r⟩ j)
  funext a
  fin_cases a
  · exact Fin.ext (by blk_simp [at2]; rfl)
  · exact Fin.ext (by blk_simp [at2]; rfl)
theorem at3 : ∀ t : Fin cfg0.N, win0_3.index t = ![0, 0] := (by decide +kernel : ∀ t : Fin grid0.N, _)
theorem whole3 (c : Dev nD) (t : Fin cfg0.N) : (iblk m c 3 t : S4096x1024.Idx → EReal) = m ((c : Thread nD τ).loc main_arg3) := by
  funext y
  obtain ⟨r, k, rfl⟩ : ∃ (r : Fin 4096) (k : Fin 1024), y = ix2 r k := ⟨y 0, y 1, by funext a; fin_cases a <;> rfl⟩
  simp only [Gen.iblk]
  blk_simp [at3]
  refine (congrFun (V_main_arg3 m c) _).trans (congrArg _ ?_)
  funext a
  fin_cases a
  · exact Fin.ext (by blk_simp [at3])
  · exact Fin.ext (by blk_simp [at3])
theorem at4 : ∀ t : Fin cfg0.N, win0_4.index t = ![0, 0] := (by decide +kernel : ∀ t : Fin grid0.N, _)
theorem whole4 (c : Dev nD) (t : Fin cfg0.N) : (iblk m c 4 t : S1x1024.Idx → EReal) = m ((c : Thread nD τ).loc main_arg4) := by
  funext y
  obtain ⟨r, k, rfl⟩ : ∃ (r : Fin 1) (k : Fin 1024), y = ix2 r k := ⟨y 0, y 1, by funext a; fin_cases a <;> rfl⟩
  simp only [Gen.iblk]
  blk_simp [at4]
  refine (congrFun (V_main_arg4 m c) _).trans (congrArg _ ?_)
  funext a
  fin_cases a
  · exact Fin.ext (by blk_simp [at4])
  · exact Fin.ext (by blk_simp [at4])
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at7 : ∀ t : Fin cfg0.N, win0_7.index t = ![0, 0] := (by decide +kernel : ∀ t : Fin grid0.N, _)

theorem before_left (c : Dev nD) (t : Fin cfg0.N) : (outsAt0 m c t.val t.isLt).1 = k0_pay6 (iblk m c 0 t) (iblk m c 1 t) (iblk m c 4 t) := by
  by_cases h0 : t.val % 8 = 0
  · rw [outsAt0_A m c t h0]
    dsimp only
    rw [first_before]
  · rw [outsAt0_B m c t h0]
    dsimp only
    rw [next_before]

theorem before_final (c : Dev nD) : (dats m 0 c).arrAt 5 cfg0.N = befores (m ((c : Thread nD τ).loc main_arg0)) (m ((c : Thread nD τ).loc main_arg1)) (m ((c : Thread nD τ).loc main_arg4)) := by
  refine (dats m 0 c).arrAt_eq_of_covers 5 _ (by decide +kernel) fun t hf y => ?_
  rw [after0_5, before_left]
  blk_simp
  obtain ⟨r, s, rfl⟩ : ∃ (r : Fin 512) (s : Fin 1024), y = ix2 r s := ⟨y 0, y 1, by funext a; fin_cases a <;> rfl⟩
  have ei : ((cfg0.win 5).blk t).view.emb (ix2 r s) = (ix2 (⟨t.val * 512 + r.val, below t r⟩ : Fin 4096) s : S4096x1024.Idx) := by
    funext a
    fin_cases a
    · exact Fin.ext (by blk_simp [at5]; rfl)
    · exact Fin.ext (by blk_simp [at5]; rfl)
  rw [ei]
  refine (before_at _ _ _ r s).trans ?_
  simp only [arg0_at, arg1_at, whole4]
  rfl

theorem inner_left (c : Dev nD) (t : Fin cfg0.N) : (outsAt0 m c t.val t.isLt).2.1 = k0_pay1 (k0_pay6 (iblk m c 0 t) (iblk m c 1 t) (iblk m c 4 t)) (iblk m c 3 t) (iblk m c 2 t) := by
  by_cases h0 : t.val % 8 = 0
  · rw [outsAt0_A m c t h0]
    dsimp only
    rw [first_inner]
  · rw [outsAt0_B m c t h0]
    dsimp only
    rw [next_inner]

theorem inner_final (c : Dev nD) : (dats m 0 c).arrAt 6 cfg0.N = inners (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  rw [after0_6, inner_left]
  blk_simp
  obtain ⟨r, s, rfl⟩ : ∃ (r : Fin 512) (s : Fin 4096), y = ix2 r s := ⟨y 0, y 1, by funext a; fin_cases a <;> rfl⟩
  have ei : ((cfg0.win 6).blk t).view.emb (ix2 r s) = (ix2 (⟨t.val * 512 + r.val, below t r⟩ : Fin 4096) s : S4096x4096.Idx) := by
    funext a
    fin_cases a
    · exact Fin.ext (by blk_simp [at6]; rfl)
    · exact Fin.ext (by blk_simp [at6]; rfl)
  rw [ei]
  refine (inner_at _ _ _ _ _ r s).trans ?_
  simp only [arg0_at, arg1_at, arg2_at, whole3, whole4]
  rfl

/-- The part of block `p` in the gradient of the gains, for the grid's eight points; nothing beyond. -/
def part (c : Dev nD) (s : Fin 1024) (p : ℕ) : EReal := if h : p < 8 then
  ∑ r : Fin 512, gain (fun k => m ((c : Thread nD τ).loc main_arg0) (ix2 ⟨p * 512 + r.val, by omega⟩ k))
    (fun k => m ((c : Thread nD τ).loc main_arg1) (ix2 ⟨p * 512 + r.val, by omega⟩ k)) s else 0

theorem part_at (c : Dev nD) (t : Fin cfg0.N) (acc : Vec Ideal S1x1024 .f32) (z : Fin 1) (s : Fin 1024) :
    k0_pay5 (iblk m c 0 t) (iblk m c 1 t) acc (ix2 z s) = (acc (ix2 z s) + part m c s t.val : EReal) := by
  refine (gains_at _ _ acc z s).trans ?_
  have h : t.val < 8 := t.isLt
  rw [part, dif_pos h]
  simp only [arg0_at, arg1_at]

/-- After point `n` the running sum holds the parts of the blocks so far. -/
theorem running (c : Dev nD) : ∀ (n : ℕ) (hn : n < cfg0.N) (z : Fin 1) (s : Fin 1024),
    (outsAt0 m c n hn).2.2 (ix2 z s) = (∑ p ∈ Finset.range (n + 1), part m c s p : EReal)
  | 0, hn, z, s => by
    have e := outsAt0_A m c ⟨0, hn⟩ rfl
    dsimp only at e
    rw [e]
    dsimp only
    rw [first_gains]
    refine (part_at m c _ _ z s).trans ?_
    rw [none_at, Finset.sum_range_one, zero_add]
  | n + 1, hn, z, s => by
    have h8 : n + 1 < 8 := hn
    have e := outsAt0_B m c ⟨n + 1, hn⟩ (by dsimp only; omega)
    dsimp only at e
    rw [e]
    dsimp only
    rw [next_gains]
    refine (part_at m c _ _ z s).trans ?_
    rw [Finset.sum_range_succ]
    exact congrArg (· + part m c s (n + 1)) (running c n (Nat.lt_of_succ_lt hn) z s)

theorem parts (c : Dev nD) (z : Fin 1) (s : Fin 1024) : ∑ p ∈ Finset.range 8, part m c s p = gains (m ((c : Thread nD τ).loc main_arg0)) (m ((c : Thread nD τ).loc main_arg1)) (ix2 z s) := by
  rw [Finset.sum_range]
  show _ = ∑ r : Fin 4096, gain (fun k => m ((c : Thread nD τ).loc main_arg0) (ix2 r k)) (fun k => m ((c : Thread nD τ).loc main_arg1) (ix2 r k)) s
  rw [← Fin.sum_mul_add_fin 8 512 (fun r : Fin 4096 => gain (fun k => m ((c : Thread nD τ).loc main_arg0) (ix2 r k)) (fun k => m ((c : Thread nD τ).loc main_arg1) (ix2 r k)) s)]
  exact Finset.sum_congr rfl fun p _ => (dif_pos p.isLt).trans rfl

theorem gains_final (c : Dev nD) : (dats m 0 c).arrAt 7 cfg0.N = gains (m ((c : Thread nD τ).loc main_arg0)) (m ((c : Thread nD τ).loc main_arg1)) := by
  refine (dats m 0 c).arrAt_eq_of_covers 7 _ (by decide +kernel) fun t hf y => ?_
  have h7 : t.val = 7 := (by decide +kernel : ∀ t : Fin grid0.N, win0_7.flush t = true → t.val = 7) t hf
  rw [after0_7]
  blk_simp
  obtain ⟨z, s, rfl⟩ : ∃ (z : Fin 1) (s : Fin 1024), y = ix2 z s := ⟨y 0, y 1, by funext a; fin_cases a <;> rfl⟩
  have ei : ((cfg0.win 7).blk t).view.emb (ix2 z s) = (ix2 z s : S1x1024.Idx) := by
    funext a
    fin_cases a
    · exact Fin.ext (by blk_simp [at7])
    · exact Fin.ext (by blk_simp [at7])
  rw [ei]
  refine (running m c t.val t.isLt z s).trans ?_
  rw [h7]
  exact parts m c z s

end Cert.KernelBackIdeal

namespace Cert.Proof

open Cert.ReferenceBackIdeal Cert.ReferenceBackIdeal.Gen

theorem frame_back : Cert.quiescent_KernelBack := fun m ρ _ => Cert.KernelBack.Gen.frame m ρ

theorem frame_back_ideal : Cert.quiescent_KernelBackIdeal := fun m ρ _ => Cert.KernelBackIdeal.Gen.frame m ρ

theorem frame_back_reference : Cert.quiescent_ReferenceBackIdeal := fun m ρ _ =>
  (θ_run Cert.ReferenceBackIdeal.defs _ _).mono
    (fun r h => ⟨fun c => (h c).2.2.2, sem_eq_zero_of_no_sems (by decide) r.2⟩)
    (Cert.ReferenceBackIdeal.Value.run (F := Ideal) m ρ)

/-! ## The reference -/

section
variable (d x : FVec Ideal S4096x1024 .f32) (v : FVec Ideal S4096x4096 .f32) (w : FVec Ideal S4096x1024 .bf16) (g : FVec Ideal S1x1024 .f32)

abbrev refMean : FVec Ideal S4096x1 .f32 :=
  addf (F := Ideal) (φ := .f32) (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

abbrev refScaled : FVec Ideal S4096x1024 .f32 := mulf (F := Ideal) (φ := .f32) d (broadcastInDim S4096x1024 ![0, 1] bcast_S1x1024_S4096x1024_0_1 g)

abbrev refSquared : FVec Ideal S4096 .f32 :=
  Host.reduceAdd (F := Ideal) (φ := .f32) (Host.divf (mulf (shapeCast S4096x1 (Host.reduceAdd (F := Ideal) (φ := .f32) (mulf x (refScaled d g)) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt (refMean x)) (refMean x))))
    (broadcastInDim S4096x1 ![] bcast_S_S4096x1 (constant S_ .f32 0x44800000#32))) (constant S_ .f32 0x00000000#32) reducesTo_S4096x1_S4096_d1 h_S_

abbrev refBefore : FVec Ideal S4096x1024 .f32 :=
  addf (F := Ideal) (φ := .f32) (addf (mulf (refScaled d g) (broadcastInDim S4096x1024 ![0, 1] bcast_S4096x1_S4096x1024_0_1 (Host.rsqrt (refMean x))))
    (mulf x (broadcastInDim S4096x1024 ![0] bcast_S4096_S4096x1024_0 (refSquared d x g)))) (mulf (broadcastInDim S4096x1024 ![0] bcast_S4096_S4096x1024_0 (refSquared d x g)) x)

abbrev refInnerBack (e : FVec Ideal S4096x1024 .f32) : FVec Ideal S4096x4096 .bf16 :=
  truncf (F := Ideal) (φ := .f32) .bf16 (select (cmpf (F := Ideal) (φ := .f32) .ogt v (broadcastInDim S4096x4096 ![] bcast_S_S4096x4096 (constant S_ .f32 0x00000000#32)))
    (mulf (Host.dotGeneral (F := Ideal) (φ₁ := .f32) (φ₂ := .f32) dot_S4096x1024_S4096x1024_S4096x4096_1_1_0_0_n_n none e (extf (F := Ideal) (φ := .bf16) .f32 w bitsLt_bf16_f32))
      (mulf (broadcastInDim S4096x4096 ![] bcast_S_S4096x4096 (constant S_ .f32 0x40000000#32)) (maximumf v (broadcastInDim S4096x4096 ![] bcast_S_S4096x4096 (constant S_ .f32 0x00000000#32)))))
    (broadcastInDim S4096x4096 ![] bcast_S_S4096x4096 (constant S_ .f32 0x00000000#32))) bitsLt_bf16_f32

abbrev refGains : FVec Ideal S1x1024 .f32 :=
  shapeCast S1x1024 (Host.reduceAdd (F := Ideal) (φ := .f32) (mulf (mulf x (broadcastInDim S4096x1024 ![0, 1] bcast_S4096x1_S4096x1024_0_1 (Host.rsqrt (refMean x)))) d)
    (constant S_ .f32 0x00000000#32) reducesTo_S4096x1024_S1024_d0 h_S_) shapeCasts_S1024_S1x1024

theorem refMean_at (i : Fin 4096) (z : Fin 1) : refMean x (ix2 i z) = Cert.Norm.mean fun k => x (ix2 i k) := by
  pointwise
  rfl

theorem refBefore_at (i : Fin 4096) (s : Fin 1024) : refBefore d x g (ix2 i s)
    = Cert.KernelBackIdeal.before (fun k => d (ix2 i k)) (fun k => x (ix2 i k)) g s := by
  refine Eq.trans ?_ (Cert.Norm.chain_eq (fun k => x (ix2 i k)) (fun k => d (ix2 i k) * g (ix2 0 k)) s)
  pointwise
  simp only [Finset.univ_unique, Finset.sum_singleton]
  rfl

theorem refInnerBack_of (e : FVec Ideal S4096x1024 .f32) (i j : Fin 4096) : refInnerBack v w e (ix2 i j)
    = (Cert.KernelBackIdeal.across (fun k => e (ix2 i k)) w j * (Ideal.ofBits FTy.f32 0x40000000#32 * max (v (ix2 i j)) 0) : EReal) := by
  pointwise
  split_ifs with h
  · rfl
  · rw [max_eq_right (not_lt.mp h), mul_zero, mul_zero]

theorem refInnerBack_at (i j : Fin 4096) : refInnerBack v w (refBefore d x g) (ix2 i j) = Cert.KernelBackIdeal.inners d x v w g (ix2 i j) := by
  refine (refInnerBack_of v w _ i j).trans ?_
  simp only [refBefore_at]
  rfl

theorem refGains_at (z : Fin 1) (s : Fin 1024) : refGains d x (ix2 z s) = Cert.KernelBackIdeal.gains d x (ix2 z s) := by
  pointwise
  exact Finset.sum_congr rfl fun r _ => mul_comm _ _
end

theorem algebraic_back : Cert.algebraic_KernelBackIdeal_ReferenceBackIdeal := by
  intro m g m' g' _ hm
  refine ⟨fun c => Cert.KernelBackIdeal.befores (m ((c : Thread Cert.KernelBackIdeal.nD Cert.KernelBackIdeal.τ).loc Cert.KernelBackIdeal.main_arg0)) (m ((c : Thread Cert.KernelBackIdeal.nD Cert.KernelBackIdeal.τ).loc Cert.KernelBackIdeal.main_arg1)) (m ((c : Thread Cert.KernelBackIdeal.nD Cert.KernelBackIdeal.τ).loc Cert.KernelBackIdeal.main_arg4)),
    fun c => Cert.KernelBackIdeal.inners (m ((c : Thread Cert.KernelBackIdeal.nD Cert.KernelBackIdeal.τ).loc Cert.KernelBackIdeal.main_arg0)) (m ((c : Thread Cert.KernelBackIdeal.nD Cert.KernelBackIdeal.τ).loc Cert.KernelBackIdeal.main_arg1)) (m ((c : Thread Cert.KernelBackIdeal.nD Cert.KernelBackIdeal.τ).loc Cert.KernelBackIdeal.main_arg2)) (m ((c : Thread Cert.KernelBackIdeal.nD Cert.KernelBackIdeal.τ).loc Cert.KernelBackIdeal.main_arg3)) (m ((c : Thread Cert.KernelBackIdeal.nD Cert.KernelBackIdeal.τ).loc Cert.KernelBackIdeal.main_arg4)),
    fun c => Cert.KernelBackIdeal.gains (m ((c : Thread Cert.KernelBackIdeal.nD Cert.KernelBackIdeal.τ).loc Cert.KernelBackIdeal.main_arg0)) (m ((c : Thread Cert.KernelBackIdeal.nD Cert.KernelBackIdeal.τ).loc Cert.KernelBackIdeal.main_arg1)),
    (θ_run Cert.KernelBackIdeal.defs _ _).mono (fun r h c => ⟨(h c).1.trans (Cert.KernelBackIdeal.before_final m c), (h c).2.1.trans (Cert.KernelBackIdeal.inner_final m c), (h c).2.2.1.trans (Cert.KernelBackIdeal.gains_final m c), (h c).2.2.2⟩) (Cert.KernelBackIdeal.Value.run_blocks m g),
    (θ_run Cert.ReferenceBackIdeal.defs _ _).mono (fun r h c => ⟨(h c).1.trans ?_, (h c).2.1.trans ?_, (h c).2.2.1.trans ?_, (h c).2.2.2⟩) (Cert.ReferenceBackIdeal.Value.run m' g')⟩
  all_goals
    obtain ⟨h0, h1, h2, h3, h4⟩ := hm c
    try unfold Cert.ReferenceBackIdeal.Value.res_main_v50
    simp only [h0, h1, h2, h3, h4]
    funext i
    obtain ⟨i, s, rfl⟩ : ∃ (a : Fin _) (b : Fin _), i = ix2 a b := ⟨i 0, i 1, by funext x; fin_cases x <;> rfl⟩
  · exact refBefore_at _ _ _ i s
  · exact refInnerBack_at _ _ _ _ _ i s
  · exact refGains_at _ _ i s

end Cert.Proof

end
-- ==== Proof.GradIn.lean ====
/- The gradient of the input projection's columns that the attention reads: two grid points,
   each adds the product of its half of the rows, and the second writes the result back. -/
module

public import proofs.«01_k».proof.Defs
public import proofs.«01_k».proof.Proof.GradBase
public import proofs.«01_k».proof.Proof.Gen.KernelIn.Frame
public import proofs.«01_k».proof.Proof.Gen.KernelInIdeal.Value
public import proofs.«01_k».proof.Proof.Gen.ReferenceInIdeal.Run
public import Idealize.ShloMosaic.Lib.Pipeline.ValueKit.Geometry
public import Idealize.ShloMosaic.Lib.Pipeline.ValueKit.Point
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.KernelInIdeal

open Gen Cert.Grad
open Idealize.ShloMosaic.Pipeline (Dat)

/-! ## The two points of a block -/

/-- A block's first point leaves the product of its rows in the accumulator. -/
theorem first_leaves (c : Dev nD) (i : grid0.Coords) (a3 : Memref sig .tc .vmem S2048x768 .bf16) (h3 : a3.IsWhole) (a4 : Memref sig .tc .vmem S2048x1024 .bf16) (h4 : a4.IsWhole)
    (a5 : Memref sig .tc .vmem S768x1024 .bf16) (h5 : a5.IsWhole) (a6 : Memref sig .tc .vmem S768x1024 .f32) (h6 : a6.IsWhole) (hc0 : cond0_0 i) (hc1 : ¬cond0_1 i)
    (x : Vec Ideal S2048x768 .bf16) (y : Vec Ideal S2048x1024 .bf16) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S768x1024) at00, View.readCov_unit_zero (S := S768x1024) _ at00]
  simp only [View.readAt_eq_ld, h3.read_unread, h4.read_unread, View.ld_unit_zero (S := S2048x768) at00, View.ld_unit_zero (S := S2048x1024) at00]

/-- Its second point writes back the accumulator, with the product of its own rows added, in the result's format. -/
theorem second_writes (c : Dev nD) (i : grid0.Coords) (a3 : Memref sig .tc .vmem S2048x768 .bf16) (h3 : a3.IsWhole) (a4 : Memref sig .tc .vmem S2048x1024 .bf16) (h4 : a4.IsWhole)
    (a5 : Memref sig .tc .vmem S768x1024 .bf16) (h5 : a5.IsWhole) (a6 : Memref sig .tc .vmem S768x1024 .f32) (h6 : a6.IsWhole) (hc0 : ¬cond0_0 i) (hc1 : cond0_1 i)
    (x : Vec Ideal S2048x768 .bf16) (y : Vec Ideal S2048x1024 .bf16) (acc : Vec Ideal S768x1024 .f32) : out0_B_2 c i a3 h3 a4 h4 a5 h5 a6 h6 hc0 hc1 x y acc = k0_pay3 (k0_pay2 acc x y) := by
  unfold out0_B_2
  rw [View.read_writes_eq_canon _ _ _ (cover0_B_2 c i a3 h3 a4 h4 a5 h5 a6 h6 hc0 hc1 x y acc)]
  unfold kernelRun0_B
  dsimp only
  sl_unfold_words
  rw [View.canon_unit_zero (S := S768x1024) at00, View.readCov_unit_zero (S := S768x1024) _ at00]
  simp only [View.readAt_eq_ld, h3.read_unread, h4.read_unread, h6.read_unread, View.ld_unit_zero (S := S2048x768) at00, View.ld_unit_zero (S := S2048x1024) at00, View.ld_unit_zero (S := S768x1024) at00]

/-- The block written back, at an index. -/
theorem block_at (x x' : Vec Ideal S2048x768 .bf16) (y y' : Vec Ideal S2048x1024 .bf16) (r : Fin 768) (s : Fin 1024) : k0_pay3 (k0_pay2 (k0_pay2 k0_pay1 x y) x' y') (ix2 r s)
    = (∑ k : Fin 2048, x (ix2 k r) * y (ix2 k s)) + ∑ k : Fin 2048, x' (ix2 k r) * y' (ix2 k s) := by
  pointwise [k0_pay3, k0_pay2, k0_pay1]

/-! ## The array -/

variable (m : (ℓ : Loc nD τ sig) → Buf (Elt Ideal) ℓ)

/-- The product of the transposed first array and the second. -/
def prod (a : S4096x768.Idx → EReal) (b : S4096x1024.Idx → EReal) : S768x1024.Idx → EReal := fun i => prodAt a b (i 0) (i 1)

theorem at_a : ∀ t : Fin cfg0.N, win0_0.index t = ![t.val % 2, 0] := (by decide +kernel : ∀ t : Fin grid0.N, _)
theorem at_b : ∀ t : Fin cfg0.N, win0_1.index t = ![t.val % 2, 0] := (by decide +kernel : ∀ t : Fin grid0.N, _)
theorem at_o : ∀ t : Fin cfg0.N, win0_2.index t = ![0, 0] := (by decide +kernel : ∀ t : Fin grid0.N, _)

theorem a_at (c : Dev nD) (t : Fin cfg0.N) (k : Fin 2048) (r : Fin 768) : iblk m c 0 t (ix2 k r)
    = m ((c : Thread nD τ).loc main_arg0) (ix2 ⟨t.val % 2 * 2048 + k, by omega⟩ r) := by
  blk_ext [Gen.iblk, Gen.V, at_a]

theorem b_at (c : Dev nD) (t : Fin cfg0.N) (k : Fin 2048) (s : Fin 1024) : iblk m c 1 t (ix2 k s)
    = m ((c : Thread nD τ).loc main_arg1) (ix2 ⟨t.val % 2 * 2048 + k, by omega⟩ s) := by
  blk_ext [Gen.iblk, Gen.V, at_b]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have hp : t.val - 1 < cfg0.N := Nat.lt_of_le_of_lt (Nat.sub_le _ _) t.isLt
  have hc : (dats m 0 c).after 2 t = k0_pay3 (k0_pay2 (k0_pay2 k0_pay1 (iblk m c 0 ⟨t.val - 1, hp⟩) (iblk m c 1 ⟨t.val - 1, hp⟩)) (iblk m c 0 t) (iblk m c 1 t)) := by
    rw [after0_2, outsAt0_B m c t h0 h1]
    dsimp only
    rw [second_writes, outsAt0_A m c ⟨t.val - 1, hp⟩ (by show (t.val - 1) % 2 = 0; omega) (by show ¬(t.val - 1) % 2 = 1; omega)]
    dsimp only
    rw [first_leaves]
  rw [hc]
  blk_simp
  obtain ⟨r, s, rfl⟩ : ∃ (r : Fin 768) (s : Fin 1024), y = ix2 r s := ⟨y 0, y 1, by funext a; fin_cases a <;> rfl⟩
  refine (block_at _ _ _ _ r s).trans ?_
  have er : ((cfg0.win 2).blk t).view.emb (ix2 r s) 0 = r := Fin.ext (by blk_simp [at_o])
  have es : ((cfg0.win 2).blk t).view.emb (ix2 r s) 1 = s := Fin.ext (by blk_simp [at_o])
  unfold prod
  rw [er, es]
  refine prodAt_points _ _ _ _ ((t.val - 1) % 2) (t.val % 2) (by omega) h1 _ _ (fun k => ?_) (fun k => ?_)
  · exact congrArg₂ (· * ·) (a_at m c _ k r) (b_at m c _ k s)
  · exact congrArg₂ (· * ·) (a_at m c _ k r) (b_at m c _ k s)

end Cert.KernelInIdeal

namespace Cert.Proof

open Cert.ReferenceInIdeal Cert.ReferenceInIdeal.Gen

/-- What the reference returns is the same product. -/
theorem in_reference (a : S4096x768.Idx → Elt Ideal .bf16) (b : S4096x1024.Idx → Elt Ideal .bf16) :
    truncf (F := Ideal) (φ := .f32) .bf16 (transpose S768x1024 [1, 0] (Host.dotGeneral (F := Ideal) (φ₁ := .f32) (φ₂ := .f32) dot_S4096x1024_S4096x768_S1024x768_0_0_1_1_n_n none
      (extf (F := Ideal) (φ := .bf16) .f32 b bitsLt_bf16_f32) (extf (F := Ideal) (φ := .bf16) .f32 a bitsLt_bf16_f32)) transposes_S1024x768_S768x1024_1_0) bitsLt_bf16_f32
      = Cert.KernelInIdeal.prod a b := by
  funext i
  obtain ⟨r, s, rfl⟩ : ∃ (r : Fin 768) (s : Fin 1024), i = ix2 r s := ⟨i 0, i 1, by funext x; fin_cases x <;> rfl⟩
  pointwise
  exact Finset.sum_congr rfl fun k _ => mul_comm _ _

theorem frame_in : Cert.quiescent_KernelIn := fun m ρ _ => Cert.KernelIn.Gen.frame m ρ

theorem frame_in_ideal : Cert.quiescent_KernelInIdeal := fun m ρ _ => Cert.KernelInIdeal.Gen.frame m ρ

theorem frame_in_reference : Cert.quiescent_ReferenceInIdeal := fun m ρ _ =>
  (θ_run Cert.ReferenceInIdeal.defs _ _).mono
    (fun r h => ⟨fun c => (h c).2, sem_eq_zero_of_no_sems (by decide) r.2⟩)
    (Cert.ReferenceInIdeal.Value.run (F := Ideal) m ρ)

theorem algebraic_in : Cert.algebraic_KernelInIdeal_ReferenceInIdeal := by
  intro m g m' g' _ hm
  refine ⟨fun c => Cert.KernelInIdeal.prod (m ((c : Thread Cert.KernelInIdeal.nD Cert.KernelInIdeal.τ).loc Cert.KernelInIdeal.main_arg0))
      (m ((c : Thread Cert.KernelInIdeal.nD Cert.KernelInIdeal.τ).loc Cert.KernelInIdeal.main_arg1)),
    (θ_run Cert.KernelInIdeal.defs _ _).mono (fun r h c => ⟨(h c).1.trans (Cert.KernelInIdeal.final m c), (h c).2⟩) (Cert.KernelInIdeal.Value.run_blocks m g),
    (θ_run Cert.ReferenceInIdeal.defs _ _).mono (fun r h c => ⟨(h c).1.trans ?_, (h c).2⟩) (Cert.ReferenceInIdeal.Value.run m' g')⟩
  rw [(hm c).1, (hm c).2]
  exact in_reference _ _

end Cert.Proof

end
-- ==== Proof.GradUk.lean ====
/- The gradient of a projection of the attention's compressed keys and values: two grid points,
   each adds the product of its half of the rows, and the second writes the result back. -/
module

public import proofs.«01_k».proof.Defs
public import proofs.«01_k».proof.Proof.GradBase
public import proofs.«01_k».proof.Proof.Gen.KernelUk.Frame
public import proofs.«01_k».proof.Proof.Gen.KernelUkIdeal.Value
public import proofs.«01_k».proof.Proof.Gen.ReferenceUkIdeal.Run
public import Idealize.ShloMosaic.Lib.Pipeline.ValueKit.Geometry
public import Idealize.ShloMosaic.Lib.Pipeline.ValueKit.Point
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.KernelUkIdeal

open Gen Cert.Grad
open Idealize.ShloMosaic.Pipeline (Dat)

/-! ## The two points of a block -/

/-- A block's first point leaves the product of its rows in the accumulator. -/
theorem first_leaves (c : Dev nD) (i : grid0.Coords) (a3 : Memref sig .tc .vmem S2048x256 .bf16) (h3 : a3.IsWhole) (a4 : Memref sig .tc .vmem S2048x1024 .bf16) (h4 : a4.IsWhole)
    (a5 : Memref sig .tc .vmem S256x1024 .bf16) (h5 : a5.IsWhole) (a6 : Memref sig .tc .vmem S256x1024 .f32) (h6 : a6.IsWhole) (hc0 : cond0_0 i) (hc1 : ¬cond0_1 i)
    (x : Vec Ideal S2048x256 .bf16) (y : Vec Ideal S2048x1024 .bf16) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S256x1024) at00, View.readCov_unit_zero (S := S256x1024) _ at00]
  simp only [View.readAt_eq_ld, h3.read_unread, h4.read_unread, View.ld_unit_zero (S := S2048x256) at00, View.ld_unit_zero (S := S2048x1024) at00]

/-- Its second point writes back the accumulator, with the product of its own rows added, in the result's format. -/
theorem second_writes (c : Dev nD) (i : grid0.Coords) (a3 : Memref sig .tc .vmem S2048x256 .bf16) (h3 : a3.IsWhole) (a4 : Memref sig .tc .vmem S2048x1024 .bf16) (h4 : a4.IsWhole)
    (a5 : Memref sig .tc .vmem S256x1024 .bf16) (h5 : a5.IsWhole) (a6 : Memref sig .tc .vmem S256x1024 .f32) (h6 : a6.IsWhole) (hc0 : ¬cond0_0 i) (hc1 : cond0_1 i)
    (x : Vec Ideal S2048x256 .bf16) (y : Vec Ideal S2048x1024 .bf16) (acc : Vec Ideal S256x1024 .f32) : out0_B_2 c i a3 h3 a4 h4 a5 h5 a6 h6 hc0 hc1 x y acc = k0_pay3 (k0_pay2 acc x y) := by
  unfold out0_B_2
  rw [View.read_writes_eq_canon _ _ _ (cover0_B_2 c i a3 h3 a4 h4 a5 h5 a6 h6 hc0 hc1 x y acc)]
  unfold kernelRun0_B
  dsimp only
  sl_unfold_words
  rw [View.canon_unit_zero (S := S256x1024) at00, View.readCov_unit_zero (S := S256x1024) _ at00]
  simp only [View.readAt_eq_ld, h3.read_unread, h4.read_unread, h6.read_unread, View.ld_unit_zero (S := S2048x256) at00, View.ld_unit_zero (S := S2048x1024) at00, View.ld_unit_zero (S := S256x1024) at00]

/-- The block written back, at an index. -/
theorem block_at (x x' : Vec Ideal S2048x256 .bf16) (y y' : Vec Ideal S2048x1024 .bf16) (r : Fin 256) (s : Fin 1024) : k0_pay3 (k0_pay2 (k0_pay2 k0_pay1 x y) x' y') (ix2 r s)
    = (∑ k : Fin 2048, x (ix2 k r) * y (ix2 k s)) + ∑ k : Fin 2048, x' (ix2 k r) * y' (ix2 k s) := by
  pointwise [k0_pay3, k0_pay2, k0_pay1]

/-! ## The array -/

variable (m : (ℓ : Loc nD τ sig) → Buf (Elt Ideal) ℓ)

/-- The product of the transposed first array and the second. -/
def prod (a : S4096x256.Idx → EReal) (b : S4096x1024.Idx → EReal) : S256x1024.Idx → EReal := fun i => prodAt a b (i 0) (i 1)

theorem at_a : ∀ t : Fin cfg0.N, win0_0.index t = ![t.val % 2, 0] := (by decide +kernel : ∀ t : Fin grid0.N, _)
theorem at_b : ∀ t : Fin cfg0.N, win0_1.index t = ![t.val % 2, 0] := (by decide +kernel : ∀ t : Fin grid0.N, _)
theorem at_o : ∀ t : Fin cfg0.N, win0_2.index t = ![0, 0] := (by decide +kernel : ∀ t : Fin grid0.N, _)

theorem a_at (c : Dev nD) (t : Fin cfg0.N) (k : Fin 2048) (r : Fin 256) : iblk m c 0 t (ix2 k r)
    = m ((c : Thread nD τ).loc main_arg0) (ix2 ⟨t.val % 2 * 2048 + k, by omega⟩ r) := by
  blk_ext [Gen.iblk, Gen.V, at_a]

theorem b_at (c : Dev nD) (t : Fin cfg0.N) (k : Fin 2048) (s : Fin 1024) : iblk m c 1 t (ix2 k s)
    = m ((c : Thread nD τ).loc main_arg1) (ix2 ⟨t.val % 2 * 2048 + k, by omega⟩ s) := by
  blk_ext [Gen.iblk, Gen.V, at_b]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have hp : t.val - 1 < cfg0.N := Nat.lt_of_le_of_lt (Nat.sub_le _ _) t.isLt
  have hc : (dats m 0 c).after 2 t = k0_pay3 (k0_pay2 (k0_pay2 k0_pay1 (iblk m c 0 ⟨t.val - 1, hp⟩) (iblk m c 1 ⟨t.val - 1, hp⟩)) (iblk m c 0 t) (iblk m c 1 t)) := by
    rw [after0_2, outsAt0_B m c t h0 h1]
    dsimp only
    rw [second_writes, outsAt0_A m c ⟨t.val - 1, hp⟩ (by show (t.val - 1) % 2 = 0; omega) (by show ¬(t.val - 1) % 2 = 1; omega)]
    dsimp only
    rw [first_leaves]
  rw [hc]
  blk_simp
  obtain ⟨r, s, rfl⟩ : ∃ (r : Fin 256) (s : Fin 1024), y = ix2 r s := ⟨y 0, y 1, by funext a; fin_cases a <;> rfl⟩
  refine (block_at _ _ _ _ r s).trans ?_
  have er : ((cfg0.win 2).blk t).view.emb (ix2 r s) 0 = r := Fin.ext (by blk_simp [at_o])
  have es : ((cfg0.win 2).blk t).view.emb (ix2 r s) 1 = s := Fin.ext (by blk_simp [at_o])
  unfold prod
  rw [er, es]
  refine prodAt_points _ _ _ _ ((t.val - 1) % 2) (t.val % 2) (by omega) h1 _ _ (fun k => ?_) (fun k => ?_)
  · exact congrArg₂ (· * ·) (a_at m c _ k r) (b_at m c _ k s)
  · exact congrArg₂ (· * ·) (a_at m c _ k r) (b_at m c _ k s)

end Cert.KernelUkIdeal

namespace Cert.Proof

open Cert.ReferenceUkIdeal Cert.ReferenceUkIdeal.Gen

/-- What the reference returns is the same product. -/
theorem uk_reference (a : S4096x256.Idx → Elt Ideal .bf16) (b : S4096x1024.Idx → Elt Ideal .bf16) :
    truncf (F := Ideal) (φ := .f32) .bf16 (transpose S256x1024 [1, 0] (Host.dotGeneral (F := Ideal) (φ₁ := .f32) (φ₂ := .f32) dot_S4096x1024_S4096x256_S1024x256_0_0_1_1_n_n none
      (extf (F := Ideal) (φ := .bf16) .f32 b bitsLt_bf16_f32) (extf (F := Ideal) (φ := .bf16) .f32 a bitsLt_bf16_f32)) transposes_S1024x256_S256x1024_1_0) bitsLt_bf16_f32
      = Cert.KernelUkIdeal.prod a b := by
  funext i
  obtain ⟨r, s, rfl⟩ : ∃ (r : Fin 256) (s : Fin 1024), i = ix2 r s := ⟨i 0, i 1, by funext x; fin_cases x <;> rfl⟩
  pointwise
  exact Finset.sum_congr rfl fun k _ => mul_comm _ _

theorem frame_uk : Cert.quiescent_KernelUk := fun m ρ _ => Cert.KernelUk.Gen.frame m ρ

theorem frame_uk_ideal : Cert.quiescent_KernelUkIdeal := fun m ρ _ => Cert.KernelUkIdeal.Gen.frame m ρ

theorem frame_uk_reference : Cert.quiescent_ReferenceUkIdeal := fun m ρ _ =>
  (θ_run Cert.ReferenceUkIdeal.defs _ _).mono
    (fun r h => ⟨fun c => (h c).2, sem_eq_zero_of_no_sems (by decide) r.2⟩)
    (Cert.ReferenceUkIdeal.Value.run (F := Ideal) m ρ)

theorem algebraic_uk : Cert.algebraic_KernelUkIdeal_ReferenceUkIdeal := by
  intro m g m' g' _ hm
  refine ⟨fun c => Cert.KernelUkIdeal.prod (m ((c : Thread Cert.KernelUkIdeal.nD Cert.KernelUkIdeal.τ).loc Cert.KernelUkIdeal.main_arg0))
      (m ((c : Thread Cert.KernelUkIdeal.nD Cert.KernelUkIdeal.τ).loc Cert.KernelUkIdeal.main_arg1)),
    (θ_run Cert.KernelUkIdeal.defs _ _).mono (fun r h c => ⟨(h c).1.trans (Cert.KernelUkIdeal.final m c), (h c).2⟩) (Cert.KernelUkIdeal.Value.run_blocks m g),
    (θ_run Cert.ReferenceUkIdeal.defs _ _).mono (fun r h c => ⟨(h c).1.trans ?_, (h c).2⟩) (Cert.ReferenceUkIdeal.Value.run m' g')⟩
  rw [(hm c).1, (hm c).2]
  exact uk_reference _ _

end Cert.Proof

end
-- ==== Proof.GradUq.lean ====
/- The gradient of the matrix of the attention's queries, in the device's shards of its columns: two grid points share four
   shards of the result, each adds the product of its half of the rows, and the second writes the shards back. -/
module

public import proofs.«01_k».proof.Defs
public import proofs.«01_k».proof.Proof.GradBase
public import proofs.«01_k».proof.Proof.Gen.KernelUq.Frame
public import proofs.«01_k».proof.Proof.Gen.KernelUqIdeal.Value
public import proofs.«01_k».proof.Proof.Gen.ReferenceUqIdeal.Run
public import Idealize.ShloMosaic.Lib.Pipeline.ValueKit.Geometry
public import Idealize.ShloMosaic.Lib.Pipeline.ValueKit.Point
public import Idealize.ShloMosaic.Lib.Tactic
public import Idealize.ShloMosaic.Lib.Quiescent

@[expose] public section

set_option maxRecDepth 16384

noncomputable section

open Idealize.ShloMosaic Idealize.ShloMosaic.TcCoe Idealize.SL.Sem

namespace Cert.KernelUqIdeal

open Gen Cert.Grad
open Idealize.ShloMosaic.Pipeline (Dat)

/-! ## The two points of a block -/

/-- A block's first point leaves the product of its rows in the accumulator. -/
theorem first_leaves (c : Dev nD) (i : grid0.Coords) (a3 : Memref sig .tc .vmem S2048x384 .bf16) (h3 : a3.IsWhole) (a4 : Memref sig .tc .vmem S2048x1024 .bf16) (h4 : a4.IsWhole)
    (a5 : Memref sig .tc .vmem S4x384x256 .bf16) (h5 : a5.IsWhole) (a6 : Memref sig .tc .vmem S384x1024 .f32) (h6 : a6.IsWhole) (hc0 : cond0_0 i) (hc1 : ¬cond0_1 i)
    (x : Vec Ideal S2048x384 .bf16) (y : Vec Ideal S2048x1024 .bf16) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S384x1024) at00, View.readCov_unit_zero (S := S384x1024) _ at00]
  simp only [View.readAt_eq_ld, h3.read_unread, h4.read_unread, View.ld_unit_zero (S := S2048x384) at00, View.ld_unit_zero (S := S2048x1024) at00]

/-- A block's columns as its four shards. -/
def shards (v : S384x1024.Idx → EReal) : S4x384x256.Idx → EReal := fun y =>
  v (ix2 (y 1) ⟨256 * (y 0).val + (y 2).val, by have h : (y 0).val < 4 := (y 0).isLt; have h' : (y 2).val < 256 := (y 2).isLt; omega⟩)

/-- The four stores of the shards change the format alone. -/
theorem store1_at (v : Vec Ideal S384x256 .f32) (z : Fin 1) (r : Fin 384) (s : Fin 256) : k0_pay3 v (ix3 z r s) = v (ix2 r s) := by
  pointwise [k0_pay3]
theorem store2_at (v : Vec Ideal S384x256 .f32) (z : Fin 1) (r : Fin 384) (s : Fin 256) : k0_pay4 v (ix3 z r s) = v (ix2 r s) := by
  pointwise [k0_pay4]
theorem store3_at (v : Vec Ideal S384x256 .f32) (z : Fin 1) (r : Fin 384) (s : Fin 256) : k0_pay5 v (ix3 z r s) = v (ix2 r s) := by
  pointwise [k0_pay5]
theorem store4_at (v : Vec Ideal S384x256 .f32) (z : Fin 1) (r : Fin 384) (s : Fin 256) : k0_pay6 v (ix3 z r s) = v (ix2 r s) := by
  pointwise [k0_pay6]

/-- Its second point writes back the accumulator, with the product of its own rows added, as four shards. -/
theorem second_writes (c : Dev nD) (i : grid0.Coords) (a3 : Memref sig .tc .vmem S2048x384 .bf16) (h3 : a3.IsWhole) (a4 : Memref sig .tc .vmem S2048x1024 .bf16) (h4 : a4.IsWhole)
    (a5 : Memref sig .tc .vmem S4x384x256 .bf16) (h5 : a5.IsWhole) (a6 : Memref sig .tc .vmem S384x1024 .f32) (h6 : a6.IsWhole) (hc0 : ¬cond0_0 i) (hc1 : cond0_1 i)
    (x : Vec Ideal S2048x384 .bf16) (y : Vec Ideal S2048x1024 .bf16) (acc : Vec Ideal S384x1024 .f32) : out0_B_2 c i a3 h3 a4 h4 a5 h5 a6 h6 hc0 hc1 x y acc = shards (k0_pay2 acc x y) := by
  unfold out0_B_2
  rw [View.read_writes_eq_canon _ _ _ (cover0_B_2 c i a3 h3 a4 h4 a5 h5 a6 h6 hc0 hc1 x y acc)]
  refine funext fun j => View.canon_apply_of_pieces (shards (k0_pay2 acc x y)) _ (fun p hp u => ?_) j (cover0_B_2 c i a3 h3 a4 h4 a5 h5 a6 h6 hc0 hc1 x y acc j)
  unfold kernelRun0_B at hp
  dsimp only at hp
  simp only [List.mem_cons, List.not_mem_nil, or_false] at hp
  rcases hp with rfl | rfl | rfl | rfl
  all_goals
    dsimp only
    sl_unfold_words
    simp only [View.readAt_eq_ld, h3.read_unread, h4.read_unread, h6.read_unread, View.ld_unit_zero (S := S2048x384) at00, View.ld_unit_zero (S := S2048x1024) at00, View.ld_unit_zero (S := S384x1024) at00,
      View.readCov_eq_canon', View.canon_unit_zero (S := S384x1024) at00]
    obtain ⟨z, r, s, rfl⟩ : ∃ (z : Fin 1) (r : Fin 384) (s : Fin 256), u = ix3 z r s := ⟨u 0, u 1, u 2, by funext a; fin_cases a <;> rfl⟩
  · refine (store4_at _ z r s).trans (congrArg (k0_pay2 acc x y) (funext fun a => Fin.ext ?_))
    fin_cases a
    · show 0 + 1 * r.val = 0 + 1 * r.val; rfl
    · show 768 + 1 * s.val = 256 * (3 + 1 * z.val) + (0 + 1 * s.val); omega
  · refine (store3_at _ z r s).trans (congrArg (k0_pay2 acc x y) (funext fun a => Fin.ext ?_))
    fin_cases a
    · show 0 + 1 * r.val = 0 + 1 * r.val; rfl
    · show 512 + 1 * s.val = 256 * (2 + 1 * z.val) + (0 + 1 * s.val); omega
  · refine (store2_at _ z r s).trans (congrArg (k0_pay2 acc x y) (funext fun a => Fin.ext ?_))
    fin_cases a
    · show 0 + 1 * r.val = 0 + 1 * r.val; rfl
    · show 256 + 1 * s.val = 256 * (1 + 1 * z.val) + (0 + 1 * s.val); omega
  · refine (store1_at _ z r s).trans (congrArg (k0_pay2 acc x y) (funext fun a => Fin.ext ?_))
    fin_cases a
    · show 0 + 1 * r.val = 0 + 1 * r.val; rfl
    · show 0 + 1 * s.val = 256 * (0 + 1 * z.val) + (0 + 1 * s.val); omega

/-- A block after its two points, at an index. -/
theorem block_at (x x' : Vec Ideal S2048x384 .bf16) (y y' : Vec Ideal S2048x1024 .bf16) (r : Fin 384) (s : Fin 1024) : k0_pay2 (k0_pay2 k0_pay1 x y) x' y' (ix2 r s)
    = (∑ k : Fin 2048, x (ix2 k r) * y (ix2 k s)) + ∑ k : Fin 2048, x' (ix2 k r) * y' (ix2 k s) := by
  pointwise [k0_pay2, k0_pay1]

/-! ## The array -/

variable (m : (ℓ : Loc nD τ sig) → Buf (Elt Ideal) ℓ)

/-- The product of the transposed first array and the second, in shards of 256 columns. -/
def prod (a : S4096x384.Idx → EReal) (b : S4096x2048.Idx → EReal) : S8x384x256.Idx → EReal := fun i =>
  prodAt a b (i 1) ⟨(i 0).val * 256 + (i 2).val, by have h : (i 0).val < 8 := (i 0).isLt; have h' : (i 2).val < 256 := (i 2).isLt; omega⟩

theorem at_a : ∀ t : Fin cfg0.N, win0_0.index t = ![t.val % 2, 0] := (by decide +kernel : ∀ t : Fin grid0.N, _)
theorem at_b : ∀ t : Fin cfg0.N, win0_1.index t = ![t.val % 2, t.val / 2] := (by decide +kernel : ∀ t : Fin grid0.N, _)
theorem at_o : ∀ t : Fin cfg0.N, win0_2.index t = ![t.val / 2, 0, 0] := (by decide +kernel : ∀ t : Fin grid0.N, _)

theorem a_at (c : Dev nD) (t : Fin cfg0.N) (k : Fin 2048) (r : Fin 384) : iblk m c 0 t (ix2 k r)
    = m ((c : Thread nD τ).loc main_arg0) (ix2 ⟨t.val % 2 * 2048 + k, by omega⟩ r) := by
  blk_ext [Gen.iblk, Gen.V, at_a]

theorem b_at (c : Dev nD) (t : Fin cfg0.N) (k : Fin 2048) (s : Fin 1024) : iblk m c 1 t (ix2 k s)
    = m ((c : Thread nD τ).loc main_arg1) (ix2 ⟨t.val % 2 * 2048 + k, by omega⟩ ⟨t.val / 2 * 1024 + s, by have h : t.val < 4 := t.isLt; omega⟩) := by
  blk_ext [Gen.iblk, Gen.V, at_b]

theorem final (c : Dev nD) : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬t.val % 2 = 0 := by omega
  have hp : t.val - 1 < cfg0.N := Nat.lt_of_le_of_lt (Nat.sub_le _ _) t.isLt
  have hc : (dats m 0 c).after 2 t = shards (k0_pay2 (k0_pay2 k0_pay1 (iblk m c 0 ⟨t.val - 1, hp⟩) (iblk m c 1 ⟨t.val - 1, hp⟩)) (iblk m c 0 t) (iblk m c 1 t)) := by
    rw [after0_2, outsAt0_B m c t h0 h1]
    dsimp only
    rw [second_writes, outsAt0_A m c ⟨t.val - 1, hp⟩ (by show (t.val - 1) % 2 = 0; omega) (by show ¬(t.val - 1) % 2 = 1; omega)]
    dsimp only
    rw [first_leaves]
  rw [hc]
  blk_simp
  obtain ⟨z, r, s, rfl⟩ : ∃ (z : Fin 4) (r : Fin 384) (s : Fin 256), y = ix3 z r s := ⟨y 0, y 1, y 2, by funext a; fin_cases a <;> rfl⟩
  refine (block_at _ _ _ _ r ⟨256 * z.val + s.val, by omega⟩).trans ?_
  have h4' : t.val < 4 := t.isLt
  have ez : (((cfg0.win 2).blk t).view.emb (ix3 z r s) 0).val = t.val / 2 * 4 + z := by blk_simp [at_o]
  have er : ((cfg0.win 2).blk t).view.emb (ix3 z r s) 1 = r := Fin.ext (by blk_simp [at_o])
  have es : (((cfg0.win 2).blk t).view.emb (ix3 z r s) 2).val = s := by blk_simp [at_o]
  have ep : (((cfg0.win 2).blk t).view.emb (ix3 z r s) 0).val * 256 + (((cfg0.win 2).blk t).view.emb (ix3 z r s) 2).val = t.val / 2 * 1024 + (256 * z.val + s.val) := by
    rw [ez, es]; omega
  unfold prod
  rw [er]
  have e2 : (t.val - 1) / 2 = t.val / 2 := by omega
  refine prodAt_points _ _ _ _ ((t.val - 1) % 2) (t.val % 2) (by omega) h1 _ _ (fun k => ?_) (fun k => ?_)
  · exact congrArg₂ (· * ·) (a_at m c _ k r) ((b_at m c _ k _).trans (congrArg _ (congrArg₂ ix2 rfl (Fin.ext (by dsimp only; rw [e2, ep])))))
  · exact congrArg₂ (· * ·) (a_at m c _ k r) ((b_at m c _ k _).trans (congrArg _ (congrArg₂ ix2 rfl (Fin.ext (by dsimp only; rw [ep])))))

end Cert.KernelUqIdeal

namespace Cert.Proof

open Cert.ReferenceUqIdeal Cert.ReferenceUqIdeal.Gen

/-- What the reference returns is the same product. -/
theorem uq_reference (a : S4096x384.Idx → Elt Ideal .bf16) (b : S4096x2048.Idx → Elt Ideal .bf16) :
    truncf (F := Ideal) (φ := .f32) .bf16 (transpose S8x384x256 [1, 0, 2] (shapeCast _ (transpose S384x2048 [1, 0] (Host.dotGeneral (F := Ideal) (φ₁ := .f32) (φ₂ := .f32)
      dot_S4096x2048_S4096x384_S2048x384_0_0_1_1_n_n none (extf (F := Ideal) (φ := .bf16) .f32 b bitsLt_bf16_f32) (extf (F := Ideal) (φ := .bf16) .f32 a bitsLt_bf16_f32))
      transposes_S2048x384_S384x2048_1_0) shapeCasts_S384x2048_S384x8x256) transposes_S384x8x256_S8x384x256_1_0_2) bitsLt_bf16_f32
      = Cert.KernelUqIdeal.prod a b := by
  funext i
  obtain ⟨z, r, s, rfl⟩ : ∃ (z : Fin 8) (r : Fin 384) (s : Fin 256), i = ix3 z r s := ⟨i 0, i 1, i 2, by funext x; fin_cases x <;> rfl⟩
  pointwise
  exact Finset.sum_congr rfl fun k _ => mul_comm _ _

theorem frame_uq : Cert.quiescent_KernelUq := fun m ρ _ => Cert.KernelUq.Gen.frame m ρ

theorem frame_uq_ideal : Cert.quiescent_KernelUqIdeal := fun m ρ _ => Cert.KernelUqIdeal.Gen.frame m ρ

theorem frame_uq_reference : Cert.quiescent_ReferenceUqIdeal := fun m ρ _ =>
  (θ_run Cert.ReferenceUqIdeal.defs _ _).mono
    (fun r h => ⟨fun c => (h c).2, sem_eq_zero_of_no_sems (by decide) r.2⟩)
    (Cert.ReferenceUqIdeal.Value.run (F := Ideal) m ρ)

theorem algebraic_uq : Cert.algebraic_KernelUqIdeal_ReferenceUqIdeal := by
  intro m g m' g' _ hm
  refine ⟨fun c => Cert.KernelUqIdeal.prod (m ((c : Thread Cert.KernelUqIdeal.nD Cert.KernelUqIdeal.τ).loc Cert.KernelUqIdeal.main_arg0))
      (m ((c : Thread Cert.KernelUqIdeal.nD Cert.KernelUqIdeal.τ).loc Cert.KernelUqIdeal.main_arg1)),
    (θ_run Cert.KernelUqIdeal.defs _ _).mono (fun r h c => ⟨(h c).1.trans (Cert.KernelUqIdeal.final m c), (h c).2⟩) (Cert.KernelUqIdeal.Value.run_blocks m g),
    (θ_run Cert.ReferenceUqIdeal.defs _ _).mono (fun r h c => ⟨(h c).1.trans ?_, (h c).2⟩) (Cert.ReferenceUqIdeal.Value.run m' g')⟩
  rw [(hm c).1, (hm c).2]
  exact uq_reference _ _

end Cert.Proof

end
-- ==== Proof.lean ====
/- The certificate: for the attention's backward call and the three weight gradients, the frames of the three programs, the
named constants and the value claims. -/
module

public import proofs.«01_k».proof.Defs
public import proofs.«01_k».proof.Proof.Frames
public import proofs.«01_k».proof.Proof.Algebra
public import proofs.«01_k».proof.Proof.Gen.Kernel
public import proofs.«01_k».proof.Proof.Gen.KernelIdeal
public import proofs.«01_k».proof.Proof.Gen.ReferenceIdeal
public import proofs.«01_k».proof.Proof.GradFf2
public import proofs.«01_k».proof.Proof.GradFf1
public import proofs.«01_k».proof.Proof.GradMix
public import proofs.«01_k».proof.Proof.Up
public import proofs.«01_k».proof.Proof.Down
public import proofs.«01_k».proof.Proof.Merge
public import proofs.«01_k».proof.Proof.Back
public import proofs.«01_k».proof.Proof.GradIn
public import proofs.«01_k».proof.Proof.GradUk
public import proofs.«01_k».proof.Proof.GradUq
public import proofs.«01_k».proof.Proof.Gen.KernelFf2
public import proofs.«01_k».proof.Proof.Gen.KernelFf2Ideal
public import proofs.«01_k».proof.Proof.Gen.ReferenceFf2Ideal
public import proofs.«01_k».proof.Proof.Gen.KernelFf1
public import proofs.«01_k».proof.Proof.Gen.KernelFf1Ideal
public import proofs.«01_k».proof.Proof.Gen.ReferenceFf1Ideal
public import proofs.«01_k».proof.Proof.Gen.KernelMix
public import proofs.«01_k».proof.Proof.Gen.KernelMixIdeal
public import proofs.«01_k».proof.Proof.Gen.ReferenceMixIdeal
public import proofs.«01_k».proof.Proof.Gen.KernelUp
public import proofs.«01_k».proof.Proof.Gen.KernelUpIdeal
public import proofs.«01_k».proof.Proof.Gen.ReferenceUpIdeal
public import proofs.«01_k».proof.Proof.Gen.KernelDown
public import proofs.«01_k».proof.Proof.Gen.KernelDownIdeal
public import proofs.«01_k».proof.Proof.Gen.ReferenceDownIdeal
public import proofs.«01_k».proof.Proof.Gen.KernelMerge
public import proofs.«01_k».proof.Proof.Gen.KernelMergeIdeal
public import proofs.«01_k».proof.Proof.Gen.ReferenceMergeIdeal
public import proofs.«01_k».proof.Proof.Gen.KernelBack
public import proofs.«01_k».proof.Proof.Gen.KernelBackIdeal
public import proofs.«01_k».proof.Proof.Gen.ReferenceBackIdeal
public import proofs.«01_k».proof.Proof.Gen.KernelIn
public import proofs.«01_k».proof.Proof.Gen.KernelInIdeal
public import proofs.«01_k».proof.Proof.Gen.ReferenceInIdeal
public import proofs.«01_k».proof.Proof.Gen.KernelUk
public import proofs.«01_k».proof.Proof.Gen.KernelUkIdeal
public import proofs.«01_k».proof.Proof.Gen.ReferenceUkIdeal
public import proofs.«01_k».proof.Proof.Gen.KernelUq
public import proofs.«01_k».proof.Proof.Gen.KernelUqIdeal
public import proofs.«01_k».proof.Proof.Gen.ReferenceUqIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
   Cert.KernelFf2.Gen.facts, Cert.KernelFf2Ideal.Gen.facts, Cert.ReferenceFf2Ideal.Gen.facts,
   Cert.KernelFf1.Gen.facts, Cert.KernelFf1Ideal.Gen.facts, Cert.ReferenceFf1Ideal.Gen.facts,
   Cert.KernelMix.Gen.facts, Cert.KernelMixIdeal.Gen.facts, Cert.ReferenceMixIdeal.Gen.facts,
   Cert.KernelUp.Gen.facts, Cert.KernelUpIdeal.Gen.facts, Cert.ReferenceUpIdeal.Gen.facts,
   Cert.KernelDown.Gen.facts, Cert.KernelDownIdeal.Gen.facts, Cert.ReferenceDownIdeal.Gen.facts,
   Cert.KernelMerge.Gen.facts, Cert.KernelMergeIdeal.Gen.facts, Cert.ReferenceMergeIdeal.Gen.facts,
   Cert.KernelBack.Gen.facts, Cert.KernelBackIdeal.Gen.facts, Cert.ReferenceBackIdeal.Gen.facts,
   Cert.KernelIn.Gen.facts, Cert.KernelInIdeal.Gen.facts, Cert.ReferenceInIdeal.Gen.facts,
   Cert.KernelUk.Gen.facts, Cert.KernelUkIdeal.Gen.facts, Cert.ReferenceUkIdeal.Gen.facts,
   Cert.KernelUq.Gen.facts, Cert.KernelUqIdeal.Gen.facts, Cert.ReferenceUqIdeal.Gen.facts,
   frame_kernel, frame_ideal, frame_reference,
   frame_ff2, frame_ff2_ideal, frame_ff2_reference,
   frame_ff1, frame_ff1_ideal, frame_ff1_reference,
   frame_mix, frame_mix_ideal, frame_mix_reference,
   frame_up, frame_up_ideal, frame_up_reference,
   frame_down, frame_down_ideal, frame_down_reference,
   frame_merge, frame_merge_ideal, frame_merge_reference,
   frame_back, frame_back_ideal, frame_back_reference,
   frame_in, frame_in_ideal, frame_in_reference,
   frame_uk, frame_uk_ideal, frame_uk_reference,
   frame_uq, frame_uq_ideal, frame_uq_reference,
   preserves, algebraic,
   trivial, algebraic_ff2,
   trivial, algebraic_ff1,
   trivial, algebraic_mix,
   trivial, algebraic_up,
   trivial, algebraic_down,
   trivial, algebraic_merge,
   trivial, algebraic_back,
   trivial, algebraic_in,
   trivial, algebraic_uk,
   trivial, algebraic_uq⟩

end Cert.Proof

end
